-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S8x256x32 : Shape := ⟨3, ![8, 256, 32]⟩
abbrev S32x256 : Shape := ⟨2, ![32, 256]⟩
abbrev S256 : Shape := ⟨1, ![256]⟩
abbrev S20x256x256x3 : Shape := ⟨4, ![20, 256, 256, 3]⟩
abbrev S20x256 : Shape := ⟨2, ![20, 256]⟩
abbrev S256x256 : Shape := ⟨2, ![256, 256]⟩
abbrev S128x256 : Shape := ⟨2, ![128, 256]⟩
abbrev S256x32 : Shape := ⟨2, ![256, 32]⟩
abbrev S32 : Shape := ⟨1, ![32]⟩
abbrev S_ : Shape := ⟨0, ![]⟩
abbrev S8x256x256 : Shape := ⟨3, ![8, 256, 256]⟩
abbrev S1x1x256 : Shape := ⟨3, ![1, 1, 256]⟩
abbrev S1x256x256x3 : Shape := ⟨4, ![1, 256, 256, 3]⟩
abbrev S256x256x3 : Shape := ⟨3, ![256, 256, 3]⟩
abbrev S1x256 : Shape := ⟨2, ![1, 256]⟩
abbrev S8x1280x256 : Shape := ⟨3, ![8, 1280, 256]⟩
abbrev S256x256x1 : Shape := ⟨3, ![256, 256, 1]⟩
abbrev S8x256 : Shape := ⟨2, ![8, 256]⟩
abbrev S8x256x1 : Shape := ⟨3, ![8, 256, 1]⟩
abbrev S2048x256 : Shape := ⟨2, ![2048, 256]⟩
abbrev S2048 : Shape := ⟨1, ![2048]⟩
abbrev S2048x1 : Shape := ⟨2, ![2048, 1]⟩

class Facts : Prop where
  bcast_S_S8x256x32 : S_.BroadcastsInDim S8x256x32 (![] : Fin 0 → Fin S8x256x32.rank)
  reducesTo_S8x256x32_S_d0_1_2 : S8x256x32.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_
  bcast_S_S256 : S_.BroadcastsInDim S256 (![] : Fin 0 → Fin S256.rank)
  reducesTo_S256_S_d0 : S256.ReducesTo [0] S_
  bcast_S_S20x256x256x3 : S_.BroadcastsInDim S20x256x256x3 (![] : Fin 0 → Fin S20x256x256x3.rank)
  reducesTo_S20x256x256x3_S_d0_1_2_3 : S20x256x256x3.ReducesTo [0, 1, 2, 3] S_
  bcast_S_S20x256 : S_.BroadcastsInDim S20x256 (![] : Fin 0 → Fin S20x256.rank)
  reducesTo_S20x256_S_d0_1 : S20x256.ReducesTo [0, 1] S_
  bcast_S256_S1x1x256_2 : S256.BroadcastsInDim S1x1x256 (![2] : Fin 1 → Fin S1x1x256.rank)
  bcast_S1x1x256_S8x256x256_0_1_2 : S1x1x256.BroadcastsInDim S8x256x256 (![0, 1, 2] : Fin 3 → Fin S8x256x256.rank)
  sliceFits_S20x256x256x3_S1x256x256x3 : S20x256x256x3.Slices (fun _ => 0) S1x256x256x3
  shapeCasts_S1x256x256x3_S256x256x3 : S1x256x256x3.ShapeCasts S256x256x3
  sliceFits_S20x256_S1x256 : S20x256.Slices (fun _ => 0) S1x256
  shapeCasts_S1x256_S256 : S1x256.ShapeCasts S256
  pads_S8x256x256_S8x1280x256_000_5125120_000 : S8x256x256.Pads (![0, 512, 0] : Fin 3 → Nat) ![0, 512, 0] ![0, 0, 0] S8x1280x256
  sliceFits_S8x1280x256_S8x256x256 : S8x1280x256.Slices (fun _ => 0) S8x256x256
  slices_S256x256x3_S256x256x1_0_0_0 : S256x256x3.Slices ![0, 0, 0] S256x256x1
  shapeCasts_S256x256x1_S256x256 : S256x256x1.ShapeCasts S256x256
  transposes_S256x256_S256x256_1_0 : S256x256.Transposes [1, 0] S256x256
  slices_S256x256x3_S256x256x1_0_0_1 : S256x256x3.Slices ![0, 0, 1] S256x256x1
  slices_S256x256x3_S256x256x1_0_0_2 : S256x256x3.Slices ![0, 0, 2] S256x256x1
  bcast_S_S8x256x256 : S_.BroadcastsInDim S8x256x256 (![] : Fin 0 → Fin S8x256x256.rank)
  reducesTo_S8x256x256_S8x256_d2 : S8x256x256.ReducesTo [2] S8x256
  bcast_S8x256_S8x256x1_0_1 : S8x256.BroadcastsInDim S8x256x1 (![0, 1] : Fin 2 → Fin S8x256x1.rank)
  bcast_S_S8x256x1 : S_.BroadcastsInDim S8x256x1 (![] : Fin 0 → Fin S8x256x1.rank)
  bcast_S8x256x1_S8x256x256_0_1_2 : S8x256x1.BroadcastsInDim S8x256x256 (![0, 1, 2] : Fin 3 → Fin S8x256x256.rank)
  shapeCasts_S8x256x256_S2048x256 : S8x256x256.ShapeCasts S2048x256
  reducesTo_S2048x256_S2048_d1 : S2048x256.ReducesTo [1] S2048
  bcast_S2048_S2048x1_0 : S2048.BroadcastsInDim S2048x1 (![0] : Fin 1 → Fin S2048x1.rank)
  bcast_S_S2048x256 : S_.BroadcastsInDim S2048x256 (![] : Fin 0 → Fin S2048x256.rank)
  bcast_S2048x1_S2048x256_0_1 : S2048x1.BroadcastsInDim S2048x256 (![0, 1] : Fin 2 → Fin S2048x256.rank)
  reducesTo_S256x256_S256_d1 : S256x256.ReducesTo [1] S256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  natLt_1_32 : 1 < 32
  bcast_S_S2048 : S_.BroadcastsInDim S2048 (![] : Fin 0 → Fin S2048.rank)
  dot_S8x256x32_S32x256_S8x256x256_2_0_01_1_n_n_wf : DotDims.WF S8x256x32 S32x256 S8x256x256 [2] [0] [0, 1] [1] [] []
  dot_S8x256x256_S256x256_S8x256x256_2_0_01_1_n_n_wf : DotDims.WF S8x256x256 S256x256 S8x256x256 [2] [0] [0, 1] [1] [] []
  dot_S2048x256_S256x256_S2048x256_1_0_0_1_n_n_wf : DotDims.WF S2048x256 S256x256 S2048x256 [1] [0] [0] [1] [] []

variable [Facts]

def dot_S8x256x32_S32x256_S8x256x256_2_0_01_1_n_n : DotDims S8x256x32 S32x256 S8x256x256 where
  lhsContracting := [2]
  rhsContracting := [0]
  lhsNonContracting := [0, 1]
  rhsNonContracting := [1]
  lhsBatch := []
  rhsBatch := []
  wf := dot_S8x256x32_S32x256_S8x256x256_2_0_01_1_n_n_wf
def dot_S8x256x256_S256x256_S8x256x256_2_0_01_1_n_n : DotDims S8x256x256 S256x256 S8x256x256 where
  lhsContracting := [2]
  rhsContracting := [0]
  lhsNonContracting := [0, 1]
  rhsNonContracting := [1]
  lhsBatch := []
  rhsBatch := []
  wf := dot_S8x256x256_S256x256_S8x256x256_2_0_01_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def fn_dynamic_index_in_dim {F : FTy → Type} [FloatOps F] (arg0 : FVec F S20x256x256x3 .f32) (arg1 : IVec S_ 32) : FVec F S256x256x3 .f32 :=
  let c : IVec S_ 32 := constantI S_ 32 0#32
  let v0 : IVec S_ 1 := cmpi .slt arg1 c
  let v1 : IVec S_ 32 := id arg1
  let c_0 : IVec S_ 32 := constantI S_ 32 20#32
  let v2 : IVec S_ 32 := addi v1 c_0
  let v3 : IVec S_ 32 := select v0 v2 arg1
  let c_1 : IVec S_ 32 := constantI S_ 32 0#32
  let c_2 : IVec S_ 32 := constantI S_ 32 0#32
  let c_3 : IVec S_ 32 := constantI S_ 32 0#32
  let v4 : FVec F S1x256x256x3 .f32 := (fun x i => Host.dynamicSlice S1x256x256x3 x (fun k => (i k (Shape.Idx.first h_S_)).toInt) sliceFits_S20x256x256x3_S1x256x256x3) arg0 (![v3, c_1, c_2, c_3] : Fin 4 → IVec S_ 32)
  let v5 : FVec F S256x256x3 .f32 := shapeCast S256x256x3 v4 shapeCasts_S1x256x256x3_S256x256x3
  v5

def fn_dynamic_index_in_dim_0 {F : FTy → Type} [FloatOps F] (arg0 : FVec F S20x256 .f32) (arg1 : IVec S_ 32) : FVec F S256 .f32 :=
  let c : IVec S_ 32 := constantI S_ 32 0#32
  let v0 : IVec S_ 1 := cmpi .slt arg1 c
  let v1 : IVec S_ 32 := id arg1
  let c_0 : IVec S_ 32 := constantI S_ 32 20#32
  let v2 : IVec S_ 32 := addi v1 c_0
  let v3 : IVec S_ 32 := select v0 v2 arg1
  let c_1 : IVec S_ 32 := constantI S_ 32 0#32
  let v4 : FVec F S1x256 .f32 := (fun x i => Host.dynamicSlice S1x256 x (fun k => (i k (Shape.Idx.first h_S_)).toInt) sliceFits_S20x256_S1x256) arg0 (![v3, c_1] : Fin 2 → IVec S_ 32)
  let v5 : FVec F S256 .f32 := shapeCast S256 v4 shapeCasts_S1x256_S256
  v5

def fn_pad {F : FTy → Type} [FloatOps F] (arg0 : FVec F S8x256x256 .f32) (arg1 : IVec S_ 32) : FVec F S8x1280x256 .f32 :=
  let v0 : FVec F S_ .f32 := sitofp .f32 arg1
  let v1 : FVec F S8x1280x256 .f32 := (fun x v => pad S8x1280x256 ![0, 512, 0] ![0, 512, 0] ![0, 0, 0] x v pads_S8x256x256_S8x1280x256_000_5125120_000 h_S_) arg0 v0
  v1

def fn_part61 {F : FTy → Type} [FloatOps F] (main_v34 : IVec S_ 1) (main_v937 : FVec F S2048x256 .f32) (main_v939 : FVec F S2048x1 .f32) : IVec S2048 1 :=
  let main_v940 : FVec F S2048x256 .f32 := broadcastInDim S2048x256 ![0, 1] bcast_S2048x1_S2048x256_0_1 main_v939
  let main_v941 : IVec S2048x256 1 := cmpf .oeq main_v937 main_v940
  let main_v942 : IVec S2048x256 32 := (extui 32 · natLt_1_32) main_v941
  let main_c_522 : IVec S_ 32 := constantI S_ 32 0#32
  let main_v943 : IVec S2048 32 := (fun x v => Host.reduce IntOp.addi x v reducesTo_S2048x256_S2048_d1 h_S_) main_v942 main_c_522
  let main_c_523 : IVec S_ 32 := constantI S_ 32 1#32
  let main_v944 : IVec S2048 32 := broadcastInDim S2048 ![] bcast_S_S2048 main_c_523
  let main_v945 : IVec S2048 1 := cmpi .eq main_v943 main_v944
  let main_v946 : IVec S2048 1 := broadcastInDim S2048 ![] bcast_S_S2048 main_v34
  let main_v947 : IVec S2048 1 := andi main_v946 main_v945
  main_v947

def fn_part60 {F : FTy → Type} [FloatOps F] (main_arg6 : FVec F S256 .f32) (main_arg7 : FVec F S256x256 .f32) (main_v34 : IVec S_ 1) (main_v919 : FVec F S8x256x256 .f32) : IVec S2048 1 :=
  let main_v920 : FVec F S1x1x256 .f32 := broadcastInDim S1x1x256 ![2] bcast_S256_S1x1x256_2 main_arg6
  let main_v921 : FVec F S8x256x256 .f32 := broadcastInDim S8x256x256 ![0, 1, 2] bcast_S1x1x256_S8x256x256_0_1_2 main_v920
  let main_v922 : FVec F S8x256x256 .f32 := addf main_v919 main_v921
  let main_v923 : FVec F S2048x256 .f32 := shapeCast S2048x256 main_v922 shapeCasts_S8x256x256_S2048x256
  let main_v924 : FVec F S2048x256 .f32 := mulf main_v923 main_v923
  let main_cst_518 : FVec F S_ .f32 := constant S_ .f32 0x00000000#32
  let main_v925 : FVec F S2048 .f32 := (fun x v => Host.reduceAdd x v reducesTo_S2048x256_S2048_d1 h_S_) main_v924 main_cst_518
  let main_v926 : FVec F S2048x1 .f32 := broadcastInDim S2048x1 ![0] bcast_S2048_S2048x1_0 main_v925
  let main_cst_519 : FVec F S_ .f32 := constant S_ .f32 0x40000000#32
  let main_v927 : FVec F S2048x256 .f32 := broadcastInDim S2048x256 ![] bcast_S_S2048x256 main_cst_519
  let main_v928 : FVec F S2048x256 .f32 := mulf main_v927 main_v923
  let main_v929 : FVec F S256x256 .f32 := (transpose S256x256 [1, 0] · transposes_S256x256_S256x256_1_0) main_arg7
  let main_v930 : FVec F S2048x256 .f32 := (fun l r => Host.dotGeneral dot_S2048x256_S256x256_S2048x256_1_0_0_1_n_n none l r) main_v928 main_v929
  let main_v931 : FVec F S2048x256 .f32 := broadcastInDim S2048x256 ![0, 1] bcast_S2048x1_S2048x256_0_1 main_v926
  let main_v932 : FVec F S2048x256 .f32 := subf main_v931 main_v930
  let main_v933 : FVec F S256x256 .f32 := mulf main_arg7 main_arg7
  let main_cst_520 : FVec F S_ .f32 := constant S_ .f32 0x00000000#32
  let main_v934 : FVec F S256 .f32 := (fun x v => Host.reduceAdd x v reducesTo_S256x256_S256_d1 h_S_) main_v933 main_cst_520
  let main_v935 : FVec F S1x256 .f32 := broadcastInDim S1x256 ![1] bcast_S256_S1x256_1 main_v934
  let main_v936 : FVec F S2048x256 .f32 := broadcastInDim S2048x256 ![0, 1] bcast_S1x256_S2048x256_0_1 main_v935
  let main_v937 : FVec F S2048x256 .f32 := addf main_v932 main_v936
  let main_cst_521 : FVec F S_ .f32 := constant S_ .f32 0x7F800000#32
  let main_v938 : FVec F S2048 .f32 := (fun x v => Host.reduce FloatOps.minimumf x v reducesTo_S2048x256_S2048_d1 h_S_) main_v937 main_cst_521
  let main_v939 : FVec F S2048x1 .f32 := broadcastInDim S2048x1 ![0] bcast_S2048_S2048x1_0 main_v938
  fn_part61 (F := F) main_v34 main_v937 main_v939

def fn_part59 {F : FTy → Type} [FloatOps F] (main_arg5 : FVec F S256 .f32) (main_arg6 : FVec F S256 .f32) (main_arg7 : FVec F S256x256 .f32) (main_v34 : IVec S_ 1) (main_v898 : FVec F S8x256x256 .f32) (main_v899 : FVec F S8x256 .f32) : IVec S2048 1 :=
  let main_v900 : FVec F S8x256x1 .f32 := broadcastInDim S8x256x1 ![0, 1] bcast_S8x256_S8x256x1_0_1 main_v899
  let main_cst_514 : FVec F S_ .f32 := constant S_ .f32 0x43800000#32
  let main_v901 : FVec F S8x256x1 .f32 := broadcastInDim S8x256x1 ![] bcast_S_S8x256x1 main_cst_514
  let main_v902 : FVec F S8x256x1 .f32 := Host.divf main_v900 main_v901
  let main_v903 : FVec F S8x256x256 .f32 := broadcastInDim S8x256x256 ![0, 1, 2] bcast_S8x256x1_S8x256x256_0_1_2 main_v902
  let main_v904 : FVec F S8x256x256 .f32 := subf main_v898 main_v903
  let main_v905 : FVec F S8x256x256 .f32 := mulf main_v904 main_v904
  let main_cst_515 : FVec F S_ .f32 := constant S_ .f32 0x00000000#32
  let main_v906 : FVec F S8x256 .f32 := (fun x v => Host.reduceAdd x v reducesTo_S8x256x256_S8x256_d2 h_S_) main_v905 main_cst_515
  let main_v907 : FVec F S8x256x1 .f32 := broadcastInDim S8x256x1 ![0, 1] bcast_S8x256_S8x256x1_0_1 main_v906
  let main_cst_516 : FVec F S_ .f32 := constant S_ .f32 0x43800000#32
  let main_v908 : FVec F S8x256x1 .f32 := broadcastInDim S8x256x1 ![] bcast_S_S8x256x1 main_cst_516
  let main_v909 : FVec F S8x256x1 .f32 := Host.divf main_v907 main_v908
  let main_v910 : FVec F S8x256x256 .f32 := broadcastInDim S8x256x256 ![0, 1, 2] bcast_S8x256x1_S8x256x256_0_1_2 main_v902
  let main_v911 : FVec F S8x256x256 .f32 := subf main_v898 main_v910
  let main_cst_517 : FVec F S_ .f32 := constant S_ .f32 0x3727C5AC#32
  let main_v912 : FVec F S8x256x1 .f32 := broadcastInDim S8x256x1 ![] bcast_S_S8x256x1 main_cst_517
  let main_v913 : FVec F S8x256x1 .f32 := addf main_v909 main_v912
  let main_v914 : FVec F S8x256x1 .f32 := Host.sqrt main_v913
  let main_v915 : FVec F S8x256x256 .f32 := broadcastInDim S8x256x256 ![0, 1, 2] bcast_S8x256x1_S8x256x256_0_1_2 main_v914
  let main_v916 : FVec F S8x256x256 .f32 := Host.divf main_v911 main_v915
  let main_v917 : FVec F S1x1x256 .f32 := broadcastInDim S1x1x256 ![2] bcast_S256_S1x1x256_2 main_arg5
  let main_v918 : FVec F S8x256x256 .f32 := broadcastInDim S8x256x256 ![0, 1, 2] bcast_S1x1x256_S8x256x256_0_1_2 main_v917
  let main_v919 : FVec F S8x256x256 .f32 := mulf main_v916 main_v918
  fn_part60 (F := F) main_arg6 main_arg7 main_v34 main_v919

def fn_part58 {F : FTy → Type} [FloatOps F] (main_arg5 : FVec F S256 .f32) (main_arg6 : FVec F S256 .f32) (main_arg7 : FVec F S256x256 .f32) (main_v34 : IVec S_ 1) (main_v855 : FVec F S8x256x256 .f32) (main_v858 : FVec F S256x256x3 .f32) (main_v859 : FVec F S256 .f32) (main_v860 : FVec F S8x1280x256 .f32) (main_v881 : FVec F S8x256x256 .f32) (main_v882 : IVec S_ 32) : IVec S2048 1 :=
  let main_c_507 : IVec S_ 32 := constantI S_ 32 512#32
  let main_v883 : IVec S_ 32 := addi main_c_507 main_v882
  let main_c_508 : IVec S_ 32 := constantI S_ 32 0#32
  let main_v884 : IVec S_ 1 := cmpi .slt main_v883 main_c_508
  let main_c_509 : IVec S_ 32 := constantI S_ 32 1280#32
  let main_v885 : IVec S_ 32 := addi main_v883 main_c_509
  let main_v886 : IVec S_ 32 := select main_v884 main_v885 main_v883
  let main_c_510 : IVec S_ 32 := constantI S_ 32 0#32
  let main_c_511 : IVec S_ 32 := constantI S_ 32 0#32
  let main_v887 : FVec F S8x256x256 .f32 := (fun x i => Host.dynamicSlice S8x256x256 x (fun k => (i k (Shape.Idx.first h_S_)).toInt) sliceFits_S8x1280x256_S8x256x256) main_v860 (![main_c_510, main_v886, main_c_511] : Fin 3 → IVec S_ 32)
  let main_v888 : FVec F S256x256x1 .f32 := (extractStridedSlice S256x256x1 ![0, 0, 2] · slices_S256x256x3_S256x256x1_0_0_2) main_v858
  let main_v889 : FVec F S256x256 .f32 := shapeCast S256x256 main_v888 shapeCasts_S256x256x1_S256x256
  let main_v890 : FVec F S256x256 .f32 := (transpose S256x256 [1, 0] · transposes_S256x256_S256x256_1_0) main_v889
  let main_v891 : FVec F S8x256x256 .f32 := (fun l r => Host.dotGeneral dot_S8x256x256_S256x256_S8x256x256_2_0_01_1_n_n none l r) main_v887 main_v890
  let main_v892 : FVec F S8x256x256 .f32 := addf main_v881 main_v891
  let main_v893 : FVec F S1x1x256 .f32 := broadcastInDim S1x1x256 ![2] bcast_S256_S1x1x256_2 main_v859
  let main_v894 : FVec F S8x256x256 .f32 := broadcastInDim S8x256x256 ![0, 1, 2] bcast_S1x1x256_S8x256x256_0_1_2 main_v893
  let main_v895 : FVec F S8x256x256 .f32 := addf main_v892 main_v894
  let main_cst_512 : FVec F S_ .f32 := constant S_ .f32 0x00000000#32
  let main_v896 : FVec F S8x256x256 .f32 := broadcastInDim S8x256x256 ![] bcast_S_S8x256x256 main_cst_512
  let main_v897 : FVec F S8x256x256 .f32 := maximumf main_v895 main_v896
  let main_v898 : FVec F S8x256x256 .f32 := addf main_v897 main_v855
  let main_cst_513 : FVec F S_ .f32 := constant S_ .f32 0x00000000#32
  let main_v899 : FVec F S8x256 .f32 := (fun x v => Host.reduceAdd x v reducesTo_S8x256x256_S8x256_d2 h_S_) main_v898 main_cst_513
  fn_part59 (F := F) main_arg5 main_arg6 main_arg7 main_v34 main_v898 main_v899

def fn_part57 {F : FTy → Type} [FloatOps F] (main_arg5 : FVec F S256 .f32) (main_arg6 : FVec F S256 .f32) (main_arg7 : FVec F S256x256 .f32) (main_v34 : IVec S_ 1) (main_v855 : FVec F S8x256x256 .f32) (main_v857 : IVec S_ 32) (main_v858 : FVec F S256x256x3 .f32) (main_v859 : FVec F S256 .f32) (main_v860 : FVec F S8x1280x256 .f32) (main_v865 : IVec S_ 32) (main_c_498 : IVec S_ 32) (main_c_499 : IVec S_ 32) : IVec S2048 1 :=
  let main_v866 : FVec F S8x256x256 .f32 := (fun x i => Host.dynamicSlice S8x256x256 x (fun k => (i k (Shape.Idx.first h_S_)).toInt) sliceFits_S8x1280x256_S8x256x256) main_v860 (![main_c_498, main_v865, main_c_499] : Fin 3 → IVec S_ 32)
  let main_v867 : FVec F S256x256x1 .f32 := (extractStridedSlice S256x256x1 ![0, 0, 0] · slices_S256x256x3_S256x256x1_0_0_0) main_v858
  let main_v868 : FVec F S256x256 .f32 := shapeCast S256x256 main_v867 shapeCasts_S256x256x1_S256x256
  let main_v869 : FVec F S256x256 .f32 := (transpose S256x256 [1, 0] · transposes_S256x256_S256x256_1_0) main_v868
  let main_v870 : FVec F S8x256x256 .f32 := (fun l r => Host.dotGeneral dot_S8x256x256_S256x256_S8x256x256_2_0_01_1_n_n none l r) main_v866 main_v869
  let main_c_500 : IVec S_ 32 := constantI S_ 32 0#32
  let main_v871 : IVec S_ 32 := muli main_c_500 main_v857
  let main_c_501 : IVec S_ 32 := constantI S_ 32 512#32
  let main_v872 : IVec S_ 32 := addi main_c_501 main_v871
  let main_c_502 : IVec S_ 32 := constantI S_ 32 0#32
  let main_v873 : IVec S_ 1 := cmpi .slt main_v872 main_c_502
  let main_c_503 : IVec S_ 32 := constantI S_ 32 1280#32
  let main_v874 : IVec S_ 32 := addi main_v872 main_c_503
  let main_v875 : IVec S_ 32 := select main_v873 main_v874 main_v872
  let main_c_504 : IVec S_ 32 := constantI S_ 32 0#32
  let main_c_505 : IVec S_ 32 := constantI S_ 32 0#32
  let main_v876 : FVec F S8x256x256 .f32 := (fun x i => Host.dynamicSlice S8x256x256 x (fun k => (i k (Shape.Idx.first h_S_)).toInt) sliceFits_S8x1280x256_S8x256x256) main_v860 (![main_c_504, main_v875, main_c_505] : Fin 3 → IVec S_ 32)
  let main_v877 : FVec F S256x256x1 .f32 := (extractStridedSlice S256x256x1 ![0, 0, 1] · slices_S256x256x3_S256x256x1_0_0_1) main_v858
  let main_v878 : FVec F S256x256 .f32 := shapeCast S256x256 main_v877 shapeCasts_S256x256x1_S256x256
  let main_v879 : FVec F S256x256 .f32 := (transpose S256x256 [1, 0] · transposes_S256x256_S256x256_1_0) main_v878
  let main_v880 : FVec F S8x256x256 .f32 := (fun l r => Host.dotGeneral dot_S8x256x256_S256x256_S8x256x256_2_0_01_1_n_n none l r) main_v876 main_v879
  let main_v881 : FVec F S8x256x256 .f32 := addf main_v870 main_v880
  let main_c_506 : IVec S_ 32 := constantI S_ 32 1#32
  let main_v882 : IVec S_ 32 := muli main_c_506 main_v857
  fn_part58 (F := F) main_arg5 main_arg6 main_arg7 main_v34 main_v855 main_v858 main_v859 main_v860 main_v881 main_v882

def fn_part56 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v812 : FVec F S8x256x256 .f32) (main_v852 : FVec F S8x256x256 .f32) (main_v853 : FVec F S8x256x256 .f32) : IVec S2048 1 :=
  let main_v854 : FVec F S8x256x256 .f32 := maximumf main_v852 main_v853
  let main_v855 : FVec F S8x256x256 .f32 := addf main_v854 main_v812
  let main_c_488 : IVec S_ 32 := constantI S_ 32 19#32
  let main_c_489 : IVec S_ 32 := constantI S_ 32 10#32
  let main_v856 : IVec S_ 32 := Host.remsi main_c_488 main_c_489
  let main_c_490 : IVec S_ 32 := constantI S_ 32 1#32
  let main_v857 : IVec S_ 32 := Host.shli main_c_490 main_v856
  let main_c_491 : IVec S_ 32 := constantI S_ 32 19#32
  let main_v858 : FVec F S256x256x3 .f32 := fn_dynamic_index_in_dim (F := F) main_arg3 main_c_491
  let main_c_492 : IVec S_ 32 := constantI S_ 32 19#32
  let main_v859 : FVec F S256 .f32 := fn_dynamic_index_in_dim_0 (F := F) main_arg4 main_c_492
  let main_c_493 : IVec S_ 32 := constantI S_ 32 0#32
  let main_v860 : FVec F S8x1280x256 .f32 := fn_pad (F := F) main_v855 main_c_493
  let main_c_494 : IVec S_ 32 := constantI S_ 32 4294967295#32
  let main_v861 : IVec S_ 32 := muli main_c_494 main_v857
  let main_c_495 : IVec S_ 32 := constantI S_ 32 512#32
  let main_v862 : IVec S_ 32 := addi main_c_495 main_v861
  let main_c_496 : IVec S_ 32 := constantI S_ 32 0#32
  let main_v863 : IVec S_ 1 := cmpi .slt main_v862 main_c_496
  let main_c_497 : IVec S_ 32 := constantI S_ 32 1280#32
  let main_v864 : IVec S_ 32 := addi main_v862 main_c_497
  let main_v865 : IVec S_ 32 := select main_v863 main_v864 main_v862
  let main_c_498 : IVec S_ 32 := constantI S_ 32 0#32
  let main_c_499 : IVec S_ 32 := constantI S_ 32 0#32
  fn_part57 (F := F) main_arg5 main_arg6 main_arg7 main_v34 main_v855 main_v857 main_v858 main_v859 main_v860 main_v865 main_c_498 main_c_499

def fn_part55 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v812 : FVec F S8x256x256 .f32) (main_v814 : IVec S_ 32) (main_v815 : FVec F S256x256x3 .f32) (main_v816 : FVec F S256 .f32) (main_v817 : FVec F S8x1280x256 .f32) (main_v827 : FVec F S8x256x256 .f32) (main_v833 : FVec F S8x256x256 .f32) (main_v836 : FVec F S256x256 .f32) : IVec S2048 1 :=
  let main_v837 : FVec F S8x256x256 .f32 := (fun l r => Host.dotGeneral dot_S8x256x256_S256x256_S8x256x256_2_0_01_1_n_n none l r) main_v833 main_v836
  let main_v838 : FVec F S8x256x256 .f32 := addf main_v827 main_v837
  let main_c_481 : IVec S_ 32 := constantI S_ 32 1#32
  let main_v839 : IVec S_ 32 := muli main_c_481 main_v814
  let main_c_482 : IVec S_ 32 := constantI S_ 32 512#32
  let main_v840 : IVec S_ 32 := addi main_c_482 main_v839
  let main_c_483 : IVec S_ 32 := constantI S_ 32 0#32
  let main_v841 : IVec S_ 1 := cmpi .slt main_v840 main_c_483
  let main_c_484 : IVec S_ 32 := constantI S_ 32 1280#32
  let main_v842 : IVec S_ 32 := addi main_v840 main_c_484
  let main_v843 : IVec S_ 32 := select main_v841 main_v842 main_v840
  let main_c_485 : IVec S_ 32 := constantI S_ 32 0#32
  let main_c_486 : IVec S_ 32 := constantI S_ 32 0#32
  let main_v844 : FVec F S8x256x256 .f32 := (fun x i => Host.dynamicSlice S8x256x256 x (fun k => (i k (Shape.Idx.first h_S_)).toInt) sliceFits_S8x1280x256_S8x256x256) main_v817 (![main_c_485, main_v843, main_c_486] : Fin 3 → IVec S_ 32)
  let main_v845 : FVec F S256x256x1 .f32 := (extractStridedSlice S256x256x1 ![0, 0, 2] · slices_S256x256x3_S256x256x1_0_0_2) main_v815
  let main_v846 : FVec F S256x256 .f32 := shapeCast S256x256 main_v845 shapeCasts_S256x256x1_S256x256
  let main_v847 : FVec F S256x256 .f32 := (transpose S256x256 [1, 0] · transposes_S256x256_S256x256_1_0) main_v846
  let main_v848 : FVec F S8x256x256 .f32 := (fun l r => Host.dotGeneral dot_S8x256x256_S256x256_S8x256x256_2_0_01_1_n_n none l r) main_v844 main_v847
  let main_v849 : FVec F S8x256x256 .f32 := addf main_v838 main_v848
  let main_v850 : FVec F S1x1x256 .f32 := broadcastInDim S1x1x256 ![2] bcast_S256_S1x1x256_2 main_v816
  let main_v851 : FVec F S8x256x256 .f32 := broadcastInDim S8x256x256 ![0, 1, 2] bcast_S1x1x256_S8x256x256_0_1_2 main_v850
  let main_v852 : FVec F S8x256x256 .f32 := addf main_v849 main_v851
  let main_cst_487 : FVec F S_ .f32 := constant S_ .f32 0x00000000#32
  let main_v853 : FVec F S8x256x256 .f32 := broadcastInDim S8x256x256 ![] bcast_S_S8x256x256 main_cst_487
  fn_part56 (F := F) main_arg3 main_arg4 main_arg5 main_arg6 main_arg7 main_v34 main_v812 main_v852 main_v853

def fn_part54 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v812 : FVec F S8x256x256 .f32) (main_v814 : IVec S_ 32) (main_v815 : FVec F S256x256x3 .f32) (main_v816 : FVec F S256 .f32) (main_v817 : FVec F S8x1280x256 .f32) (main_v819 : IVec S_ 32) (main_v820 : IVec S_ 1) (main_c_472 : IVec S_ 32) : IVec S2048 1 :=
  let main_v821 : IVec S_ 32 := addi main_v819 main_c_472
  let main_v822 : IVec S_ 32 := select main_v820 main_v821 main_v819
  let main_c_473 : IVec S_ 32 := constantI S_ 32 0#32
  let main_c_474 : IVec S_ 32 := constantI S_ 32 0#32
  let main_v823 : FVec F S8x256x256 .f32 := (fun x i => Host.dynamicSlice S8x256x256 x (fun k => (i k (Shape.Idx.first h_S_)).toInt) sliceFits_S8x1280x256_S8x256x256) main_v817 (![main_c_473, main_v822, main_c_474] : Fin 3 → IVec S_ 32)
  let main_v824 : FVec F S256x256x1 .f32 := (extractStridedSlice S256x256x1 ![0, 0, 0] · slices_S256x256x3_S256x256x1_0_0_0) main_v815
  let main_v825 : FVec F S256x256 .f32 := shapeCast S256x256 main_v824 shapeCasts_S256x256x1_S256x256
  let main_v826 : FVec F S256x256 .f32 := (transpose S256x256 [1, 0] · transposes_S256x256_S256x256_1_0) main_v825
  let main_v827 : FVec F S8x256x256 .f32 := (fun l r => Host.dotGeneral dot_S8x256x256_S256x256_S8x256x256_2_0_01_1_n_n none l r) main_v823 main_v826
  let main_c_475 : IVec S_ 32 := constantI S_ 32 0#32
  let main_v828 : IVec S_ 32 := muli main_c_475 main_v814
  let main_c_476 : IVec S_ 32 := constantI S_ 32 512#32
  let main_v829 : IVec S_ 32 := addi main_c_476 main_v828
  let main_c_477 : IVec S_ 32 := constantI S_ 32 0#32
  let main_v830 : IVec S_ 1 := cmpi .slt main_v829 main_c_477
  let main_c_478 : IVec S_ 32 := constantI S_ 32 1280#32
  let main_v831 : IVec S_ 32 := addi main_v829 main_c_478
  let main_v832 : IVec S_ 32 := select main_v830 main_v831 main_v829
  let main_c_479 : IVec S_ 32 := constantI S_ 32 0#32
  let main_c_480 : IVec S_ 32 := constantI S_ 32 0#32
  let main_v833 : FVec F S8x256x256 .f32 := (fun x i => Host.dynamicSlice S8x256x256 x (fun k => (i k (Shape.Idx.first h_S_)).toInt) sliceFits_S8x1280x256_S8x256x256) main_v817 (![main_c_479, main_v832, main_c_480] : Fin 3 → IVec S_ 32)
  let main_v834 : FVec F S256x256x1 .f32 := (extractStridedSlice S256x256x1 ![0, 0, 1] · slices_S256x256x3_S256x256x1_0_0_1) main_v815
  let main_v835 : FVec F S256x256 .f32 := shapeCast S256x256 main_v834 shapeCasts_S256x256x1_S256x256
  let main_v836 : FVec F S256x256 .f32 := (transpose S256x256 [1, 0] · transposes_S256x256_S256x256_1_0) main_v835
  fn_part55 (F := F) main_arg3 main_arg4 main_arg5 main_arg6 main_arg7 main_v34 main_v812 main_v814 main_v815 main_v816 main_v817 main_v827 main_v833 main_v836

def fn_part53 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v769 : FVec F S8x256x256 .f32) (main_v806 : FVec F S8x256x256 .f32) (main_v807 : FVec F S1x1x256 .f32) : IVec S2048 1 :=
  let main_v808 : FVec F S8x256x256 .f32 := broadcastInDim S8x256x256 ![0, 1, 2] bcast_S1x1x256_S8x256x256_0_1_2 main_v807
  let main_v809 : FVec F S8x256x256 .f32 := addf main_v806 main_v808
  let main_cst_462 : FVec F S_ .f32 := constant S_ .f32 0x00000000#32
  let main_v810 : FVec F S8x256x256 .f32 := broadcastInDim S8x256x256 ![] bcast_S_S8x256x256 main_cst_462
  let main_v811 : FVec F S8x256x256 .f32 := maximumf main_v809 main_v810
  let main_v812 : FVec F S8x256x256 .f32 := addf main_v811 main_v769
  let main_c_463 : IVec S_ 32 := constantI S_ 32 18#32
  let main_c_464 : IVec S_ 32 := constantI S_ 32 10#32
  let main_v813 : IVec S_ 32 := Host.remsi main_c_463 main_c_464
  let main_c_465 : IVec S_ 32 := constantI S_ 32 1#32
  let main_v814 : IVec S_ 32 := Host.shli main_c_465 main_v813
  let main_c_466 : IVec S_ 32 := constantI S_ 32 18#32
  let main_v815 : FVec F S256x256x3 .f32 := fn_dynamic_index_in_dim (F := F) main_arg3 main_c_466
  let main_c_467 : IVec S_ 32 := constantI S_ 32 18#32
  let main_v816 : FVec F S256 .f32 := fn_dynamic_index_in_dim_0 (F := F) main_arg4 main_c_467
  let main_c_468 : IVec S_ 32 := constantI S_ 32 0#32
  let main_v817 : FVec F S8x1280x256 .f32 := fn_pad (F := F) main_v812 main_c_468
  let main_c_469 : IVec S_ 32 := constantI S_ 32 4294967295#32
  let main_v818 : IVec S_ 32 := muli main_c_469 main_v814
  let main_c_470 : IVec S_ 32 := constantI S_ 32 512#32
  let main_v819 : IVec S_ 32 := addi main_c_470 main_v818
  let main_c_471 : IVec S_ 32 := constantI S_ 32 0#32
  let main_v820 : IVec S_ 1 := cmpi .slt main_v819 main_c_471
  let main_c_472 : IVec S_ 32 := constantI S_ 32 1280#32
  fn_part54 (F := F) main_arg3 main_arg4 main_arg5 main_arg6 main_arg7 main_v34 main_v812 main_v814 main_v815 main_v816 main_v817 main_v819 main_v820 main_c_472

def fn_part52 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v769 : FVec F S8x256x256 .f32) (main_v771 : IVec S_ 32) (main_v772 : FVec F S256x256x3 .f32) (main_v773 : FVec F S256 .f32) (main_v774 : FVec F S8x1280x256 .f32) (main_v784 : FVec F S8x256x256 .f32) (main_v789 : IVec S_ 32) (main_c_454 : IVec S_ 32) (main_c_455 : IVec S_ 32) : IVec S2048 1 :=
  let main_v790 : FVec F S8x256x256 .f32 := (fun x i => Host.dynamicSlice S8x256x256 x (fun k => (i k (Shape.Idx.first h_S_)).toInt) sliceFits_S8x1280x256_S8x256x256) main_v774 (![main_c_454, main_v789, main_c_455] : Fin 3 → IVec S_ 32)
  let main_v791 : FVec F S256x256x1 .f32 := (extractStridedSlice S256x256x1 ![0, 0, 1] · slices_S256x256x3_S256x256x1_0_0_1) main_v772
  let main_v792 : FVec F S256x256 .f32 := shapeCast S256x256 main_v791 shapeCasts_S256x256x1_S256x256
  let main_v793 : FVec F S256x256 .f32 := (transpose S256x256 [1, 0] · transposes_S256x256_S256x256_1_0) main_v792
  let main_v794 : FVec F S8x256x256 .f32 := (fun l r => Host.dotGeneral dot_S8x256x256_S256x256_S8x256x256_2_0_01_1_n_n none l r) main_v790 main_v793
  let main_v795 : FVec F S8x256x256 .f32 := addf main_v784 main_v794
  let main_c_456 : IVec S_ 32 := constantI S_ 32 1#32
  let main_v796 : IVec S_ 32 := muli main_c_456 main_v771
  let main_c_457 : IVec S_ 32 := constantI S_ 32 512#32
  let main_v797 : IVec S_ 32 := addi main_c_457 main_v796
  let main_c_458 : IVec S_ 32 := constantI S_ 32 0#32
  let main_v798 : IVec S_ 1 := cmpi .slt main_v797 main_c_458
  let main_c_459 : IVec S_ 32 := constantI S_ 32 1280#32
  let main_v799 : IVec S_ 32 := addi main_v797 main_c_459
  let main_v800 : IVec S_ 32 := select main_v798 main_v799 main_v797
  let main_c_460 : IVec S_ 32 := constantI S_ 32 0#32
  let main_c_461 : IVec S_ 32 := constantI S_ 32 0#32
  let main_v801 : FVec F S8x256x256 .f32 := (fun x i => Host.dynamicSlice S8x256x256 x (fun k => (i k (Shape.Idx.first h_S_)).toInt) sliceFits_S8x1280x256_S8x256x256) main_v774 (![main_c_460, main_v800, main_c_461] : Fin 3 → IVec S_ 32)
  let main_v802 : FVec F S256x256x1 .f32 := (extractStridedSlice S256x256x1 ![0, 0, 2] · slices_S256x256x3_S256x256x1_0_0_2) main_v772
  let main_v803 : FVec F S256x256 .f32 := shapeCast S256x256 main_v802 shapeCasts_S256x256x1_S256x256
  let main_v804 : FVec F S256x256 .f32 := (transpose S256x256 [1, 0] · transposes_S256x256_S256x256_1_0) main_v803
  let main_v805 : FVec F S8x256x256 .f32 := (fun l r => Host.dotGeneral dot_S8x256x256_S256x256_S8x256x256_2_0_01_1_n_n none l r) main_v801 main_v804
  let main_v806 : FVec F S8x256x256 .f32 := addf main_v795 main_v805
  let main_v807 : FVec F S1x1x256 .f32 := broadcastInDim S1x1x256 ![2] bcast_S256_S1x1x256_2 main_v773
  fn_part53 (F := F) main_arg3 main_arg4 main_arg5 main_arg6 main_arg7 main_v34 main_v769 main_v806 main_v807

def fn_part51 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v769 : FVec F S8x256x256 .f32) (main_v771 : IVec S_ 32) (main_v772 : FVec F S256x256x3 .f32) (main_v773 : FVec F S256 .f32) (main_v774 : FVec F S8x1280x256 .f32) (main_v775 : IVec S_ 32) (main_c_445 : IVec S_ 32) : IVec S2048 1 :=
  let main_v776 : IVec S_ 32 := addi main_c_445 main_v775
  let main_c_446 : IVec S_ 32 := constantI S_ 32 0#32
  let main_v777 : IVec S_ 1 := cmpi .slt main_v776 main_c_446
  let main_c_447 : IVec S_ 32 := constantI S_ 32 1280#32
  let main_v778 : IVec S_ 32 := addi main_v776 main_c_447
  let main_v779 : IVec S_ 32 := select main_v777 main_v778 main_v776
  let main_c_448 : IVec S_ 32 := constantI S_ 32 0#32
  let main_c_449 : IVec S_ 32 := constantI S_ 32 0#32
  let main_v780 : FVec F S8x256x256 .f32 := (fun x i => Host.dynamicSlice S8x256x256 x (fun k => (i k (Shape.Idx.first h_S_)).toInt) sliceFits_S8x1280x256_S8x256x256) main_v774 (![main_c_448, main_v779, main_c_449] : Fin 3 → IVec S_ 32)
  let main_v781 : FVec F S256x256x1 .f32 := (extractStridedSlice S256x256x1 ![0, 0, 0] · slices_S256x256x3_S256x256x1_0_0_0) main_v772
  let main_v782 : FVec F S256x256 .f32 := shapeCast S256x256 main_v781 shapeCasts_S256x256x1_S256x256
  let main_v783 : FVec F S256x256 .f32 := (transpose S256x256 [1, 0] · transposes_S256x256_S256x256_1_0) main_v782
  let main_v784 : FVec F S8x256x256 .f32 := (fun l r => Host.dotGeneral dot_S8x256x256_S256x256_S8x256x256_2_0_01_1_n_n none l r) main_v780 main_v783
  let main_c_450 : IVec S_ 32 := constantI S_ 32 0#32
  let main_v785 : IVec S_ 32 := muli main_c_450 main_v771
  let main_c_451 : IVec S_ 32 := constantI S_ 32 512#32
  let main_v786 : IVec S_ 32 := addi main_c_451 main_v785
  let main_c_452 : IVec S_ 32 := constantI S_ 32 0#32
  let main_v787 : IVec S_ 1 := cmpi .slt main_v786 main_c_452
  let main_c_453 : IVec S_ 32 := constantI S_ 32 1280#32
  let main_v788 : IVec S_ 32 := addi main_v786 main_c_453
  let main_v789 : IVec S_ 32 := select main_v787 main_v788 main_v786
  let main_c_454 : IVec S_ 32 := constantI S_ 32 0#32
  let main_c_455 : IVec S_ 32 := constantI S_ 32 0#32
  fn_part52 (F := F) main_arg3 main_arg4 main_arg5 main_arg6 main_arg7 main_v34 main_v769 main_v771 main_v772 main_v773 main_v774 main_v784 main_v789 main_c_454 main_c_455

def fn_part50 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v726 : FVec F S8x256x256 .f32) (main_v730 : FVec F S256 .f32) (main_v752 : FVec F S8x256x256 .f32) (main_v758 : FVec F S8x256x256 .f32) (main_v760 : FVec F S256x256 .f32) : IVec S2048 1 :=
  let main_v761 : FVec F S256x256 .f32 := (transpose S256x256 [1, 0] · transposes_S256x256_S256x256_1_0) main_v760
  let main_v762 : FVec F S8x256x256 .f32 := (fun l r => Host.dotGeneral dot_S8x256x256_S256x256_S8x256x256_2_0_01_1_n_n none l r) main_v758 main_v761
  let main_v763 : FVec F S8x256x256 .f32 := addf main_v752 main_v762
  let main_v764 : FVec F S1x1x256 .f32 := broadcastInDim S1x1x256 ![2] bcast_S256_S1x1x256_2 main_v730
  let main_v765 : FVec F S8x256x256 .f32 := broadcastInDim S8x256x256 ![0, 1, 2] bcast_S1x1x256_S8x256x256_0_1_2 main_v764
  let main_v766 : FVec F S8x256x256 .f32 := addf main_v763 main_v765
  let main_cst_437 : FVec F S_ .f32 := constant S_ .f32 0x00000000#32
  let main_v767 : FVec F S8x256x256 .f32 := broadcastInDim S8x256x256 ![] bcast_S_S8x256x256 main_cst_437
  let main_v768 : FVec F S8x256x256 .f32 := maximumf main_v766 main_v767
  let main_v769 : FVec F S8x256x256 .f32 := addf main_v768 main_v726
  let main_c_438 : IVec S_ 32 := constantI S_ 32 17#32
  let main_c_439 : IVec S_ 32 := constantI S_ 32 10#32
  let main_v770 : IVec S_ 32 := Host.remsi main_c_438 main_c_439
  let main_c_440 : IVec S_ 32 := constantI S_ 32 1#32
  let main_v771 : IVec S_ 32 := Host.shli main_c_440 main_v770
  let main_c_441 : IVec S_ 32 := constantI S_ 32 17#32
  let main_v772 : FVec F S256x256x3 .f32 := fn_dynamic_index_in_dim (F := F) main_arg3 main_c_441
  let main_c_442 : IVec S_ 32 := constantI S_ 32 17#32
  let main_v773 : FVec F S256 .f32 := fn_dynamic_index_in_dim_0 (F := F) main_arg4 main_c_442
  let main_c_443 : IVec S_ 32 := constantI S_ 32 0#32
  let main_v774 : FVec F S8x1280x256 .f32 := fn_pad (F := F) main_v769 main_c_443
  let main_c_444 : IVec S_ 32 := constantI S_ 32 4294967295#32
  let main_v775 : IVec S_ 32 := muli main_c_444 main_v771
  let main_c_445 : IVec S_ 32 := constantI S_ 32 512#32
  fn_part51 (F := F) main_arg3 main_arg4 main_arg5 main_arg6 main_arg7 main_v34 main_v769 main_v771 main_v772 main_v773 main_v774 main_v775 main_c_445

def fn_part49 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v726 : FVec F S8x256x256 .f32) (main_v728 : IVec S_ 32) (main_v729 : FVec F S256x256x3 .f32) (main_v730 : FVec F S256 .f32) (main_v731 : FVec F S8x1280x256 .f32) (main_v741 : FVec F S8x256x256 .f32) (main_v743 : IVec S_ 32) (main_v744 : IVec S_ 1) (main_c_428 : IVec S_ 32) : IVec S2048 1 :=
  let main_v745 : IVec S_ 32 := addi main_v743 main_c_428
  let main_v746 : IVec S_ 32 := select main_v744 main_v745 main_v743
  let main_c_429 : IVec S_ 32 := constantI S_ 32 0#32
  let main_c_430 : IVec S_ 32 := constantI S_ 32 0#32
  let main_v747 : FVec F S8x256x256 .f32 := (fun x i => Host.dynamicSlice S8x256x256 x (fun k => (i k (Shape.Idx.first h_S_)).toInt) sliceFits_S8x1280x256_S8x256x256) main_v731 (![main_c_429, main_v746, main_c_430] : Fin 3 → IVec S_ 32)
  let main_v748 : FVec F S256x256x1 .f32 := (extractStridedSlice S256x256x1 ![0, 0, 1] · slices_S256x256x3_S256x256x1_0_0_1) main_v729
  let main_v749 : FVec F S256x256 .f32 := shapeCast S256x256 main_v748 shapeCasts_S256x256x1_S256x256
  let main_v750 : FVec F S256x256 .f32 := (transpose S256x256 [1, 0] · transposes_S256x256_S256x256_1_0) main_v749
  let main_v751 : FVec F S8x256x256 .f32 := (fun l r => Host.dotGeneral dot_S8x256x256_S256x256_S8x256x256_2_0_01_1_n_n none l r) main_v747 main_v750
  let main_v752 : FVec F S8x256x256 .f32 := addf main_v741 main_v751
  let main_c_431 : IVec S_ 32 := constantI S_ 32 1#32
  let main_v753 : IVec S_ 32 := muli main_c_431 main_v728
  let main_c_432 : IVec S_ 32 := constantI S_ 32 512#32
  let main_v754 : IVec S_ 32 := addi main_c_432 main_v753
  let main_c_433 : IVec S_ 32 := constantI S_ 32 0#32
  let main_v755 : IVec S_ 1 := cmpi .slt main_v754 main_c_433
  let main_c_434 : IVec S_ 32 := constantI S_ 32 1280#32
  let main_v756 : IVec S_ 32 := addi main_v754 main_c_434
  let main_v757 : IVec S_ 32 := select main_v755 main_v756 main_v754
  let main_c_435 : IVec S_ 32 := constantI S_ 32 0#32
  let main_c_436 : IVec S_ 32 := constantI S_ 32 0#32
  let main_v758 : FVec F S8x256x256 .f32 := (fun x i => Host.dynamicSlice S8x256x256 x (fun k => (i k (Shape.Idx.first h_S_)).toInt) sliceFits_S8x1280x256_S8x256x256) main_v731 (![main_c_435, main_v757, main_c_436] : Fin 3 → IVec S_ 32)
  let main_v759 : FVec F S256x256x1 .f32 := (extractStridedSlice S256x256x1 ![0, 0, 2] · slices_S256x256x3_S256x256x1_0_0_2) main_v729
  let main_v760 : FVec F S256x256 .f32 := shapeCast S256x256 main_v759 shapeCasts_S256x256x1_S256x256
  fn_part50 (F := F) main_arg3 main_arg4 main_arg5 main_arg6 main_arg7 main_v34 main_v726 main_v730 main_v752 main_v758 main_v760

def fn_part48 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v726 : FVec F S8x256x256 .f32) (main_v728 : IVec S_ 32) (main_v729 : FVec F S256x256x3 .f32) (main_v730 : FVec F S256 .f32) (main_c_418 : IVec S_ 32) : IVec S2048 1 :=
  let main_v731 : FVec F S8x1280x256 .f32 := fn_pad (F := F) main_v726 main_c_418
  let main_c_419 : IVec S_ 32 := constantI S_ 32 4294967295#32
  let main_v732 : IVec S_ 32 := muli main_c_419 main_v728
  let main_c_420 : IVec S_ 32 := constantI S_ 32 512#32
  let main_v733 : IVec S_ 32 := addi main_c_420 main_v732
  let main_c_421 : IVec S_ 32 := constantI S_ 32 0#32
  let main_v734 : IVec S_ 1 := cmpi .slt main_v733 main_c_421
  let main_c_422 : IVec S_ 32 := constantI S_ 32 1280#32
  let main_v735 : IVec S_ 32 := addi main_v733 main_c_422
  let main_v736 : IVec S_ 32 := select main_v734 main_v735 main_v733
  let main_c_423 : IVec S_ 32 := constantI S_ 32 0#32
  let main_c_424 : IVec S_ 32 := constantI S_ 32 0#32
  let main_v737 : FVec F S8x256x256 .f32 := (fun x i => Host.dynamicSlice S8x256x256 x (fun k => (i k (Shape.Idx.first h_S_)).toInt) sliceFits_S8x1280x256_S8x256x256) main_v731 (![main_c_423, main_v736, main_c_424] : Fin 3 → IVec S_ 32)
  let main_v738 : FVec F S256x256x1 .f32 := (extractStridedSlice S256x256x1 ![0, 0, 0] · slices_S256x256x3_S256x256x1_0_0_0) main_v729
  let main_v739 : FVec F S256x256 .f32 := shapeCast S256x256 main_v738 shapeCasts_S256x256x1_S256x256
  let main_v740 : FVec F S256x256 .f32 := (transpose S256x256 [1, 0] · transposes_S256x256_S256x256_1_0) main_v739
  let main_v741 : FVec F S8x256x256 .f32 := (fun l r => Host.dotGeneral dot_S8x256x256_S256x256_S8x256x256_2_0_01_1_n_n none l r) main_v737 main_v740
  let main_c_425 : IVec S_ 32 := constantI S_ 32 0#32
  let main_v742 : IVec S_ 32 := muli main_c_425 main_v728
  let main_c_426 : IVec S_ 32 := constantI S_ 32 512#32
  let main_v743 : IVec S_ 32 := addi main_c_426 main_v742
  let main_c_427 : IVec S_ 32 := constantI S_ 32 0#32
  let main_v744 : IVec S_ 1 := cmpi .slt main_v743 main_c_427
  let main_c_428 : IVec S_ 32 := constantI S_ 32 1280#32
  fn_part49 (F := F) main_arg3 main_arg4 main_arg5 main_arg6 main_arg7 main_v34 main_v726 main_v728 main_v729 main_v730 main_v731 main_v741 main_v743 main_v744 main_c_428

def fn_part47 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v683 : FVec F S8x256x256 .f32) (main_v686 : FVec F S256x256x3 .f32) (main_v687 : FVec F S256 .f32) (main_v688 : FVec F S8x1280x256 .f32) (main_v709 : FVec F S8x256x256 .f32) (main_v714 : IVec S_ 32) (main_c_410 : IVec S_ 32) : IVec S2048 1 :=
  let main_c_411 : IVec S_ 32 := constantI S_ 32 0#32
  let main_v715 : FVec F S8x256x256 .f32 := (fun x i => Host.dynamicSlice S8x256x256 x (fun k => (i k (Shape.Idx.first h_S_)).toInt) sliceFits_S8x1280x256_S8x256x256) main_v688 (![main_c_410, main_v714, main_c_411] : Fin 3 → IVec S_ 32)
  let main_v716 : FVec F S256x256x1 .f32 := (extractStridedSlice S256x256x1 ![0, 0, 2] · slices_S256x256x3_S256x256x1_0_0_2) main_v686
  let main_v717 : FVec F S256x256 .f32 := shapeCast S256x256 main_v716 shapeCasts_S256x256x1_S256x256
  let main_v718 : FVec F S256x256 .f32 := (transpose S256x256 [1, 0] · transposes_S256x256_S256x256_1_0) main_v717
  let main_v719 : FVec F S8x256x256 .f32 := (fun l r => Host.dotGeneral dot_S8x256x256_S256x256_S8x256x256_2_0_01_1_n_n none l r) main_v715 main_v718
  let main_v720 : FVec F S8x256x256 .f32 := addf main_v709 main_v719
  let main_v721 : FVec F S1x1x256 .f32 := broadcastInDim S1x1x256 ![2] bcast_S256_S1x1x256_2 main_v687
  let main_v722 : FVec F S8x256x256 .f32 := broadcastInDim S8x256x256 ![0, 1, 2] bcast_S1x1x256_S8x256x256_0_1_2 main_v721
  let main_v723 : FVec F S8x256x256 .f32 := addf main_v720 main_v722
  let main_cst_412 : FVec F S_ .f32 := constant S_ .f32 0x00000000#32
  let main_v724 : FVec F S8x256x256 .f32 := broadcastInDim S8x256x256 ![] bcast_S_S8x256x256 main_cst_412
  let main_v725 : FVec F S8x256x256 .f32 := maximumf main_v723 main_v724
  let main_v726 : FVec F S8x256x256 .f32 := addf main_v725 main_v683
  let main_c_413 : IVec S_ 32 := constantI S_ 32 16#32
  let main_c_414 : IVec S_ 32 := constantI S_ 32 10#32
  let main_v727 : IVec S_ 32 := Host.remsi main_c_413 main_c_414
  let main_c_415 : IVec S_ 32 := constantI S_ 32 1#32
  let main_v728 : IVec S_ 32 := Host.shli main_c_415 main_v727
  let main_c_416 : IVec S_ 32 := constantI S_ 32 16#32
  let main_v729 : FVec F S256x256x3 .f32 := fn_dynamic_index_in_dim (F := F) main_arg3 main_c_416
  let main_c_417 : IVec S_ 32 := constantI S_ 32 16#32
  let main_v730 : FVec F S256 .f32 := fn_dynamic_index_in_dim_0 (F := F) main_arg4 main_c_417
  let main_c_418 : IVec S_ 32 := constantI S_ 32 0#32
  fn_part48 (F := F) main_arg3 main_arg4 main_arg5 main_arg6 main_arg7 main_v34 main_v726 main_v728 main_v729 main_v730 main_c_418

def fn_part46 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v683 : FVec F S8x256x256 .f32) (main_v685 : IVec S_ 32) (main_v686 : FVec F S256x256x3 .f32) (main_v687 : FVec F S256 .f32) (main_v688 : FVec F S8x1280x256 .f32) (main_v698 : FVec F S8x256x256 .f32) (main_v699 : IVec S_ 32) (main_c_401 : IVec S_ 32) : IVec S2048 1 :=
  let main_v700 : IVec S_ 32 := addi main_c_401 main_v699
  let main_c_402 : IVec S_ 32 := constantI S_ 32 0#32
  let main_v701 : IVec S_ 1 := cmpi .slt main_v700 main_c_402
  let main_c_403 : IVec S_ 32 := constantI S_ 32 1280#32
  let main_v702 : IVec S_ 32 := addi main_v700 main_c_403
  let main_v703 : IVec S_ 32 := select main_v701 main_v702 main_v700
  let main_c_404 : IVec S_ 32 := constantI S_ 32 0#32
  let main_c_405 : IVec S_ 32 := constantI S_ 32 0#32
  let main_v704 : FVec F S8x256x256 .f32 := (fun x i => Host.dynamicSlice S8x256x256 x (fun k => (i k (Shape.Idx.first h_S_)).toInt) sliceFits_S8x1280x256_S8x256x256) main_v688 (![main_c_404, main_v703, main_c_405] : Fin 3 → IVec S_ 32)
  let main_v705 : FVec F S256x256x1 .f32 := (extractStridedSlice S256x256x1 ![0, 0, 1] · slices_S256x256x3_S256x256x1_0_0_1) main_v686
  let main_v706 : FVec F S256x256 .f32 := shapeCast S256x256 main_v705 shapeCasts_S256x256x1_S256x256
  let main_v707 : FVec F S256x256 .f32 := (transpose S256x256 [1, 0] · transposes_S256x256_S256x256_1_0) main_v706
  let main_v708 : FVec F S8x256x256 .f32 := (fun l r => Host.dotGeneral dot_S8x256x256_S256x256_S8x256x256_2_0_01_1_n_n none l r) main_v704 main_v707
  let main_v709 : FVec F S8x256x256 .f32 := addf main_v698 main_v708
  let main_c_406 : IVec S_ 32 := constantI S_ 32 1#32
  let main_v710 : IVec S_ 32 := muli main_c_406 main_v685
  let main_c_407 : IVec S_ 32 := constantI S_ 32 512#32
  let main_v711 : IVec S_ 32 := addi main_c_407 main_v710
  let main_c_408 : IVec S_ 32 := constantI S_ 32 0#32
  let main_v712 : IVec S_ 1 := cmpi .slt main_v711 main_c_408
  let main_c_409 : IVec S_ 32 := constantI S_ 32 1280#32
  let main_v713 : IVec S_ 32 := addi main_v711 main_c_409
  let main_v714 : IVec S_ 32 := select main_v712 main_v713 main_v711
  let main_c_410 : IVec S_ 32 := constantI S_ 32 0#32
  fn_part47 (F := F) main_arg3 main_arg4 main_arg5 main_arg6 main_arg7 main_v34 main_v683 main_v686 main_v687 main_v688 main_v709 main_v714 main_c_410

def fn_part45 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v683 : FVec F S8x256x256 .f32) (main_v685 : IVec S_ 32) (main_c_391 : IVec S_ 32) : IVec S2048 1 :=
  let main_v686 : FVec F S256x256x3 .f32 := fn_dynamic_index_in_dim (F := F) main_arg3 main_c_391
  let main_c_392 : IVec S_ 32 := constantI S_ 32 15#32
  let main_v687 : FVec F S256 .f32 := fn_dynamic_index_in_dim_0 (F := F) main_arg4 main_c_392
  let main_c_393 : IVec S_ 32 := constantI S_ 32 0#32
  let main_v688 : FVec F S8x1280x256 .f32 := fn_pad (F := F) main_v683 main_c_393
  let main_c_394 : IVec S_ 32 := constantI S_ 32 4294967295#32
  let main_v689 : IVec S_ 32 := muli main_c_394 main_v685
  let main_c_395 : IVec S_ 32 := constantI S_ 32 512#32
  let main_v690 : IVec S_ 32 := addi main_c_395 main_v689
  let main_c_396 : IVec S_ 32 := constantI S_ 32 0#32
  let main_v691 : IVec S_ 1 := cmpi .slt main_v690 main_c_396
  let main_c_397 : IVec S_ 32 := constantI S_ 32 1280#32
  let main_v692 : IVec S_ 32 := addi main_v690 main_c_397
  let main_v693 : IVec S_ 32 := select main_v691 main_v692 main_v690
  let main_c_398 : IVec S_ 32 := constantI S_ 32 0#32
  let main_c_399 : IVec S_ 32 := constantI S_ 32 0#32
  let main_v694 : FVec F S8x256x256 .f32 := (fun x i => Host.dynamicSlice S8x256x256 x (fun k => (i k (Shape.Idx.first h_S_)).toInt) sliceFits_S8x1280x256_S8x256x256) main_v688 (![main_c_398, main_v693, main_c_399] : Fin 3 → IVec S_ 32)
  let main_v695 : FVec F S256x256x1 .f32 := (extractStridedSlice S256x256x1 ![0, 0, 0] · slices_S256x256x3_S256x256x1_0_0_0) main_v686
  let main_v696 : FVec F S256x256 .f32 := shapeCast S256x256 main_v695 shapeCasts_S256x256x1_S256x256
  let main_v697 : FVec F S256x256 .f32 := (transpose S256x256 [1, 0] · transposes_S256x256_S256x256_1_0) main_v696
  let main_v698 : FVec F S8x256x256 .f32 := (fun l r => Host.dotGeneral dot_S8x256x256_S256x256_S8x256x256_2_0_01_1_n_n none l r) main_v694 main_v697
  let main_c_400 : IVec S_ 32 := constantI S_ 32 0#32
  let main_v699 : IVec S_ 32 := muli main_c_400 main_v685
  let main_c_401 : IVec S_ 32 := constantI S_ 32 512#32
  fn_part46 (F := F) main_arg3 main_arg4 main_arg5 main_arg6 main_arg7 main_v34 main_v683 main_v685 main_v686 main_v687 main_v688 main_v698 main_v699 main_c_401

def fn_part44 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v640 : FVec F S8x256x256 .f32) (main_v643 : FVec F S256x256x3 .f32) (main_v644 : FVec F S256 .f32) (main_v645 : FVec F S8x1280x256 .f32) (main_v666 : FVec F S8x256x256 .f32) (main_v668 : IVec S_ 32) (main_v669 : IVec S_ 1) : IVec S2048 1 :=
  let main_c_384 : IVec S_ 32 := constantI S_ 32 1280#32
  let main_v670 : IVec S_ 32 := addi main_v668 main_c_384
  let main_v671 : IVec S_ 32 := select main_v669 main_v670 main_v668
  let main_c_385 : IVec S_ 32 := constantI S_ 32 0#32
  let main_c_386 : IVec S_ 32 := constantI S_ 32 0#32
  let main_v672 : FVec F S8x256x256 .f32 := (fun x i => Host.dynamicSlice S8x256x256 x (fun k => (i k (Shape.Idx.first h_S_)).toInt) sliceFits_S8x1280x256_S8x256x256) main_v645 (![main_c_385, main_v671, main_c_386] : Fin 3 → IVec S_ 32)
  let main_v673 : FVec F S256x256x1 .f32 := (extractStridedSlice S256x256x1 ![0, 0, 2] · slices_S256x256x3_S256x256x1_0_0_2) main_v643
  let main_v674 : FVec F S256x256 .f32 := shapeCast S256x256 main_v673 shapeCasts_S256x256x1_S256x256
  let main_v675 : FVec F S256x256 .f32 := (transpose S256x256 [1, 0] · transposes_S256x256_S256x256_1_0) main_v674
  let main_v676 : FVec F S8x256x256 .f32 := (fun l r => Host.dotGeneral dot_S8x256x256_S256x256_S8x256x256_2_0_01_1_n_n none l r) main_v672 main_v675
  let main_v677 : FVec F S8x256x256 .f32 := addf main_v666 main_v676
  let main_v678 : FVec F S1x1x256 .f32 := broadcastInDim S1x1x256 ![2] bcast_S256_S1x1x256_2 main_v644
  let main_v679 : FVec F S8x256x256 .f32 := broadcastInDim S8x256x256 ![0, 1, 2] bcast_S1x1x256_S8x256x256_0_1_2 main_v678
  let main_v680 : FVec F S8x256x256 .f32 := addf main_v677 main_v679
  let main_cst_387 : FVec F S_ .f32 := constant S_ .f32 0x00000000#32
  let main_v681 : FVec F S8x256x256 .f32 := broadcastInDim S8x256x256 ![] bcast_S_S8x256x256 main_cst_387
  let main_v682 : FVec F S8x256x256 .f32 := maximumf main_v680 main_v681
  let main_v683 : FVec F S8x256x256 .f32 := addf main_v682 main_v640
  let main_c_388 : IVec S_ 32 := constantI S_ 32 15#32
  let main_c_389 : IVec S_ 32 := constantI S_ 32 10#32
  let main_v684 : IVec S_ 32 := Host.remsi main_c_388 main_c_389
  let main_c_390 : IVec S_ 32 := constantI S_ 32 1#32
  let main_v685 : IVec S_ 32 := Host.shli main_c_390 main_v684
  let main_c_391 : IVec S_ 32 := constantI S_ 32 15#32
  fn_part45 (F := F) main_arg3 main_arg4 main_arg5 main_arg6 main_arg7 main_v34 main_v683 main_v685 main_c_391

def fn_part43 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v640 : FVec F S8x256x256 .f32) (main_v642 : IVec S_ 32) (main_v643 : FVec F S256x256x3 .f32) (main_v644 : FVec F S256 .f32) (main_v645 : FVec F S8x1280x256 .f32) (main_v651 : FVec F S8x256x256 .f32) (main_v654 : FVec F S256x256 .f32) : IVec S2048 1 :=
  let main_v655 : FVec F S8x256x256 .f32 := (fun l r => Host.dotGeneral dot_S8x256x256_S256x256_S8x256x256_2_0_01_1_n_n none l r) main_v651 main_v654
  let main_c_375 : IVec S_ 32 := constantI S_ 32 0#32
  let main_v656 : IVec S_ 32 := muli main_c_375 main_v642
  let main_c_376 : IVec S_ 32 := constantI S_ 32 512#32
  let main_v657 : IVec S_ 32 := addi main_c_376 main_v656
  let main_c_377 : IVec S_ 32 := constantI S_ 32 0#32
  let main_v658 : IVec S_ 1 := cmpi .slt main_v657 main_c_377
  let main_c_378 : IVec S_ 32 := constantI S_ 32 1280#32
  let main_v659 : IVec S_ 32 := addi main_v657 main_c_378
  let main_v660 : IVec S_ 32 := select main_v658 main_v659 main_v657
  let main_c_379 : IVec S_ 32 := constantI S_ 32 0#32
  let main_c_380 : IVec S_ 32 := constantI S_ 32 0#32
  let main_v661 : FVec F S8x256x256 .f32 := (fun x i => Host.dynamicSlice S8x256x256 x (fun k => (i k (Shape.Idx.first h_S_)).toInt) sliceFits_S8x1280x256_S8x256x256) main_v645 (![main_c_379, main_v660, main_c_380] : Fin 3 → IVec S_ 32)
  let main_v662 : FVec F S256x256x1 .f32 := (extractStridedSlice S256x256x1 ![0, 0, 1] · slices_S256x256x3_S256x256x1_0_0_1) main_v643
  let main_v663 : FVec F S256x256 .f32 := shapeCast S256x256 main_v662 shapeCasts_S256x256x1_S256x256
  let main_v664 : FVec F S256x256 .f32 := (transpose S256x256 [1, 0] · transposes_S256x256_S256x256_1_0) main_v663
  let main_v665 : FVec F S8x256x256 .f32 := (fun l r => Host.dotGeneral dot_S8x256x256_S256x256_S8x256x256_2_0_01_1_n_n none l r) main_v661 main_v664
  let main_v666 : FVec F S8x256x256 .f32 := addf main_v655 main_v665
  let main_c_381 : IVec S_ 32 := constantI S_ 32 1#32
  let main_v667 : IVec S_ 32 := muli main_c_381 main_v642
  let main_c_382 : IVec S_ 32 := constantI S_ 32 512#32
  let main_v668 : IVec S_ 32 := addi main_c_382 main_v667
  let main_c_383 : IVec S_ 32 := constantI S_ 32 0#32
  let main_v669 : IVec S_ 1 := cmpi .slt main_v668 main_c_383
  fn_part44 (F := F) main_arg3 main_arg4 main_arg5 main_arg6 main_arg7 main_v34 main_v640 main_v643 main_v644 main_v645 main_v666 main_v668 main_v669

def fn_part42 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v640 : FVec F S8x256x256 .f32) (main_c_363 : IVec S_ 32) (main_c_364 : IVec S_ 32) : IVec S2048 1 :=
  let main_v641 : IVec S_ 32 := Host.remsi main_c_363 main_c_364
  let main_c_365 : IVec S_ 32 := constantI S_ 32 1#32
  let main_v642 : IVec S_ 32 := Host.shli main_c_365 main_v641
  let main_c_366 : IVec S_ 32 := constantI S_ 32 14#32
  let main_v643 : FVec F S256x256x3 .f32 := fn_dynamic_index_in_dim (F := F) main_arg3 main_c_366
  let main_c_367 : IVec S_ 32 := constantI S_ 32 14#32
  let main_v644 : FVec F S256 .f32 := fn_dynamic_index_in_dim_0 (F := F) main_arg4 main_c_367
  let main_c_368 : IVec S_ 32 := constantI S_ 32 0#32
  let main_v645 : FVec F S8x1280x256 .f32 := fn_pad (F := F) main_v640 main_c_368
  let main_c_369 : IVec S_ 32 := constantI S_ 32 4294967295#32
  let main_v646 : IVec S_ 32 := muli main_c_369 main_v642
  let main_c_370 : IVec S_ 32 := constantI S_ 32 512#32
  let main_v647 : IVec S_ 32 := addi main_c_370 main_v646
  let main_c_371 : IVec S_ 32 := constantI S_ 32 0#32
  let main_v648 : IVec S_ 1 := cmpi .slt main_v647 main_c_371
  let main_c_372 : IVec S_ 32 := constantI S_ 32 1280#32
  let main_v649 : IVec S_ 32 := addi main_v647 main_c_372
  let main_v650 : IVec S_ 32 := select main_v648 main_v649 main_v647
  let main_c_373 : IVec S_ 32 := constantI S_ 32 0#32
  let main_c_374 : IVec S_ 32 := constantI S_ 32 0#32
  let main_v651 : FVec F S8x256x256 .f32 := (fun x i => Host.dynamicSlice S8x256x256 x (fun k => (i k (Shape.Idx.first h_S_)).toInt) sliceFits_S8x1280x256_S8x256x256) main_v645 (![main_c_373, main_v650, main_c_374] : Fin 3 → IVec S_ 32)
  let main_v652 : FVec F S256x256x1 .f32 := (extractStridedSlice S256x256x1 ![0, 0, 0] · slices_S256x256x3_S256x256x1_0_0_0) main_v643
  let main_v653 : FVec F S256x256 .f32 := shapeCast S256x256 main_v652 shapeCasts_S256x256x1_S256x256
  let main_v654 : FVec F S256x256 .f32 := (transpose S256x256 [1, 0] · transposes_S256x256_S256x256_1_0) main_v653
  fn_part43 (F := F) main_arg3 main_arg4 main_arg5 main_arg6 main_arg7 main_v34 main_v640 main_v642 main_v643 main_v644 main_v645 main_v651 main_v654

def fn_part41 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v597 : FVec F S8x256x256 .f32) (main_v600 : FVec F S256x256x3 .f32) (main_v601 : FVec F S256 .f32) (main_v602 : FVec F S8x1280x256 .f32) (main_v623 : FVec F S8x256x256 .f32) (main_v624 : IVec S_ 32) : IVec S2048 1 :=
  let main_c_357 : IVec S_ 32 := constantI S_ 32 512#32
  let main_v625 : IVec S_ 32 := addi main_c_357 main_v624
  let main_c_358 : IVec S_ 32 := constantI S_ 32 0#32
  let main_v626 : IVec S_ 1 := cmpi .slt main_v625 main_c_358
  let main_c_359 : IVec S_ 32 := constantI S_ 32 1280#32
  let main_v627 : IVec S_ 32 := addi main_v625 main_c_359
  let main_v628 : IVec S_ 32 := select main_v626 main_v627 main_v625
  let main_c_360 : IVec S_ 32 := constantI S_ 32 0#32
  let main_c_361 : IVec S_ 32 := constantI S_ 32 0#32
  let main_v629 : FVec F S8x256x256 .f32 := (fun x i => Host.dynamicSlice S8x256x256 x (fun k => (i k (Shape.Idx.first h_S_)).toInt) sliceFits_S8x1280x256_S8x256x256) main_v602 (![main_c_360, main_v628, main_c_361] : Fin 3 → IVec S_ 32)
  let main_v630 : FVec F S256x256x1 .f32 := (extractStridedSlice S256x256x1 ![0, 0, 2] · slices_S256x256x3_S256x256x1_0_0_2) main_v600
  let main_v631 : FVec F S256x256 .f32 := shapeCast S256x256 main_v630 shapeCasts_S256x256x1_S256x256
  let main_v632 : FVec F S256x256 .f32 := (transpose S256x256 [1, 0] · transposes_S256x256_S256x256_1_0) main_v631
  let main_v633 : FVec F S8x256x256 .f32 := (fun l r => Host.dotGeneral dot_S8x256x256_S256x256_S8x256x256_2_0_01_1_n_n none l r) main_v629 main_v632
  let main_v634 : FVec F S8x256x256 .f32 := addf main_v623 main_v633
  let main_v635 : FVec F S1x1x256 .f32 := broadcastInDim S1x1x256 ![2] bcast_S256_S1x1x256_2 main_v601
  let main_v636 : FVec F S8x256x256 .f32 := broadcastInDim S8x256x256 ![0, 1, 2] bcast_S1x1x256_S8x256x256_0_1_2 main_v635
  let main_v637 : FVec F S8x256x256 .f32 := addf main_v634 main_v636
  let main_cst_362 : FVec F S_ .f32 := constant S_ .f32 0x00000000#32
  let main_v638 : FVec F S8x256x256 .f32 := broadcastInDim S8x256x256 ![] bcast_S_S8x256x256 main_cst_362
  let main_v639 : FVec F S8x256x256 .f32 := maximumf main_v637 main_v638
  let main_v640 : FVec F S8x256x256 .f32 := addf main_v639 main_v597
  let main_c_363 : IVec S_ 32 := constantI S_ 32 14#32
  let main_c_364 : IVec S_ 32 := constantI S_ 32 10#32
  fn_part42 (F := F) main_arg3 main_arg4 main_arg5 main_arg6 main_arg7 main_v34 main_v640 main_c_363 main_c_364

def fn_part40 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v597 : FVec F S8x256x256 .f32) (main_v599 : IVec S_ 32) (main_v600 : FVec F S256x256x3 .f32) (main_v601 : FVec F S256 .f32) (main_v602 : FVec F S8x1280x256 .f32) (main_v607 : IVec S_ 32) (main_c_348 : IVec S_ 32) (main_c_349 : IVec S_ 32) : IVec S2048 1 :=
  let main_v608 : FVec F S8x256x256 .f32 := (fun x i => Host.dynamicSlice S8x256x256 x (fun k => (i k (Shape.Idx.first h_S_)).toInt) sliceFits_S8x1280x256_S8x256x256) main_v602 (![main_c_348, main_v607, main_c_349] : Fin 3 → IVec S_ 32)
  let main_v609 : FVec F S256x256x1 .f32 := (extractStridedSlice S256x256x1 ![0, 0, 0] · slices_S256x256x3_S256x256x1_0_0_0) main_v600
  let main_v610 : FVec F S256x256 .f32 := shapeCast S256x256 main_v609 shapeCasts_S256x256x1_S256x256
  let main_v611 : FVec F S256x256 .f32 := (transpose S256x256 [1, 0] · transposes_S256x256_S256x256_1_0) main_v610
  let main_v612 : FVec F S8x256x256 .f32 := (fun l r => Host.dotGeneral dot_S8x256x256_S256x256_S8x256x256_2_0_01_1_n_n none l r) main_v608 main_v611
  let main_c_350 : IVec S_ 32 := constantI S_ 32 0#32
  let main_v613 : IVec S_ 32 := muli main_c_350 main_v599
  let main_c_351 : IVec S_ 32 := constantI S_ 32 512#32
  let main_v614 : IVec S_ 32 := addi main_c_351 main_v613
  let main_c_352 : IVec S_ 32 := constantI S_ 32 0#32
  let main_v615 : IVec S_ 1 := cmpi .slt main_v614 main_c_352
  let main_c_353 : IVec S_ 32 := constantI S_ 32 1280#32
  let main_v616 : IVec S_ 32 := addi main_v614 main_c_353
  let main_v617 : IVec S_ 32 := select main_v615 main_v616 main_v614
  let main_c_354 : IVec S_ 32 := constantI S_ 32 0#32
  let main_c_355 : IVec S_ 32 := constantI S_ 32 0#32
  let main_v618 : FVec F S8x256x256 .f32 := (fun x i => Host.dynamicSlice S8x256x256 x (fun k => (i k (Shape.Idx.first h_S_)).toInt) sliceFits_S8x1280x256_S8x256x256) main_v602 (![main_c_354, main_v617, main_c_355] : Fin 3 → IVec S_ 32)
  let main_v619 : FVec F S256x256x1 .f32 := (extractStridedSlice S256x256x1 ![0, 0, 1] · slices_S256x256x3_S256x256x1_0_0_1) main_v600
  let main_v620 : FVec F S256x256 .f32 := shapeCast S256x256 main_v619 shapeCasts_S256x256x1_S256x256
  let main_v621 : FVec F S256x256 .f32 := (transpose S256x256 [1, 0] · transposes_S256x256_S256x256_1_0) main_v620
  let main_v622 : FVec F S8x256x256 .f32 := (fun l r => Host.dotGeneral dot_S8x256x256_S256x256_S8x256x256_2_0_01_1_n_n none l r) main_v618 main_v621
  let main_v623 : FVec F S8x256x256 .f32 := addf main_v612 main_v622
  let main_c_356 : IVec S_ 32 := constantI S_ 32 1#32
  let main_v624 : IVec S_ 32 := muli main_c_356 main_v599
  fn_part41 (F := F) main_arg3 main_arg4 main_arg5 main_arg6 main_arg7 main_v34 main_v597 main_v600 main_v601 main_v602 main_v623 main_v624

def fn_part39 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v554 : FVec F S8x256x256 .f32) (main_v594 : FVec F S8x256x256 .f32) (main_v595 : FVec F S8x256x256 .f32) : IVec S2048 1 :=
  let main_v596 : FVec F S8x256x256 .f32 := maximumf main_v594 main_v595
  let main_v597 : FVec F S8x256x256 .f32 := addf main_v596 main_v554
  let main_c_338 : IVec S_ 32 := constantI S_ 32 13#32
  let main_c_339 : IVec S_ 32 := constantI S_ 32 10#32
  let main_v598 : IVec S_ 32 := Host.remsi main_c_338 main_c_339
  let main_c_340 : IVec S_ 32 := constantI S_ 32 1#32
  let main_v599 : IVec S_ 32 := Host.shli main_c_340 main_v598
  let main_c_341 : IVec S_ 32 := constantI S_ 32 13#32
  let main_v600 : FVec F S256x256x3 .f32 := fn_dynamic_index_in_dim (F := F) main_arg3 main_c_341
  let main_c_342 : IVec S_ 32 := constantI S_ 32 13#32
  let main_v601 : FVec F S256 .f32 := fn_dynamic_index_in_dim_0 (F := F) main_arg4 main_c_342
  let main_c_343 : IVec S_ 32 := constantI S_ 32 0#32
  let main_v602 : FVec F S8x1280x256 .f32 := fn_pad (F := F) main_v597 main_c_343
  let main_c_344 : IVec S_ 32 := constantI S_ 32 4294967295#32
  let main_v603 : IVec S_ 32 := muli main_c_344 main_v599
  let main_c_345 : IVec S_ 32 := constantI S_ 32 512#32
  let main_v604 : IVec S_ 32 := addi main_c_345 main_v603
  let main_c_346 : IVec S_ 32 := constantI S_ 32 0#32
  let main_v605 : IVec S_ 1 := cmpi .slt main_v604 main_c_346
  let main_c_347 : IVec S_ 32 := constantI S_ 32 1280#32
  let main_v606 : IVec S_ 32 := addi main_v604 main_c_347
  let main_v607 : IVec S_ 32 := select main_v605 main_v606 main_v604
  let main_c_348 : IVec S_ 32 := constantI S_ 32 0#32
  let main_c_349 : IVec S_ 32 := constantI S_ 32 0#32
  fn_part40 (F := F) main_arg3 main_arg4 main_arg5 main_arg6 main_arg7 main_v34 main_v597 main_v599 main_v600 main_v601 main_v602 main_v607 main_c_348 main_c_349

def fn_part38 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v554 : FVec F S8x256x256 .f32) (main_v556 : IVec S_ 32) (main_v557 : FVec F S256x256x3 .f32) (main_v558 : FVec F S256 .f32) (main_v559 : FVec F S8x1280x256 .f32) (main_v569 : FVec F S8x256x256 .f32) (main_v575 : FVec F S8x256x256 .f32) (main_v578 : FVec F S256x256 .f32) : IVec S2048 1 :=
  let main_v579 : FVec F S8x256x256 .f32 := (fun l r => Host.dotGeneral dot_S8x256x256_S256x256_S8x256x256_2_0_01_1_n_n none l r) main_v575 main_v578
  let main_v580 : FVec F S8x256x256 .f32 := addf main_v569 main_v579
  let main_c_331 : IVec S_ 32 := constantI S_ 32 1#32
  let main_v581 : IVec S_ 32 := muli main_c_331 main_v556
  let main_c_332 : IVec S_ 32 := constantI S_ 32 512#32
  let main_v582 : IVec S_ 32 := addi main_c_332 main_v581
  let main_c_333 : IVec S_ 32 := constantI S_ 32 0#32
  let main_v583 : IVec S_ 1 := cmpi .slt main_v582 main_c_333
  let main_c_334 : IVec S_ 32 := constantI S_ 32 1280#32
  let main_v584 : IVec S_ 32 := addi main_v582 main_c_334
  let main_v585 : IVec S_ 32 := select main_v583 main_v584 main_v582
  let main_c_335 : IVec S_ 32 := constantI S_ 32 0#32
  let main_c_336 : IVec S_ 32 := constantI S_ 32 0#32
  let main_v586 : FVec F S8x256x256 .f32 := (fun x i => Host.dynamicSlice S8x256x256 x (fun k => (i k (Shape.Idx.first h_S_)).toInt) sliceFits_S8x1280x256_S8x256x256) main_v559 (![main_c_335, main_v585, main_c_336] : Fin 3 → IVec S_ 32)
  let main_v587 : FVec F S256x256x1 .f32 := (extractStridedSlice S256x256x1 ![0, 0, 2] · slices_S256x256x3_S256x256x1_0_0_2) main_v557
  let main_v588 : FVec F S256x256 .f32 := shapeCast S256x256 main_v587 shapeCasts_S256x256x1_S256x256
  let main_v589 : FVec F S256x256 .f32 := (transpose S256x256 [1, 0] · transposes_S256x256_S256x256_1_0) main_v588
  let main_v590 : FVec F S8x256x256 .f32 := (fun l r => Host.dotGeneral dot_S8x256x256_S256x256_S8x256x256_2_0_01_1_n_n none l r) main_v586 main_v589
  let main_v591 : FVec F S8x256x256 .f32 := addf main_v580 main_v590
  let main_v592 : FVec F S1x1x256 .f32 := broadcastInDim S1x1x256 ![2] bcast_S256_S1x1x256_2 main_v558
  let main_v593 : FVec F S8x256x256 .f32 := broadcastInDim S8x256x256 ![0, 1, 2] bcast_S1x1x256_S8x256x256_0_1_2 main_v592
  let main_v594 : FVec F S8x256x256 .f32 := addf main_v591 main_v593
  let main_cst_337 : FVec F S_ .f32 := constant S_ .f32 0x00000000#32
  let main_v595 : FVec F S8x256x256 .f32 := broadcastInDim S8x256x256 ![] bcast_S_S8x256x256 main_cst_337
  fn_part39 (F := F) main_arg3 main_arg4 main_arg5 main_arg6 main_arg7 main_v34 main_v554 main_v594 main_v595

def fn_part37 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v554 : FVec F S8x256x256 .f32) (main_v556 : IVec S_ 32) (main_v557 : FVec F S256x256x3 .f32) (main_v558 : FVec F S256 .f32) (main_v559 : FVec F S8x1280x256 .f32) (main_v561 : IVec S_ 32) (main_v562 : IVec S_ 1) (main_c_322 : IVec S_ 32) : IVec S2048 1 :=
  let main_v563 : IVec S_ 32 := addi main_v561 main_c_322
  let main_v564 : IVec S_ 32 := select main_v562 main_v563 main_v561
  let main_c_323 : IVec S_ 32 := constantI S_ 32 0#32
  let main_c_324 : IVec S_ 32 := constantI S_ 32 0#32
  let main_v565 : FVec F S8x256x256 .f32 := (fun x i => Host.dynamicSlice S8x256x256 x (fun k => (i k (Shape.Idx.first h_S_)).toInt) sliceFits_S8x1280x256_S8x256x256) main_v559 (![main_c_323, main_v564, main_c_324] : Fin 3 → IVec S_ 32)
  let main_v566 : FVec F S256x256x1 .f32 := (extractStridedSlice S256x256x1 ![0, 0, 0] · slices_S256x256x3_S256x256x1_0_0_0) main_v557
  let main_v567 : FVec F S256x256 .f32 := shapeCast S256x256 main_v566 shapeCasts_S256x256x1_S256x256
  let main_v568 : FVec F S256x256 .f32 := (transpose S256x256 [1, 0] · transposes_S256x256_S256x256_1_0) main_v567
  let main_v569 : FVec F S8x256x256 .f32 := (fun l r => Host.dotGeneral dot_S8x256x256_S256x256_S8x256x256_2_0_01_1_n_n none l r) main_v565 main_v568
  let main_c_325 : IVec S_ 32 := constantI S_ 32 0#32
  let main_v570 : IVec S_ 32 := muli main_c_325 main_v556
  let main_c_326 : IVec S_ 32 := constantI S_ 32 512#32
  let main_v571 : IVec S_ 32 := addi main_c_326 main_v570
  let main_c_327 : IVec S_ 32 := constantI S_ 32 0#32
  let main_v572 : IVec S_ 1 := cmpi .slt main_v571 main_c_327
  let main_c_328 : IVec S_ 32 := constantI S_ 32 1280#32
  let main_v573 : IVec S_ 32 := addi main_v571 main_c_328
  let main_v574 : IVec S_ 32 := select main_v572 main_v573 main_v571
  let main_c_329 : IVec S_ 32 := constantI S_ 32 0#32
  let main_c_330 : IVec S_ 32 := constantI S_ 32 0#32
  let main_v575 : FVec F S8x256x256 .f32 := (fun x i => Host.dynamicSlice S8x256x256 x (fun k => (i k (Shape.Idx.first h_S_)).toInt) sliceFits_S8x1280x256_S8x256x256) main_v559 (![main_c_329, main_v574, main_c_330] : Fin 3 → IVec S_ 32)
  let main_v576 : FVec F S256x256x1 .f32 := (extractStridedSlice S256x256x1 ![0, 0, 1] · slices_S256x256x3_S256x256x1_0_0_1) main_v557
  let main_v577 : FVec F S256x256 .f32 := shapeCast S256x256 main_v576 shapeCasts_S256x256x1_S256x256
  let main_v578 : FVec F S256x256 .f32 := (transpose S256x256 [1, 0] · transposes_S256x256_S256x256_1_0) main_v577
  fn_part38 (F := F) main_arg3 main_arg4 main_arg5 main_arg6 main_arg7 main_v34 main_v554 main_v556 main_v557 main_v558 main_v559 main_v569 main_v575 main_v578

def fn_part36 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v511 : FVec F S8x256x256 .f32) (main_v548 : FVec F S8x256x256 .f32) (main_v549 : FVec F S1x1x256 .f32) : IVec S2048 1 :=
  let main_v550 : FVec F S8x256x256 .f32 := broadcastInDim S8x256x256 ![0, 1, 2] bcast_S1x1x256_S8x256x256_0_1_2 main_v549
  let main_v551 : FVec F S8x256x256 .f32 := addf main_v548 main_v550
  let main_cst_312 : FVec F S_ .f32 := constant S_ .f32 0x00000000#32
  let main_v552 : FVec F S8x256x256 .f32 := broadcastInDim S8x256x256 ![] bcast_S_S8x256x256 main_cst_312
  let main_v553 : FVec F S8x256x256 .f32 := maximumf main_v551 main_v552
  let main_v554 : FVec F S8x256x256 .f32 := addf main_v553 main_v511
  let main_c_313 : IVec S_ 32 := constantI S_ 32 12#32
  let main_c_314 : IVec S_ 32 := constantI S_ 32 10#32
  let main_v555 : IVec S_ 32 := Host.remsi main_c_313 main_c_314
  let main_c_315 : IVec S_ 32 := constantI S_ 32 1#32
  let main_v556 : IVec S_ 32 := Host.shli main_c_315 main_v555
  let main_c_316 : IVec S_ 32 := constantI S_ 32 12#32
  let main_v557 : FVec F S256x256x3 .f32 := fn_dynamic_index_in_dim (F := F) main_arg3 main_c_316
  let main_c_317 : IVec S_ 32 := constantI S_ 32 12#32
  let main_v558 : FVec F S256 .f32 := fn_dynamic_index_in_dim_0 (F := F) main_arg4 main_c_317
  let main_c_318 : IVec S_ 32 := constantI S_ 32 0#32
  let main_v559 : FVec F S8x1280x256 .f32 := fn_pad (F := F) main_v554 main_c_318
  let main_c_319 : IVec S_ 32 := constantI S_ 32 4294967295#32
  let main_v560 : IVec S_ 32 := muli main_c_319 main_v556
  let main_c_320 : IVec S_ 32 := constantI S_ 32 512#32
  let main_v561 : IVec S_ 32 := addi main_c_320 main_v560
  let main_c_321 : IVec S_ 32 := constantI S_ 32 0#32
  let main_v562 : IVec S_ 1 := cmpi .slt main_v561 main_c_321
  let main_c_322 : IVec S_ 32 := constantI S_ 32 1280#32
  fn_part37 (F := F) main_arg3 main_arg4 main_arg5 main_arg6 main_arg7 main_v34 main_v554 main_v556 main_v557 main_v558 main_v559 main_v561 main_v562 main_c_322

def fn_part35 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v511 : FVec F S8x256x256 .f32) (main_v513 : IVec S_ 32) (main_v514 : FVec F S256x256x3 .f32) (main_v515 : FVec F S256 .f32) (main_v516 : FVec F S8x1280x256 .f32) (main_v526 : FVec F S8x256x256 .f32) (main_v531 : IVec S_ 32) (main_c_304 : IVec S_ 32) (main_c_305 : IVec S_ 32) : IVec S2048 1 :=
  let main_v532 : FVec F S8x256x256 .f32 := (fun x i => Host.dynamicSlice S8x256x256 x (fun k => (i k (Shape.Idx.first h_S_)).toInt) sliceFits_S8x1280x256_S8x256x256) main_v516 (![main_c_304, main_v531, main_c_305] : Fin 3 → IVec S_ 32)
  let main_v533 : FVec F S256x256x1 .f32 := (extractStridedSlice S256x256x1 ![0, 0, 1] · slices_S256x256x3_S256x256x1_0_0_1) main_v514
  let main_v534 : FVec F S256x256 .f32 := shapeCast S256x256 main_v533 shapeCasts_S256x256x1_S256x256
  let main_v535 : FVec F S256x256 .f32 := (transpose S256x256 [1, 0] · transposes_S256x256_S256x256_1_0) main_v534
  let main_v536 : FVec F S8x256x256 .f32 := (fun l r => Host.dotGeneral dot_S8x256x256_S256x256_S8x256x256_2_0_01_1_n_n none l r) main_v532 main_v535
  let main_v537 : FVec F S8x256x256 .f32 := addf main_v526 main_v536
  let main_c_306 : IVec S_ 32 := constantI S_ 32 1#32
  let main_v538 : IVec S_ 32 := muli main_c_306 main_v513
  let main_c_307 : IVec S_ 32 := constantI S_ 32 512#32
  let main_v539 : IVec S_ 32 := addi main_c_307 main_v538
  let main_c_308 : IVec S_ 32 := constantI S_ 32 0#32
  let main_v540 : IVec S_ 1 := cmpi .slt main_v539 main_c_308
  let main_c_309 : IVec S_ 32 := constantI S_ 32 1280#32
  let main_v541 : IVec S_ 32 := addi main_v539 main_c_309
  let main_v542 : IVec S_ 32 := select main_v540 main_v541 main_v539
  let main_c_310 : IVec S_ 32 := constantI S_ 32 0#32
  let main_c_311 : IVec S_ 32 := constantI S_ 32 0#32
  let main_v543 : FVec F S8x256x256 .f32 := (fun x i => Host.dynamicSlice S8x256x256 x (fun k => (i k (Shape.Idx.first h_S_)).toInt) sliceFits_S8x1280x256_S8x256x256) main_v516 (![main_c_310, main_v542, main_c_311] : Fin 3 → IVec S_ 32)
  let main_v544 : FVec F S256x256x1 .f32 := (extractStridedSlice S256x256x1 ![0, 0, 2] · slices_S256x256x3_S256x256x1_0_0_2) main_v514
  let main_v545 : FVec F S256x256 .f32 := shapeCast S256x256 main_v544 shapeCasts_S256x256x1_S256x256
  let main_v546 : FVec F S256x256 .f32 := (transpose S256x256 [1, 0] · transposes_S256x256_S256x256_1_0) main_v545
  let main_v547 : FVec F S8x256x256 .f32 := (fun l r => Host.dotGeneral dot_S8x256x256_S256x256_S8x256x256_2_0_01_1_n_n none l r) main_v543 main_v546
  let main_v548 : FVec F S8x256x256 .f32 := addf main_v537 main_v547
  let main_v549 : FVec F S1x1x256 .f32 := broadcastInDim S1x1x256 ![2] bcast_S256_S1x1x256_2 main_v515
  fn_part36 (F := F) main_arg3 main_arg4 main_arg5 main_arg6 main_arg7 main_v34 main_v511 main_v548 main_v549

def fn_part34 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v511 : FVec F S8x256x256 .f32) (main_v513 : IVec S_ 32) (main_v514 : FVec F S256x256x3 .f32) (main_v515 : FVec F S256 .f32) (main_v516 : FVec F S8x1280x256 .f32) (main_v517 : IVec S_ 32) (main_c_295 : IVec S_ 32) : IVec S2048 1 :=
  let main_v518 : IVec S_ 32 := addi main_c_295 main_v517
  let main_c_296 : IVec S_ 32 := constantI S_ 32 0#32
  let main_v519 : IVec S_ 1 := cmpi .slt main_v518 main_c_296
  let main_c_297 : IVec S_ 32 := constantI S_ 32 1280#32
  let main_v520 : IVec S_ 32 := addi main_v518 main_c_297
  let main_v521 : IVec S_ 32 := select main_v519 main_v520 main_v518
  let main_c_298 : IVec S_ 32 := constantI S_ 32 0#32
  let main_c_299 : IVec S_ 32 := constantI S_ 32 0#32
  let main_v522 : FVec F S8x256x256 .f32 := (fun x i => Host.dynamicSlice S8x256x256 x (fun k => (i k (Shape.Idx.first h_S_)).toInt) sliceFits_S8x1280x256_S8x256x256) main_v516 (![main_c_298, main_v521, main_c_299] : Fin 3 → IVec S_ 32)
  let main_v523 : FVec F S256x256x1 .f32 := (extractStridedSlice S256x256x1 ![0, 0, 0] · slices_S256x256x3_S256x256x1_0_0_0) main_v514
  let main_v524 : FVec F S256x256 .f32 := shapeCast S256x256 main_v523 shapeCasts_S256x256x1_S256x256
  let main_v525 : FVec F S256x256 .f32 := (transpose S256x256 [1, 0] · transposes_S256x256_S256x256_1_0) main_v524
  let main_v526 : FVec F S8x256x256 .f32 := (fun l r => Host.dotGeneral dot_S8x256x256_S256x256_S8x256x256_2_0_01_1_n_n none l r) main_v522 main_v525
  let main_c_300 : IVec S_ 32 := constantI S_ 32 0#32
  let main_v527 : IVec S_ 32 := muli main_c_300 main_v513
  let main_c_301 : IVec S_ 32 := constantI S_ 32 512#32
  let main_v528 : IVec S_ 32 := addi main_c_301 main_v527
  let main_c_302 : IVec S_ 32 := constantI S_ 32 0#32
  let main_v529 : IVec S_ 1 := cmpi .slt main_v528 main_c_302
  let main_c_303 : IVec S_ 32 := constantI S_ 32 1280#32
  let main_v530 : IVec S_ 32 := addi main_v528 main_c_303
  let main_v531 : IVec S_ 32 := select main_v529 main_v530 main_v528
  let main_c_304 : IVec S_ 32 := constantI S_ 32 0#32
  let main_c_305 : IVec S_ 32 := constantI S_ 32 0#32
  fn_part35 (F := F) main_arg3 main_arg4 main_arg5 main_arg6 main_arg7 main_v34 main_v511 main_v513 main_v514 main_v515 main_v516 main_v526 main_v531 main_c_304 main_c_305

def fn_part33 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v468 : FVec F S8x256x256 .f32) (main_v472 : FVec F S256 .f32) (main_v494 : FVec F S8x256x256 .f32) (main_v500 : FVec F S8x256x256 .f32) (main_v502 : FVec F S256x256 .f32) : IVec S2048 1 :=
  let main_v503 : FVec F S256x256 .f32 := (transpose S256x256 [1, 0] · transposes_S256x256_S256x256_1_0) main_v502
  let main_v504 : FVec F S8x256x256 .f32 := (fun l r => Host.dotGeneral dot_S8x256x256_S256x256_S8x256x256_2_0_01_1_n_n none l r) main_v500 main_v503
  let main_v505 : FVec F S8x256x256 .f32 := addf main_v494 main_v504
  let main_v506 : FVec F S1x1x256 .f32 := broadcastInDim S1x1x256 ![2] bcast_S256_S1x1x256_2 main_v472
  let main_v507 : FVec F S8x256x256 .f32 := broadcastInDim S8x256x256 ![0, 1, 2] bcast_S1x1x256_S8x256x256_0_1_2 main_v506
  let main_v508 : FVec F S8x256x256 .f32 := addf main_v505 main_v507
  let main_cst_287 : FVec F S_ .f32 := constant S_ .f32 0x00000000#32
  let main_v509 : FVec F S8x256x256 .f32 := broadcastInDim S8x256x256 ![] bcast_S_S8x256x256 main_cst_287
  let main_v510 : FVec F S8x256x256 .f32 := maximumf main_v508 main_v509
  let main_v511 : FVec F S8x256x256 .f32 := addf main_v510 main_v468
  let main_c_288 : IVec S_ 32 := constantI S_ 32 11#32
  let main_c_289 : IVec S_ 32 := constantI S_ 32 10#32
  let main_v512 : IVec S_ 32 := Host.remsi main_c_288 main_c_289
  let main_c_290 : IVec S_ 32 := constantI S_ 32 1#32
  let main_v513 : IVec S_ 32 := Host.shli main_c_290 main_v512
  let main_c_291 : IVec S_ 32 := constantI S_ 32 11#32
  let main_v514 : FVec F S256x256x3 .f32 := fn_dynamic_index_in_dim (F := F) main_arg3 main_c_291
  let main_c_292 : IVec S_ 32 := constantI S_ 32 11#32
  let main_v515 : FVec F S256 .f32 := fn_dynamic_index_in_dim_0 (F := F) main_arg4 main_c_292
  let main_c_293 : IVec S_ 32 := constantI S_ 32 0#32
  let main_v516 : FVec F S8x1280x256 .f32 := fn_pad (F := F) main_v511 main_c_293
  let main_c_294 : IVec S_ 32 := constantI S_ 32 4294967295#32
  let main_v517 : IVec S_ 32 := muli main_c_294 main_v513
  let main_c_295 : IVec S_ 32 := constantI S_ 32 512#32
  fn_part34 (F := F) main_arg3 main_arg4 main_arg5 main_arg6 main_arg7 main_v34 main_v511 main_v513 main_v514 main_v515 main_v516 main_v517 main_c_295

def fn_part32 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v468 : FVec F S8x256x256 .f32) (main_v470 : IVec S_ 32) (main_v471 : FVec F S256x256x3 .f32) (main_v472 : FVec F S256 .f32) (main_v473 : FVec F S8x1280x256 .f32) (main_v483 : FVec F S8x256x256 .f32) (main_v485 : IVec S_ 32) (main_v486 : IVec S_ 1) (main_c_278 : IVec S_ 32) : IVec S2048 1 :=
  let main_v487 : IVec S_ 32 := addi main_v485 main_c_278
  let main_v488 : IVec S_ 32 := select main_v486 main_v487 main_v485
  let main_c_279 : IVec S_ 32 := constantI S_ 32 0#32
  let main_c_280 : IVec S_ 32 := constantI S_ 32 0#32
  let main_v489 : FVec F S8x256x256 .f32 := (fun x i => Host.dynamicSlice S8x256x256 x (fun k => (i k (Shape.Idx.first h_S_)).toInt) sliceFits_S8x1280x256_S8x256x256) main_v473 (![main_c_279, main_v488, main_c_280] : Fin 3 → IVec S_ 32)
  let main_v490 : FVec F S256x256x1 .f32 := (extractStridedSlice S256x256x1 ![0, 0, 1] · slices_S256x256x3_S256x256x1_0_0_1) main_v471
  let main_v491 : FVec F S256x256 .f32 := shapeCast S256x256 main_v490 shapeCasts_S256x256x1_S256x256
  let main_v492 : FVec F S256x256 .f32 := (transpose S256x256 [1, 0] · transposes_S256x256_S256x256_1_0) main_v491
  let main_v493 : FVec F S8x256x256 .f32 := (fun l r => Host.dotGeneral dot_S8x256x256_S256x256_S8x256x256_2_0_01_1_n_n none l r) main_v489 main_v492
  let main_v494 : FVec F S8x256x256 .f32 := addf main_v483 main_v493
  let main_c_281 : IVec S_ 32 := constantI S_ 32 1#32
  let main_v495 : IVec S_ 32 := muli main_c_281 main_v470
  let main_c_282 : IVec S_ 32 := constantI S_ 32 512#32
  let main_v496 : IVec S_ 32 := addi main_c_282 main_v495
  let main_c_283 : IVec S_ 32 := constantI S_ 32 0#32
  let main_v497 : IVec S_ 1 := cmpi .slt main_v496 main_c_283
  let main_c_284 : IVec S_ 32 := constantI S_ 32 1280#32
  let main_v498 : IVec S_ 32 := addi main_v496 main_c_284
  let main_v499 : IVec S_ 32 := select main_v497 main_v498 main_v496
  let main_c_285 : IVec S_ 32 := constantI S_ 32 0#32
  let main_c_286 : IVec S_ 32 := constantI S_ 32 0#32
  let main_v500 : FVec F S8x256x256 .f32 := (fun x i => Host.dynamicSlice S8x256x256 x (fun k => (i k (Shape.Idx.first h_S_)).toInt) sliceFits_S8x1280x256_S8x256x256) main_v473 (![main_c_285, main_v499, main_c_286] : Fin 3 → IVec S_ 32)
  let main_v501 : FVec F S256x256x1 .f32 := (extractStridedSlice S256x256x1 ![0, 0, 2] · slices_S256x256x3_S256x256x1_0_0_2) main_v471
  let main_v502 : FVec F S256x256 .f32 := shapeCast S256x256 main_v501 shapeCasts_S256x256x1_S256x256
  fn_part33 (F := F) main_arg3 main_arg4 main_arg5 main_arg6 main_arg7 main_v34 main_v468 main_v472 main_v494 main_v500 main_v502

def fn_part31 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v468 : FVec F S8x256x256 .f32) (main_v470 : IVec S_ 32) (main_v471 : FVec F S256x256x3 .f32) (main_v472 : FVec F S256 .f32) (main_c_268 : IVec S_ 32) : IVec S2048 1 :=
  let main_v473 : FVec F S8x1280x256 .f32 := fn_pad (F := F) main_v468 main_c_268
  let main_c_269 : IVec S_ 32 := constantI S_ 32 4294967295#32
  let main_v474 : IVec S_ 32 := muli main_c_269 main_v470
  let main_c_270 : IVec S_ 32 := constantI S_ 32 512#32
  let main_v475 : IVec S_ 32 := addi main_c_270 main_v474
  let main_c_271 : IVec S_ 32 := constantI S_ 32 0#32
  let main_v476 : IVec S_ 1 := cmpi .slt main_v475 main_c_271
  let main_c_272 : IVec S_ 32 := constantI S_ 32 1280#32
  let main_v477 : IVec S_ 32 := addi main_v475 main_c_272
  let main_v478 : IVec S_ 32 := select main_v476 main_v477 main_v475
  let main_c_273 : IVec S_ 32 := constantI S_ 32 0#32
  let main_c_274 : IVec S_ 32 := constantI S_ 32 0#32
  let main_v479 : FVec F S8x256x256 .f32 := (fun x i => Host.dynamicSlice S8x256x256 x (fun k => (i k (Shape.Idx.first h_S_)).toInt) sliceFits_S8x1280x256_S8x256x256) main_v473 (![main_c_273, main_v478, main_c_274] : Fin 3 → IVec S_ 32)
  let main_v480 : FVec F S256x256x1 .f32 := (extractStridedSlice S256x256x1 ![0, 0, 0] · slices_S256x256x3_S256x256x1_0_0_0) main_v471
  let main_v481 : FVec F S256x256 .f32 := shapeCast S256x256 main_v480 shapeCasts_S256x256x1_S256x256
  let main_v482 : FVec F S256x256 .f32 := (transpose S256x256 [1, 0] · transposes_S256x256_S256x256_1_0) main_v481
  let main_v483 : FVec F S8x256x256 .f32 := (fun l r => Host.dotGeneral dot_S8x256x256_S256x256_S8x256x256_2_0_01_1_n_n none l r) main_v479 main_v482
  let main_c_275 : IVec S_ 32 := constantI S_ 32 0#32
  let main_v484 : IVec S_ 32 := muli main_c_275 main_v470
  let main_c_276 : IVec S_ 32 := constantI S_ 32 512#32
  let main_v485 : IVec S_ 32 := addi main_c_276 main_v484
  let main_c_277 : IVec S_ 32 := constantI S_ 32 0#32
  let main_v486 : IVec S_ 1 := cmpi .slt main_v485 main_c_277
  let main_c_278 : IVec S_ 32 := constantI S_ 32 1280#32
  fn_part32 (F := F) main_arg3 main_arg4 main_arg5 main_arg6 main_arg7 main_v34 main_v468 main_v470 main_v471 main_v472 main_v473 main_v483 main_v485 main_v486 main_c_278

def fn_part30 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v425 : FVec F S8x256x256 .f32) (main_v428 : FVec F S256x256x3 .f32) (main_v429 : FVec F S256 .f32) (main_v430 : FVec F S8x1280x256 .f32) (main_v451 : FVec F S8x256x256 .f32) (main_v456 : IVec S_ 32) (main_c_260 : IVec S_ 32) : IVec S2048 1 :=
  let main_c_261 : IVec S_ 32 := constantI S_ 32 0#32
  let main_v457 : FVec F S8x256x256 .f32 := (fun x i => Host.dynamicSlice S8x256x256 x (fun k => (i k (Shape.Idx.first h_S_)).toInt) sliceFits_S8x1280x256_S8x256x256) main_v430 (![main_c_260, main_v456, main_c_261] : Fin 3 → IVec S_ 32)
  let main_v458 : FVec F S256x256x1 .f32 := (extractStridedSlice S256x256x1 ![0, 0, 2] · slices_S256x256x3_S256x256x1_0_0_2) main_v428
  let main_v459 : FVec F S256x256 .f32 := shapeCast S256x256 main_v458 shapeCasts_S256x256x1_S256x256
  let main_v460 : FVec F S256x256 .f32 := (transpose S256x256 [1, 0] · transposes_S256x256_S256x256_1_0) main_v459
  let main_v461 : FVec F S8x256x256 .f32 := (fun l r => Host.dotGeneral dot_S8x256x256_S256x256_S8x256x256_2_0_01_1_n_n none l r) main_v457 main_v460
  let main_v462 : FVec F S8x256x256 .f32 := addf main_v451 main_v461
  let main_v463 : FVec F S1x1x256 .f32 := broadcastInDim S1x1x256 ![2] bcast_S256_S1x1x256_2 main_v429
  let main_v464 : FVec F S8x256x256 .f32 := broadcastInDim S8x256x256 ![0, 1, 2] bcast_S1x1x256_S8x256x256_0_1_2 main_v463
  let main_v465 : FVec F S8x256x256 .f32 := addf main_v462 main_v464
  let main_cst_262 : FVec F S_ .f32 := constant S_ .f32 0x00000000#32
  let main_v466 : FVec F S8x256x256 .f32 := broadcastInDim S8x256x256 ![] bcast_S_S8x256x256 main_cst_262
  let main_v467 : FVec F S8x256x256 .f32 := maximumf main_v465 main_v466
  let main_v468 : FVec F S8x256x256 .f32 := addf main_v467 main_v425
  let main_c_263 : IVec S_ 32 := constantI S_ 32 10#32
  let main_c_264 : IVec S_ 32 := constantI S_ 32 10#32
  let main_v469 : IVec S_ 32 := Host.remsi main_c_263 main_c_264
  let main_c_265 : IVec S_ 32 := constantI S_ 32 1#32
  let main_v470 : IVec S_ 32 := Host.shli main_c_265 main_v469
  let main_c_266 : IVec S_ 32 := constantI S_ 32 10#32
  let main_v471 : FVec F S256x256x3 .f32 := fn_dynamic_index_in_dim (F := F) main_arg3 main_c_266
  let main_c_267 : IVec S_ 32 := constantI S_ 32 10#32
  let main_v472 : FVec F S256 .f32 := fn_dynamic_index_in_dim_0 (F := F) main_arg4 main_c_267
  let main_c_268 : IVec S_ 32 := constantI S_ 32 0#32
  fn_part31 (F := F) main_arg3 main_arg4 main_arg5 main_arg6 main_arg7 main_v34 main_v468 main_v470 main_v471 main_v472 main_c_268

def fn_part29 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v425 : FVec F S8x256x256 .f32) (main_v427 : IVec S_ 32) (main_v428 : FVec F S256x256x3 .f32) (main_v429 : FVec F S256 .f32) (main_v430 : FVec F S8x1280x256 .f32) (main_v440 : FVec F S8x256x256 .f32) (main_v441 : IVec S_ 32) (main_c_251 : IVec S_ 32) : IVec S2048 1 :=
  let main_v442 : IVec S_ 32 := addi main_c_251 main_v441
  let main_c_252 : IVec S_ 32 := constantI S_ 32 0#32
  let main_v443 : IVec S_ 1 := cmpi .slt main_v442 main_c_252
  let main_c_253 : IVec S_ 32 := constantI S_ 32 1280#32
  let main_v444 : IVec S_ 32 := addi main_v442 main_c_253
  let main_v445 : IVec S_ 32 := select main_v443 main_v444 main_v442
  let main_c_254 : IVec S_ 32 := constantI S_ 32 0#32
  let main_c_255 : IVec S_ 32 := constantI S_ 32 0#32
  let main_v446 : FVec F S8x256x256 .f32 := (fun x i => Host.dynamicSlice S8x256x256 x (fun k => (i k (Shape.Idx.first h_S_)).toInt) sliceFits_S8x1280x256_S8x256x256) main_v430 (![main_c_254, main_v445, main_c_255] : Fin 3 → IVec S_ 32)
  let main_v447 : FVec F S256x256x1 .f32 := (extractStridedSlice S256x256x1 ![0, 0, 1] · slices_S256x256x3_S256x256x1_0_0_1) main_v428
  let main_v448 : FVec F S256x256 .f32 := shapeCast S256x256 main_v447 shapeCasts_S256x256x1_S256x256
  let main_v449 : FVec F S256x256 .f32 := (transpose S256x256 [1, 0] · transposes_S256x256_S256x256_1_0) main_v448
  let main_v450 : FVec F S8x256x256 .f32 := (fun l r => Host.dotGeneral dot_S8x256x256_S256x256_S8x256x256_2_0_01_1_n_n none l r) main_v446 main_v449
  let main_v451 : FVec F S8x256x256 .f32 := addf main_v440 main_v450
  let main_c_256 : IVec S_ 32 := constantI S_ 32 1#32
  let main_v452 : IVec S_ 32 := muli main_c_256 main_v427
  let main_c_257 : IVec S_ 32 := constantI S_ 32 512#32
  let main_v453 : IVec S_ 32 := addi main_c_257 main_v452
  let main_c_258 : IVec S_ 32 := constantI S_ 32 0#32
  let main_v454 : IVec S_ 1 := cmpi .slt main_v453 main_c_258
  let main_c_259 : IVec S_ 32 := constantI S_ 32 1280#32
  let main_v455 : IVec S_ 32 := addi main_v453 main_c_259
  let main_v456 : IVec S_ 32 := select main_v454 main_v455 main_v453
  let main_c_260 : IVec S_ 32 := constantI S_ 32 0#32
  fn_part30 (F := F) main_arg3 main_arg4 main_arg5 main_arg6 main_arg7 main_v34 main_v425 main_v428 main_v429 main_v430 main_v451 main_v456 main_c_260

def fn_part28 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v425 : FVec F S8x256x256 .f32) (main_v427 : IVec S_ 32) (main_c_241 : IVec S_ 32) : IVec S2048 1 :=
  let main_v428 : FVec F S256x256x3 .f32 := fn_dynamic_index_in_dim (F := F) main_arg3 main_c_241
  let main_c_242 : IVec S_ 32 := constantI S_ 32 9#32
  let main_v429 : FVec F S256 .f32 := fn_dynamic_index_in_dim_0 (F := F) main_arg4 main_c_242
  let main_c_243 : IVec S_ 32 := constantI S_ 32 0#32
  let main_v430 : FVec F S8x1280x256 .f32 := fn_pad (F := F) main_v425 main_c_243
  let main_c_244 : IVec S_ 32 := constantI S_ 32 4294967295#32
  let main_v431 : IVec S_ 32 := muli main_c_244 main_v427
  let main_c_245 : IVec S_ 32 := constantI S_ 32 512#32
  let main_v432 : IVec S_ 32 := addi main_c_245 main_v431
  let main_c_246 : IVec S_ 32 := constantI S_ 32 0#32
  let main_v433 : IVec S_ 1 := cmpi .slt main_v432 main_c_246
  let main_c_247 : IVec S_ 32 := constantI S_ 32 1280#32
  let main_v434 : IVec S_ 32 := addi main_v432 main_c_247
  let main_v435 : IVec S_ 32 := select main_v433 main_v434 main_v432
  let main_c_248 : IVec S_ 32 := constantI S_ 32 0#32
  let main_c_249 : IVec S_ 32 := constantI S_ 32 0#32
  let main_v436 : FVec F S8x256x256 .f32 := (fun x i => Host.dynamicSlice S8x256x256 x (fun k => (i k (Shape.Idx.first h_S_)).toInt) sliceFits_S8x1280x256_S8x256x256) main_v430 (![main_c_248, main_v435, main_c_249] : Fin 3 → IVec S_ 32)
  let main_v437 : FVec F S256x256x1 .f32 := (extractStridedSlice S256x256x1 ![0, 0, 0] · slices_S256x256x3_S256x256x1_0_0_0) main_v428
  let main_v438 : FVec F S256x256 .f32 := shapeCast S256x256 main_v437 shapeCasts_S256x256x1_S256x256
  let main_v439 : FVec F S256x256 .f32 := (transpose S256x256 [1, 0] · transposes_S256x256_S256x256_1_0) main_v438
  let main_v440 : FVec F S8x256x256 .f32 := (fun l r => Host.dotGeneral dot_S8x256x256_S256x256_S8x256x256_2_0_01_1_n_n none l r) main_v436 main_v439
  let main_c_250 : IVec S_ 32 := constantI S_ 32 0#32
  let main_v441 : IVec S_ 32 := muli main_c_250 main_v427
  let main_c_251 : IVec S_ 32 := constantI S_ 32 512#32
  fn_part29 (F := F) main_arg3 main_arg4 main_arg5 main_arg6 main_arg7 main_v34 main_v425 main_v427 main_v428 main_v429 main_v430 main_v440 main_v441 main_c_251

def fn_part27 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v382 : FVec F S8x256x256 .f32) (main_v385 : FVec F S256x256x3 .f32) (main_v386 : FVec F S256 .f32) (main_v387 : FVec F S8x1280x256 .f32) (main_v408 : FVec F S8x256x256 .f32) (main_v410 : IVec S_ 32) (main_v411 : IVec S_ 1) : IVec S2048 1 :=
  let main_c_234 : IVec S_ 32 := constantI S_ 32 1280#32
  let main_v412 : IVec S_ 32 := addi main_v410 main_c_234
  let main_v413 : IVec S_ 32 := select main_v411 main_v412 main_v410
  let main_c_235 : IVec S_ 32 := constantI S_ 32 0#32
  let main_c_236 : IVec S_ 32 := constantI S_ 32 0#32
  let main_v414 : FVec F S8x256x256 .f32 := (fun x i => Host.dynamicSlice S8x256x256 x (fun k => (i k (Shape.Idx.first h_S_)).toInt) sliceFits_S8x1280x256_S8x256x256) main_v387 (![main_c_235, main_v413, main_c_236] : Fin 3 → IVec S_ 32)
  let main_v415 : FVec F S256x256x1 .f32 := (extractStridedSlice S256x256x1 ![0, 0, 2] · slices_S256x256x3_S256x256x1_0_0_2) main_v385
  let main_v416 : FVec F S256x256 .f32 := shapeCast S256x256 main_v415 shapeCasts_S256x256x1_S256x256
  let main_v417 : FVec F S256x256 .f32 := (transpose S256x256 [1, 0] · transposes_S256x256_S256x256_1_0) main_v416
  let main_v418 : FVec F S8x256x256 .f32 := (fun l r => Host.dotGeneral dot_S8x256x256_S256x256_S8x256x256_2_0_01_1_n_n none l r) main_v414 main_v417
  let main_v419 : FVec F S8x256x256 .f32 := addf main_v408 main_v418
  let main_v420 : FVec F S1x1x256 .f32 := broadcastInDim S1x1x256 ![2] bcast_S256_S1x1x256_2 main_v386
  let main_v421 : FVec F S8x256x256 .f32 := broadcastInDim S8x256x256 ![0, 1, 2] bcast_S1x1x256_S8x256x256_0_1_2 main_v420
  let main_v422 : FVec F S8x256x256 .f32 := addf main_v419 main_v421
  let main_cst_237 : FVec F S_ .f32 := constant S_ .f32 0x00000000#32
  let main_v423 : FVec F S8x256x256 .f32 := broadcastInDim S8x256x256 ![] bcast_S_S8x256x256 main_cst_237
  let main_v424 : FVec F S8x256x256 .f32 := maximumf main_v422 main_v423
  let main_v425 : FVec F S8x256x256 .f32 := addf main_v424 main_v382
  let main_c_238 : IVec S_ 32 := constantI S_ 32 9#32
  let main_c_239 : IVec S_ 32 := constantI S_ 32 10#32
  let main_v426 : IVec S_ 32 := Host.remsi main_c_238 main_c_239
  let main_c_240 : IVec S_ 32 := constantI S_ 32 1#32
  let main_v427 : IVec S_ 32 := Host.shli main_c_240 main_v426
  let main_c_241 : IVec S_ 32 := constantI S_ 32 9#32
  fn_part28 (F := F) main_arg3 main_arg4 main_arg5 main_arg6 main_arg7 main_v34 main_v425 main_v427 main_c_241

def fn_part26 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v382 : FVec F S8x256x256 .f32) (main_v384 : IVec S_ 32) (main_v385 : FVec F S256x256x3 .f32) (main_v386 : FVec F S256 .f32) (main_v387 : FVec F S8x1280x256 .f32) (main_v393 : FVec F S8x256x256 .f32) (main_v396 : FVec F S256x256 .f32) : IVec S2048 1 :=
  let main_v397 : FVec F S8x256x256 .f32 := (fun l r => Host.dotGeneral dot_S8x256x256_S256x256_S8x256x256_2_0_01_1_n_n none l r) main_v393 main_v396
  let main_c_225 : IVec S_ 32 := constantI S_ 32 0#32
  let main_v398 : IVec S_ 32 := muli main_c_225 main_v384
  let main_c_226 : IVec S_ 32 := constantI S_ 32 512#32
  let main_v399 : IVec S_ 32 := addi main_c_226 main_v398
  let main_c_227 : IVec S_ 32 := constantI S_ 32 0#32
  let main_v400 : IVec S_ 1 := cmpi .slt main_v399 main_c_227
  let main_c_228 : IVec S_ 32 := constantI S_ 32 1280#32
  let main_v401 : IVec S_ 32 := addi main_v399 main_c_228
  let main_v402 : IVec S_ 32 := select main_v400 main_v401 main_v399
  let main_c_229 : IVec S_ 32 := constantI S_ 32 0#32
  let main_c_230 : IVec S_ 32 := constantI S_ 32 0#32
  let main_v403 : FVec F S8x256x256 .f32 := (fun x i => Host.dynamicSlice S8x256x256 x (fun k => (i k (Shape.Idx.first h_S_)).toInt) sliceFits_S8x1280x256_S8x256x256) main_v387 (![main_c_229, main_v402, main_c_230] : Fin 3 → IVec S_ 32)
  let main_v404 : FVec F S256x256x1 .f32 := (extractStridedSlice S256x256x1 ![0, 0, 1] · slices_S256x256x3_S256x256x1_0_0_1) main_v385
  let main_v405 : FVec F S256x256 .f32 := shapeCast S256x256 main_v404 shapeCasts_S256x256x1_S256x256
  let main_v406 : FVec F S256x256 .f32 := (transpose S256x256 [1, 0] · transposes_S256x256_S256x256_1_0) main_v405
  let main_v407 : FVec F S8x256x256 .f32 := (fun l r => Host.dotGeneral dot_S8x256x256_S256x256_S8x256x256_2_0_01_1_n_n none l r) main_v403 main_v406
  let main_v408 : FVec F S8x256x256 .f32 := addf main_v397 main_v407
  let main_c_231 : IVec S_ 32 := constantI S_ 32 1#32
  let main_v409 : IVec S_ 32 := muli main_c_231 main_v384
  let main_c_232 : IVec S_ 32 := constantI S_ 32 512#32
  let main_v410 : IVec S_ 32 := addi main_c_232 main_v409
  let main_c_233 : IVec S_ 32 := constantI S_ 32 0#32
  let main_v411 : IVec S_ 1 := cmpi .slt main_v410 main_c_233
  fn_part27 (F := F) main_arg3 main_arg4 main_arg5 main_arg6 main_arg7 main_v34 main_v382 main_v385 main_v386 main_v387 main_v408 main_v410 main_v411

def fn_part25 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v382 : FVec F S8x256x256 .f32) (main_c_213 : IVec S_ 32) (main_c_214 : IVec S_ 32) : IVec S2048 1 :=
  let main_v383 : IVec S_ 32 := Host.remsi main_c_213 main_c_214
  let main_c_215 : IVec S_ 32 := constantI S_ 32 1#32
  let main_v384 : IVec S_ 32 := Host.shli main_c_215 main_v383
  let main_c_216 : IVec S_ 32 := constantI S_ 32 8#32
  let main_v385 : FVec F S256x256x3 .f32 := fn_dynamic_index_in_dim (F := F) main_arg3 main_c_216
  let main_c_217 : IVec S_ 32 := constantI S_ 32 8#32
  let main_v386 : FVec F S256 .f32 := fn_dynamic_index_in_dim_0 (F := F) main_arg4 main_c_217
  let main_c_218 : IVec S_ 32 := constantI S_ 32 0#32
  let main_v387 : FVec F S8x1280x256 .f32 := fn_pad (F := F) main_v382 main_c_218
  let main_c_219 : IVec S_ 32 := constantI S_ 32 4294967295#32
  let main_v388 : IVec S_ 32 := muli main_c_219 main_v384
  let main_c_220 : IVec S_ 32 := constantI S_ 32 512#32
  let main_v389 : IVec S_ 32 := addi main_c_220 main_v388
  let main_c_221 : IVec S_ 32 := constantI S_ 32 0#32
  let main_v390 : IVec S_ 1 := cmpi .slt main_v389 main_c_221
  let main_c_222 : IVec S_ 32 := constantI S_ 32 1280#32
  let main_v391 : IVec S_ 32 := addi main_v389 main_c_222
  let main_v392 : IVec S_ 32 := select main_v390 main_v391 main_v389
  let main_c_223 : IVec S_ 32 := constantI S_ 32 0#32
  let main_c_224 : IVec S_ 32 := constantI S_ 32 0#32
  let main_v393 : FVec F S8x256x256 .f32 := (fun x i => Host.dynamicSlice S8x256x256 x (fun k => (i k (Shape.Idx.first h_S_)).toInt) sliceFits_S8x1280x256_S8x256x256) main_v387 (![main_c_223, main_v392, main_c_224] : Fin 3 → IVec S_ 32)
  let main_v394 : FVec F S256x256x1 .f32 := (extractStridedSlice S256x256x1 ![0, 0, 0] · slices_S256x256x3_S256x256x1_0_0_0) main_v385
  let main_v395 : FVec F S256x256 .f32 := shapeCast S256x256 main_v394 shapeCasts_S256x256x1_S256x256
  let main_v396 : FVec F S256x256 .f32 := (transpose S256x256 [1, 0] · transposes_S256x256_S256x256_1_0) main_v395
  fn_part26 (F := F) main_arg3 main_arg4 main_arg5 main_arg6 main_arg7 main_v34 main_v382 main_v384 main_v385 main_v386 main_v387 main_v393 main_v396

def fn_part24 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v339 : FVec F S8x256x256 .f32) (main_v342 : FVec F S256x256x3 .f32) (main_v343 : FVec F S256 .f32) (main_v344 : FVec F S8x1280x256 .f32) (main_v365 : FVec F S8x256x256 .f32) (main_v366 : IVec S_ 32) : IVec S2048 1 :=
  let main_c_207 : IVec S_ 32 := constantI S_ 32 512#32
  let main_v367 : IVec S_ 32 := addi main_c_207 main_v366
  let main_c_208 : IVec S_ 32 := constantI S_ 32 0#32
  let main_v368 : IVec S_ 1 := cmpi .slt main_v367 main_c_208
  let main_c_209 : IVec S_ 32 := constantI S_ 32 1280#32
  let main_v369 : IVec S_ 32 := addi main_v367 main_c_209
  let main_v370 : IVec S_ 32 := select main_v368 main_v369 main_v367
  let main_c_210 : IVec S_ 32 := constantI S_ 32 0#32
  let main_c_211 : IVec S_ 32 := constantI S_ 32 0#32
  let main_v371 : FVec F S8x256x256 .f32 := (fun x i => Host.dynamicSlice S8x256x256 x (fun k => (i k (Shape.Idx.first h_S_)).toInt) sliceFits_S8x1280x256_S8x256x256) main_v344 (![main_c_210, main_v370, main_c_211] : Fin 3 → IVec S_ 32)
  let main_v372 : FVec F S256x256x1 .f32 := (extractStridedSlice S256x256x1 ![0, 0, 2] · slices_S256x256x3_S256x256x1_0_0_2) main_v342
  let main_v373 : FVec F S256x256 .f32 := shapeCast S256x256 main_v372 shapeCasts_S256x256x1_S256x256
  let main_v374 : FVec F S256x256 .f32 := (transpose S256x256 [1, 0] · transposes_S256x256_S256x256_1_0) main_v373
  let main_v375 : FVec F S8x256x256 .f32 := (fun l r => Host.dotGeneral dot_S8x256x256_S256x256_S8x256x256_2_0_01_1_n_n none l r) main_v371 main_v374
  let main_v376 : FVec F S8x256x256 .f32 := addf main_v365 main_v375
  let main_v377 : FVec F S1x1x256 .f32 := broadcastInDim S1x1x256 ![2] bcast_S256_S1x1x256_2 main_v343
  let main_v378 : FVec F S8x256x256 .f32 := broadcastInDim S8x256x256 ![0, 1, 2] bcast_S1x1x256_S8x256x256_0_1_2 main_v377
  let main_v379 : FVec F S8x256x256 .f32 := addf main_v376 main_v378
  let main_cst_212 : FVec F S_ .f32 := constant S_ .f32 0x00000000#32
  let main_v380 : FVec F S8x256x256 .f32 := broadcastInDim S8x256x256 ![] bcast_S_S8x256x256 main_cst_212
  let main_v381 : FVec F S8x256x256 .f32 := maximumf main_v379 main_v380
  let main_v382 : FVec F S8x256x256 .f32 := addf main_v381 main_v339
  let main_c_213 : IVec S_ 32 := constantI S_ 32 8#32
  let main_c_214 : IVec S_ 32 := constantI S_ 32 10#32
  fn_part25 (F := F) main_arg3 main_arg4 main_arg5 main_arg6 main_arg7 main_v34 main_v382 main_c_213 main_c_214

def fn_part23 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v339 : FVec F S8x256x256 .f32) (main_v341 : IVec S_ 32) (main_v342 : FVec F S256x256x3 .f32) (main_v343 : FVec F S256 .f32) (main_v344 : FVec F S8x1280x256 .f32) (main_v349 : IVec S_ 32) (main_c_198 : IVec S_ 32) (main_c_199 : IVec S_ 32) : IVec S2048 1 :=
  let main_v350 : FVec F S8x256x256 .f32 := (fun x i => Host.dynamicSlice S8x256x256 x (fun k => (i k (Shape.Idx.first h_S_)).toInt) sliceFits_S8x1280x256_S8x256x256) main_v344 (![main_c_198, main_v349, main_c_199] : Fin 3 → IVec S_ 32)
  let main_v351 : FVec F S256x256x1 .f32 := (extractStridedSlice S256x256x1 ![0, 0, 0] · slices_S256x256x3_S256x256x1_0_0_0) main_v342
  let main_v352 : FVec F S256x256 .f32 := shapeCast S256x256 main_v351 shapeCasts_S256x256x1_S256x256
  let main_v353 : FVec F S256x256 .f32 := (transpose S256x256 [1, 0] · transposes_S256x256_S256x256_1_0) main_v352
  let main_v354 : FVec F S8x256x256 .f32 := (fun l r => Host.dotGeneral dot_S8x256x256_S256x256_S8x256x256_2_0_01_1_n_n none l r) main_v350 main_v353
  let main_c_200 : IVec S_ 32 := constantI S_ 32 0#32
  let main_v355 : IVec S_ 32 := muli main_c_200 main_v341
  let main_c_201 : IVec S_ 32 := constantI S_ 32 512#32
  let main_v356 : IVec S_ 32 := addi main_c_201 main_v355
  let main_c_202 : IVec S_ 32 := constantI S_ 32 0#32
  let main_v357 : IVec S_ 1 := cmpi .slt main_v356 main_c_202
  let main_c_203 : IVec S_ 32 := constantI S_ 32 1280#32
  let main_v358 : IVec S_ 32 := addi main_v356 main_c_203
  let main_v359 : IVec S_ 32 := select main_v357 main_v358 main_v356
  let main_c_204 : IVec S_ 32 := constantI S_ 32 0#32
  let main_c_205 : IVec S_ 32 := constantI S_ 32 0#32
  let main_v360 : FVec F S8x256x256 .f32 := (fun x i => Host.dynamicSlice S8x256x256 x (fun k => (i k (Shape.Idx.first h_S_)).toInt) sliceFits_S8x1280x256_S8x256x256) main_v344 (![main_c_204, main_v359, main_c_205] : Fin 3 → IVec S_ 32)
  let main_v361 : FVec F S256x256x1 .f32 := (extractStridedSlice S256x256x1 ![0, 0, 1] · slices_S256x256x3_S256x256x1_0_0_1) main_v342
  let main_v362 : FVec F S256x256 .f32 := shapeCast S256x256 main_v361 shapeCasts_S256x256x1_S256x256
  let main_v363 : FVec F S256x256 .f32 := (transpose S256x256 [1, 0] · transposes_S256x256_S256x256_1_0) main_v362
  let main_v364 : FVec F S8x256x256 .f32 := (fun l r => Host.dotGeneral dot_S8x256x256_S256x256_S8x256x256_2_0_01_1_n_n none l r) main_v360 main_v363
  let main_v365 : FVec F S8x256x256 .f32 := addf main_v354 main_v364
  let main_c_206 : IVec S_ 32 := constantI S_ 32 1#32
  let main_v366 : IVec S_ 32 := muli main_c_206 main_v341
  fn_part24 (F := F) main_arg3 main_arg4 main_arg5 main_arg6 main_arg7 main_v34 main_v339 main_v342 main_v343 main_v344 main_v365 main_v366

def fn_part22 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v296 : FVec F S8x256x256 .f32) (main_v336 : FVec F S8x256x256 .f32) (main_v337 : FVec F S8x256x256 .f32) : IVec S2048 1 :=
  let main_v338 : FVec F S8x256x256 .f32 := maximumf main_v336 main_v337
  let main_v339 : FVec F S8x256x256 .f32 := addf main_v338 main_v296
  let main_c_188 : IVec S_ 32 := constantI S_ 32 7#32
  let main_c_189 : IVec S_ 32 := constantI S_ 32 10#32
  let main_v340 : IVec S_ 32 := Host.remsi main_c_188 main_c_189
  let main_c_190 : IVec S_ 32 := constantI S_ 32 1#32
  let main_v341 : IVec S_ 32 := Host.shli main_c_190 main_v340
  let main_c_191 : IVec S_ 32 := constantI S_ 32 7#32
  let main_v342 : FVec F S256x256x3 .f32 := fn_dynamic_index_in_dim (F := F) main_arg3 main_c_191
  let main_c_192 : IVec S_ 32 := constantI S_ 32 7#32
  let main_v343 : FVec F S256 .f32 := fn_dynamic_index_in_dim_0 (F := F) main_arg4 main_c_192
  let main_c_193 : IVec S_ 32 := constantI S_ 32 0#32
  let main_v344 : FVec F S8x1280x256 .f32 := fn_pad (F := F) main_v339 main_c_193
  let main_c_194 : IVec S_ 32 := constantI S_ 32 4294967295#32
  let main_v345 : IVec S_ 32 := muli main_c_194 main_v341
  let main_c_195 : IVec S_ 32 := constantI S_ 32 512#32
  let main_v346 : IVec S_ 32 := addi main_c_195 main_v345
  let main_c_196 : IVec S_ 32 := constantI S_ 32 0#32
  let main_v347 : IVec S_ 1 := cmpi .slt main_v346 main_c_196
  let main_c_197 : IVec S_ 32 := constantI S_ 32 1280#32
  let main_v348 : IVec S_ 32 := addi main_v346 main_c_197
  let main_v349 : IVec S_ 32 := select main_v347 main_v348 main_v346
  let main_c_198 : IVec S_ 32 := constantI S_ 32 0#32
  let main_c_199 : IVec S_ 32 := constantI S_ 32 0#32
  fn_part23 (F := F) main_arg3 main_arg4 main_arg5 main_arg6 main_arg7 main_v34 main_v339 main_v341 main_v342 main_v343 main_v344 main_v349 main_c_198 main_c_199

def fn_part21 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v296 : FVec F S8x256x256 .f32) (main_v298 : IVec S_ 32) (main_v299 : FVec F S256x256x3 .f32) (main_v300 : FVec F S256 .f32) (main_v301 : FVec F S8x1280x256 .f32) (main_v311 : FVec F S8x256x256 .f32) (main_v317 : FVec F S8x256x256 .f32) (main_v320 : FVec F S256x256 .f32) : IVec S2048 1 :=
  let main_v321 : FVec F S8x256x256 .f32 := (fun l r => Host.dotGeneral dot_S8x256x256_S256x256_S8x256x256_2_0_01_1_n_n none l r) main_v317 main_v320
  let main_v322 : FVec F S8x256x256 .f32 := addf main_v311 main_v321
  let main_c_181 : IVec S_ 32 := constantI S_ 32 1#32
  let main_v323 : IVec S_ 32 := muli main_c_181 main_v298
  let main_c_182 : IVec S_ 32 := constantI S_ 32 512#32
  let main_v324 : IVec S_ 32 := addi main_c_182 main_v323
  let main_c_183 : IVec S_ 32 := constantI S_ 32 0#32
  let main_v325 : IVec S_ 1 := cmpi .slt main_v324 main_c_183
  let main_c_184 : IVec S_ 32 := constantI S_ 32 1280#32
  let main_v326 : IVec S_ 32 := addi main_v324 main_c_184
  let main_v327 : IVec S_ 32 := select main_v325 main_v326 main_v324
  let main_c_185 : IVec S_ 32 := constantI S_ 32 0#32
  let main_c_186 : IVec S_ 32 := constantI S_ 32 0#32
  let main_v328 : FVec F S8x256x256 .f32 := (fun x i => Host.dynamicSlice S8x256x256 x (fun k => (i k (Shape.Idx.first h_S_)).toInt) sliceFits_S8x1280x256_S8x256x256) main_v301 (![main_c_185, main_v327, main_c_186] : Fin 3 → IVec S_ 32)
  let main_v329 : FVec F S256x256x1 .f32 := (extractStridedSlice S256x256x1 ![0, 0, 2] · slices_S256x256x3_S256x256x1_0_0_2) main_v299
  let main_v330 : FVec F S256x256 .f32 := shapeCast S256x256 main_v329 shapeCasts_S256x256x1_S256x256
  let main_v331 : FVec F S256x256 .f32 := (transpose S256x256 [1, 0] · transposes_S256x256_S256x256_1_0) main_v330
  let main_v332 : FVec F S8x256x256 .f32 := (fun l r => Host.dotGeneral dot_S8x256x256_S256x256_S8x256x256_2_0_01_1_n_n none l r) main_v328 main_v331
  let main_v333 : FVec F S8x256x256 .f32 := addf main_v322 main_v332
  let main_v334 : FVec F S1x1x256 .f32 := broadcastInDim S1x1x256 ![2] bcast_S256_S1x1x256_2 main_v300
  let main_v335 : FVec F S8x256x256 .f32 := broadcastInDim S8x256x256 ![0, 1, 2] bcast_S1x1x256_S8x256x256_0_1_2 main_v334
  let main_v336 : FVec F S8x256x256 .f32 := addf main_v333 main_v335
  let main_cst_187 : FVec F S_ .f32 := constant S_ .f32 0x00000000#32
  let main_v337 : FVec F S8x256x256 .f32 := broadcastInDim S8x256x256 ![] bcast_S_S8x256x256 main_cst_187
  fn_part22 (F := F) main_arg3 main_arg4 main_arg5 main_arg6 main_arg7 main_v34 main_v296 main_v336 main_v337

def fn_part20 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v296 : FVec F S8x256x256 .f32) (main_v298 : IVec S_ 32) (main_v299 : FVec F S256x256x3 .f32) (main_v300 : FVec F S256 .f32) (main_v301 : FVec F S8x1280x256 .f32) (main_v303 : IVec S_ 32) (main_v304 : IVec S_ 1) (main_c_172 : IVec S_ 32) : IVec S2048 1 :=
  let main_v305 : IVec S_ 32 := addi main_v303 main_c_172
  let main_v306 : IVec S_ 32 := select main_v304 main_v305 main_v303
  let main_c_173 : IVec S_ 32 := constantI S_ 32 0#32
  let main_c_174 : IVec S_ 32 := constantI S_ 32 0#32
  let main_v307 : FVec F S8x256x256 .f32 := (fun x i => Host.dynamicSlice S8x256x256 x (fun k => (i k (Shape.Idx.first h_S_)).toInt) sliceFits_S8x1280x256_S8x256x256) main_v301 (![main_c_173, main_v306, main_c_174] : Fin 3 → IVec S_ 32)
  let main_v308 : FVec F S256x256x1 .f32 := (extractStridedSlice S256x256x1 ![0, 0, 0] · slices_S256x256x3_S256x256x1_0_0_0) main_v299
  let main_v309 : FVec F S256x256 .f32 := shapeCast S256x256 main_v308 shapeCasts_S256x256x1_S256x256
  let main_v310 : FVec F S256x256 .f32 := (transpose S256x256 [1, 0] · transposes_S256x256_S256x256_1_0) main_v309
  let main_v311 : FVec F S8x256x256 .f32 := (fun l r => Host.dotGeneral dot_S8x256x256_S256x256_S8x256x256_2_0_01_1_n_n none l r) main_v307 main_v310
  let main_c_175 : IVec S_ 32 := constantI S_ 32 0#32
  let main_v312 : IVec S_ 32 := muli main_c_175 main_v298
  let main_c_176 : IVec S_ 32 := constantI S_ 32 512#32
  let main_v313 : IVec S_ 32 := addi main_c_176 main_v312
  let main_c_177 : IVec S_ 32 := constantI S_ 32 0#32
  let main_v314 : IVec S_ 1 := cmpi .slt main_v313 main_c_177
  let main_c_178 : IVec S_ 32 := constantI S_ 32 1280#32
  let main_v315 : IVec S_ 32 := addi main_v313 main_c_178
  let main_v316 : IVec S_ 32 := select main_v314 main_v315 main_v313
  let main_c_179 : IVec S_ 32 := constantI S_ 32 0#32
  let main_c_180 : IVec S_ 32 := constantI S_ 32 0#32
  let main_v317 : FVec F S8x256x256 .f32 := (fun x i => Host.dynamicSlice S8x256x256 x (fun k => (i k (Shape.Idx.first h_S_)).toInt) sliceFits_S8x1280x256_S8x256x256) main_v301 (![main_c_179, main_v316, main_c_180] : Fin 3 → IVec S_ 32)
  let main_v318 : FVec F S256x256x1 .f32 := (extractStridedSlice S256x256x1 ![0, 0, 1] · slices_S256x256x3_S256x256x1_0_0_1) main_v299
  let main_v319 : FVec F S256x256 .f32 := shapeCast S256x256 main_v318 shapeCasts_S256x256x1_S256x256
  let main_v320 : FVec F S256x256 .f32 := (transpose S256x256 [1, 0] · transposes_S256x256_S256x256_1_0) main_v319
  fn_part21 (F := F) main_arg3 main_arg4 main_arg5 main_arg6 main_arg7 main_v34 main_v296 main_v298 main_v299 main_v300 main_v301 main_v311 main_v317 main_v320

def fn_part19 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v253 : FVec F S8x256x256 .f32) (main_v290 : FVec F S8x256x256 .f32) (main_v291 : FVec F S1x1x256 .f32) : IVec S2048 1 :=
  let main_v292 : FVec F S8x256x256 .f32 := broadcastInDim S8x256x256 ![0, 1, 2] bcast_S1x1x256_S8x256x256_0_1_2 main_v291
  let main_v293 : FVec F S8x256x256 .f32 := addf main_v290 main_v292
  let main_cst_162 : FVec F S_ .f32 := constant S_ .f32 0x00000000#32
  let main_v294 : FVec F S8x256x256 .f32 := broadcastInDim S8x256x256 ![] bcast_S_S8x256x256 main_cst_162
  let main_v295 : FVec F S8x256x256 .f32 := maximumf main_v293 main_v294
  let main_v296 : FVec F S8x256x256 .f32 := addf main_v295 main_v253
  let main_c_163 : IVec S_ 32 := constantI S_ 32 6#32
  let main_c_164 : IVec S_ 32 := constantI S_ 32 10#32
  let main_v297 : IVec S_ 32 := Host.remsi main_c_163 main_c_164
  let main_c_165 : IVec S_ 32 := constantI S_ 32 1#32
  let main_v298 : IVec S_ 32 := Host.shli main_c_165 main_v297
  let main_c_166 : IVec S_ 32 := constantI S_ 32 6#32
  let main_v299 : FVec F S256x256x3 .f32 := fn_dynamic_index_in_dim (F := F) main_arg3 main_c_166
  let main_c_167 : IVec S_ 32 := constantI S_ 32 6#32
  let main_v300 : FVec F S256 .f32 := fn_dynamic_index_in_dim_0 (F := F) main_arg4 main_c_167
  let main_c_168 : IVec S_ 32 := constantI S_ 32 0#32
  let main_v301 : FVec F S8x1280x256 .f32 := fn_pad (F := F) main_v296 main_c_168
  let main_c_169 : IVec S_ 32 := constantI S_ 32 4294967295#32
  let main_v302 : IVec S_ 32 := muli main_c_169 main_v298
  let main_c_170 : IVec S_ 32 := constantI S_ 32 512#32
  let main_v303 : IVec S_ 32 := addi main_c_170 main_v302
  let main_c_171 : IVec S_ 32 := constantI S_ 32 0#32
  let main_v304 : IVec S_ 1 := cmpi .slt main_v303 main_c_171
  let main_c_172 : IVec S_ 32 := constantI S_ 32 1280#32
  fn_part20 (F := F) main_arg3 main_arg4 main_arg5 main_arg6 main_arg7 main_v34 main_v296 main_v298 main_v299 main_v300 main_v301 main_v303 main_v304 main_c_172

def fn_part18 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v253 : FVec F S8x256x256 .f32) (main_v255 : IVec S_ 32) (main_v256 : FVec F S256x256x3 .f32) (main_v257 : FVec F S256 .f32) (main_v258 : FVec F S8x1280x256 .f32) (main_v268 : FVec F S8x256x256 .f32) (main_v273 : IVec S_ 32) (main_c_154 : IVec S_ 32) (main_c_155 : IVec S_ 32) : IVec S2048 1 :=
  let main_v274 : FVec F S8x256x256 .f32 := (fun x i => Host.dynamicSlice S8x256x256 x (fun k => (i k (Shape.Idx.first h_S_)).toInt) sliceFits_S8x1280x256_S8x256x256) main_v258 (![main_c_154, main_v273, main_c_155] : Fin 3 → IVec S_ 32)
  let main_v275 : FVec F S256x256x1 .f32 := (extractStridedSlice S256x256x1 ![0, 0, 1] · slices_S256x256x3_S256x256x1_0_0_1) main_v256
  let main_v276 : FVec F S256x256 .f32 := shapeCast S256x256 main_v275 shapeCasts_S256x256x1_S256x256
  let main_v277 : FVec F S256x256 .f32 := (transpose S256x256 [1, 0] · transposes_S256x256_S256x256_1_0) main_v276
  let main_v278 : FVec F S8x256x256 .f32 := (fun l r => Host.dotGeneral dot_S8x256x256_S256x256_S8x256x256_2_0_01_1_n_n none l r) main_v274 main_v277
  let main_v279 : FVec F S8x256x256 .f32 := addf main_v268 main_v278
  let main_c_156 : IVec S_ 32 := constantI S_ 32 1#32
  let main_v280 : IVec S_ 32 := muli main_c_156 main_v255
  let main_c_157 : IVec S_ 32 := constantI S_ 32 512#32
  let main_v281 : IVec S_ 32 := addi main_c_157 main_v280
  let main_c_158 : IVec S_ 32 := constantI S_ 32 0#32
  let main_v282 : IVec S_ 1 := cmpi .slt main_v281 main_c_158
  let main_c_159 : IVec S_ 32 := constantI S_ 32 1280#32
  let main_v283 : IVec S_ 32 := addi main_v281 main_c_159
  let main_v284 : IVec S_ 32 := select main_v282 main_v283 main_v281
  let main_c_160 : IVec S_ 32 := constantI S_ 32 0#32
  let main_c_161 : IVec S_ 32 := constantI S_ 32 0#32
  let main_v285 : FVec F S8x256x256 .f32 := (fun x i => Host.dynamicSlice S8x256x256 x (fun k => (i k (Shape.Idx.first h_S_)).toInt) sliceFits_S8x1280x256_S8x256x256) main_v258 (![main_c_160, main_v284, main_c_161] : Fin 3 → IVec S_ 32)
  let main_v286 : FVec F S256x256x1 .f32 := (extractStridedSlice S256x256x1 ![0, 0, 2] · slices_S256x256x3_S256x256x1_0_0_2) main_v256
  let main_v287 : FVec F S256x256 .f32 := shapeCast S256x256 main_v286 shapeCasts_S256x256x1_S256x256
  let main_v288 : FVec F S256x256 .f32 := (transpose S256x256 [1, 0] · transposes_S256x256_S256x256_1_0) main_v287
  let main_v289 : FVec F S8x256x256 .f32 := (fun l r => Host.dotGeneral dot_S8x256x256_S256x256_S8x256x256_2_0_01_1_n_n none l r) main_v285 main_v288
  let main_v290 : FVec F S8x256x256 .f32 := addf main_v279 main_v289
  let main_v291 : FVec F S1x1x256 .f32 := broadcastInDim S1x1x256 ![2] bcast_S256_S1x1x256_2 main_v257
  fn_part19 (F := F) main_arg3 main_arg4 main_arg5 main_arg6 main_arg7 main_v34 main_v253 main_v290 main_v291

def fn_part17 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v253 : FVec F S8x256x256 .f32) (main_v255 : IVec S_ 32) (main_v256 : FVec F S256x256x3 .f32) (main_v257 : FVec F S256 .f32) (main_v258 : FVec F S8x1280x256 .f32) (main_v259 : IVec S_ 32) (main_c_145 : IVec S_ 32) : IVec S2048 1 :=
  let main_v260 : IVec S_ 32 := addi main_c_145 main_v259
  let main_c_146 : IVec S_ 32 := constantI S_ 32 0#32
  let main_v261 : IVec S_ 1 := cmpi .slt main_v260 main_c_146
  let main_c_147 : IVec S_ 32 := constantI S_ 32 1280#32
  let main_v262 : IVec S_ 32 := addi main_v260 main_c_147
  let main_v263 : IVec S_ 32 := select main_v261 main_v262 main_v260
  let main_c_148 : IVec S_ 32 := constantI S_ 32 0#32
  let main_c_149 : IVec S_ 32 := constantI S_ 32 0#32
  let main_v264 : FVec F S8x256x256 .f32 := (fun x i => Host.dynamicSlice S8x256x256 x (fun k => (i k (Shape.Idx.first h_S_)).toInt) sliceFits_S8x1280x256_S8x256x256) main_v258 (![main_c_148, main_v263, main_c_149] : Fin 3 → IVec S_ 32)
  let main_v265 : FVec F S256x256x1 .f32 := (extractStridedSlice S256x256x1 ![0, 0, 0] · slices_S256x256x3_S256x256x1_0_0_0) main_v256
  let main_v266 : FVec F S256x256 .f32 := shapeCast S256x256 main_v265 shapeCasts_S256x256x1_S256x256
  let main_v267 : FVec F S256x256 .f32 := (transpose S256x256 [1, 0] · transposes_S256x256_S256x256_1_0) main_v266
  let main_v268 : FVec F S8x256x256 .f32 := (fun l r => Host.dotGeneral dot_S8x256x256_S256x256_S8x256x256_2_0_01_1_n_n none l r) main_v264 main_v267
  let main_c_150 : IVec S_ 32 := constantI S_ 32 0#32
  let main_v269 : IVec S_ 32 := muli main_c_150 main_v255
  let main_c_151 : IVec S_ 32 := constantI S_ 32 512#32
  let main_v270 : IVec S_ 32 := addi main_c_151 main_v269
  let main_c_152 : IVec S_ 32 := constantI S_ 32 0#32
  let main_v271 : IVec S_ 1 := cmpi .slt main_v270 main_c_152
  let main_c_153 : IVec S_ 32 := constantI S_ 32 1280#32
  let main_v272 : IVec S_ 32 := addi main_v270 main_c_153
  let main_v273 : IVec S_ 32 := select main_v271 main_v272 main_v270
  let main_c_154 : IVec S_ 32 := constantI S_ 32 0#32
  let main_c_155 : IVec S_ 32 := constantI S_ 32 0#32
  fn_part18 (F := F) main_arg3 main_arg4 main_arg5 main_arg6 main_arg7 main_v34 main_v253 main_v255 main_v256 main_v257 main_v258 main_v268 main_v273 main_c_154 main_c_155

def fn_part16 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v210 : FVec F S8x256x256 .f32) (main_v214 : FVec F S256 .f32) (main_v236 : FVec F S8x256x256 .f32) (main_v242 : FVec F S8x256x256 .f32) (main_v244 : FVec F S256x256 .f32) : IVec S2048 1 :=
  let main_v245 : FVec F S256x256 .f32 := (transpose S256x256 [1, 0] · transposes_S256x256_S256x256_1_0) main_v244
  let main_v246 : FVec F S8x256x256 .f32 := (fun l r => Host.dotGeneral dot_S8x256x256_S256x256_S8x256x256_2_0_01_1_n_n none l r) main_v242 main_v245
  let main_v247 : FVec F S8x256x256 .f32 := addf main_v236 main_v246
  let main_v248 : FVec F S1x1x256 .f32 := broadcastInDim S1x1x256 ![2] bcast_S256_S1x1x256_2 main_v214
  let main_v249 : FVec F S8x256x256 .f32 := broadcastInDim S8x256x256 ![0, 1, 2] bcast_S1x1x256_S8x256x256_0_1_2 main_v248
  let main_v250 : FVec F S8x256x256 .f32 := addf main_v247 main_v249
  let main_cst_137 : FVec F S_ .f32 := constant S_ .f32 0x00000000#32
  let main_v251 : FVec F S8x256x256 .f32 := broadcastInDim S8x256x256 ![] bcast_S_S8x256x256 main_cst_137
  let main_v252 : FVec F S8x256x256 .f32 := maximumf main_v250 main_v251
  let main_v253 : FVec F S8x256x256 .f32 := addf main_v252 main_v210
  let main_c_138 : IVec S_ 32 := constantI S_ 32 5#32
  let main_c_139 : IVec S_ 32 := constantI S_ 32 10#32
  let main_v254 : IVec S_ 32 := Host.remsi main_c_138 main_c_139
  let main_c_140 : IVec S_ 32 := constantI S_ 32 1#32
  let main_v255 : IVec S_ 32 := Host.shli main_c_140 main_v254
  let main_c_141 : IVec S_ 32 := constantI S_ 32 5#32
  let main_v256 : FVec F S256x256x3 .f32 := fn_dynamic_index_in_dim (F := F) main_arg3 main_c_141
  let main_c_142 : IVec S_ 32 := constantI S_ 32 5#32
  let main_v257 : FVec F S256 .f32 := fn_dynamic_index_in_dim_0 (F := F) main_arg4 main_c_142
  let main_c_143 : IVec S_ 32 := constantI S_ 32 0#32
  let main_v258 : FVec F S8x1280x256 .f32 := fn_pad (F := F) main_v253 main_c_143
  let main_c_144 : IVec S_ 32 := constantI S_ 32 4294967295#32
  let main_v259 : IVec S_ 32 := muli main_c_144 main_v255
  let main_c_145 : IVec S_ 32 := constantI S_ 32 512#32
  fn_part17 (F := F) main_arg3 main_arg4 main_arg5 main_arg6 main_arg7 main_v34 main_v253 main_v255 main_v256 main_v257 main_v258 main_v259 main_c_145

def fn_part15 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v210 : FVec F S8x256x256 .f32) (main_v212 : IVec S_ 32) (main_v213 : FVec F S256x256x3 .f32) (main_v214 : FVec F S256 .f32) (main_v215 : FVec F S8x1280x256 .f32) (main_v225 : FVec F S8x256x256 .f32) (main_v227 : IVec S_ 32) (main_v228 : IVec S_ 1) (main_c_128 : IVec S_ 32) : IVec S2048 1 :=
  let main_v229 : IVec S_ 32 := addi main_v227 main_c_128
  let main_v230 : IVec S_ 32 := select main_v228 main_v229 main_v227
  let main_c_129 : IVec S_ 32 := constantI S_ 32 0#32
  let main_c_130 : IVec S_ 32 := constantI S_ 32 0#32
  let main_v231 : FVec F S8x256x256 .f32 := (fun x i => Host.dynamicSlice S8x256x256 x (fun k => (i k (Shape.Idx.first h_S_)).toInt) sliceFits_S8x1280x256_S8x256x256) main_v215 (![main_c_129, main_v230, main_c_130] : Fin 3 → IVec S_ 32)
  let main_v232 : FVec F S256x256x1 .f32 := (extractStridedSlice S256x256x1 ![0, 0, 1] · slices_S256x256x3_S256x256x1_0_0_1) main_v213
  let main_v233 : FVec F S256x256 .f32 := shapeCast S256x256 main_v232 shapeCasts_S256x256x1_S256x256
  let main_v234 : FVec F S256x256 .f32 := (transpose S256x256 [1, 0] · transposes_S256x256_S256x256_1_0) main_v233
  let main_v235 : FVec F S8x256x256 .f32 := (fun l r => Host.dotGeneral dot_S8x256x256_S256x256_S8x256x256_2_0_01_1_n_n none l r) main_v231 main_v234
  let main_v236 : FVec F S8x256x256 .f32 := addf main_v225 main_v235
  let main_c_131 : IVec S_ 32 := constantI S_ 32 1#32
  let main_v237 : IVec S_ 32 := muli main_c_131 main_v212
  let main_c_132 : IVec S_ 32 := constantI S_ 32 512#32
  let main_v238 : IVec S_ 32 := addi main_c_132 main_v237
  let main_c_133 : IVec S_ 32 := constantI S_ 32 0#32
  let main_v239 : IVec S_ 1 := cmpi .slt main_v238 main_c_133
  let main_c_134 : IVec S_ 32 := constantI S_ 32 1280#32
  let main_v240 : IVec S_ 32 := addi main_v238 main_c_134
  let main_v241 : IVec S_ 32 := select main_v239 main_v240 main_v238
  let main_c_135 : IVec S_ 32 := constantI S_ 32 0#32
  let main_c_136 : IVec S_ 32 := constantI S_ 32 0#32
  let main_v242 : FVec F S8x256x256 .f32 := (fun x i => Host.dynamicSlice S8x256x256 x (fun k => (i k (Shape.Idx.first h_S_)).toInt) sliceFits_S8x1280x256_S8x256x256) main_v215 (![main_c_135, main_v241, main_c_136] : Fin 3 → IVec S_ 32)
  let main_v243 : FVec F S256x256x1 .f32 := (extractStridedSlice S256x256x1 ![0, 0, 2] · slices_S256x256x3_S256x256x1_0_0_2) main_v213
  let main_v244 : FVec F S256x256 .f32 := shapeCast S256x256 main_v243 shapeCasts_S256x256x1_S256x256
  fn_part16 (F := F) main_arg3 main_arg4 main_arg5 main_arg6 main_arg7 main_v34 main_v210 main_v214 main_v236 main_v242 main_v244

def fn_part14 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v210 : FVec F S8x256x256 .f32) (main_v212 : IVec S_ 32) (main_v213 : FVec F S256x256x3 .f32) (main_v214 : FVec F S256 .f32) (main_c_118 : IVec S_ 32) : IVec S2048 1 :=
  let main_v215 : FVec F S8x1280x256 .f32 := fn_pad (F := F) main_v210 main_c_118
  let main_c_119 : IVec S_ 32 := constantI S_ 32 4294967295#32
  let main_v216 : IVec S_ 32 := muli main_c_119 main_v212
  let main_c_120 : IVec S_ 32 := constantI S_ 32 512#32
  let main_v217 : IVec S_ 32 := addi main_c_120 main_v216
  let main_c_121 : IVec S_ 32 := constantI S_ 32 0#32
  let main_v218 : IVec S_ 1 := cmpi .slt main_v217 main_c_121
  let main_c_122 : IVec S_ 32 := constantI S_ 32 1280#32
  let main_v219 : IVec S_ 32 := addi main_v217 main_c_122
  let main_v220 : IVec S_ 32 := select main_v218 main_v219 main_v217
  let main_c_123 : IVec S_ 32 := constantI S_ 32 0#32
  let main_c_124 : IVec S_ 32 := constantI S_ 32 0#32
  let main_v221 : FVec F S8x256x256 .f32 := (fun x i => Host.dynamicSlice S8x256x256 x (fun k => (i k (Shape.Idx.first h_S_)).toInt) sliceFits_S8x1280x256_S8x256x256) main_v215 (![main_c_123, main_v220, main_c_124] : Fin 3 → IVec S_ 32)
  let main_v222 : FVec F S256x256x1 .f32 := (extractStridedSlice S256x256x1 ![0, 0, 0] · slices_S256x256x3_S256x256x1_0_0_0) main_v213
  let main_v223 : FVec F S256x256 .f32 := shapeCast S256x256 main_v222 shapeCasts_S256x256x1_S256x256
  let main_v224 : FVec F S256x256 .f32 := (transpose S256x256 [1, 0] · transposes_S256x256_S256x256_1_0) main_v223
  let main_v225 : FVec F S8x256x256 .f32 := (fun l r => Host.dotGeneral dot_S8x256x256_S256x256_S8x256x256_2_0_01_1_n_n none l r) main_v221 main_v224
  let main_c_125 : IVec S_ 32 := constantI S_ 32 0#32
  let main_v226 : IVec S_ 32 := muli main_c_125 main_v212
  let main_c_126 : IVec S_ 32 := constantI S_ 32 512#32
  let main_v227 : IVec S_ 32 := addi main_c_126 main_v226
  let main_c_127 : IVec S_ 32 := constantI S_ 32 0#32
  let main_v228 : IVec S_ 1 := cmpi .slt main_v227 main_c_127
  let main_c_128 : IVec S_ 32 := constantI S_ 32 1280#32
  fn_part15 (F := F) main_arg3 main_arg4 main_arg5 main_arg6 main_arg7 main_v34 main_v210 main_v212 main_v213 main_v214 main_v215 main_v225 main_v227 main_v228 main_c_128

def fn_part13 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v167 : FVec F S8x256x256 .f32) (main_v170 : FVec F S256x256x3 .f32) (main_v171 : FVec F S256 .f32) (main_v172 : FVec F S8x1280x256 .f32) (main_v193 : FVec F S8x256x256 .f32) (main_v198 : IVec S_ 32) (main_c_110 : IVec S_ 32) : IVec S2048 1 :=
  let main_c_111 : IVec S_ 32 := constantI S_ 32 0#32
  let main_v199 : FVec F S8x256x256 .f32 := (fun x i => Host.dynamicSlice S8x256x256 x (fun k => (i k (Shape.Idx.first h_S_)).toInt) sliceFits_S8x1280x256_S8x256x256) main_v172 (![main_c_110, main_v198, main_c_111] : Fin 3 → IVec S_ 32)
  let main_v200 : FVec F S256x256x1 .f32 := (extractStridedSlice S256x256x1 ![0, 0, 2] · slices_S256x256x3_S256x256x1_0_0_2) main_v170
  let main_v201 : FVec F S256x256 .f32 := shapeCast S256x256 main_v200 shapeCasts_S256x256x1_S256x256
  let main_v202 : FVec F S256x256 .f32 := (transpose S256x256 [1, 0] · transposes_S256x256_S256x256_1_0) main_v201
  let main_v203 : FVec F S8x256x256 .f32 := (fun l r => Host.dotGeneral dot_S8x256x256_S256x256_S8x256x256_2_0_01_1_n_n none l r) main_v199 main_v202
  let main_v204 : FVec F S8x256x256 .f32 := addf main_v193 main_v203
  let main_v205 : FVec F S1x1x256 .f32 := broadcastInDim S1x1x256 ![2] bcast_S256_S1x1x256_2 main_v171
  let main_v206 : FVec F S8x256x256 .f32 := broadcastInDim S8x256x256 ![0, 1, 2] bcast_S1x1x256_S8x256x256_0_1_2 main_v205
  let main_v207 : FVec F S8x256x256 .f32 := addf main_v204 main_v206
  let main_cst_112 : FVec F S_ .f32 := constant S_ .f32 0x00000000#32
  let main_v208 : FVec F S8x256x256 .f32 := broadcastInDim S8x256x256 ![] bcast_S_S8x256x256 main_cst_112
  let main_v209 : FVec F S8x256x256 .f32 := maximumf main_v207 main_v208
  let main_v210 : FVec F S8x256x256 .f32 := addf main_v209 main_v167
  let main_c_113 : IVec S_ 32 := constantI S_ 32 4#32
  let main_c_114 : IVec S_ 32 := constantI S_ 32 10#32
  let main_v211 : IVec S_ 32 := Host.remsi main_c_113 main_c_114
  let main_c_115 : IVec S_ 32 := constantI S_ 32 1#32
  let main_v212 : IVec S_ 32 := Host.shli main_c_115 main_v211
  let main_c_116 : IVec S_ 32 := constantI S_ 32 4#32
  let main_v213 : FVec F S256x256x3 .f32 := fn_dynamic_index_in_dim (F := F) main_arg3 main_c_116
  let main_c_117 : IVec S_ 32 := constantI S_ 32 4#32
  let main_v214 : FVec F S256 .f32 := fn_dynamic_index_in_dim_0 (F := F) main_arg4 main_c_117
  let main_c_118 : IVec S_ 32 := constantI S_ 32 0#32
  fn_part14 (F := F) main_arg3 main_arg4 main_arg5 main_arg6 main_arg7 main_v34 main_v210 main_v212 main_v213 main_v214 main_c_118

def fn_part12 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v167 : FVec F S8x256x256 .f32) (main_v169 : IVec S_ 32) (main_v170 : FVec F S256x256x3 .f32) (main_v171 : FVec F S256 .f32) (main_v172 : FVec F S8x1280x256 .f32) (main_v182 : FVec F S8x256x256 .f32) (main_v183 : IVec S_ 32) (main_c_101 : IVec S_ 32) : IVec S2048 1 :=
  let main_v184 : IVec S_ 32 := addi main_c_101 main_v183
  let main_c_102 : IVec S_ 32 := constantI S_ 32 0#32
  let main_v185 : IVec S_ 1 := cmpi .slt main_v184 main_c_102
  let main_c_103 : IVec S_ 32 := constantI S_ 32 1280#32
  let main_v186 : IVec S_ 32 := addi main_v184 main_c_103
  let main_v187 : IVec S_ 32 := select main_v185 main_v186 main_v184
  let main_c_104 : IVec S_ 32 := constantI S_ 32 0#32
  let main_c_105 : IVec S_ 32 := constantI S_ 32 0#32
  let main_v188 : FVec F S8x256x256 .f32 := (fun x i => Host.dynamicSlice S8x256x256 x (fun k => (i k (Shape.Idx.first h_S_)).toInt) sliceFits_S8x1280x256_S8x256x256) main_v172 (![main_c_104, main_v187, main_c_105] : Fin 3 → IVec S_ 32)
  let main_v189 : FVec F S256x256x1 .f32 := (extractStridedSlice S256x256x1 ![0, 0, 1] · slices_S256x256x3_S256x256x1_0_0_1) main_v170
  let main_v190 : FVec F S256x256 .f32 := shapeCast S256x256 main_v189 shapeCasts_S256x256x1_S256x256
  let main_v191 : FVec F S256x256 .f32 := (transpose S256x256 [1, 0] · transposes_S256x256_S256x256_1_0) main_v190
  let main_v192 : FVec F S8x256x256 .f32 := (fun l r => Host.dotGeneral dot_S8x256x256_S256x256_S8x256x256_2_0_01_1_n_n none l r) main_v188 main_v191
  let main_v193 : FVec F S8x256x256 .f32 := addf main_v182 main_v192
  let main_c_106 : IVec S_ 32 := constantI S_ 32 1#32
  let main_v194 : IVec S_ 32 := muli main_c_106 main_v169
  let main_c_107 : IVec S_ 32 := constantI S_ 32 512#32
  let main_v195 : IVec S_ 32 := addi main_c_107 main_v194
  let main_c_108 : IVec S_ 32 := constantI S_ 32 0#32
  let main_v196 : IVec S_ 1 := cmpi .slt main_v195 main_c_108
  let main_c_109 : IVec S_ 32 := constantI S_ 32 1280#32
  let main_v197 : IVec S_ 32 := addi main_v195 main_c_109
  let main_v198 : IVec S_ 32 := select main_v196 main_v197 main_v195
  let main_c_110 : IVec S_ 32 := constantI S_ 32 0#32
  fn_part13 (F := F) main_arg3 main_arg4 main_arg5 main_arg6 main_arg7 main_v34 main_v167 main_v170 main_v171 main_v172 main_v193 main_v198 main_c_110

def fn_part11 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v167 : FVec F S8x256x256 .f32) (main_v169 : IVec S_ 32) (main_c_91 : IVec S_ 32) : IVec S2048 1 :=
  let main_v170 : FVec F S256x256x3 .f32 := fn_dynamic_index_in_dim (F := F) main_arg3 main_c_91
  let main_c_92 : IVec S_ 32 := constantI S_ 32 3#32
  let main_v171 : FVec F S256 .f32 := fn_dynamic_index_in_dim_0 (F := F) main_arg4 main_c_92
  let main_c_93 : IVec S_ 32 := constantI S_ 32 0#32
  let main_v172 : FVec F S8x1280x256 .f32 := fn_pad (F := F) main_v167 main_c_93
  let main_c_94 : IVec S_ 32 := constantI S_ 32 4294967295#32
  let main_v173 : IVec S_ 32 := muli main_c_94 main_v169
  let main_c_95 : IVec S_ 32 := constantI S_ 32 512#32
  let main_v174 : IVec S_ 32 := addi main_c_95 main_v173
  let main_c_96 : IVec S_ 32 := constantI S_ 32 0#32
  let main_v175 : IVec S_ 1 := cmpi .slt main_v174 main_c_96
  let main_c_97 : IVec S_ 32 := constantI S_ 32 1280#32
  let main_v176 : IVec S_ 32 := addi main_v174 main_c_97
  let main_v177 : IVec S_ 32 := select main_v175 main_v176 main_v174
  let main_c_98 : IVec S_ 32 := constantI S_ 32 0#32
  let main_c_99 : IVec S_ 32 := constantI S_ 32 0#32
  let main_v178 : FVec F S8x256x256 .f32 := (fun x i => Host.dynamicSlice S8x256x256 x (fun k => (i k (Shape.Idx.first h_S_)).toInt) sliceFits_S8x1280x256_S8x256x256) main_v172 (![main_c_98, main_v177, main_c_99] : Fin 3 → IVec S_ 32)
  let main_v179 : FVec F S256x256x1 .f32 := (extractStridedSlice S256x256x1 ![0, 0, 0] · slices_S256x256x3_S256x256x1_0_0_0) main_v170
  let main_v180 : FVec F S256x256 .f32 := shapeCast S256x256 main_v179 shapeCasts_S256x256x1_S256x256
  let main_v181 : FVec F S256x256 .f32 := (transpose S256x256 [1, 0] · transposes_S256x256_S256x256_1_0) main_v180
  let main_v182 : FVec F S8x256x256 .f32 := (fun l r => Host.dotGeneral dot_S8x256x256_S256x256_S8x256x256_2_0_01_1_n_n none l r) main_v178 main_v181
  let main_c_100 : IVec S_ 32 := constantI S_ 32 0#32
  let main_v183 : IVec S_ 32 := muli main_c_100 main_v169
  let main_c_101 : IVec S_ 32 := constantI S_ 32 512#32
  fn_part12 (F := F) main_arg3 main_arg4 main_arg5 main_arg6 main_arg7 main_v34 main_v167 main_v169 main_v170 main_v171 main_v172 main_v182 main_v183 main_c_101

def fn_part10 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v124 : FVec F S8x256x256 .f32) (main_v127 : FVec F S256x256x3 .f32) (main_v128 : FVec F S256 .f32) (main_v129 : FVec F S8x1280x256 .f32) (main_v150 : FVec F S8x256x256 .f32) (main_v152 : IVec S_ 32) (main_v153 : IVec S_ 1) : IVec S2048 1 :=
  let main_c_84 : IVec S_ 32 := constantI S_ 32 1280#32
  let main_v154 : IVec S_ 32 := addi main_v152 main_c_84
  let main_v155 : IVec S_ 32 := select main_v153 main_v154 main_v152
  let main_c_85 : IVec S_ 32 := constantI S_ 32 0#32
  let main_c_86 : IVec S_ 32 := constantI S_ 32 0#32
  let main_v156 : FVec F S8x256x256 .f32 := (fun x i => Host.dynamicSlice S8x256x256 x (fun k => (i k (Shape.Idx.first h_S_)).toInt) sliceFits_S8x1280x256_S8x256x256) main_v129 (![main_c_85, main_v155, main_c_86] : Fin 3 → IVec S_ 32)
  let main_v157 : FVec F S256x256x1 .f32 := (extractStridedSlice S256x256x1 ![0, 0, 2] · slices_S256x256x3_S256x256x1_0_0_2) main_v127
  let main_v158 : FVec F S256x256 .f32 := shapeCast S256x256 main_v157 shapeCasts_S256x256x1_S256x256
  let main_v159 : FVec F S256x256 .f32 := (transpose S256x256 [1, 0] · transposes_S256x256_S256x256_1_0) main_v158
  let main_v160 : FVec F S8x256x256 .f32 := (fun l r => Host.dotGeneral dot_S8x256x256_S256x256_S8x256x256_2_0_01_1_n_n none l r) main_v156 main_v159
  let main_v161 : FVec F S8x256x256 .f32 := addf main_v150 main_v160
  let main_v162 : FVec F S1x1x256 .f32 := broadcastInDim S1x1x256 ![2] bcast_S256_S1x1x256_2 main_v128
  let main_v163 : FVec F S8x256x256 .f32 := broadcastInDim S8x256x256 ![0, 1, 2] bcast_S1x1x256_S8x256x256_0_1_2 main_v162
  let main_v164 : FVec F S8x256x256 .f32 := addf main_v161 main_v163
  let main_cst_87 : FVec F S_ .f32 := constant S_ .f32 0x00000000#32
  let main_v165 : FVec F S8x256x256 .f32 := broadcastInDim S8x256x256 ![] bcast_S_S8x256x256 main_cst_87
  let main_v166 : FVec F S8x256x256 .f32 := maximumf main_v164 main_v165
  let main_v167 : FVec F S8x256x256 .f32 := addf main_v166 main_v124
  let main_c_88 : IVec S_ 32 := constantI S_ 32 3#32
  let main_c_89 : IVec S_ 32 := constantI S_ 32 10#32
  let main_v168 : IVec S_ 32 := Host.remsi main_c_88 main_c_89
  let main_c_90 : IVec S_ 32 := constantI S_ 32 1#32
  let main_v169 : IVec S_ 32 := Host.shli main_c_90 main_v168
  let main_c_91 : IVec S_ 32 := constantI S_ 32 3#32
  fn_part11 (F := F) main_arg3 main_arg4 main_arg5 main_arg6 main_arg7 main_v34 main_v167 main_v169 main_c_91

def fn_part9 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v124 : FVec F S8x256x256 .f32) (main_v126 : IVec S_ 32) (main_v127 : FVec F S256x256x3 .f32) (main_v128 : FVec F S256 .f32) (main_v129 : FVec F S8x1280x256 .f32) (main_v135 : FVec F S8x256x256 .f32) (main_v138 : FVec F S256x256 .f32) : IVec S2048 1 :=
  let main_v139 : FVec F S8x256x256 .f32 := (fun l r => Host.dotGeneral dot_S8x256x256_S256x256_S8x256x256_2_0_01_1_n_n none l r) main_v135 main_v138
  let main_c_75 : IVec S_ 32 := constantI S_ 32 0#32
  let main_v140 : IVec S_ 32 := muli main_c_75 main_v126
  let main_c_76 : IVec S_ 32 := constantI S_ 32 512#32
  let main_v141 : IVec S_ 32 := addi main_c_76 main_v140
  let main_c_77 : IVec S_ 32 := constantI S_ 32 0#32
  let main_v142 : IVec S_ 1 := cmpi .slt main_v141 main_c_77
  let main_c_78 : IVec S_ 32 := constantI S_ 32 1280#32
  let main_v143 : IVec S_ 32 := addi main_v141 main_c_78
  let main_v144 : IVec S_ 32 := select main_v142 main_v143 main_v141
  let main_c_79 : IVec S_ 32 := constantI S_ 32 0#32
  let main_c_80 : IVec S_ 32 := constantI S_ 32 0#32
  let main_v145 : FVec F S8x256x256 .f32 := (fun x i => Host.dynamicSlice S8x256x256 x (fun k => (i k (Shape.Idx.first h_S_)).toInt) sliceFits_S8x1280x256_S8x256x256) main_v129 (![main_c_79, main_v144, main_c_80] : Fin 3 → IVec S_ 32)
  let main_v146 : FVec F S256x256x1 .f32 := (extractStridedSlice S256x256x1 ![0, 0, 1] · slices_S256x256x3_S256x256x1_0_0_1) main_v127
  let main_v147 : FVec F S256x256 .f32 := shapeCast S256x256 main_v146 shapeCasts_S256x256x1_S256x256
  let main_v148 : FVec F S256x256 .f32 := (transpose S256x256 [1, 0] · transposes_S256x256_S256x256_1_0) main_v147
  let main_v149 : FVec F S8x256x256 .f32 := (fun l r => Host.dotGeneral dot_S8x256x256_S256x256_S8x256x256_2_0_01_1_n_n none l r) main_v145 main_v148
  let main_v150 : FVec F S8x256x256 .f32 := addf main_v139 main_v149
  let main_c_81 : IVec S_ 32 := constantI S_ 32 1#32
  let main_v151 : IVec S_ 32 := muli main_c_81 main_v126
  let main_c_82 : IVec S_ 32 := constantI S_ 32 512#32
  let main_v152 : IVec S_ 32 := addi main_c_82 main_v151
  let main_c_83 : IVec S_ 32 := constantI S_ 32 0#32
  let main_v153 : IVec S_ 1 := cmpi .slt main_v152 main_c_83
  fn_part10 (F := F) main_arg3 main_arg4 main_arg5 main_arg6 main_arg7 main_v34 main_v124 main_v127 main_v128 main_v129 main_v150 main_v152 main_v153

def fn_part8 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v124 : FVec F S8x256x256 .f32) (main_c_63 : IVec S_ 32) (main_c_64 : IVec S_ 32) : IVec S2048 1 :=
  let main_v125 : IVec S_ 32 := Host.remsi main_c_63 main_c_64
  let main_c_65 : IVec S_ 32 := constantI S_ 32 1#32
  let main_v126 : IVec S_ 32 := Host.shli main_c_65 main_v125
  let main_c_66 : IVec S_ 32 := constantI S_ 32 2#32
  let main_v127 : FVec F S256x256x3 .f32 := fn_dynamic_index_in_dim (F := F) main_arg3 main_c_66
  let main_c_67 : IVec S_ 32 := constantI S_ 32 2#32
  let main_v128 : FVec F S256 .f32 := fn_dynamic_index_in_dim_0 (F := F) main_arg4 main_c_67
  let main_c_68 : IVec S_ 32 := constantI S_ 32 0#32
  let main_v129 : FVec F S8x1280x256 .f32 := fn_pad (F := F) main_v124 main_c_68
  let main_c_69 : IVec S_ 32 := constantI S_ 32 4294967295#32
  let main_v130 : IVec S_ 32 := muli main_c_69 main_v126
  let main_c_70 : IVec S_ 32 := constantI S_ 32 512#32
  let main_v131 : IVec S_ 32 := addi main_c_70 main_v130
  let main_c_71 : IVec S_ 32 := constantI S_ 32 0#32
  let main_v132 : IVec S_ 1 := cmpi .slt main_v131 main_c_71
  let main_c_72 : IVec S_ 32 := constantI S_ 32 1280#32
  let main_v133 : IVec S_ 32 := addi main_v131 main_c_72
  let main_v134 : IVec S_ 32 := select main_v132 main_v133 main_v131
  let main_c_73 : IVec S_ 32 := constantI S_ 32 0#32
  let main_c_74 : IVec S_ 32 := constantI S_ 32 0#32
  let main_v135 : FVec F S8x256x256 .f32 := (fun x i => Host.dynamicSlice S8x256x256 x (fun k => (i k (Shape.Idx.first h_S_)).toInt) sliceFits_S8x1280x256_S8x256x256) main_v129 (![main_c_73, main_v134, main_c_74] : Fin 3 → IVec S_ 32)
  let main_v136 : FVec F S256x256x1 .f32 := (extractStridedSlice S256x256x1 ![0, 0, 0] · slices_S256x256x3_S256x256x1_0_0_0) main_v127
  let main_v137 : FVec F S256x256 .f32 := shapeCast S256x256 main_v136 shapeCasts_S256x256x1_S256x256
  let main_v138 : FVec F S256x256 .f32 := (transpose S256x256 [1, 0] · transposes_S256x256_S256x256_1_0) main_v137
  fn_part9 (F := F) main_arg3 main_arg4 main_arg5 main_arg6 main_arg7 main_v34 main_v124 main_v126 main_v127 main_v128 main_v129 main_v135 main_v138

def fn_part7 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v81 : FVec F S8x256x256 .f32) (main_v84 : FVec F S256x256x3 .f32) (main_v85 : FVec F S256 .f32) (main_v86 : FVec F S8x1280x256 .f32) (main_v107 : FVec F S8x256x256 .f32) (main_v108 : IVec S_ 32) : IVec S2048 1 :=
  let main_c_57 : IVec S_ 32 := constantI S_ 32 512#32
  let main_v109 : IVec S_ 32 := addi main_c_57 main_v108
  let main_c_58 : IVec S_ 32 := constantI S_ 32 0#32
  let main_v110 : IVec S_ 1 := cmpi .slt main_v109 main_c_58
  let main_c_59 : IVec S_ 32 := constantI S_ 32 1280#32
  let main_v111 : IVec S_ 32 := addi main_v109 main_c_59
  let main_v112 : IVec S_ 32 := select main_v110 main_v111 main_v109
  let main_c_60 : IVec S_ 32 := constantI S_ 32 0#32
  let main_c_61 : IVec S_ 32 := constantI S_ 32 0#32
  let main_v113 : FVec F S8x256x256 .f32 := (fun x i => Host.dynamicSlice S8x256x256 x (fun k => (i k (Shape.Idx.first h_S_)).toInt) sliceFits_S8x1280x256_S8x256x256) main_v86 (![main_c_60, main_v112, main_c_61] : Fin 3 → IVec S_ 32)
  let main_v114 : FVec F S256x256x1 .f32 := (extractStridedSlice S256x256x1 ![0, 0, 2] · slices_S256x256x3_S256x256x1_0_0_2) main_v84
  let main_v115 : FVec F S256x256 .f32 := shapeCast S256x256 main_v114 shapeCasts_S256x256x1_S256x256
  let main_v116 : FVec F S256x256 .f32 := (transpose S256x256 [1, 0] · transposes_S256x256_S256x256_1_0) main_v115
  let main_v117 : FVec F S8x256x256 .f32 := (fun l r => Host.dotGeneral dot_S8x256x256_S256x256_S8x256x256_2_0_01_1_n_n none l r) main_v113 main_v116
  let main_v118 : FVec F S8x256x256 .f32 := addf main_v107 main_v117
  let main_v119 : FVec F S1x1x256 .f32 := broadcastInDim S1x1x256 ![2] bcast_S256_S1x1x256_2 main_v85
  let main_v120 : FVec F S8x256x256 .f32 := broadcastInDim S8x256x256 ![0, 1, 2] bcast_S1x1x256_S8x256x256_0_1_2 main_v119
  let main_v121 : FVec F S8x256x256 .f32 := addf main_v118 main_v120
  let main_cst_62 : FVec F S_ .f32 := constant S_ .f32 0x00000000#32
  let main_v122 : FVec F S8x256x256 .f32 := broadcastInDim S8x256x256 ![] bcast_S_S8x256x256 main_cst_62
  let main_v123 : FVec F S8x256x256 .f32 := maximumf main_v121 main_v122
  let main_v124 : FVec F S8x256x256 .f32 := addf main_v123 main_v81
  let main_c_63 : IVec S_ 32 := constantI S_ 32 2#32
  let main_c_64 : IVec S_ 32 := constantI S_ 32 10#32
  fn_part8 (F := F) main_arg3 main_arg4 main_arg5 main_arg6 main_arg7 main_v34 main_v124 main_c_63 main_c_64

def fn_part6 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v81 : FVec F S8x256x256 .f32) (main_v83 : IVec S_ 32) (main_v84 : FVec F S256x256x3 .f32) (main_v85 : FVec F S256 .f32) (main_v86 : FVec F S8x1280x256 .f32) (main_v91 : IVec S_ 32) (main_c_48 : IVec S_ 32) (main_c_49 : IVec S_ 32) : IVec S2048 1 :=
  let main_v92 : FVec F S8x256x256 .f32 := (fun x i => Host.dynamicSlice S8x256x256 x (fun k => (i k (Shape.Idx.first h_S_)).toInt) sliceFits_S8x1280x256_S8x256x256) main_v86 (![main_c_48, main_v91, main_c_49] : Fin 3 → IVec S_ 32)
  let main_v93 : FVec F S256x256x1 .f32 := (extractStridedSlice S256x256x1 ![0, 0, 0] · slices_S256x256x3_S256x256x1_0_0_0) main_v84
  let main_v94 : FVec F S256x256 .f32 := shapeCast S256x256 main_v93 shapeCasts_S256x256x1_S256x256
  let main_v95 : FVec F S256x256 .f32 := (transpose S256x256 [1, 0] · transposes_S256x256_S256x256_1_0) main_v94
  let main_v96 : FVec F S8x256x256 .f32 := (fun l r => Host.dotGeneral dot_S8x256x256_S256x256_S8x256x256_2_0_01_1_n_n none l r) main_v92 main_v95
  let main_c_50 : IVec S_ 32 := constantI S_ 32 0#32
  let main_v97 : IVec S_ 32 := muli main_c_50 main_v83
  let main_c_51 : IVec S_ 32 := constantI S_ 32 512#32
  let main_v98 : IVec S_ 32 := addi main_c_51 main_v97
  let main_c_52 : IVec S_ 32 := constantI S_ 32 0#32
  let main_v99 : IVec S_ 1 := cmpi .slt main_v98 main_c_52
  let main_c_53 : IVec S_ 32 := constantI S_ 32 1280#32
  let main_v100 : IVec S_ 32 := addi main_v98 main_c_53
  let main_v101 : IVec S_ 32 := select main_v99 main_v100 main_v98
  let main_c_54 : IVec S_ 32 := constantI S_ 32 0#32
  let main_c_55 : IVec S_ 32 := constantI S_ 32 0#32
  let main_v102 : FVec F S8x256x256 .f32 := (fun x i => Host.dynamicSlice S8x256x256 x (fun k => (i k (Shape.Idx.first h_S_)).toInt) sliceFits_S8x1280x256_S8x256x256) main_v86 (![main_c_54, main_v101, main_c_55] : Fin 3 → IVec S_ 32)
  let main_v103 : FVec F S256x256x1 .f32 := (extractStridedSlice S256x256x1 ![0, 0, 1] · slices_S256x256x3_S256x256x1_0_0_1) main_v84
  let main_v104 : FVec F S256x256 .f32 := shapeCast S256x256 main_v103 shapeCasts_S256x256x1_S256x256
  let main_v105 : FVec F S256x256 .f32 := (transpose S256x256 [1, 0] · transposes_S256x256_S256x256_1_0) main_v104
  let main_v106 : FVec F S8x256x256 .f32 := (fun l r => Host.dotGeneral dot_S8x256x256_S256x256_S8x256x256_2_0_01_1_n_n none l r) main_v102 main_v105
  let main_v107 : FVec F S8x256x256 .f32 := addf main_v96 main_v106
  let main_c_56 : IVec S_ 32 := constantI S_ 32 1#32
  let main_v108 : IVec S_ 32 := muli main_c_56 main_v83
  fn_part7 (F := F) main_arg3 main_arg4 main_arg5 main_arg6 main_arg7 main_v34 main_v81 main_v84 main_v85 main_v86 main_v107 main_v108

def fn_part5 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v38 : FVec F S8x256x256 .f32) (main_v78 : FVec F S8x256x256 .f32) (main_v79 : FVec F S8x256x256 .f32) : IVec S2048 1 :=
  let main_v80 : FVec F S8x256x256 .f32 := maximumf main_v78 main_v79
  let main_v81 : FVec F S8x256x256 .f32 := addf main_v80 main_v38
  let main_c_38 : IVec S_ 32 := constantI S_ 32 1#32
  let main_c_39 : IVec S_ 32 := constantI S_ 32 10#32
  let main_v82 : IVec S_ 32 := Host.remsi main_c_38 main_c_39
  let main_c_40 : IVec S_ 32 := constantI S_ 32 1#32
  let main_v83 : IVec S_ 32 := Host.shli main_c_40 main_v82
  let main_c_41 : IVec S_ 32 := constantI S_ 32 1#32
  let main_v84 : FVec F S256x256x3 .f32 := fn_dynamic_index_in_dim (F := F) main_arg3 main_c_41
  let main_c_42 : IVec S_ 32 := constantI S_ 32 1#32
  let main_v85 : FVec F S256 .f32 := fn_dynamic_index_in_dim_0 (F := F) main_arg4 main_c_42
  let main_c_43 : IVec S_ 32 := constantI S_ 32 0#32
  let main_v86 : FVec F S8x1280x256 .f32 := fn_pad (F := F) main_v81 main_c_43
  let main_c_44 : IVec S_ 32 := constantI S_ 32 4294967295#32
  let main_v87 : IVec S_ 32 := muli main_c_44 main_v83
  let main_c_45 : IVec S_ 32 := constantI S_ 32 512#32
  let main_v88 : IVec S_ 32 := addi main_c_45 main_v87
  let main_c_46 : IVec S_ 32 := constantI S_ 32 0#32
  let main_v89 : IVec S_ 1 := cmpi .slt main_v88 main_c_46
  let main_c_47 : IVec S_ 32 := constantI S_ 32 1280#32
  let main_v90 : IVec S_ 32 := addi main_v88 main_c_47
  let main_v91 : IVec S_ 32 := select main_v89 main_v90 main_v88
  let main_c_48 : IVec S_ 32 := constantI S_ 32 0#32
  let main_c_49 : IVec S_ 32 := constantI S_ 32 0#32
  fn_part6 (F := F) main_arg3 main_arg4 main_arg5 main_arg6 main_arg7 main_v34 main_v81 main_v83 main_v84 main_v85 main_v86 main_v91 main_c_48 main_c_49

def fn_part4 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v38 : FVec F S8x256x256 .f32) (main_v40 : IVec S_ 32) (main_v41 : FVec F S256x256x3 .f32) (main_v42 : FVec F S256 .f32) (main_v43 : FVec F S8x1280x256 .f32) (main_v53 : FVec F S8x256x256 .f32) (main_v59 : FVec F S8x256x256 .f32) (main_v62 : FVec F S256x256 .f32) : IVec S2048 1 :=
  let main_v63 : FVec F S8x256x256 .f32 := (fun l r => Host.dotGeneral dot_S8x256x256_S256x256_S8x256x256_2_0_01_1_n_n none l r) main_v59 main_v62
  let main_v64 : FVec F S8x256x256 .f32 := addf main_v53 main_v63
  let main_c_31 : IVec S_ 32 := constantI S_ 32 1#32
  let main_v65 : IVec S_ 32 := muli main_c_31 main_v40
  let main_c_32 : IVec S_ 32 := constantI S_ 32 512#32
  let main_v66 : IVec S_ 32 := addi main_c_32 main_v65
  let main_c_33 : IVec S_ 32 := constantI S_ 32 0#32
  let main_v67 : IVec S_ 1 := cmpi .slt main_v66 main_c_33
  let main_c_34 : IVec S_ 32 := constantI S_ 32 1280#32
  let main_v68 : IVec S_ 32 := addi main_v66 main_c_34
  let main_v69 : IVec S_ 32 := select main_v67 main_v68 main_v66
  let main_c_35 : IVec S_ 32 := constantI S_ 32 0#32
  let main_c_36 : IVec S_ 32 := constantI S_ 32 0#32
  let main_v70 : FVec F S8x256x256 .f32 := (fun x i => Host.dynamicSlice S8x256x256 x (fun k => (i k (Shape.Idx.first h_S_)).toInt) sliceFits_S8x1280x256_S8x256x256) main_v43 (![main_c_35, main_v69, main_c_36] : Fin 3 → IVec S_ 32)
  let main_v71 : FVec F S256x256x1 .f32 := (extractStridedSlice S256x256x1 ![0, 0, 2] · slices_S256x256x3_S256x256x1_0_0_2) main_v41
  let main_v72 : FVec F S256x256 .f32 := shapeCast S256x256 main_v71 shapeCasts_S256x256x1_S256x256
  let main_v73 : FVec F S256x256 .f32 := (transpose S256x256 [1, 0] · transposes_S256x256_S256x256_1_0) main_v72
  let main_v74 : FVec F S8x256x256 .f32 := (fun l r => Host.dotGeneral dot_S8x256x256_S256x256_S8x256x256_2_0_01_1_n_n none l r) main_v70 main_v73
  let main_v75 : FVec F S8x256x256 .f32 := addf main_v64 main_v74
  let main_v76 : FVec F S1x1x256 .f32 := broadcastInDim S1x1x256 ![2] bcast_S256_S1x1x256_2 main_v42
  let main_v77 : FVec F S8x256x256 .f32 := broadcastInDim S8x256x256 ![0, 1, 2] bcast_S1x1x256_S8x256x256_0_1_2 main_v76
  let main_v78 : FVec F S8x256x256 .f32 := addf main_v75 main_v77
  let main_cst_37 : FVec F S_ .f32 := constant S_ .f32 0x00000000#32
  let main_v79 : FVec F S8x256x256 .f32 := broadcastInDim S8x256x256 ![] bcast_S_S8x256x256 main_cst_37
  fn_part5 (F := F) main_arg3 main_arg4 main_arg5 main_arg6 main_arg7 main_v34 main_v38 main_v78 main_v79

def fn_part3 {F : FTy → Type} [FloatOps F] (main_arg3 : FVec F S20x256x256x3 .f32) (main_arg4 : FVec F S20x256 .f32) (main_arg5 : FVec F S256 .f32) (main_arg6 : FVec F S256 .f32) (main_arg7 : FVec F S256x256 .f32) (main_v34 : IVec S_ 1) (main_v38 : FVec F S8x256x256 .f32) (main_v40 : IVec S_ 32) (main_v41 : FVec F S256x256x3 .f32) (main_v42 : FVec F S256 .f32) (main_v43 : FVec F S8x1280x256 .f32) (main_v45 : IVec S_ 32) (main_v46 : IVec S_ 1) (main_c_22 : IVec S_ 32) : IVec S2048 1 :=
  let main_v47 : IVec S_ 32 := addi main_v45 main_c_22
  let main_v48 : IVec S_ 32 := select main_v46 main_v47 main_v45
  let main_c_23 : IVec S_ 32 := constantI S_ 32 0#32
  let main_c_24 : IVec S_ 32 := constantI S_ 32 0#32
  let main_v49 : FVec F S8x256x256 .f32 := (fun x i => Host.dynamicSlice S8x256x256 x (fun k => (i k (Shape.Idx.first h_S_)).toInt) sliceFits_S8x1280x256_S8x256x256) main_v43 (![main_c_23, main_v48, main_c_24] : Fin 3 → IVec S_ 32)
  let main_v50 : FVec F S256x256x1 .f32 := (extractStridedSlice S256x256x1 ![0, 0, 0] · slices_S256x256x3_S256x256x1_0_0_0) main_v41
  let main_v51 : FVec F S256x256 .f32 := shapeCast S256x256 main_v50 shapeCasts_S256x256x1_S256x256
  let main_v52 : FVec F S256x256 .f32 := (transpose S256x256 [1, 0] · transposes_S256x256_S256x256_1_0) main_v51
  let main_v53 : FVec F S8x256x256 .f32 := (fun l r => Host.dotGeneral dot_S8x256x256_S256x256_S8x256x256_2_0_01_1_n_n none l r) main_v49 main_v52
  let main_c_25 : IVec S_ 32 := constantI S_ 32 0#32
  let main_v54 : IVec S_ 32 := muli main_c_25 main_v40
  let main_c_26 : IVec S_ 32 := constantI S_ 32 512#32
  let main_v55 : IVec S_ 32 := addi main_c_26 main_v54
  let main_c_27 : IVec S_ 32 := constantI S_ 32 0#32
  let main_v56 : IVec S_ 1 := cmpi .slt main_v55 main_c_27
  let main_c_28 : IVec S_ 32 := constantI S_ 32 1280#32
  let main_v57 : IVec S_ 32 := addi main_v55 main_c_28
  let main_v58 : IVec S_ 32 := select main_v56 main_v57 main_v55
  let main_c_29 : IVec S_ 32 := constantI S_ 32 0#32
  let main_c_30 : IVec S_ 32 := constantI S_ 32 0#32
  let main_v59 : FVec F S8x256x256 .f32 := (fun x i => Host.dynamicSlice S8x256x256 x (fun k => (i k (Shape.Idx.first h_S_)).toInt) sliceFits_S8x1280x256_S8x256x256) main_v43 (![main_c_29, main_v58, main_c_30] : Fin 3 → IVec S_ 32)
  let main_v60 : FVec F S256x256x1 .f32 := (extractStridedSlice S256x256x1 ![0, 0, 1] · slices_S256x256x3_S256x256x1_0_0_1) main_v41
  let main_v61 : FVec F S256x256 .f32 := shapeCast S256x256 main_v60 shapeCasts_S256x256x1_S256x256
  let main_v62 : FVec F S256x256 .f32 := (transpose S256x256 [1, 0] · transposes_S256x256_S256x256_1_0) main_v61
  fn_part4 (F := F) main_arg3 main_arg4 main_arg5 main_arg6 main_arg7 main_v34 main_v38 main_v40 main_v41 main_v42 main_v43 main_v53 main_v59 main_v62

def fn_part2 {F : FTy → Type} [FloatOps F] (main_arg0 : FVec F S8x256x32 .f32) (main_arg1 : FVec F S32x256 .f32) (main_arg2 : FVec F S256 .f32) (main_arg3 : FVec F S20x256x256x3 .f32) (main_arg4 : FVec F S20x256 .f32) (main_arg5 : FVec F S256 .f32) (main_arg6 : FVec F S256 .f32) (main_arg7 : FVec F S256x256 .f32) (main_v29 : IVec S_ 1) (main_v32 : IVec S256 1) (main_c_12 : IVec S_ 1) : IVec S2048 1 :=
  let main_v33 : IVec S_ 1 := (fun x v => Host.reduce IntOp.andi x v reducesTo_S256_S_d0 h_S_) main_v32 main_c_12
  let main_v34 : IVec S_ 1 := andi main_v29 main_v33
  let main_v35 : FVec F S8x256x256 .f32 := (fun l r => Host.dotGeneral dot_S8x256x32_S32x256_S8x256x256_2_0_01_1_n_n none l r) main_arg0 main_arg1
  let main_v36 : FVec F S1x1x256 .f32 := broadcastInDim S1x1x256 ![2] bcast_S256_S1x1x256_2 main_arg2
  let main_v37 : FVec F S8x256x256 .f32 := broadcastInDim S8x256x256 ![0, 1, 2] bcast_S1x1x256_S8x256x256_0_1_2 main_v36
  let main_v38 : FVec F S8x256x256 .f32 := addf main_v35 main_v37
  let main_c_13 : IVec S_ 32 := constantI S_ 32 0#32
  let main_c_14 : IVec S_ 32 := constantI S_ 32 10#32
  let main_v39 : IVec S_ 32 := Host.remsi main_c_13 main_c_14
  let main_c_15 : IVec S_ 32 := constantI S_ 32 1#32
  let main_v40 : IVec S_ 32 := Host.shli main_c_15 main_v39
  let main_c_16 : IVec S_ 32 := constantI S_ 32 0#32
  let main_v41 : FVec F S256x256x3 .f32 := fn_dynamic_index_in_dim (F := F) main_arg3 main_c_16
  let main_c_17 : IVec S_ 32 := constantI S_ 32 0#32
  let main_v42 : FVec F S256 .f32 := fn_dynamic_index_in_dim_0 (F := F) main_arg4 main_c_17
  let main_c_18 : IVec S_ 32 := constantI S_ 32 0#32
  let main_v43 : FVec F S8x1280x256 .f32 := fn_pad (F := F) main_v38 main_c_18
  let main_c_19 : IVec S_ 32 := constantI S_ 32 4294967295#32
  let main_v44 : IVec S_ 32 := muli main_c_19 main_v40
  let main_c_20 : IVec S_ 32 := constantI S_ 32 512#32
  let main_v45 : IVec S_ 32 := addi main_c_20 main_v44
  let main_c_21 : IVec S_ 32 := constantI S_ 32 0#32
  let main_v46 : IVec S_ 1 := cmpi .slt main_v45 main_c_21
  let main_c_22 : IVec S_ 32 := constantI S_ 32 1280#32
  fn_part3 (F := F) main_arg3 main_arg4 main_arg5 main_arg6 main_arg7 main_v34 main_v38 main_v40 main_v41 main_v42 main_v43 main_v45 main_v46 main_c_22

def fn_part1 {F : FTy → Type} [FloatOps F] (main_arg0 : FVec F S8x256x32 .f32) (main_arg1 : FVec F S32x256 .f32) (main_arg2 : FVec F S256 .f32) (main_arg3 : FVec F S20x256x256x3 .f32) (main_arg4 : FVec F S20x256 .f32) (main_arg5 : FVec F S256 .f32) (main_arg6 : FVec F S256 .f32) (main_arg7 : FVec F S256x256 .f32) (main_v14 : IVec S_ 1) (main_v15 : FVec F S20x256x256x3 .f32) (main_cst_5 : FVec F S_ .f32) : IVec S2048 1 :=
  let main_v16 : FVec F S20x256x256x3 .f32 := broadcastInDim S20x256x256x3 ![] bcast_S_S20x256x256x3 main_cst_5
  let main_v17 : IVec S20x256x256x3 1 := cmpf .olt main_v15 main_v16
  let main_c_6 : IVec S_ 1 := constantI S_ 1 1#1
  let main_v18 : IVec S_ 1 := (fun x v => Host.reduce IntOp.andi x v reducesTo_S20x256x256x3_S_d0_1_2_3 h_S_) main_v17 main_c_6
  let main_v19 : IVec S_ 1 := andi main_v14 main_v18
  let main_v20 : FVec F S20x256 .f32 := Host.absf main_arg4
  let main_cst_7 : FVec F S_ .f32 := constant S_ .f32 0x7F800000#32
  let main_v21 : FVec F S20x256 .f32 := broadcastInDim S20x256 ![] bcast_S_S20x256 main_cst_7
  let main_v22 : IVec S20x256 1 := cmpf .olt main_v20 main_v21
  let main_c_8 : IVec S_ 1 := constantI S_ 1 1#1
  let main_v23 : IVec S_ 1 := (fun x v => Host.reduce IntOp.andi x v reducesTo_S20x256_S_d0_1 h_S_) main_v22 main_c_8
  let main_v24 : IVec S_ 1 := andi main_v19 main_v23
  let main_v25 : FVec F S256 .f32 := Host.absf main_arg5
  let main_cst_9 : FVec F S_ .f32 := constant S_ .f32 0x7F800000#32
  let main_v26 : FVec F S256 .f32 := broadcastInDim S256 ![] bcast_S_S256 main_cst_9
  let main_v27 : IVec S256 1 := cmpf .olt main_v25 main_v26
  let main_c_10 : IVec S_ 1 := constantI S_ 1 1#1
  let main_v28 : IVec S_ 1 := (fun x v => Host.reduce IntOp.andi x v reducesTo_S256_S_d0 h_S_) main_v27 main_c_10
  let main_v29 : IVec S_ 1 := andi main_v24 main_v28
  let main_v30 : FVec F S256 .f32 := Host.absf main_arg6
  let main_cst_11 : FVec F S_ .f32 := constant S_ .f32 0x7F800000#32
  let main_v31 : FVec F S256 .f32 := broadcastInDim S256 ![] bcast_S_S256 main_cst_11
  let main_v32 : IVec S256 1 := cmpf .olt main_v30 main_v31
  let main_c_12 : IVec S_ 1 := constantI S_ 1 1#1
  fn_part2 (F := F) main_arg0 main_arg1 main_arg2 main_arg3 main_arg4 main_arg5 main_arg6 main_arg7 main_v29 main_v32 main_c_12

def fn {F : FTy → Type} [FloatOps F] (main_arg0 : FVec F S8x256x32 .f32) (main_arg1 : FVec F S32x256 .f32) (main_arg2 : FVec F S256 .f32) (main_arg3 : FVec F S20x256x256x3 .f32) (main_arg4 : FVec F S20x256 .f32) (main_arg5 : FVec F S256 .f32) (main_arg6 : FVec F S256 .f32) (main_arg7 : FVec F S256x256 .f32) (main_arg8 : FVec F S128x256 .f32) (main_arg9 : FVec F S20x256x256x3 .f32) (main_arg10 : FVec F S20x256 .f32) (main_arg11 : FVec F S256x32 .f32) (main_arg12 : FVec F S32 .f32) : IVec S2048 1 :=
  let main_v0 : FVec F S8x256x32 .f32 := Host.absf main_arg0
  let main_cst : FVec F S_ .f32 := constant S_ .f32 0x7F800000#32
  let main_v1 : FVec F S8x256x32 .f32 := broadcastInDim S8x256x32 ![] bcast_S_S8x256x32 main_cst
  let main_v2 : IVec S8x256x32 1 := cmpf .olt main_v0 main_v1
  let main_c : IVec S_ 1 := constantI S_ 1 1#1
  let main_v3 : IVec S_ 1 := (fun x v => Host.reduce IntOp.andi x v reducesTo_S8x256x32_S_d0_1_2 h_S_) main_v2 main_c
  let main_c_0 : IVec S_ 1 := constantI S_ 1 1#1
  let main_v4 : IVec S_ 1 := andi main_c_0 main_v3
  let main_v5 : FVec F S32x256 .f32 := Host.absf main_arg1
  let main_cst_1 : FVec F S_ .f32 := constant S_ .f32 0x7F800000#32
  let main_v6 : FVec F S32x256 .f32 := broadcastInDim S32x256 ![] bcast_S_S32x256 main_cst_1
  let main_v7 : IVec S32x256 1 := cmpf .olt main_v5 main_v6
  let main_c_2 : IVec S_ 1 := constantI S_ 1 1#1
  let main_v8 : IVec S_ 1 := (fun x v => Host.reduce IntOp.andi x v reducesTo_S32x256_S_d0_1 h_S_) main_v7 main_c_2
  let main_v9 : IVec S_ 1 := andi main_v4 main_v8
  let main_v10 : FVec F S256 .f32 := Host.absf main_arg2
  let main_cst_3 : FVec F S_ .f32 := constant S_ .f32 0x7F800000#32
  let main_v11 : FVec F S256 .f32 := broadcastInDim S256 ![] bcast_S_S256 main_cst_3
  let main_v12 : IVec S256 1 := cmpf .olt main_v10 main_v11
  let main_c_4 : IVec S_ 1 := constantI S_ 1 1#1
  let main_v13 : IVec S_ 1 := (fun x v => Host.reduce IntOp.andi x v reducesTo_S256_S_d0 h_S_) main_v12 main_c_4
  let main_v14 : IVec S_ 1 := andi main_v9 main_v13
  let main_v15 : FVec F S20x256x256x3 .f32 := Host.absf main_arg3
  let main_cst_5 : FVec F S_ .f32 := constant S_ .f32 0x7F800000#32
  fn_part1 (F := F) main_arg0 main_arg1 main_arg2 main_arg3 main_arg4 main_arg5 main_arg6 main_arg7 main_v14 main_v15 main_cst_5
-- ==== Kernel.lean ====
abbrev S8x256x32 : Shape := ⟨3, ![8, 256, 32]⟩
abbrev S32x256 : Shape := ⟨2, ![32, 256]⟩
abbrev S256 : Shape := ⟨1, ![256]⟩
abbrev S20x256x256x3 : Shape := ⟨4, ![20, 256, 256, 3]⟩
abbrev S20x256 : Shape := ⟨2, ![20, 256]⟩
abbrev S256x256 : Shape := ⟨2, ![256, 256]⟩
abbrev S128x256 : Shape := ⟨2, ![128, 256]⟩
abbrev S256x32 : Shape := ⟨2, ![256, 32]⟩
abbrev S32 : Shape := ⟨1, ![32]⟩
abbrev S40x256x256x3 : Shape := ⟨4, ![40, 256, 256, 3]⟩
abbrev S40x3x256x256 : Shape := ⟨4, ![40, 3, 256, 256]⟩
abbrev S40x768x256 : Shape := ⟨3, ![40, 768, 256]⟩
abbrev S40x256 : Shape := ⟨2, ![40, 256]⟩
abbrev S40x1x256 : Shape := ⟨3, ![40, 1, 256]⟩
abbrev S2x1024x32 : Shape := ⟨3, ![2, 1024, 32]⟩
abbrev S1x256 : Shape := ⟨2, ![1, 256]⟩
abbrev S1x32 : Shape := ⟨2, ![1, 32]⟩
abbrev S1x1024x32 : Shape := ⟨3, ![1, 1024, 32]⟩
abbrev S1x768x256 : Shape := ⟨3, ![1, 768, 256]⟩
abbrev S1x1x256 : Shape := ⟨3, ![1, 1, 256]⟩
abbrev S1024x256 : Shape := ⟨2, ![1024, 256]⟩
abbrev S1024x32 : Shape := ⟨2, ![1024, 32]⟩
abbrev S1024 : Shape := ⟨1, ![1024]⟩
abbrev S1024x1 : Shape := ⟨2, ![1024, 1]⟩
abbrev S1024x768 : Shape := ⟨2, ![1024, 768]⟩
abbrev S768x256 : Shape := ⟨2, ![768, 256]⟩
abbrev S1x256x256 : Shape := ⟨3, ![1, 256, 256]⟩

abbrev nBuf : Space → Nat
  | .hbm => 25
  | .vmem => 18
  | .smem => 0
  | _ => 0

abbrev bufTy : (tb : Table) → Fin (tcTables nBuf tb) → BufTy
  | .hbm, ⟨0, _⟩ => ⟨S8x256x32, .f32⟩
  | .hbm, ⟨1, _⟩ => ⟨S32x256, .f32⟩
  | .hbm, ⟨2, _⟩ => ⟨S256, .f32⟩
  | .hbm, ⟨3, _⟩ => ⟨S20x256x256x3, .f32⟩
  | .hbm, ⟨4, _⟩ => ⟨S20x256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S128x256, .f32⟩
  | .hbm, ⟨9, _⟩ => ⟨S20x256x256x3, .f32⟩
  | .hbm, ⟨10, _⟩ => ⟨S20x256, .f32⟩
  | .hbm, ⟨11, _⟩ => ⟨S256x32, .f32⟩
  | .hbm, ⟨12, _⟩ => ⟨S32, .f32⟩
  | .hbm, ⟨13, _⟩ => ⟨S40x256x256x3, .f32⟩
  | .hbm, ⟨14, _⟩ => ⟨S40x3x256x256, .f32⟩
  | .hbm, ⟨15, _⟩ => ⟨S40x768x256, .f32⟩
  | .hbm, ⟨16, _⟩ => ⟨S40x256, .f32⟩
  | .hbm, ⟨17, _⟩ => ⟨S40x1x256, .f32⟩
  | .hbm, ⟨18, _⟩ => ⟨S2x1024x32, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S256x256, .f32⟩
  | .hbm, ⟨23, _⟩ => ⟨S1x32, .f32⟩
  | .hbm, ⟨24, _⟩ => ⟨S2x1024x32, .f32⟩
  | .local _ .vmem, ⟨0, _⟩ => ⟨S1x1024x32, .f32⟩
  | .local _ .vmem, ⟨1, _⟩ => ⟨S1x1024x32, .f32⟩
  | .local _ .vmem, ⟨2, _⟩ => ⟨S32x256, .f32⟩
  | .local _ .vmem, ⟨3, _⟩ => ⟨S1x256, .f32⟩
  | .local _ .vmem, ⟨4, _⟩ => ⟨S1x768x256, .f32⟩
  | .local _ .vmem, ⟨5, _⟩ => ⟨S1x768x256, .f32⟩
  | .local _ .vmem, ⟨6, _⟩ => ⟨S1x1x256, .f32⟩
  | .local _ .vmem, ⟨7, _⟩ => ⟨S1x1x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x32, .f32⟩
  | .local _ .vmem, ⟨13, _⟩ => ⟨S1x32, .f32⟩
  | .local _ .vmem, ⟨14, _⟩ => ⟨S1x1024x32, .f32⟩
  | .local _ .vmem, ⟨15, _⟩ => ⟨S1x1024x32, .f32⟩
  | .local _ .vmem, ⟨16, _⟩ => ⟨S1024x256, .f32⟩
  | .local _ .vmem, ⟨17, _⟩ => ⟨S1024x256, .i32⟩
  | _, _ => ⟨S8x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 40], ![false, false]⟩

def k0_cond4 (i : grid0.Coords) : BitVec 1 :=
  let arg1 : BitVec 32 := BitVec.ofNat 32 (i 1).val
  let c39_i32 : BitVec 32 := 39#32
  let v32 : BitVec 1 := Scalar.cmpi .eq arg1 c39_i32
  let v33 : BitVec 32 := Scalar.extui v32
  let c0_i32_14 : BitVec 32 := 0#32
  let v34 : BitVec 1 := Scalar.cmpi .ne v33 c0_i32_14
  v34

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S8x256x32 : Shape := ⟨3, ![8, 256, 32]⟩
abbrev S32x256 : Shape := ⟨2, ![32, 256]⟩
abbrev S256 : Shape := ⟨1, ![256]⟩
abbrev S20x256x256x3 : Shape := ⟨4, ![20, 256, 256, 3]⟩
abbrev S20x256 : Shape := ⟨2, ![20, 256]⟩
abbrev S256x256 : Shape := ⟨2, ![256, 256]⟩
abbrev S128x256 : Shape := ⟨2, ![128, 256]⟩
abbrev S256x32 : Shape := ⟨2, ![256, 32]⟩
abbrev S32 : Shape := ⟨1, ![32]⟩
abbrev S8x256x256 : Shape := ⟨3, ![8, 256, 256]⟩
abbrev S1x1x256 : Shape := ⟨3, ![1, 1, 256]⟩
abbrev S_ : Shape := ⟨0, ![]⟩
abbrev S1x256x256x3 : Shape := ⟨4, ![1, 256, 256, 3]⟩
abbrev S256x256x3 : Shape := ⟨3, ![256, 256, 3]⟩
abbrev S1x256 : Shape := ⟨2, ![1, 256]⟩
abbrev S8x1280x256 : Shape := ⟨3, ![8, 1280, 256]⟩
abbrev S256x256x1 : Shape := ⟨3, ![256, 256, 1]⟩
abbrev S8x256 : Shape := ⟨2, ![8, 256]⟩
abbrev S8x256x1 : Shape := ⟨3, ![8, 256, 1]⟩
abbrev S2048x256 : Shape := ⟨2, ![2048, 256]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1x1x32 : Shape := ⟨3, ![1, 1, 32]⟩
abbrev S2x1024x32 : Shape := ⟨3, ![2, 1024, 32]⟩

abbrev nBuf : Space → Nat
  | .hbm => 294
  | .vmem => 0
  | .smem => 0
  | _ => 0

abbrev hbmTy0_0 (i : Nat) : BufTy := match i % 128 with
  | 0 => ⟨S8x256x32, .f32⟩
  | 1 => ⟨S32x256, .f32⟩
  | 2 => ⟨S256, .f32⟩
  | 3 => ⟨S20x256x256x3, .f32⟩
  | 4 => ⟨S20x256, .f32⟩
  | 5 => ⟨S256, .f32⟩
  | 6 => ⟨S256, .f32⟩
  | 7 => ⟨S256x256, .f32⟩
  | 8 => ⟨S128x256, .f32⟩
  | 9 => ⟨S20x256x256x3, .f32⟩
  | 10 => ⟨S20x256, .f32⟩
  | 11 => ⟨S256x32, .f32⟩
  | 12 => ⟨S32, .f32⟩
  | 13 => ⟨S8x256x256, .f32⟩
  | 14 => ⟨S1x1x256, .f32⟩
  | 15 => ⟨S8x256x256, .f32⟩
  | 16 => ⟨S8x256x256, .f32⟩
  | 17 => ⟨S_, .i32⟩
  | 18 => ⟨S_, .i32⟩
  | 19 => ⟨S20x256x256x3, .f32⟩
  | 20 => ⟨S20x256, .f32⟩
  | 21 => ⟨S_, .i32⟩
  | 22 => ⟨S_, .i32⟩
  | 23 => ⟨S8x256x256, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S1x256x256x3, .f32⟩
  | 42 => ⟨S256x256x3, .f32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S1x256, .f32⟩
  | 51 => ⟨S256, .f32⟩
  | 52 => ⟨S_, .i32⟩
  | 53 => ⟨S_, .f32⟩
  | 54 => ⟨S8x1280x256, .f32⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S8x256x256, .f32⟩
  | 67 => ⟨S256x256x1, .f32⟩
  | 68 => ⟨S256x256, .f32⟩
  | 69 => ⟨S256x256, .f32⟩
  | 70 => ⟨S8x256x256, .f32⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S8x256x256, .f32⟩
  | 83 => ⟨S256x256x1, .f32⟩
  | 84 => ⟨S256x256, .f32⟩
  | 85 => ⟨S256x256, .f32⟩
  | 86 => ⟨S8x256x256, .f32⟩
  | 87 => ⟨S8x256x256, .f32⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S8x256x256, .f32⟩
  | 100 => ⟨S256x256x1, .f32⟩
  | 101 => ⟨S256x256, .f32⟩
  | 102 => ⟨S256x256, .f32⟩
  | 103 => ⟨S8x256x256, .f32⟩
  | 104 => ⟨S8x256x256, .f32⟩
  | 105 => ⟨S1x1x256, .f32⟩
  | 106 => ⟨S8x256x256, .f32⟩
  | 107 => ⟨S8x256x256, .f32⟩
  | 108 => ⟨S_, .f32⟩
  | 109 => ⟨S8x256x256, .f32⟩
  | 110 => ⟨S8x256x256, .f32⟩
  | 111 => ⟨S8x256x256, .f32⟩
  | 112 => ⟨S_, .i32⟩
  | 113 => ⟨S_, .i32⟩
  | 114 => ⟨S_, .f32⟩
  | 115 => ⟨S8x256, .f32⟩
  | 116 => ⟨S8x256x1, .f32⟩
  | 117 => ⟨S_, .f32⟩
  | 118 => ⟨S8x256x1, .f32⟩
  | 119 => ⟨S8x256x1, .f32⟩
  | 120 => ⟨S8x256x256, .f32⟩
  | 121 => ⟨S8x256x256, .f32⟩
  | 122 => ⟨S8x256x256, .f32⟩
  | 123 => ⟨S_, .f32⟩
  | 124 => ⟨S8x256, .f32⟩
  | 125 => ⟨S8x256x1, .f32⟩
  | 126 => ⟨S_, .f32⟩
  | 127 => ⟨S8x256x1, .f32⟩
  | _ => ⟨S8x256x32, .f32⟩

abbrev hbmTy0_1 (i : Nat) : BufTy := match i % 128 with
  | 0 => ⟨S8x256x1, .f32⟩
  | 1 => ⟨S8x256x256, .f32⟩
  | 2 => ⟨S8x256x256, .f32⟩
  | 3 => ⟨S_, .f32⟩
  | 4 => ⟨S8x256x1, .f32⟩
  | 5 => ⟨S8x256x1, .f32⟩
  | 6 => ⟨S8x256x1, .f32⟩
  | 7 => ⟨S8x256x256, .f32⟩
  | 8 => ⟨S8x256x256, .f32⟩
  | 9 => ⟨S1x1x256, .f32⟩
  | 10 => ⟨S8x256x256, .f32⟩
  | 11 => ⟨S8x256x256, .f32⟩
  | 12 => ⟨S1x1x256, .f32⟩
  | 13 => ⟨S8x256x256, .f32⟩
  | 14 => ⟨S8x256x256, .f32⟩
  | 15 => ⟨S2048x256, .f32⟩
  | 16 => ⟨S2048x256, .f32⟩
  | 17 => ⟨S_, .f32⟩
  | 18 => ⟨S2048, .f32⟩
  | 19 => ⟨S2048x1, .f32⟩
  | 20 => ⟨S_, .f32⟩
  | 21 => ⟨S2048x256, .f32⟩
  | 22 => ⟨S2048x256, .f32⟩
  | 23 => ⟨S256x256, .f32⟩
  | 24 => ⟨S2048x256, .f32⟩
  | 25 => ⟨S2048x256, .f32⟩
  | 26 => ⟨S2048x256, .f32⟩
  | 27 => ⟨S256x256, .f32⟩
  | 28 => ⟨S_, .f32⟩
  | 29 => ⟨S256, .f32⟩
  | 30 => ⟨S1x256, .f32⟩
  | 31 => ⟨S2048x256, .f32⟩
  | 32 => ⟨S2048x256, .f32⟩
  | 33 => ⟨S2048x256, .i32⟩
  | 34 => ⟨S_, .f32⟩
  | 35 => ⟨S_, .i32⟩
  | 36 => ⟨S2048, .f32⟩
  | 37 => ⟨S2048, .i32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S2048x1, .i32⟩
  | 46 => ⟨S1, .i32⟩
  | 47 => ⟨S_, .i32⟩
  | 48 => ⟨S2048x1, .i32⟩
  | 49 => ⟨S2048x1, .i1⟩
  | 50 => ⟨S1x1, .i32⟩
  | 51 => ⟨S2048x1, .i32⟩
  | 52 => ⟨S2048x1, .i1⟩
  | 53 => ⟨S2048x1, .i1⟩
  | 54 => ⟨S_, .i1⟩
  | 55 => ⟨S2048, .i1⟩
  | 56 => ⟨S2048x256, .f32⟩
  | 57 => ⟨S2048x256, .i1⟩
  | 58 => ⟨S_, .f32⟩
  | 59 => ⟨S2048x256, .f32⟩
  | 60 => ⟨S2048x256, .f32⟩
  | 61 => ⟨S2048x256, .f32⟩
  | 62 => ⟨S2048x256, .f32⟩
  | 63 => ⟨S8x256x256, .f32⟩
  | 64 => ⟨S_, .i32⟩
  | 65 => ⟨S_, .i32⟩
  | 66 => ⟨S20x256x256x3, .f32⟩
  | 67 => ⟨S20x256, .f32⟩
  | 68 => ⟨S_, .i32⟩
  | 69 => ⟨S_, .i32⟩
  | 70 => ⟨S8x256x256, .f32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S1x256x256x3, .f32⟩
  | 89 => ⟨S256x256x3, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S1x256, .f32⟩
  | 98 => ⟨S256, .f32⟩
  | 99 => ⟨S_, .i32⟩
  | 100 => ⟨S_, .f32⟩
  | 101 => ⟨S8x1280x256, .f32⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S8x256x256, .f32⟩
  | 114 => ⟨S256x256x1, .f32⟩
  | 115 => ⟨S256x256, .f32⟩
  | 116 => ⟨S256x256, .f32⟩
  | 117 => ⟨S8x256x256, .f32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S8x256x32, .f32⟩

abbrev hbmTy0_2 (i : Nat) : BufTy := match i % 128 with
  | 0 => ⟨S_, .i32⟩
  | 1 => ⟨S8x256x256, .f32⟩
  | 2 => ⟨S256x256x1, .f32⟩
  | 3 => ⟨S256x256, .f32⟩
  | 4 => ⟨S256x256, .f32⟩
  | 5 => ⟨S8x256x256, .f32⟩
  | 6 => ⟨S8x256x256, .f32⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S8x256x256, .f32⟩
  | 19 => ⟨S256x256x1, .f32⟩
  | 20 => ⟨S256x256, .f32⟩
  | 21 => ⟨S256x256, .f32⟩
  | 22 => ⟨S8x256x256, .f32⟩
  | 23 => ⟨S8x256x256, .f32⟩
  | 24 => ⟨S1x1x256, .f32⟩
  | 25 => ⟨S8x256x256, .f32⟩
  | 26 => ⟨S8x256x256, .f32⟩
  | 27 => ⟨S_, .f32⟩
  | 28 => ⟨S8x256x256, .f32⟩
  | 29 => ⟨S8x256x256, .f32⟩
  | 30 => ⟨S8x256x256, .f32⟩
  | 31 => ⟨S_, .i32⟩
  | 32 => ⟨S_, .i32⟩
  | 33 => ⟨S8x256x32, .f32⟩
  | 34 => ⟨S1x1x32, .f32⟩
  | 35 => ⟨S8x256x32, .f32⟩
  | 36 => ⟨S8x256x32, .f32⟩
  | 37 => ⟨S2x1024x32, .f32⟩
  | _ => ⟨S8x256x32, .f32⟩

abbrev hbmTy (i : Nat) : BufTy := match i / 128 with
  | 0 => hbmTy0_0 i
  | 1 => hbmTy0_1 i
  | 2 => hbmTy0_2 i
  | _ => ⟨S8x256x32, .f32⟩

abbrev bufTy : (tb : Table) → Fin (tcTables nBuf tb) → BufTy
  | .hbm, ⟨i, _⟩ => hbmTy i
  | _, _ => ⟨S8x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_c_0 : Ref sig .tc := ⟨.hbm, 18, rfl⟩
abbrev main_v4_0 : Ref sig .tc := ⟨.hbm, 19, rfl⟩
abbrev main_v4_1 : Ref sig .tc := ⟨.hbm, 20, rfl⟩
abbrev main_v4_2 : Ref sig .tc := ⟨.hbm, 21, rfl⟩
abbrev main_v4_3 : Ref sig .tc := ⟨.hbm, 22, rfl⟩
abbrev main_v4_4 : Ref sig .tc := ⟨.hbm, 23, rfl⟩
abbrev main_while0c_c_14 : Ref sig .tc := ⟨.hbm, 24, rfl⟩
abbrev main_while0c_v55 : Ref sig .tc := ⟨.hbm, 25, rfl⟩
abbrev main_while0b_c_14 : Ref sig .tc := ⟨.hbm, 26, rfl⟩
abbrev main_while0b_v55 : Ref sig .tc := ⟨.hbm, 27, rfl⟩
abbrev main_while0b_c_15 : Ref sig .tc := ⟨.hbm, 28, rfl⟩
abbrev main_while0b_v56 : Ref sig .tc := ⟨.hbm, 29, rfl⟩
abbrev main_while0b_c_16 : Ref sig .tc := ⟨.hbm, 30, rfl⟩
abbrev main_while0b_v57 : Ref sig .tc := ⟨.hbm, 31, rfl⟩
abbrev main_while0b_call0_c : Ref sig .tc := ⟨.hbm, 32, rfl⟩
abbrev main_while0b_call0_v0 : Ref sig .tc := ⟨.hbm, 33, rfl⟩
abbrev main_while0b_call0_v1 : Ref sig .tc := ⟨.hbm, 34, rfl⟩
abbrev main_while0b_call0_c_0 : Ref sig .tc := ⟨.hbm, 35, rfl⟩
abbrev main_while0b_call0_v2 : Ref sig .tc := ⟨.hbm, 36, rfl⟩
abbrev main_while0b_call0_v3 : Ref sig .tc := ⟨.hbm, 37, rfl⟩
abbrev main_while0b_call0_c_1 : Ref sig .tc := ⟨.hbm, 38, rfl⟩
abbrev main_while0b_call0_c_2 : Ref sig .tc := ⟨.hbm, 39, rfl⟩
abbrev main_while0b_call0_c_3 : Ref sig .tc := ⟨.hbm, 40, rfl⟩
abbrev main_while0b_call0_v4 : Ref sig .tc := ⟨.hbm, 41, rfl⟩
abbrev main_while0b_v58 : Ref sig .tc := ⟨.hbm, 42, rfl⟩
abbrev main_while0b_call1_c : Ref sig .tc := ⟨.hbm, 43, rfl⟩
abbrev main_while0b_call1_v0 : Ref sig .tc := ⟨.hbm, 44, rfl⟩
abbrev main_while0b_call1_v1 : Ref sig .tc := ⟨.hbm, 45, rfl⟩
abbrev main_while0b_call1_c_0 : Ref sig .tc := ⟨.hbm, 46, rfl⟩
abbrev main_while0b_call1_v2 : Ref sig .tc := ⟨.hbm, 47, rfl⟩
abbrev main_while0b_call1_v3 : Ref sig .tc := ⟨.hbm, 48, rfl⟩
abbrev main_while0b_call1_c_1 : Ref sig .tc := ⟨.hbm, 49, rfl⟩
abbrev main_while0b_call1_v4 : Ref sig .tc := ⟨.hbm, 50, rfl⟩
abbrev main_while0b_v59 : Ref sig .tc := ⟨.hbm, 51, rfl⟩
abbrev main_while0b_c_17 : Ref sig .tc := ⟨.hbm, 52, rfl⟩
abbrev main_while0b_call2_v0 : Ref sig .tc := ⟨.hbm, 53, rfl⟩
abbrev main_while0b_v60 : Ref sig .tc := ⟨.hbm, 54, rfl⟩
abbrev main_while0b_c_18 : Ref sig .tc := ⟨.hbm, 55, rfl⟩
abbrev main_while0b_v61 : Ref sig .tc := ⟨.hbm, 56, rfl⟩
abbrev main_while0b_c_19 : Ref sig .tc := ⟨.hbm, 57, rfl⟩
abbrev main_while0b_v62 : Ref sig .tc := ⟨.hbm, 58, rfl⟩
abbrev main_while0b_c_20 : Ref sig .tc := ⟨.hbm, 59, rfl⟩
abbrev main_while0b_v63 : Ref sig .tc := ⟨.hbm, 60, rfl⟩
abbrev main_while0b_c_21 : Ref sig .tc := ⟨.hbm, 61, rfl⟩
abbrev main_while0b_v64 : Ref sig .tc := ⟨.hbm, 62, rfl⟩
abbrev main_while0b_v65 : Ref sig .tc := ⟨.hbm, 63, rfl⟩
abbrev main_while0b_c_22 : Ref sig .tc := ⟨.hbm, 64, rfl⟩
abbrev main_while0b_c_23 : Ref sig .tc := ⟨.hbm, 65, rfl⟩
abbrev main_while0b_v66 : Ref sig .tc := ⟨.hbm, 66, rfl⟩
abbrev main_while0b_v67 : Ref sig .tc := ⟨.hbm, 67, rfl⟩
abbrev main_while0b_v68 : Ref sig .tc := ⟨.hbm, 68, rfl⟩
abbrev main_while0b_v69 : Ref sig .tc := ⟨.hbm, 69, rfl⟩
abbrev main_while0b_v70 : Ref sig .tc := ⟨.hbm, 70, rfl⟩
abbrev main_while0b_c_24 : Ref sig .tc := ⟨.hbm, 71, rfl⟩
abbrev main_while0b_v71 : Ref sig .tc := ⟨.hbm, 72, rfl⟩
abbrev main_while0b_c_25 : Ref sig .tc := ⟨.hbm, 73, rfl⟩
abbrev main_while0b_v72 : Ref sig .tc := ⟨.hbm, 74, rfl⟩
abbrev main_while0b_c_26 : Ref sig .tc := ⟨.hbm, 75, rfl⟩
abbrev main_while0b_v73 : Ref sig .tc := ⟨.hbm, 76, rfl⟩
abbrev main_while0b_c_27 : Ref sig .tc := ⟨.hbm, 77, rfl⟩
abbrev main_while0b_v74 : Ref sig .tc := ⟨.hbm, 78, rfl⟩
abbrev main_while0b_v75 : Ref sig .tc := ⟨.hbm, 79, rfl⟩
abbrev main_while0b_c_28 : Ref sig .tc := ⟨.hbm, 80, rfl⟩
abbrev main_while0b_c_29 : Ref sig .tc := ⟨.hbm, 81, rfl⟩
abbrev main_while0b_v76 : Ref sig .tc := ⟨.hbm, 82, rfl⟩
abbrev main_while0b_v77 : Ref sig .tc := ⟨.hbm, 83, rfl⟩
abbrev main_while0b_v78 : Ref sig .tc := ⟨.hbm, 84, rfl⟩
abbrev main_while0b_v79 : Ref sig .tc := ⟨.hbm, 85, rfl⟩
abbrev main_while0b_v80 : Ref sig .tc := ⟨.hbm, 86, rfl⟩
abbrev main_while0b_v81 : Ref sig .tc := ⟨.hbm, 87, rfl⟩
abbrev main_while0b_c_30 : Ref sig .tc := ⟨.hbm, 88, rfl⟩
abbrev main_while0b_v82 : Ref sig .tc := ⟨.hbm, 89, rfl⟩
abbrev main_while0b_c_31 : Ref sig .tc := ⟨.hbm, 90, rfl⟩
abbrev main_while0b_v83 : Ref sig .tc := ⟨.hbm, 91, rfl⟩
abbrev main_while0b_c_32 : Ref sig .tc := ⟨.hbm, 92, rfl⟩
abbrev main_while0b_v84 : Ref sig .tc := ⟨.hbm, 93, rfl⟩
abbrev main_while0b_c_33 : Ref sig .tc := ⟨.hbm, 94, rfl⟩
abbrev main_while0b_v85 : Ref sig .tc := ⟨.hbm, 95, rfl⟩
abbrev main_while0b_v86 : Ref sig .tc := ⟨.hbm, 96, rfl⟩
abbrev main_while0b_c_34 : Ref sig .tc := ⟨.hbm, 97, rfl⟩
abbrev main_while0b_c_35 : Ref sig .tc := ⟨.hbm, 98, rfl⟩
abbrev main_while0b_v87 : Ref sig .tc := ⟨.hbm, 99, rfl⟩
abbrev main_while0b_v88 : Ref sig .tc := ⟨.hbm, 100, rfl⟩
abbrev main_while0b_v89 : Ref sig .tc := ⟨.hbm, 101, rfl⟩
abbrev main_while0b_v90 : Ref sig .tc := ⟨.hbm, 102, rfl⟩
abbrev main_while0b_v91 : Ref sig .tc := ⟨.hbm, 103, rfl⟩
abbrev main_while0b_v92 : Ref sig .tc := ⟨.hbm, 104, rfl⟩
abbrev main_while0b_v93 : Ref sig .tc := ⟨.hbm, 105, rfl⟩
abbrev main_while0b_v94 : Ref sig .tc := ⟨.hbm, 106, rfl⟩
abbrev main_while0b_v95 : Ref sig .tc := ⟨.hbm, 107, rfl⟩
abbrev main_while0b_cst_36 : Ref sig .tc := ⟨.hbm, 108, rfl⟩
abbrev main_while0b_v96 : Ref sig .tc := ⟨.hbm, 109, rfl⟩
abbrev main_while0b_v97 : Ref sig .tc := ⟨.hbm, 110, rfl⟩
abbrev main_while0b_v98 : Ref sig .tc := ⟨.hbm, 111, rfl⟩
abbrev main_while0b_c_37 : Ref sig .tc := ⟨.hbm, 112, rfl⟩
abbrev main_while0b_v99 : Ref sig .tc := ⟨.hbm, 113, rfl⟩
abbrev main_cst : Ref sig .tc := ⟨.hbm, 114, rfl⟩
abbrev main_v5 : Ref sig .tc := ⟨.hbm, 115, rfl⟩
abbrev main_v6 : Ref sig .tc := ⟨.hbm, 116, rfl⟩
abbrev main_cst_1 : Ref sig .tc := ⟨.hbm, 117, rfl⟩
abbrev main_v7 : Ref sig .tc := ⟨.hbm, 118, rfl⟩
abbrev main_v8 : Ref sig .tc := ⟨.hbm, 119, rfl⟩
abbrev main_v9 : Ref sig .tc := ⟨.hbm, 120, rfl⟩
abbrev main_v10 : Ref sig .tc := ⟨.hbm, 121, rfl⟩
abbrev main_v11 : Ref sig .tc := ⟨.hbm, 122, rfl⟩
abbrev main_cst_2 : Ref sig .tc := ⟨.hbm, 123, rfl⟩
abbrev main_v12 : Ref sig .tc := ⟨.hbm, 124, rfl⟩
abbrev main_v13 : Ref sig .tc := ⟨.hbm, 125, rfl⟩
abbrev main_cst_3 : Ref sig .tc := ⟨.hbm, 126, rfl⟩
abbrev main_v14 : Ref sig .tc := ⟨.hbm, 127, rfl⟩
abbrev main_v15 : Ref sig .tc := ⟨.hbm, 128, rfl⟩
abbrev main_v16 : Ref sig .tc := ⟨.hbm, 129, rfl⟩
abbrev main_v17 : Ref sig .tc := ⟨.hbm, 130, rfl⟩
abbrev main_cst_4 : Ref sig .tc := ⟨.hbm, 131, rfl⟩
abbrev main_v18 : Ref sig .tc := ⟨.hbm, 132, rfl⟩
abbrev main_v19 : Ref sig .tc := ⟨.hbm, 133, rfl⟩
abbrev main_v20 : Ref sig .tc := ⟨.hbm, 134, rfl⟩
abbrev main_v21 : Ref sig .tc := ⟨.hbm, 135, rfl⟩
abbrev main_v22 : Ref sig .tc := ⟨.hbm, 136, rfl⟩
abbrev main_v23 : Ref sig .tc := ⟨.hbm, 137, rfl⟩
abbrev main_v24 : Ref sig .tc := ⟨.hbm, 138, rfl⟩
abbrev main_v25 : Ref sig .tc := ⟨.hbm, 139, rfl⟩
abbrev main_v26 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_cst_5 : Ref sig .tc := ⟨.hbm, 145, rfl⟩
abbrev main_v31 : Ref sig .tc := ⟨.hbm, 146, rfl⟩
abbrev main_v32 : Ref sig .tc := ⟨.hbm, 147, rfl⟩
abbrev main_cst_6 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_v39 : Ref sig .tc := ⟨.hbm, 155, rfl⟩
abbrev main_cst_7 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_call3_v0 : Ref sig .tc := ⟨.hbm, 161, rfl⟩
abbrev main_call3_cst : Ref sig .tc := ⟨.hbm, 162, rfl⟩
abbrev main_call3_c : Ref sig .tc := ⟨.hbm, 163, rfl⟩
abbrev main_call3_v1_0 : Ref sig .tc := ⟨.hbm, 164, rfl⟩
abbrev main_v44 : Ref sig .tc := ⟨.hbm, 165, rfl⟩
abbrev main_call4_c : Ref sig .tc := ⟨.hbm, 166, rfl⟩
abbrev main_call4_v0 : Ref sig .tc := ⟨.hbm, 167, rfl⟩
abbrev main_call4_v1 : Ref sig .tc := ⟨.hbm, 168, rfl⟩
abbrev main_call4_c_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_call4_c_1 : Ref sig .tc := ⟨.hbm, 174, rfl⟩
abbrev main_call4_c_2 : Ref sig .tc := ⟨.hbm, 175, rfl⟩
abbrev main_call4_v6 : Ref sig .tc := ⟨.hbm, 176, rfl⟩
abbrev main_call4_v7 : Ref sig .tc := ⟨.hbm, 177, rfl⟩
abbrev main_call4_v8 : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_c_3 : Ref sig .tc := ⟨.hbm, 182, rfl⟩
abbrev main_call4_v12 : Ref sig .tc := ⟨.hbm, 183, rfl⟩
abbrev main_call4_v13 : Ref sig .tc := ⟨.hbm, 184, rfl⟩
abbrev main_call4_v14 : Ref sig .tc := ⟨.hbm, 185, rfl⟩
abbrev main_call4_cst : Ref sig .tc := ⟨.hbm, 186, rfl⟩
abbrev main_call4_v15 : Ref sig .tc := ⟨.hbm, 187, rfl⟩
abbrev main_v45 : Ref sig .tc := ⟨.hbm, 188, rfl⟩
abbrev main_v46 : Ref sig .tc := ⟨.hbm, 189, rfl⟩
abbrev main_v47 : Ref sig .tc := ⟨.hbm, 190, rfl⟩
abbrev main_v48 : Ref sig .tc := ⟨.hbm, 191, rfl⟩
abbrev main_c_8 : Ref sig .tc := ⟨.hbm, 192, rfl⟩
abbrev main_c_9 : Ref sig .tc := ⟨.hbm, 193, rfl⟩
abbrev main_v49_0 : Ref sig .tc := ⟨.hbm, 194, rfl⟩
abbrev main_v49_1 : Ref sig .tc := ⟨.hbm, 195, rfl⟩
abbrev main_v49_2 : Ref sig .tc := ⟨.hbm, 196, rfl⟩
abbrev main_v49_3 : Ref sig .tc := ⟨.hbm, 197, rfl⟩
abbrev main_v49_4 : Ref sig .tc := ⟨.hbm, 198, rfl⟩
abbrev main_while1c_c_14 : Ref sig .tc := ⟨.hbm, 199, rfl⟩
abbrev main_while1c_v55 : Ref sig .tc := ⟨.hbm, 200, rfl⟩
abbrev main_while1b_c_14 : Ref sig .tc := ⟨.hbm, 201, rfl⟩
abbrev main_while1b_v55 : Ref sig .tc := ⟨.hbm, 202, rfl⟩
abbrev main_while1b_c_15 : Ref sig .tc := ⟨.hbm, 203, rfl⟩
abbrev main_while1b_v56 : Ref sig .tc := ⟨.hbm, 204, rfl⟩
abbrev main_while1b_c_16 : Ref sig .tc := ⟨.hbm, 205, rfl⟩
abbrev main_while1b_v57 : Ref sig .tc := ⟨.hbm, 206, rfl⟩
abbrev main_while1b_call5_c : Ref sig .tc := ⟨.hbm, 207, rfl⟩
abbrev main_while1b_call5_v0 : Ref sig .tc := ⟨.hbm, 208, rfl⟩
abbrev main_while1b_call5_v1 : Ref sig .tc := ⟨.hbm, 209, rfl⟩
abbrev main_while1b_call5_c_0 : Ref sig .tc := ⟨.hbm, 210, rfl⟩
abbrev main_while1b_call5_v2 : Ref sig .tc := ⟨.hbm, 211, rfl⟩
abbrev main_while1b_call5_v3 : Ref sig .tc := ⟨.hbm, 212, rfl⟩
abbrev main_while1b_call5_c_1 : Ref sig .tc := ⟨.hbm, 213, rfl⟩
abbrev main_while1b_call5_c_2 : Ref sig .tc := ⟨.hbm, 214, rfl⟩
abbrev main_while1b_call5_c_3 : Ref sig .tc := ⟨.hbm, 215, rfl⟩
abbrev main_while1b_call5_v4 : Ref sig .tc := ⟨.hbm, 216, rfl⟩
abbrev main_while1b_v58 : Ref sig .tc := ⟨.hbm, 217, rfl⟩
abbrev main_while1b_call6_c : Ref sig .tc := ⟨.hbm, 218, rfl⟩
abbrev main_while1b_call6_v0 : Ref sig .tc := ⟨.hbm, 219, rfl⟩
abbrev main_while1b_call6_v1 : Ref sig .tc := ⟨.hbm, 220, rfl⟩
abbrev main_while1b_call6_c_0 : Ref sig .tc := ⟨.hbm, 221, rfl⟩
abbrev main_while1b_call6_v2 : Ref sig .tc := ⟨.hbm, 222, rfl⟩
abbrev main_while1b_call6_v3 : Ref sig .tc := ⟨.hbm, 223, rfl⟩
abbrev main_while1b_call6_c_1 : Ref sig .tc := ⟨.hbm, 224, rfl⟩
abbrev main_while1b_call6_v4 : Ref sig .tc := ⟨.hbm, 225, rfl⟩
abbrev main_while1b_v59 : Ref sig .tc := ⟨.hbm, 226, rfl⟩
abbrev main_while1b_c_17 : Ref sig .tc := ⟨.hbm, 227, rfl⟩
abbrev main_while1b_call7_v0 : Ref sig .tc := ⟨.hbm, 228, rfl⟩
abbrev main_while1b_v60 : Ref sig .tc := ⟨.hbm, 229, rfl⟩
abbrev main_while1b_c_18 : Ref sig .tc := ⟨.hbm, 230, rfl⟩
abbrev main_while1b_v61 : Ref sig .tc := ⟨.hbm, 231, rfl⟩
abbrev main_while1b_c_19 : Ref sig .tc := ⟨.hbm, 232, rfl⟩
abbrev main_while1b_v62 : Ref sig .tc := ⟨.hbm, 233, rfl⟩
abbrev main_while1b_c_20 : Ref sig .tc := ⟨.hbm, 234, rfl⟩
abbrev main_while1b_v63 : Ref sig .tc := ⟨.hbm, 235, rfl⟩
abbrev main_while1b_c_21 : Ref sig .tc := ⟨.hbm, 236, rfl⟩
abbrev main_while1b_v64 : Ref sig .tc := ⟨.hbm, 237, rfl⟩
abbrev main_while1b_v65 : Ref sig .tc := ⟨.hbm, 238, rfl⟩
abbrev main_while1b_c_22 : Ref sig .tc := ⟨.hbm, 239, rfl⟩
abbrev main_while1b_c_23 : Ref sig .tc := ⟨.hbm, 240, rfl⟩
abbrev main_while1b_v66 : Ref sig .tc := ⟨.hbm, 241, rfl⟩
abbrev main_while1b_v67 : Ref sig .tc := ⟨.hbm, 242, rfl⟩
abbrev main_while1b_v68 : Ref sig .tc := ⟨.hbm, 243, rfl⟩
abbrev main_while1b_v69 : Ref sig .tc := ⟨.hbm, 244, rfl⟩
abbrev main_while1b_v70 : Ref sig .tc := ⟨.hbm, 245, rfl⟩
abbrev main_while1b_c_24 : Ref sig .tc := ⟨.hbm, 246, rfl⟩
abbrev main_while1b_v71 : Ref sig .tc := ⟨.hbm, 247, rfl⟩
abbrev main_while1b_c_25 : Ref sig .tc := ⟨.hbm, 248, rfl⟩
abbrev main_while1b_v72 : Ref sig .tc := ⟨.hbm, 249, rfl⟩
abbrev main_while1b_c_26 : Ref sig .tc := ⟨.hbm, 250, rfl⟩
abbrev main_while1b_v73 : Ref sig .tc := ⟨.hbm, 251, rfl⟩
abbrev main_while1b_c_27 : Ref sig .tc := ⟨.hbm, 252, rfl⟩
abbrev main_while1b_v74 : Ref sig .tc := ⟨.hbm, 253, rfl⟩
abbrev main_while1b_v75 : Ref sig .tc := ⟨.hbm, 254, rfl⟩
abbrev main_while1b_c_28 : Ref sig .tc := ⟨.hbm, 255, rfl⟩
abbrev main_while1b_c_29 : Ref sig .tc := ⟨.hbm, 256, rfl⟩
abbrev main_while1b_v76 : Ref sig .tc := ⟨.hbm, 257, rfl⟩
abbrev main_while1b_v77 : Ref sig .tc := ⟨.hbm, 258, rfl⟩
abbrev main_while1b_v78 : Ref sig .tc := ⟨.hbm, 259, rfl⟩
abbrev main_while1b_v79 : Ref sig .tc := ⟨.hbm, 260, rfl⟩
abbrev main_while1b_v80 : Ref sig .tc := ⟨.hbm, 261, rfl⟩
abbrev main_while1b_v81 : Ref sig .tc := ⟨.hbm, 262, rfl⟩
abbrev main_while1b_c_30 : Ref sig .tc := ⟨.hbm, 263, rfl⟩
abbrev main_while1b_v82 : Ref sig .tc := ⟨.hbm, 264, rfl⟩
abbrev main_while1b_c_31 : Ref sig .tc := ⟨.hbm, 265, rfl⟩
abbrev main_while1b_v83 : Ref sig .tc := ⟨.hbm, 266, rfl⟩
abbrev main_while1b_c_32 : Ref sig .tc := ⟨.hbm, 267, rfl⟩
abbrev main_while1b_v84 : Ref sig .tc := ⟨.hbm, 268, rfl⟩
abbrev main_while1b_c_33 : Ref sig .tc := ⟨.hbm, 269, rfl⟩
abbrev main_while1b_v85 : Ref sig .tc := ⟨.hbm, 270, rfl⟩
abbrev main_while1b_v86 : Ref sig .tc := ⟨.hbm, 271, rfl⟩
abbrev main_while1b_c_34 : Ref sig .tc := ⟨.hbm, 272, rfl⟩
abbrev main_while1b_c_35 : Ref sig .tc := ⟨.hbm, 273, rfl⟩
abbrev main_while1b_v87 : Ref sig .tc := ⟨.hbm, 274, rfl⟩
abbrev main_while1b_v88 : Ref sig .tc := ⟨.hbm, 275, rfl⟩
abbrev main_while1b_v89 : Ref sig .tc := ⟨.hbm, 276, rfl⟩
abbrev main_while1b_v90 : Ref sig .tc := ⟨.hbm, 277, rfl⟩
abbrev main_while1b_v91 : Ref sig .tc := ⟨.hbm, 278, rfl⟩
abbrev main_while1b_v92 : Ref sig .tc := ⟨.hbm, 279, rfl⟩
abbrev main_while1b_v93 : Ref sig .tc := ⟨.hbm, 280, rfl⟩
abbrev main_while1b_v94 : Ref sig .tc := ⟨.hbm, 281, rfl⟩
abbrev main_while1b_v95 : Ref sig .tc := ⟨.hbm, 282, rfl⟩
abbrev main_while1b_cst_36 : Ref sig .tc := ⟨.hbm, 283, rfl⟩
abbrev main_while1b_v96 : Ref sig .tc := ⟨.hbm, 284, rfl⟩
abbrev main_while1b_v97 : Ref sig .tc := ⟨.hbm, 285, rfl⟩
abbrev main_while1b_v98 : Ref sig .tc := ⟨.hbm, 286, rfl⟩
abbrev main_while1b_c_37 : Ref sig .tc := ⟨.hbm, 287, rfl⟩
abbrev main_while1b_v99 : Ref sig .tc := ⟨.hbm, 288, rfl⟩
abbrev main_v50 : Ref sig .tc := ⟨.hbm, 289, rfl⟩
abbrev main_v51 : Ref sig .tc := ⟨.hbm, 290, rfl⟩
abbrev main_v52 : Ref sig .tc := ⟨.hbm, 291, rfl⟩
abbrev main_v53 : Ref sig .tc := ⟨.hbm, 292, rfl⟩
abbrev main_v54 : Ref sig .tc := ⟨.hbm, 293, rfl⟩

abbrev nD : Nat := 1
abbrev τ : Topo := Topo.v7x

variable {F : FTy → Type} [FloatOps F]

abbrev main_while0_count : Scf.Loop 32 := ⟨0#32, 20#32, 1#32⟩

abbrev main_while1_count : Scf.Loop 32 := ⟨0#32, 20#32, 1#32⟩
-- ==== Proof.Body.lean ====
/-
  The kernel body of `KernelIdeal`, run at any float instance `F`.

  A grid point is one layer of one half of the batch. What the point leaves in the carried activations is an expression
  of what it found there, put together from `enter`, `vq`, `layerFull` and `layerCenter`. The four conditions the body tests
  tell five cases apart; each case is one run of the body below.
-/
module

public import proofs.«01_k».proof.Proof.Gen.KernelIdeal.Frame
public import proofs.«01_k».proof.Proof.Gen.KernelIdeal.Skeleton
public import Idealize.ShloMosaic.Lib.Claim
public import Idealize.ShloMosaic.Lib.Pipeline.Value

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The conditions the body tests -/

/-- The layer number of a point as the body computes with it: its second grid coordinate as a 32-bit word. -/
abbrev layerWord (i : grid0.Coords) : BitVec 32 := BitVec.ofNat 32 (i 1).val
/-- The first layer of a half: the activations are entered. -/
abbrev condEnter (i : grid0.Coords) : BitVec 1 :=
  Scalar.cmpi .ne (Scalar.extui (Scalar.cmpi .eq (layerWord i) 0#32) : BitVec 32) 0#32
/-- The first decoder layer: the activations are quantized. -/
abbrev condVq (i : grid0.Coords) : BitVec 1 :=
  Scalar.cmpi .ne (Scalar.extui (Scalar.cmpi .eq (layerWord i) 20#32) : BitVec 32) 0#32
/-- The divisor of the layer number, ten, as the body spells it. -/
abbrev tenWord : BitVec 32 := Scalar.select (Scalar.cmpi .eq 10#32 0#32) 1#32 10#32
/-- The layer number modulo ten, by the body's signed remainder and its correction. -/
abbrev modWord (i : grid0.Coords) : BitVec 32 :=
  Scalar.select (Scalar.andi (Scalar.xori (Scalar.cmpi .slt (Scalar.remsi (layerWord i) tenWord) 0#32) (Scalar.cmpi .slt tenWord 0#32))
    (Scalar.cmpi .ne (Scalar.remsi (layerWord i) tenWord) 0#32)) (Scalar.addi (Scalar.remsi (layerWord i) tenWord) tenWord) (Scalar.remsi (layerWord i) tenWord)
/-- The layer's dilation: one shifted left by the layer number modulo ten. -/
abbrev dilWord (i : grid0.Coords) : BitVec 32 := Scalar.shli 1#32 (modWord i)
/-- The dilation is less than the sequence length: the layer reads all three taps. -/
abbrev condFull (i : grid0.Coords) : BitVec 1 :=
  Scalar.cmpi .ne (Scalar.extui (Scalar.cmpi .slt (dilWord i) 256#32) : BitVec 32) 0#32

/-! ## What a point computes -/

/-- The middle third of a layer's weights: the rows the centre tap multiplies. -/
abbrev rMid : Rect S1x768x256 := Rect.unit (s := S1x768x256) ![0, 256, 0] S1x256x256.size inb_S1x768x256_S1x256x256_0_256_0
/-- The activations entering the first layer: the actions through the input projection. -/
def enter (x0 : Vec F S1x1024x32 .f32) (x1 : Vec F S32x256 .f32) (x2 : Vec F S1x256 .f32) : Vec F S1024x256 .f32 := k0_pay6 x0 x1 x2
/-- The quantized activations: normalized, the nearest codeword's row in place of each. -/
def vq (X : Vec F S1024x256 .f32) (x5 x6 : Vec F S1x256 .f32) (x7 x8 : Vec F S256x256 .f32) : Vec F S1024x256 .f32 :=
  k0_pay8 (k0_pay3 X x5 x6) (k0_pay4 x8 x8) (k0_pay5 X x5 x6 x8) x7
/-- One layer reading all three taps. -/
def layerFull (i : grid0.Coords) (X : Vec F S1024x256 .f32) (x3 : Vec F S1x768x256 .f32) (x4 : Vec F S1x1x256 .f32) : Vec F S1024x256 .f32 :=
  k0_pay11 X (k0_pay9 i X k0_pay7 x3) x4
/-- One layer reading the centre tap alone. -/
def layerCenter (X : Vec F S1024x256 .f32) (x3 : Vec F S1x768x256 .f32) (x4 : Vec F S1x1x256 .f32) : Vec F S1024x256 .f32 :=
  k0_pay11 X (k0_pay10 X (View.ld x3 rMid)) x4

theorem hz2 : (![0, 0] : Fin 2 → ℕ) = fun _ => 0 := by decide
theorem hz3 : (![0, 0, 0] : Fin 3 → ℕ) = fun _ => 0 := by decide

/-- A store of a whole buffer through the rectangle at zero offsets leaves its payload, whatever stores came before. -/
theorem read_writes_whole {sig : RefSig} {κ : Kind} {sp : Space} {S : Shape} {e : EltTy} [∀ e, Nonempty (Elt F e)]
    (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon _ _ _ fun y => ⟨_, List.mem_cons_self .., View.mem_set_unit_zero h inb y⟩).trans
    (View.canon_cons_unit_zero h inb w L)

/-- A load of a whole buffer through the rectangle at zero offsets reads the contents. -/
theorem readAt_whole {sig : RefSig} {κ : Kind} {sp : Space} {S : Shape} {e : EltTy}
    (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  View.ld_unit_zero h inb (v.read (Elt F) f)

/-- A load of a whole buffer after a store of the whole buffer reads that store's payload. -/
theorem readCov_whole {sig : RefSig} {κ : Kind} {sp : Space} {S : Shape} {e : EltTy} [∀ e, Nonempty (Elt F e)]
    (v : View sig κ sp S e) {off : Fin S.rank → ℕ} (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-- `read_writes_whole`, `readAt_whole`, `readCov_whole` at the offsets a printed body of rank 2 spells. -/
theorem read_writes_whole2 {sig : RefSig} {κ : Kind} {sp : Space} {d : Fin 2 → ℕ} {e : EltTy} [∀ e, Nonempty (Elt F e)]
    (v : View sig κ sp ⟨2, d⟩ e) (f : v.ty.Contents (Elt F)) (inb : ∀ a, ![0, 0] a + d a ≤ d a) (w : (⟨2, d⟩ : Shape).Idx → Elt F e)
    (L : List (View.Piece (Elt F) ⟨2, d⟩ e)) :
    v.read (Elt F) (v.writes (Elt F) f ((⟨Rect.unit (s := ⟨2, d⟩) ![0, 0] d inb, w⟩ : View.Piece (Elt F) ⟨2, d⟩ e) :: L)) = w :=
  read_writes_whole v f hz2 inb w L
theorem readAt_whole2 {sig : RefSig} {κ : Kind} {sp : Space} {d : Fin 2 → ℕ} {e : EltTy}
    (v : View sig κ sp ⟨2, d⟩ e) (f : v.ty.Contents (Elt F)) (inb : ∀ a, ![0, 0] a + d a ≤ d a) :
    v.readAt (Elt F) (Rect.unit (s := ⟨2, d⟩) ![0, 0] d inb).toLoadRect f = v.read (Elt F) f :=
  readAt_whole v f hz2 inb
theorem readCov_whole2 {sig : RefSig} {κ : Kind} {sp : Space} {d : Fin 2 → ℕ} {e : EltTy} [∀ e, Nonempty (Elt F e)]
    (v : View sig κ sp ⟨2, d⟩ e) (inb : ∀ a, ![0, 0] a + d a ≤ d a) (w : (⟨2, d⟩ : Shape).Idx → Elt F e)
    (L : List (View.Piece (Elt F) ⟨2, d⟩ e)) :
    v.readCov ((⟨Rect.unit (s := ⟨2, d⟩) ![0, 0] d inb, w⟩ : View.Piece (Elt F) ⟨2, d⟩ e) :: L) (Rect.unit (s := ⟨2, d⟩) ![0, 0] d inb).toLoadRect = w :=
  readCov_whole v inb w L

/-- `read_writes_whole`, `readAt_whole`, `readCov_whole` at the offsets a printed body of rank 3 spells. -/
theorem read_writes_whole3 {sig : RefSig} {κ : Kind} {sp : Space} {d : Fin 3 → ℕ} {e : EltTy} [∀ e, Nonempty (Elt F e)]
    (v : View sig κ sp ⟨3, d⟩ e) (f : v.ty.Contents (Elt F)) (inb : ∀ a, ![0, 0, 0] a + d a ≤ d a) (w : (⟨3, d⟩ : Shape).Idx → Elt F e)
    (L : List (View.Piece (Elt F) ⟨3, d⟩ e)) :
    v.read (Elt F) (v.writes (Elt F) f ((⟨Rect.unit (s := ⟨3, d⟩) ![0, 0, 0] d inb, w⟩ : View.Piece (Elt F) ⟨3, d⟩ e) :: L)) = w :=
  read_writes_whole v f hz3 inb w L
theorem readAt_whole3 {sig : RefSig} {κ : Kind} {sp : Space} {d : Fin 3 → ℕ} {e : EltTy}
    (v : View sig κ sp ⟨3, d⟩ e) (f : v.ty.Contents (Elt F)) (inb : ∀ a, ![0, 0, 0] a + d a ≤ d a) :
    v.readAt (Elt F) (Rect.unit (s := ⟨3, d⟩) ![0, 0, 0] d inb).toLoadRect f = v.read (Elt F) f :=
  readAt_whole v f hz3 inb
theorem readCov_whole3 {sig : RefSig} {κ : Kind} {sp : Space} {d : Fin 3 → ℕ} {e : EltTy} [∀ e, Nonempty (Elt F e)]
    (v : View sig κ sp ⟨3, d⟩ e) (inb : ∀ a, ![0, 0, 0] a + d a ≤ d a) (w : (⟨3, d⟩ : Shape).Idx → Elt F e)
    (L : List (View.Piece (Elt F) ⟨3, d⟩ e)) :
    v.readCov ((⟨Rect.unit (s := ⟨3, d⟩) ![0, 0, 0] d inb, w⟩ : View.Piece (Elt F) ⟨3, d⟩ e) :: L) (Rect.unit (s := ⟨3, d⟩) ![0, 0, 0] d inb).toLoadRect = w :=
  readCov_whole v inb w L

/-- The first layer of a half: the activations are entered and one full layer is applied. -/
theorem run_enter (c : Dev nD) (E : Set ℕ) (i : grid0.Coords) (arg2 : Memref sig .tc .vmem S1x1024x32 .f32) (harg2 : arg2.IsWhole) (arg3 : Memref sig .tc .vmem S32x256 .f32) (harg3 : arg3.IsWhole) (arg4 : Memref sig .tc .vmem S1x256 .f32) (harg4 : arg4.IsWhole) (arg5 : Memref sig .tc .vmem S1x768x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x32 .f32) (harg11 : arg11.IsWhole) (arg12 : Memref sig .tc .vmem S1x32 .f32) (harg12 : arg12.IsWhole) (arg13 : Memref sig .tc .vmem S1x1024x32 .f32) (harg13 : arg13.IsWhole) (arg14 : Memref sig .tc .vmem S1024x256 .f32) (harg14 : arg14.IsWhole) (arg15 : Memref sig .tc .vmem S1024x256 .i32) (harg15 : arg15.IsWhole)
    (x0 : Vec F S1x1024x32 .f32) (x1 : Vec F S32x256 .f32) (x2 : Vec F S1x256 .f32) (x3 : Vec F S1x768x256 .f32) (x4 : Vec F S1x1x256 .f32) (x5 : Vec F S1x256 .f32) (x6 : Vec F S1x256 .f32) (x7 : Vec F S256x256 .f32) (x8 : Vec F S256x256 .f32) (x9 : Vec F S256x32 .f32) (x10 : Vec F S1x32 .f32) (y : Vec F S1x1024x32 .f32) (X : Vec F S1024x256 .f32) (T : Vec F S1024x256 .i32) (h1 : condEnter i = 1#1) (h2 : ¬ condVq i = 1#1) (h3 : condFull i = 1#1) (h4 : ¬ k0_cond4 i = 1#1)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare y ∗ owns (c : Thread nD τ) arg14 fullShare X ∗ owns (c : Thread nD τ) arg15 fullShare (T : Vec F S1024x256 .i32)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare (y) ∗ owns (c : Thread nD τ) arg14 fullShare (layerFull i (enter x0 x1 x2) x3 x4) ∗ owns (c : Thread nD τ) arg15 fullShare (k0_pay7 : Vec F S1024x256 .i32)) -∗ K ⟨⟩))
      ⊢ wp frame (wpE (defs₀ (F := F)) Variants.none c none) E (cc0__fwd_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_run_names; simp only [read_writes_whole2, readCov_whole2, readAt_whole2, readAt_whole3]; rfl
  iexists _; isplitr
  swap; · iexact H13
  ipureintro
  exact read_writes_whole _ _ hz2 _ _ _

/-- The first decoder layer: the activations are quantized and one full layer is applied. -/
theorem run_vq (c : Dev nD) (E : Set ℕ) (i : grid0.Coords) (arg2 : Memref sig .tc .vmem S1x1024x32 .f32) (harg2 : arg2.IsWhole) (arg3 : Memref sig .tc .vmem S32x256 .f32) (harg3 : arg3.IsWhole) (arg4 : Memref sig .tc .vmem S1x256 .f32) (harg4 : arg4.IsWhole) (arg5 : Memref sig .tc .vmem S1x768x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x32 .f32) (harg11 : arg11.IsWhole) (arg12 : Memref sig .tc .vmem S1x32 .f32) (harg12 : arg12.IsWhole) (arg13 : Memref sig .tc .vmem S1x1024x32 .f32) (harg13 : arg13.IsWhole) (arg14 : Memref sig .tc .vmem S1024x256 .f32) (harg14 : arg14.IsWhole) (arg15 : Memref sig .tc .vmem S1024x256 .i32) (harg15 : arg15.IsWhole)
    (x0 : Vec F S1x1024x32 .f32) (x1 : Vec F S32x256 .f32) (x2 : Vec F S1x256 .f32) (x3 : Vec F S1x768x256 .f32) (x4 : Vec F S1x1x256 .f32) (x5 : Vec F S1x256 .f32) (x6 : Vec F S1x256 .f32) (x7 : Vec F S256x256 .f32) (x8 : Vec F S256x256 .f32) (x9 : Vec F S256x32 .f32) (x10 : Vec F S1x32 .f32) (y : Vec F S1x1024x32 .f32) (X : Vec F S1024x256 .f32) (h1 : ¬ condEnter i = 1#1) (h2 : condVq i = 1#1) (h3 : condFull i = 1#1) (h4 : ¬ k0_cond4 i = 1#1)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare y ∗ owns (c : Thread nD τ) arg14 fullShare X ∗ owns (c : Thread nD τ) arg15 fullShare (k0_pay7 : Vec F S1024x256 .i32)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare (y) ∗ owns (c : Thread nD τ) arg14 fullShare (layerFull i (vq X x5 x6 x7 x8) x3 x4) ∗ owns (c : Thread nD τ) arg15 fullShare (k0_pay7 : Vec F S1024x256 .i32)) -∗ K ⟨⟩))
      ⊢ wp frame (wpE (defs₀ (F := F)) Variants.none c none) E (cc0__fwd_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_run_names; simp only [read_writes_whole2, readCov_whole2, readAt_whole2, readAt_whole3]; simp only [hf13]; rfl
  iexists f13; isplitr; · ipureintro; assumption
  iexact H13

/-- Any other layer of dilation below the sequence length: one full layer is applied. -/
theorem run_full (c : Dev nD) (E : Set ℕ) (i : grid0.Coords) (arg2 : Memref sig .tc .vmem S1x1024x32 .f32) (harg2 : arg2.IsWhole) (arg3 : Memref sig .tc .vmem S32x256 .f32) (harg3 : arg3.IsWhole) (arg4 : Memref sig .tc .vmem S1x256 .f32) (harg4 : arg4.IsWhole) (arg5 : Memref sig .tc .vmem S1x768x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x32 .f32) (harg11 : arg11.IsWhole) (arg12 : Memref sig .tc .vmem S1x32 .f32) (harg12 : arg12.IsWhole) (arg13 : Memref sig .tc .vmem S1x1024x32 .f32) (harg13 : arg13.IsWhole) (arg14 : Memref sig .tc .vmem S1024x256 .f32) (harg14 : arg14.IsWhole) (arg15 : Memref sig .tc .vmem S1024x256 .i32) (harg15 : arg15.IsWhole)
    (x0 : Vec F S1x1024x32 .f32) (x1 : Vec F S32x256 .f32) (x2 : Vec F S1x256 .f32) (x3 : Vec F S1x768x256 .f32) (x4 : Vec F S1x1x256 .f32) (x5 : Vec F S1x256 .f32) (x6 : Vec F S1x256 .f32) (x7 : Vec F S256x256 .f32) (x8 : Vec F S256x256 .f32) (x9 : Vec F S256x32 .f32) (x10 : Vec F S1x32 .f32) (y : Vec F S1x1024x32 .f32) (X : Vec F S1024x256 .f32) (h1 : ¬ condEnter i = 1#1) (h2 : ¬ condVq i = 1#1) (h3 : condFull i = 1#1) (h4 : ¬ k0_cond4 i = 1#1)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare y ∗ owns (c : Thread nD τ) arg14 fullShare X ∗ owns (c : Thread nD τ) arg15 fullShare (k0_pay7 : Vec F S1024x256 .i32)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare (y) ∗ owns (c : Thread nD τ) arg14 fullShare (layerFull i X x3 x4) ∗ owns (c : Thread nD τ) arg15 fullShare (k0_pay7 : Vec F S1024x256 .i32)) -∗ K ⟨⟩))
      ⊢ wp frame (wpE (defs₀ (F := F)) Variants.none c none) E (cc0__fwd_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_run_names; simp only [read_writes_whole2, readCov_whole2, readAt_whole2, readAt_whole3]; simp only [hf13]; rfl
  iexists f13; isplitr; · ipureintro; assumption
  iexact H13

/-- A layer of larger dilation, not the last: the centre tap alone is applied. -/
theorem run_center (c : Dev nD) (E : Set ℕ) (i : grid0.Coords) (arg2 : Memref sig .tc .vmem S1x1024x32 .f32) (harg2 : arg2.IsWhole) (arg3 : Memref sig .tc .vmem S32x256 .f32) (harg3 : arg3.IsWhole) (arg4 : Memref sig .tc .vmem S1x256 .f32) (harg4 : arg4.IsWhole) (arg5 : Memref sig .tc .vmem S1x768x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x32 .f32) (harg11 : arg11.IsWhole) (arg12 : Memref sig .tc .vmem S1x32 .f32) (harg12 : arg12.IsWhole) (arg13 : Memref sig .tc .vmem S1x1024x32 .f32) (harg13 : arg13.IsWhole) (arg14 : Memref sig .tc .vmem S1024x256 .f32) (harg14 : arg14.IsWhole) (arg15 : Memref sig .tc .vmem S1024x256 .i32) (harg15 : arg15.IsWhole)
    (x0 : Vec F S1x1024x32 .f32) (x1 : Vec F S32x256 .f32) (x2 : Vec F S1x256 .f32) (x3 : Vec F S1x768x256 .f32) (x4 : Vec F S1x1x256 .f32) (x5 : Vec F S1x256 .f32) (x6 : Vec F S1x256 .f32) (x7 : Vec F S256x256 .f32) (x8 : Vec F S256x256 .f32) (x9 : Vec F S256x32 .f32) (x10 : Vec F S1x32 .f32) (y : Vec F S1x1024x32 .f32) (X : Vec F S1024x256 .f32) (h1 : ¬ condEnter i = 1#1) (h2 : ¬ condVq i = 1#1) (h3 : ¬ condFull i = 1#1) (h4 : ¬ k0_cond4 i = 1#1)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare y ∗ owns (c : Thread nD τ) arg14 fullShare X ∗ owns (c : Thread nD τ) arg15 fullShare (k0_pay7 : Vec F S1024x256 .i32)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare (y) ∗ owns (c : Thread nD τ) arg14 fullShare (layerCenter X x3 x4) ∗ owns (c : Thread nD τ) arg15 fullShare (k0_pay7 : Vec F S1024x256 .i32)) -∗ K ⟨⟩))
      ⊢ wp frame (wpE (defs₀ (F := F)) Variants.none c none) E (cc0__fwd_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    sl_unfold_run_names; simp only [read_writes_whole2, readCov_whole2, readAt_whole2, readAt_whole3]; rfl
  iexists f13; isplitr; · ipureintro; assumption
  iexact H13

/-- The last layer: the centre tap alone is applied and the activations are projected into the output block. -/
theorem run_last (c : Dev nD) (E : Set ℕ) (i : grid0.Coords) (arg2 : Memref sig .tc .vmem S1x1024x32 .f32) (harg2 : arg2.IsWhole) (arg3 : Memref sig .tc .vmem S32x256 .f32) (harg3 : arg3.IsWhole) (arg4 : Memref sig .tc .vmem S1x256 .f32) (harg4 : arg4.IsWhole) (arg5 : Memref sig .tc .vmem S1x768x256 .f32) (harg5 : arg5.IsWhole) (arg6 : Memref sig .tc .vmem S1x1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x32 .f32) (harg11 : arg11.IsWhole) (arg12 : Memref sig .tc .vmem S1x32 .f32) (harg12 : arg12.IsWhole) (arg13 : Memref sig .tc .vmem S1x1024x32 .f32) (harg13 : arg13.IsWhole) (arg14 : Memref sig .tc .vmem S1024x256 .f32) (harg14 : arg14.IsWhole) (arg15 : Memref sig .tc .vmem S1024x256 .i32) (harg15 : arg15.IsWhole)
    (x0 : Vec F S1x1024x32 .f32) (x1 : Vec F S32x256 .f32) (x2 : Vec F S1x256 .f32) (x3 : Vec F S1x768x256 .f32) (x4 : Vec F S1x1x256 .f32) (x5 : Vec F S1x256 .f32) (x6 : Vec F S1x256 .f32) (x7 : Vec F S256x256 .f32) (x8 : Vec F S256x256 .f32) (x9 : Vec F S256x32 .f32) (x10 : Vec F S1x32 .f32) (y : Vec F S1x1024x32 .f32) (X : Vec F S1024x256 .f32) (h1 : ¬ condEnter i = 1#1) (h2 : ¬ condVq i = 1#1) (h3 : ¬ condFull i = 1#1) (h4 : k0_cond4 i = 1#1)
    (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare y ∗ owns (c : Thread nD τ) arg14 fullShare X ∗ owns (c : Thread nD τ) arg15 fullShare (k0_pay7 : Vec F S1024x256 .i32)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare (k0_pay1 (layerCenter X x3 x4) x9 x10) ∗ owns (c : Thread nD τ) arg14 fullShare (layerCenter X x3 x4) ∗ owns (c : Thread nD τ) arg15 fullShare (k0_pay7 : Vec F S1024x256 .i32)) -∗ K ⟨⟩))
      ⊢ wp frame (wpE (defs₀ (F := F)) Variants.none c none) E (cc0__fwd_kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__fwd_kernel_eq_skeleton]; unfold cc0__fwd_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    sl_unfold_run_names; simp only [read_writes_whole3, readCov_whole2, readAt_whole2, readAt_whole3]; rfl
  isplitl [H12]
  · iexists _; isplitr
    swap; · iexact H12
    ipureintro
    sl_unfold_run_names; simp only [read_writes_whole2, readCov_whole2, readAt_whole2, readAt_whole3]; rfl
  iexists f13; isplitr; · ipureintro; assumption
  iexact H13

end Cert.Proof.Body

end
-- ==== Proof.Run.lean ====
/-
  The run of `KernelIdeal` at any float instance `F`, and its frame.

  `traj` is what the carried activations hold before each grid point. The invariant of the grid says just that, and that
  the second scratch buffer holds the row numbers within a sequence; before the first point it says nothing. The output
  block is stored at the last layer of a half only, from the activations that layer leaves.
-/
module

public import proofs.«01_k».proof.Proof.Body

@[expose] public section

set_option maxRecDepth 16384

noncomputable section

namespace Cert.Proof.Run

open Cert.KernelIdeal Cert.KernelIdeal.Gen Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions over the grid -/

/-- A half is entered at the points ≡ 0 (mod 40), -/
theorem condEnter_iff : ∀ t : Fin grid0.N, condEnter (grid0.coords t) = 1#1 ↔ t.val % 40 = 0 := by decide +kernel
/-- quantized at the points ≡ 20 (mod 40), -/
theorem condVq_iff : ∀ t : Fin grid0.N, condVq (grid0.coords t) = 1#1 ↔ t.val % 40 = 20 := by decide +kernel
/-- a layer reads all three taps where its number modulo ten is below eight, -/
theorem condFull_iff : ∀ t : Fin grid0.N, condFull (grid0.coords t) = 1#1 ↔ t.val % 10 < 8 := by decide +kernel
/-- and the output is stored at the points ≡ 39 (mod 40). -/
theorem condOut_iff : ∀ t : Fin grid0.N, k0_cond4 (grid0.coords t) = 1#1 ↔ t.val % 40 = 39 := by decide +kernel

/-! ## The carried activations, point by point -/

/-- What point `t` leaves in the carried activations, from what it finds there. -/
def stepAt (c : Dev nD) (t : Fin cfg0.N) (X : Vec F S1024x256 .f32) : Vec F S1024x256 .f32 :=
  if t.val % 40 = 0 then layerFull (grid0.coords t) (enter (iblk m c 0 t) (iblk m c 1 t) (iblk m c 2 t)) (iblk m c 3 t) (iblk m c 4 t)
  else if t.val % 40 = 20 then
    layerFull (grid0.coords t) (vq X (iblk m c 5 t) (iblk m c 6 t) (iblk m c 7 t) (iblk m c 8 t)) (iblk m c 3 t) (iblk m c 4 t)
  else if t.val % 10 < 8 then layerFull (grid0.coords t) X (iblk m c 3 t) (iblk m c 4 t)
  else layerCenter X (iblk m c 3 t) (iblk m c 4 t)

/-- What the carried activations hold before point `n` (nothing is said before the first point). -/
def traj (c : Dev nD) : ℕ → Vec F S1024x256 .f32
  | 0 => fun _ => Scalar.ofBits .f32 0#32
  | n + 1 => if h : n < cfg0.N then stepAt m c ⟨n, h⟩ (traj c n) else traj c n

/-- One more point is one more step. -/
theorem traj_succ (c : Dev nD) (t : Fin cfg0.N) : traj m c (t.val + 1) = stepAt m c t (traj m c t.val) := by
  rw [traj, dif_pos t.isLt]

/-- What the output window's buffer holds once the last layer of a half has stored it. -/
def outAt (c : Dev nD) (t : Fin cfg0.N) : Vec F S1x1024x32 .f32 :=
  k0_pay1 (traj m c (t.val + 1)) (iblk m c 9 t) (iblk m c 10 t)

/-- The invariant before point `n`: the two scratch buffers, at `traj` and the row numbers once a point has run. -/
def inv (c : Dev nD) (n : ℕ) : sProp 𝕄 :=
  iprop(∃ (X : Vec F S1024x256 .f32) (T : Vec F S1024x256 .i32), ⌜n ≠ 0 → X = traj m c n ∧ T = k0_pay7⌝
    ∗ owns (c : Thread nD τ) (Memref.whole cc0_scratch0) fullShare X ∗ owns (c : Thread nD τ) (Memref.whole cc0_scratch1) fullShare T
    ∗ ∃ r, prngReg c r)

/-! ## The pipeline's proof data -/

/-- The proof data of the one pipeline on core `c`: the arrays as the region finds them, each input's buffer at its block,
    the output's at `outAt`, the invariant `inv`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ t := inv m c t.val
  q _ := fullShare
  owed _ := 0

/-- The proof data's arrays are the contents the region finds. -/
theorem A_eq (c : Dev nD) (w : Fin cfg0.W) : (dats m 0 c).A w = V m c (Pipeline.arrRef spec0 w) := by
  dsimp only [dats]
/-- What the body leaves, window by window; -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAt m c t := by dsimp only [dats]
/-- each input's current staging buffer holds its block at every point; -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
/-- and the invariant is `inv`. -/
theorem Φ_eq (c : Dev nD) (t : Fin (cfg0.N + 1)) : (dats m 0 c).Φ t = inv m c t.val := by dsimp only [dats]

/-! ## The body obligation, at a generic point -/

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- What the body leaves of the output window at point `t`: the buffer as found, or `outAt` at the last layer of a half. -/
def outPost (c : Dev nD) (t : Fin cfg0.N) : sProp 𝕄 :=
  if t.val % 40 = 39 then owns (c : Thread nD τ) (st0_11 t) fullShare (outAt m c t)
  else iprop(∃ d, owns (c : Thread nD τ) (st0_11 t) fullShare ((dats m 0 c).before 11 t d))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ outPost m c t)

/-- The body at any point: the inputs' memrefs hold their blocks, so the run of the point's case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, Φ_eq, after0_0, after0_1, after0_2, after0_3, after0_4, after0_5, after0_6, after0_7, after0_8, after0_9, after0_10]
  rw [show (dats m 0 c).owesAt () t.succ = (dats m 0 c).owesAt () t.castSucc from rfl, show t.succ.val = t.val + 1 from rfl,
    show t.castSucc.val = t.val from rfl]
  have hN : t.val < 80 := t.isLt
  have e1 := condEnter_iff t
  have e2 := condVq_iff t
  have e3 := condFull_iff t
  have e4 := condOut_iff t
  have es : traj m c (t.val + 1) = stepAt m c t (traj m c t.val) := traj_succ m c t
  unfold inv
  iintro ⟨⟨%X, %T, %hXT, HX, HT, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases h0 : t.val % 40 = 0
  · rw [es, show stepAt m c t (traj m c t.val) = layerFull (grid0.coords t) (enter (iblk m c 0 t) (iblk m c 1 t) (iblk m c 2 t)) (iblk m c 3 t) (iblk m c 4 t) from by
      unfold stepAt; rw [if_pos h0]]
    iapply (run_enter c Set.univ (grid0.coords t) _ (hstage0_0 _) _ (hstage0_1 _) _ (hstage0_2 _) _ (hstage0_3 _) _ (hstage0_4 _) _ (hstage0_5 _) _ (hstage0_6 _) _ (hstage0_7 _) _ (hstage0_8 _) _ (hstage0_9 _) _ (hstage0_10 _) _ (hstage0_11 _) _ (Memref.isWhole_whole _) _ (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) X T (e1.mpr (by omega)) (fun h => absurd (e2.mp h) (by omega)) (e3.mpr (by omega)) (fun h => absurd (e4.mp h) (by omega)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HX]; · iexact HX
    isplitl [HT]; · iexact HT
    iintro ⟨H0, H1, H2, H3, H4, H5, H6, H7, H8, H9, H10, H11, HX, HT⟩
    isplitl [HX HT HP]
    · iexists _, _
      isplitr; · ipureintro; exact fun _ => ⟨rfl, rfl⟩
      isplitl [HX]; · iexact HX
      isplitl [HT]; · iexact HT
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold outPost
    rw [if_neg (by omega)]; iexists d11; iexact H11
  obtain ⟨rfl, rfl⟩ := hXT (by omega)
  by_cases h20 : t.val % 40 = 20
  · rw [es, show stepAt m c t (traj m c t.val) = layerFull (grid0.coords t) (vq (traj m c t.val) (iblk m c 5 t) (iblk m c 6 t) (iblk m c 7 t) (iblk m c 8 t)) (iblk m c 3 t) (iblk m c 4 t) from by
      unfold stepAt; rw [if_neg h0, if_pos h20]]
    iapply (run_vq c Set.univ (grid0.coords t) _ (hstage0_0 _) _ (hstage0_1 _) _ (hstage0_2 _) _ (hstage0_3 _) _ (hstage0_4 _) _ (hstage0_5 _) _ (hstage0_6 _) _ (hstage0_7 _) _ (hstage0_8 _) _ (hstage0_9 _) _ (hstage0_10 _) _ (hstage0_11 _) _ (Memref.isWhole_whole _) _ (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) (traj m c t.val) (fun h => absurd (e1.mp h) (by omega)) (e2.mpr (by omega)) (e3.mpr (by omega)) (fun h => absurd (e4.mp h) (by omega)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HX]; · iexact HX
    isplitl [HT]; · iexact HT
    iintro ⟨H0, H1, H2, H3, H4, H5, H6, H7, H8, H9, H10, H11, HX, HT⟩
    isplitl [HX HT HP]
    · iexists _, _
      isplitr; · ipureintro; exact fun _ => ⟨rfl, rfl⟩
      isplitl [HX]; · iexact HX
      isplitl [HT]; · iexact HT
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold outPost
    rw [if_neg (by omega)]; iexists d11; iexact H11
  by_cases h8 : t.val % 10 < 8
  · rw [es, show stepAt m c t (traj m c t.val) = layerFull (grid0.coords t) (traj m c t.val) (iblk m c 3 t) (iblk m c 4 t) from by
      unfold stepAt; rw [if_neg h0, if_neg h20, if_pos h8]]
    iapply (run_full c Set.univ (grid0.coords t) _ (hstage0_0 _) _ (hstage0_1 _) _ (hstage0_2 _) _ (hstage0_3 _) _ (hstage0_4 _) _ (hstage0_5 _) _ (hstage0_6 _) _ (hstage0_7 _) _ (hstage0_8 _) _ (hstage0_9 _) _ (hstage0_10 _) _ (hstage0_11 _) _ (Memref.isWhole_whole _) _ (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) (traj m c t.val) (fun h => absurd (e1.mp h) (by omega)) (fun h => absurd (e2.mp h) (by omega)) (e3.mpr (by omega)) (fun h => absurd (e4.mp h) (by omega)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HX]; · iexact HX
    isplitl [HT]; · iexact HT
    iintro ⟨H0, H1, H2, H3, H4, H5, H6, H7, H8, H9, H10, H11, HX, HT⟩
    isplitl [HX HT HP]
    · iexists _, _
      isplitr; · ipureintro; exact fun _ => ⟨rfl, rfl⟩
      isplitl [HX]; · iexact HX
      isplitl [HT]; · iexact HT
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold outPost
    rw [if_neg (by omega)]; iexists d11; iexact H11
  have hc : stepAt m c t (traj m c t.val) = layerCenter (traj m c t.val) (iblk m c 3 t) (iblk m c 4 t) := by
    unfold stepAt; rw [if_neg h0, if_neg h20, if_neg h8]
  by_cases h39 : t.val % 40 = 39
  · rw [es, hc]
    iapply (run_last c Set.univ (grid0.coords t) _ (hstage0_0 _) _ (hstage0_1 _) _ (hstage0_2 _) _ (hstage0_3 _) _ (hstage0_4 _) _ (hstage0_5 _) _ (hstage0_6 _) _ (hstage0_7 _) _ (hstage0_8 _) _ (hstage0_9 _) _ (hstage0_10 _) _ (hstage0_11 _) _ (Memref.isWhole_whole _) _ (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) (traj m c t.val) (fun h => absurd (e1.mp h) (by omega)) (fun h => absurd (e2.mp h) (by omega)) (fun h => absurd (e3.mp h) (by omega)) (e4.mpr (by omega)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HX]; · iexact HX
    isplitl [HT]; · iexact HT
    iintro ⟨H0, H1, H2, H3, H4, H5, H6, H7, H8, H9, H10, H11, HX, HT⟩
    isplitl [HX HT HP]
    · iexists _, _
      isplitr; · ipureintro; exact fun _ => ⟨rfl, rfl⟩
      isplitl [HX]; · iexact HX
      isplitl [HT]; · iexact HT
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold outPost
    rw [if_pos h39]; unfold outAt; rw [es, hc]; iexact H11
  · rw [es, hc]
    iapply (run_center c Set.univ (grid0.coords t) _ (hstage0_0 _) _ (hstage0_1 _) _ (hstage0_2 _) _ (hstage0_3 _) _ (hstage0_4 _) _ (hstage0_5 _) _ (hstage0_6 _) _ (hstage0_7 _) _ (hstage0_8 _) _ (hstage0_9 _) _ (hstage0_10 _) _ (hstage0_11 _) _ (Memref.isWhole_whole _) _ (Memref.isWhole_whole _)
      (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) (traj m c t.val) (fun h => absurd (e1.mp h) (by omega)) (fun h => absurd (e2.mp h) (by omega)) (fun h => absurd (e3.mp h) (by omega)) (fun h => absurd (e4.mp h) (by omega)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HX]; · iexact HX
    isplitl [HT]; · iexact HT
    iintro ⟨H0, H1, H2, H3, H4, H5, H6, H7, H8, H9, H10, H11, HX, HT⟩
    isplitl [HX HT HP]
    · iexists _, _
      isplitr; · ipureintro; exact fun _ => ⟨rfl, rfl⟩
      isplitl [HX]; · iexact HX
      isplitl [HT]; · iexact HT
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    unfold outPost
    rw [if_neg (by omega)]; iexists d11; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The output window is idle exactly where the output is not stored. -/
theorem idle_iff (t : Fin cfg0.N) : cfg0.idle 11 (cfg0.grid.coords t) = true ↔ ¬ t.val % 40 = 39 := by
  rw [← not_congr (condOut_iff t)]
  show (!(k0_cond4 (grid0.coords t) == 1#1)) = true ↔ _
  simp

/-- `outPost` is what the obligation asks of the output window, whose two questions (idle? written back?) are `i` and `fl`. -/
theorem out_leaves {c : Dev nD} {t : Fin cfg0.N} {i fl : Bool} {A : Vec F S1x1024x32 .f32} (h₂ : ¬ t.val % 40 = 39 → fl = false) (h₃ : i = true ↔ ¬ t.val % 40 = 39) (h₄ : A = outAt m c t) :
    outPost m c t ⊢ (match (generalizing := false) i with
      | true => match (generalizing := false) fl with
        | false => iprop(∃ d, owns (c : Thread nD τ) (st0_11 t) fullShare ((dats m 0 c).before 11 t d))
        | true => owns (c : Thread nD τ) (st0_11 t) fullShare A
      | false => owns (c : Thread nD τ) (st0_11 t) fullShare A) := by
  subst h₄
  unfold outPost
  by_cases h : t.val % 40 = 39
  · obtain rfl : i = false := by rw [← Bool.not_eq_true]; exact fun hi => h₃.mp hi h
    rw [if_pos h]
  · obtain rfl := h₃.mpr h
    obtain rfl := h₂ h
    rw [if_neg h]

/-- The library's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iterate 13 refine sep_mono .rfl ?_
  exact out_leaves m (fun h => by rw [← Bool.not_eq_true]; exact fun hf => h ((flush0_11 t).mp hf)) (idle_iff t) (after0_11 m c t)

/-- A whole buffer at contents `f` is its whole memref owned at `f`, -/
theorem owns_whole_intro (c : Dev nD) (b : Ref sig .tc) (f : Buf (Elt F) ((c : Thread nD τ).loc b)) :
    (((c : Thread nD τ).loc b ↦{fullShare} f) : sProp 𝕄) ⊢ owns (c : Thread nD τ) (Memref.whole b) fullShare f :=
  Entails.of_eq (owns_whole (c : Thread nD τ) b fullShare f).symm
/-- and a whole memref owned is its buffer whole at some contents. -/
theorem owns_whole_elim (c : Dev nD) (b : Ref sig .tc) (X) :
    (owns (c : Thread nD τ) (Memref.whole b) fullShare X : sProp 𝕄) ⊢ iprop(∃ f : Buf (Elt F) ((c : Thread nD τ).loc b), ((c : Thread nD τ).loc b) ↦{fullShare} f) := by
  rw [owns_whole_eq]; iintro ⟨%f, -, H⟩; iexists f; iexact H

/-! ## The run and the frame -/

/-- Before the first point the invariant holds of any scratch contents, -/
theorem inv_in (c : Dev nD) : Pipeline.ΦA (Val := Elt F) (U := UR sig nD τ) spec0 c ⊢ (dats m 0 c).Φ 0 := by
  rw [Φ_eq]
  unfold Pipeline.ΦA inv
  rw [scopedRest0_eq]
  iintro ⟨⟨⟨%f, H0⟩, ⟨%g, H1⟩⟩, HP⟩
  iexists f, g
  isplitr; · ipureintro; exact fun h => absurd rfl h
  isplitl [H0]
  · iapply (owns_whole_intro c cc0_scratch0 f); iexact H0
  isplitl [H1]
  · iapply (owns_whole_intro c cc0_scratch1 g); iexact H1
  iexact HP

/-- and after the last the scratch is forgotten. -/
theorem inv_out (c : Dev nD) : (dats m 0 c).Φ (Fin.last cfg0.N) ⊢ Pipeline.ΦA (Val := Elt F) (U := UR sig nD τ) spec0 c := by
  rw [Φ_eq]
  unfold Pipeline.ΦA inv
  rw [scopedRest0_eq]
  iintro ⟨%X, %T, -, H0, H1, HP⟩
  isplitl [H0 H1]
  · isplitl [H0]
    · iapply (owns_whole_elim c cc0_scratch0 X); iexact H0
    · iapply (owns_whole_elim c cc0_scratch1 T); iexact H1
  iexact HP

set_option backward.isDefEq.respectTransparency.types false in
/-- The launch: every weakly fair execution of @main terminates, every final state has the pipeline's arrays at what the
    library computes from the proof data, every other unscoped buffer as the region found it, and every semaphore counter
    at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.Proof.Run

end
-- ==== Proof.RefChain.lean ====
/- The reference program cut into stretches of host operations: the operations as lists, and @main and the bodies of its
   two loops as chains of those lists and of the loops' labels. Nothing is said here of what the operations compute. -/
module

public import proofs.«01_k».proof.Proof.Gen.ReferenceIdeal
public import Idealize.ShloMosaic.Lib.StableHlo.RunLoop
public import Idealize.ShloMosaic.Lib.StableHlo.RunRead

@[expose] public section

set_option maxRecDepth 16384

noncomputable section

namespace Cert.ReferenceIdeal.Chain

open Idealize.ShloMosaic Idealize.ShloMosaic.TcCoe
open Idealize.SL Idealize.SL.RA Idealize.SL.BI
open scoped Idealize.SL.BI
open Idealize.SL.BI.BIBase Idealize.SL.Sem
open Cert.ReferenceIdeal.Gen

variable {F : FTy → Type} [FloatOps F]

/-! ## The stretches of operations, and the program as a chain of them -/

/-- 11 host operations of @main, in order. -/
abbrev hostOps0 : List (HloOp τ sig (Elt F)) :=
  [ StableHlo.binary main_arg0 main_arg1 main_v0 ((fun l r => Host.dotGeneral dot_S8x256x32_S32x256_S8x256x256_2_0_01_1_n_n none l r) : (⟨S8x256x32, .f32⟩ : BufTy).Contents (Elt F) → (⟨S32x256, .f32⟩ : BufTy).Contents (Elt F) → (⟨S8x256x256, .f32⟩ : BufTy).Contents (Elt F)),
    StableHlo.unary main_arg2 main_v1 (broadcastInDim S1x1x256 ![2] bcast_S256_S1x1x256_2 : (⟨S256, .f32⟩ : BufTy).Contents (Elt F) → (⟨S1x1x256, .f32⟩ : BufTy).Contents (Elt F)),
    StableHlo.unary main_v1 main_v2 (broadcastInDim S8x256x256 ![0, 1, 2] bcast_S1x1x256_S8x256x256_0_1_2 : (⟨S1x1x256, .f32⟩ : BufTy).Contents (Elt F) → (⟨S8x256x256, .f32⟩ : BufTy).Contents (Elt F)),
    StableHlo.binary main_v0 main_v2 main_v3 (addf : (⟨S8x256x256, .f32⟩ : BufTy).Contents (Elt F) → (⟨S8x256x256, .f32⟩ : BufTy).Contents (Elt F) → (⟨S8x256x256, .f32⟩ : BufTy).Contents (Elt F)),
    StableHlo.nullary main_c (constantI S_ 32 0#32),
    StableHlo.nullary main_c_0 (constantI S_ 32 0#32),
    StableHlo.unary main_arg3 main_v4_0 id,
    StableHlo.unary main_arg4 main_v4_1 id,
    StableHlo.unary main_c_0 main_v4_2 id,
    StableHlo.unary main_c main_v4_3 id,
    StableHlo.unary main_v3 main_v4_4 id ]
/-- Each of them reads and writes the core's own buffers only. -/
theorem hostOps0_sub : (hostOps0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩
/-- 47 host operations of @main, in order. -/
abbrev hostOps0_1 : List (HloOp τ sig (Elt F)) :=
  ( StableHlo.nullary main_cst (constant S_ .f32 0x00000000#32)
  :: StableHlo.binary main_v4_4 main_cst main_v5 ((fun x v => Host.reduceAdd x v reducesTo_S8x256x256_S8x256_d2 h_S_) : (⟨S8x256x256, .f32⟩ : BufTy).Contents (Elt F) → (⟨S_, .f32⟩ : BufTy).Contents (Elt F) → (⟨S8x256, .f32⟩ : BufTy).Contents (Elt F))
  :: StableHlo.unary main_v5 main_v6 (broadcastInDim S8x256x1 ![0, 1] bcast_S8x256_S8x256x1_0_1 : (⟨S8x256, .f32⟩ : BufTy).Contents (Elt F) → (⟨S8x256x1, .f32⟩ : BufTy).Contents (Elt F))
  :: StableHlo.nullary main_cst_1 (constant S_ .f32 0x43800000#32)
  :: StableHlo.unary main_cst_1 main_v7 (broadcastInDim S8x256x1 ![] bcast_S_S8x256x1 : (⟨S_, .f32⟩ : BufTy).Contents (Elt F) → (⟨S8x256x1, .f32⟩ : BufTy).Contents (Elt F))
  :: StableHlo.binary main_v6 main_v7 main_v8 (Host.divf : (⟨S8x256x1, .f32⟩ : BufTy).Contents (Elt F) → (⟨S8x256x1, .f32⟩ : BufTy).Contents (Elt F) → (⟨S8x256x1, .f32⟩ : BufTy).Contents (Elt F))
  :: StableHlo.unary main_v8 main_v9 (broadcastInDim S8x256x256 ![0, 1, 2] bcast_S8x256x1_S8x256x256_0_1_2 : (⟨S8x256x1, .f32⟩ : BufTy).Contents (Elt F) → (⟨S8x256x256, .f32⟩ : BufTy).Contents (Elt F))
  :: StableHlo.binary main_v4_4 main_v9 main_v10 (subf : (⟨S8x256x256, .f32⟩ : BufTy).Contents (Elt F) → (⟨S8x256x256, .f32⟩ : BufTy).Contents (Elt F) → (⟨S8x256x256, .f32⟩ : BufTy).Contents (Elt F))
  :: StableHlo.binary main_v10 main_v10 main_v11 (mulf : (⟨S8x256x256, .f32⟩ : BufTy).Contents (Elt F) → (⟨S8x256x256, .f32⟩ : BufTy).Contents (Elt F) → (⟨S8x256x256, .f32⟩ : BufTy).Contents (Elt F))
  :: StableHlo.nullary main_cst_2 (constant S_ .f32 0x00000000#32)
  :: StableHlo.binary main_v11 main_cst_2 main_v12 ((fun x v => Host.reduceAdd x v reducesTo_S8x256x256_S8x256_d2 h_S_) : (⟨S8x256x256, .f32⟩ : BufTy).Contents (Elt F) → (⟨S_, .f32⟩ : BufTy).Contents (Elt F) → (⟨S8x256, .f32⟩ : BufTy).Contents (Elt F))
  :: StableHlo.unary main_v12 main_v13 (broadcastInDim S8x256x1 ![0, 1] bcast_S8x256_S8x256x1_0_1 : (⟨S8x256, .f32⟩ : BufTy).Contents (Elt F) → (⟨S8x256x1, .f32⟩ : BufTy).Contents (Elt F))
  :: StableHlo.nullary main_cst_3 (constant S_ .f32 0x43800000#32)
  :: StableHlo.unary main_cst_3 main_v14 (broadcastInDim S8x256x1 ![] bcast_S_S8x256x1 : (⟨S_, .f32⟩ : BufTy).Contents (Elt F) → (⟨S8x256x1, .f32⟩ : BufTy).Contents (Elt F))
  :: StableHlo.binary main_v13 main_v14 main_v15 (Host.divf : (⟨S8x256x1, .f32⟩ : BufTy).Contents (Elt F) → (⟨S8x256x1, .f32⟩ : BufTy).Contents (Elt F) → (⟨S8x256x1, .f32⟩ : BufTy).Contents (Elt F))
  :: StableHlo.unary main_v8 main_v16 (broadcastInDim S8x256x256 ![0, 1, 2] bcast_S8x256x1_S8x256x256_0_1_2 : (⟨S8x256x1, .f32⟩ : BufTy).Contents (Elt F) → (⟨S8x256x256, .f32⟩ : BufTy).Contents (Elt F))
  :: StableHlo.binary main_v4_4 main_v16 main_v17 (subf : (⟨S8x256x256, .f32⟩ : BufTy).Contents (Elt F) → (⟨S8x256x256, .f32⟩ : BufTy).Contents (Elt F) → (⟨S8x256x256, .f32⟩ : BufTy).Contents (Elt F))
  :: StableHlo.nullary main_cst_4 (constant S_ .f32 0x3727C5AC#32)
  :: StableHlo.unary main_cst_4 main_v18 (broadcastInDim S8x256x1 ![] bcast_S_S8x256x1 : (⟨S_, .f32⟩ : BufTy).Contents (Elt F) → (⟨S8x256x1, .f32⟩ : BufTy).Contents (Elt F))
  :: StableHlo.binary main_v15 main_v18 main_v19 (addf : (⟨S8x256x1, .f32⟩ : BufTy).Contents (Elt F) → (⟨S8x256x1, .f32⟩ : BufTy).Contents (Elt F) → (⟨S8x256x1, .f32⟩ : BufTy).Contents (Elt F))
  :: StableHlo.unary main_v19 main_v20 (Host.sqrt : (⟨S8x256x1, .f32⟩ : BufTy).Contents (Elt F) → (⟨S8x256x1, .f32⟩ : BufTy).Contents (Elt F))
  :: StableHlo.unary main_v20 main_v21 (broadcastInDim S8x256x256 ![0, 1, 2] bcast_S8x256x1_S8x256x256_0_1_2 : (⟨S8x256x1, .f32⟩ : BufTy).Contents (Elt F) → (⟨S8x256x256, .f32⟩ : BufTy).Contents (Elt F))
  :: StableHlo.binary main_v17 main_v21 main_v22 (Host.divf : (⟨S8x256x256, .f32⟩ : BufTy).Contents (Elt F) → (⟨S8x256x256, .f32⟩ : BufTy).Contents (Elt F) → (⟨S8x256x256, .f32⟩ : BufTy).Contents (Elt F))
  :: StableHlo.unary main_arg5 main_v23 (broadcastInDim S1x1x256 ![2] bcast_S256_S1x1x256_2 : (⟨S256, .f32⟩ : BufTy).Contents (Elt F) → (⟨S1x1x256, .f32⟩ : BufTy).Contents (Elt F))
  :: StableHlo.unary main_v23 main_v24 (broadcastInDim S8x256x256 ![0, 1, 2] bcast_S1x1x256_S8x256x256_0_1_2 : (⟨S1x1x256, .f32⟩ : BufTy).Contents (Elt F) → (⟨S8x256x256, .f32⟩ : BufTy).Contents (Elt F))
  :: StableHlo.binary main_v22 main_v24 main_v25 (mulf : (⟨S8x256x256, .f32⟩ : BufTy).Contents (Elt F) → (⟨S8x256x256, .f32⟩ : BufTy).Contents (Elt F) → (⟨S8x256x256, .f32⟩ : BufTy).Contents (Elt F))
  :: StableHlo.unary main_arg6 main_v26 (broadcastInDim S1x1x256 ![2] bcast_S256_S1x1x256_2 : (⟨S256, .f32⟩ : BufTy).Contents (Elt F) → (⟨S1x1x256, .f32⟩ : BufTy).Contents (Elt F))
  :: StableHlo.unary main_v26 main_v27 (broadcastInDim S8x256x256 ![0, 1, 2] bcast_S1x1x256_S8x256x256_0_1_2 : (⟨S1x1x256, .f32⟩ : BufTy).Contents (Elt F) → (⟨S8x256x256, .f32⟩ : BufTy).Contents (Elt F))
  :: StableHlo.binary main_v25 main_v27 main_v28 (addf : (⟨S8x256x256, .f32⟩ : BufTy).Contents (Elt F) → (⟨S8x256x256, .f32⟩ : BufTy).Contents (Elt F) → (⟨S8x256x256, .f32⟩ : BufTy).Contents (Elt F))
  :: StableHlo.reshape main_v28 main_v29 (rfl : (.f32 : EltTy) = .f32) shapeCasts_S8x256x256_S2048x256
  :: StableHlo.binary main_v29 main_v29 main_v30 (mulf : (⟨S2048x256, .f32⟩ : BufTy).Contents (Elt F) → (⟨S2048x256, .f32⟩ : BufTy).Contents (Elt F) → (⟨S2048x256, .f32⟩ : BufTy).Contents (Elt F))
  :: StableHlo.nullary main_cst_5 (constant S_ .f32 0x00000000#32)
  :: StableHlo.binary main_v30 main_cst_5 main_v31 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F))
  :: StableHlo.unary main_v31 main_v32 (broadcastInDim S2048x1 ![0] bcast_S2048_S2048x1_0 : (⟨S2048, .f32⟩ : BufTy).Contents (Elt F) → (⟨S2048x1, .f32⟩ : BufTy).Contents (Elt F))
  :: StableHlo.nullary main_cst_6 (constant S_ .f32 0x40000000#32)
  :: StableHlo.unary main_cst_6 main_v33 (broadcastInDim S2048x256 ![] bcast_S_S2048x256 : (⟨S_, .f32⟩ : BufTy).Contents (Elt F) → (⟨S2048x256, .f32⟩ : BufTy).Contents (Elt F))
  :: StableHlo.binary main_v33 main_v29 main_v34 (mulf : (⟨S2048x256, .f32⟩ : BufTy).Contents (Elt F) → (⟨S2048x256, .f32⟩ : BufTy).Contents (Elt F) → (⟨S2048x256, .f32⟩ : BufTy).Contents (Elt F))
  :: StableHlo.unary main_arg7 main_v35 ((transpose S256x256 [1, 0] · transposes_S256x256_S256x256_1_0) : (⟨S256x256, .f32⟩ : BufTy).Contents (Elt F) → (⟨S256x256, .f32⟩ : BufTy).Contents (Elt F))
  :: StableHlo.binary main_v34 main_v35 main_v36 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F))
  :: StableHlo.unary main_v32 main_v37 (broadcastInDim S2048x256 ![0, 1] bcast_S2048x1_S2048x256_0_1 : (⟨S2048x1, .f32⟩ : BufTy).Contents (Elt F) → (⟨S2048x256, .f32⟩ : BufTy).Contents (Elt F))
  :: StableHlo.binary main_v37 main_v36 main_v38 (subf : (⟨S2048x256, .f32⟩ : BufTy).Contents (Elt F) → (⟨S2048x256, .f32⟩ : BufTy).Contents (Elt F) → (⟨S2048x256, .f32⟩ : BufTy).Contents (Elt F))
  :: StableHlo.binary main_arg7 main_arg7 main_v39 (mulf : (⟨S256x256, .f32⟩ : BufTy).Contents (Elt F) → (⟨S256x256, .f32⟩ : BufTy).Contents (Elt F) → (⟨S256x256, .f32⟩ : BufTy).Contents (Elt F))
  :: StableHlo.nullary main_cst_7 (constant S_ .f32 0x00000000#32)
  :: StableHlo.binary main_v39 main_cst_7 main_v40 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F))
  :: StableHlo.unary main_v40 main_v41 (broadcastInDim S1x256 ![1] bcast_S256_S1x256_1 : (⟨S256, .f32⟩ : BufTy).Contents (Elt F) → (⟨S1x256, .f32⟩ : BufTy).Contents (Elt F))
  :: StableHlo.unary main_v41 main_v42 (broadcastInDim S2048x256 ![0, 1] bcast_S1x256_S2048x256_0_1 : (⟨S1x256, .f32⟩ : BufTy).Contents (Elt F) → (⟨S2048x256, .f32⟩ : BufTy).Contents (Elt F))
  :: StableHlo.binary main_v38 main_v42 main_v43 (addf : (⟨S2048x256, .f32⟩ : BufTy).Contents (Elt F) → (⟨S2048x256, .f32⟩ : BufTy).Contents (Elt F) → (⟨S2048x256, .f32⟩ : BufTy).Contents (Elt F))
  :: [] )
/-- Each of them reads and writes the core's own buffers only. -/
theorem hostOps0_1_sub : (hostOps0_1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub ..⟩
/-- 5 host operations of @argmin (main_call3), in order. -/
abbrev hostOps0_2 : List (HloOp τ sig (Elt F)) :=
  [ StableHlo.TRef.nullary (.of main_call3_v0 : StableHlo.TRef sig ⟨S2048x256, .i32⟩) (iotaInDim S2048x256 32 1),
    StableHlo.TRef.nullary (.of main_call3_cst : StableHlo.TRef sig ⟨S_, .f32⟩) (constant S_ .f32 0x7F800000#32),
    StableHlo.TRef.nullary (.of main_call3_c : StableHlo.TRef sig ⟨S_, .i32⟩) (constantI S_ 32 0#32),
    StableHlo.TRef.quaternary (.of main_v43 : StableHlo.TRef sig ⟨S2048x256, .f32⟩) (.of main_call3_v0 : StableHlo.TRef sig ⟨S2048x256, .i32⟩) (.of main_call3_cst : StableHlo.TRef sig ⟨S_, .f32⟩) (.of main_call3_c : StableHlo.TRef sig ⟨S_, .i32⟩) (.of main_call3_v1_0 : StableHlo.TRef sig ⟨S2048, .f32⟩) (fun x y u v j => (Host.argReduce reducer_argmin_f32_i32 x y u v reducesTo_S2048x256_S2048_d1 h_S_ j).1),
    StableHlo.TRef.quaternary (.of main_v43 : StableHlo.TRef sig ⟨S2048x256, .f32⟩) (.of main_call3_v0 : StableHlo.TRef sig ⟨S2048x256, .i32⟩) (.of main_call3_cst : StableHlo.TRef sig ⟨S_, .f32⟩) (.of main_call3_c : StableHlo.TRef sig ⟨S_, .i32⟩) (.of main_v44 : StableHlo.TRef sig ⟨S2048, .i32⟩) (fun x y u v j => (Host.argReduce reducer_argmin_f32_i32 x y u v reducesTo_S2048x256_S2048_d1 h_S_ j).2) ]
/-- Each of them reads and writes the core's own buffers only. -/
theorem hostOps0_2_sub : (hostOps0_2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 23 host operations of @_take (main_call4), in order. -/
abbrev hostOps0_3 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S2048, .i32⟩) (broadcastInDim S2048 ![] bcast_S_S2048),
    StableHlo.TRef.binary (.of main_v44 : StableHlo.TRef sig ⟨S2048, .i32⟩) (.of main_call4_v0 : StableHlo.TRef sig ⟨S2048, .i32⟩) (.of main_call4_v1 : StableHlo.TRef sig ⟨S2048, .i1⟩) (cmpi .slt),
    StableHlo.TRef.nullary (.of main_call4_c_0 : StableHlo.TRef sig ⟨S_, .i32⟩) (constantI S_ 32 256#32),
    StableHlo.TRef.unary (.of main_call4_c_0 : StableHlo.TRef sig ⟨S_, .i32⟩) (.of main_call4_v2 : StableHlo.TRef sig ⟨S2048, .i32⟩) (broadcastInDim S2048 ![] bcast_S_S2048),
    StableHlo.TRef.binary (.of main_v44 : StableHlo.TRef sig ⟨S2048, .i32⟩) (.of main_call4_v2 : StableHlo.TRef sig ⟨S2048, .i32⟩) (.of main_call4_v3 : StableHlo.TRef sig ⟨S2048, .i32⟩) addi,
    StableHlo.TRef.ternary (.of main_call4_v1 : StableHlo.TRef sig ⟨S2048, .i1⟩) (.of main_call4_v3 : StableHlo.TRef sig ⟨S2048, .i32⟩) (.of main_v44 : StableHlo.TRef sig ⟨S2048, .i32⟩) (.of main_call4_v4 : StableHlo.TRef sig ⟨S2048, .i32⟩) select,
    StableHlo.TRef.unary main_call4_call0.v0 (.of main_call4_v5 : StableHlo.TRef sig ⟨S2048x1, .i32⟩) (broadcastInDim S2048x1 ![0] bcast_S2048_S2048x1_0),
    StableHlo.TRef.nullary (.of main_call4_c_1 : StableHlo.TRef sig ⟨S1, .i32⟩) (constantI S1 32 255#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S2048x1, .i32⟩) (broadcastInDim S2048x1 ![] bcast_S_S2048x1),
    StableHlo.TRef.binary (.of main_call4_v5 : StableHlo.TRef sig ⟨S2048x1, .i32⟩) (.of main_call4_v6 : StableHlo.TRef sig ⟨S2048x1, .i32⟩) (.of main_call4_v7 : StableHlo.TRef sig ⟨S2048x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S2048x1, .i32⟩) (broadcastInDim S2048x1 ![0, 1] bcast_S1x1_S2048x1_0_1),
    StableHlo.TRef.binary (.of main_call4_v5 : StableHlo.TRef sig ⟨S2048x1, .i32⟩) (.of main_call4_v9 : StableHlo.TRef sig ⟨S2048x1, .i32⟩) (.of main_call4_v10 : StableHlo.TRef sig ⟨S2048x1, .i1⟩) (cmpi .sle),
    StableHlo.TRef.binary (.of main_call4_v7 : StableHlo.TRef sig ⟨S2048x1, .i1⟩) (.of main_call4_v10 : StableHlo.TRef sig ⟨S2048x1, .i1⟩) (.of main_call4_v11 : StableHlo.TRef sig ⟨S2048x1, .i1⟩) andi,
    StableHlo.TRef.nullary (.of main_call4_c_3 : StableHlo.TRef sig ⟨S_, .i1⟩) (constantI S_ 1 1#1),
    StableHlo.TRef.binary (.of main_call4_v11 : StableHlo.TRef sig ⟨S2048x1, .i1⟩) (.of main_call4_c_3 : StableHlo.TRef sig ⟨S_, .i1⟩) (.of main_call4_v12 : StableHlo.TRef sig ⟨S2048, .i1⟩) (fun x v => Host.reduce IntOp.andi x v reducesTo_S2048x1_S2048_d1 h_S_),
    StableHlo.TRef.binary (.of main_arg7 : StableHlo.TRef sig ⟨S256x256, .f32⟩) (.of main_call4_v5 : StableHlo.TRef sig ⟨S2048x1, .i32⟩) (.of main_call4_v13 : StableHlo.TRef sig ⟨S2048x256, .f32⟩) (fun x i => Host.gather gather_S256x256_S2048x1_S2048x256_1_0_n_n_0_1_1256 x i),
    StableHlo.TRef.unary (.of main_call4_v12 : StableHlo.TRef sig ⟨S2048, .i1⟩) (.of main_call4_v14 : StableHlo.TRef sig ⟨S2048x256, .i1⟩) (broadcastInDim S2048x256 ![0] bcast_S2048_S2048x256_0),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S2048x256, .f32⟩) (broadcastInDim S2048x256 ![] bcast_S_S2048x256),
    StableHlo.TRef.ternary (.of main_call4_v14 : StableHlo.TRef sig ⟨S2048x256, .i1⟩) (.of main_call4_v13 : StableHlo.TRef sig ⟨S2048x256, .f32⟩) (.of main_call4_v15 : StableHlo.TRef sig ⟨S2048x256, .f32⟩) (.of main_v45 : StableHlo.TRef sig ⟨S2048x256, .f32⟩) select ]
/-- Each of them reads and writes the core's own buffers only. -/
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 10 host operations of @main, in order. -/
abbrev hostOps0_4 : List (HloOp τ sig (Elt F)) :=
  [ StableHlo.binary main_v45 main_v29 main_v46 (subf : (⟨S2048x256, .f32⟩ : BufTy).Contents (Elt F) → (⟨S2048x256, .f32⟩ : BufTy).Contents (Elt F) → (⟨S2048x256, .f32⟩ : BufTy).Contents (Elt F)),
    StableHlo.binary main_v29 main_v46 main_v47 (addf : (⟨S2048x256, .f32⟩ : BufTy).Contents (Elt F) → (⟨S2048x256, .f32⟩ : BufTy).Contents (Elt F) → (⟨S2048x256, .f32⟩ : BufTy).Contents (Elt F)),
    StableHlo.reshape main_v47 main_v48 (rfl : (.f32 : EltTy) = .f32) shapeCasts_S2048x256_S8x256x256,
    StableHlo.nullary main_c_8 (constantI S_ 32 0#32),
    StableHlo.nullary main_c_9 (constantI S_ 32 0#32),
    StableHlo.unary main_arg9 main_v49_0 id,
    StableHlo.unary main_arg10 main_v49_1 id,
    StableHlo.unary main_c_9 main_v49_2 id,
    StableHlo.unary main_c_8 main_v49_3 id,
    StableHlo.unary main_v48 main_v49_4 id ]
/-- Each of them reads and writes the core's own buffers only. -/
theorem hostOps0_4_sub : (hostOps0_4 : List (HloOp τ sig (Elt F))).Forall fun op => op.bufs ⊆ StableHlo.tcRefs τ sig :=
  ⟨StableHlo.binary_bufs_sub .., StableHlo.binary_bufs_sub .., StableHlo.reshape_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩
/-- 5 host operations of @main, in order. -/
abbrev hostOps0_5 : List (HloOp τ sig (Elt F)) :=
  [ StableHlo.binary main_v49_4 main_arg11 main_v50 ((fun l r => Host.dotGeneral dot_S8x256x256_S256x32_S8x256x32_2_0_01_1_n_n none l r) : (⟨S8x256x256, .f32⟩ : BufTy).Contents (Elt F) → (⟨S256x32, .f32⟩ : BufTy).Contents (Elt F) → (⟨S8x256x32, .f32⟩ : BufTy).Contents (Elt F)),
    StableHlo.unary main_arg12 main_v51 (broadcastInDim S1x1x32 ![2] bcast_S32_S1x1x32_2 : (⟨S32, .f32⟩ : BufTy).Contents (Elt F) → (⟨S1x1x32, .f32⟩ : BufTy).Contents (Elt F)),
    StableHlo.unary main_v51 main_v52 (broadcastInDim S8x256x32 ![0, 1, 2] bcast_S1x1x32_S8x256x32_0_1_2 : (⟨S1x1x32, .f32⟩ : BufTy).Contents (Elt F) → (⟨S8x256x32, .f32⟩ : BufTy).Contents (Elt F)),
    StableHlo.binary main_v50 main_v52 main_v53 (addf : (⟨S8x256x32, .f32⟩ : BufTy).Contents (Elt F) → (⟨S8x256x32, .f32⟩ : BufTy).Contents (Elt F) → (⟨S8x256x32, .f32⟩ : BufTy).Contents (Elt F)),
    StableHlo.reshape main_v53 main_v54 (rfl : (.f32 : EltTy) = .f32) shapeCasts_S8x256x32_S2x1024x32 ]
/-- Each of them reads and writes the core's own buffers only. -/
theorem hostOps0_5_sub : (hostOps0_5 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.reshape_bufs_sub ..⟩
/-- 11 host operations of @main, statements 1 to 60, in order. -/
abbrev main_part0_ops0 : List (HloOp τ sig (Elt F)) :=
  [ StableHlo.binary main_arg0 main_arg1 main_v0 ((fun l r => Host.dotGeneral dot_S8x256x32_S32x256_S8x256x256_2_0_01_1_n_n none l r) : (⟨S8x256x32, .f32⟩ : BufTy).Contents (Elt F) → (⟨S32x256, .f32⟩ : BufTy).Contents (Elt F) → (⟨S8x256x256, .f32⟩ : BufTy).Contents (Elt F)),
    StableHlo.unary main_arg2 main_v1 (broadcastInDim S1x1x256 ![2] bcast_S256_S1x1x256_2 : (⟨S256, .f32⟩ : BufTy).Contents (Elt F) → (⟨S1x1x256, .f32⟩ : BufTy).Contents (Elt F)),
    StableHlo.unary main_v1 main_v2 (broadcastInDim S8x256x256 ![0, 1, 2] bcast_S1x1x256_S8x256x256_0_1_2 : (⟨S1x1x256, .f32⟩ : BufTy).Contents (Elt F) → (⟨S8x256x256, .f32⟩ : BufTy).Contents (Elt F)),
    StableHlo.binary main_v0 main_v2 main_v3 (addf : (⟨S8x256x256, .f32⟩ : BufTy).Contents (Elt F) → (⟨S8x256x256, .f32⟩ : BufTy).Contents (Elt F) → (⟨S8x256x256, .f32⟩ : BufTy).Contents (Elt F)),
    StableHlo.nullary main_c (constantI S_ 32 0#32),
    StableHlo.nullary main_c_0 (constantI S_ 32 0#32),
    StableHlo.unary main_arg3 main_v4_0 id,
    StableHlo.unary main_arg4 main_v4_1 id,
    StableHlo.unary main_c_0 main_v4_2 id,
    StableHlo.unary main_c main_v4_3 id,
    StableHlo.unary main_v3 main_v4_4 id ]
/-- Each of them reads and writes the core's own buffers only. -/
theorem main_part0_ops0_sub : (main_part0_ops0 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩
/-- 47 host operations of @main, statements 1 to 60, in order. -/
abbrev main_part0_ops1 : List (HloOp τ sig (Elt F)) :=
  ( StableHlo.nullary main_cst (constant S_ .f32 0x00000000#32)
  :: StableHlo.binary main_v4_4 main_cst main_v5 ((fun x v => Host.reduceAdd x v reducesTo_S8x256x256_S8x256_d2 h_S_) : (⟨S8x256x256, .f32⟩ : BufTy).Contents (Elt F) → (⟨S_, .f32⟩ : BufTy).Contents (Elt F) → (⟨S8x256, .f32⟩ : BufTy).Contents (Elt F))
  :: StableHlo.unary main_v5 main_v6 (broadcastInDim S8x256x1 ![0, 1] bcast_S8x256_S8x256x1_0_1 : (⟨S8x256, .f32⟩ : BufTy).Contents (Elt F) → (⟨S8x256x1, .f32⟩ : BufTy).Contents (Elt F))
  :: StableHlo.nullary main_cst_1 (constant S_ .f32 0x43800000#32)
  :: StableHlo.unary main_cst_1 main_v7 (broadcastInDim S8x256x1 ![] bcast_S_S8x256x1 : (⟨S_, .f32⟩ : BufTy).Contents (Elt F) → (⟨S8x256x1, .f32⟩ : BufTy).Contents (Elt F))
  :: StableHlo.binary main_v6 main_v7 main_v8 (Host.divf : (⟨S8x256x1, .f32⟩ : BufTy).Contents (Elt F) → (⟨S8x256x1, .f32⟩ : BufTy).Contents (Elt F) → (⟨S8x256x1, .f32⟩ : BufTy).Contents (Elt F))
  :: StableHlo.unary main_v8 main_v9 (broadcastInDim S8x256x256 ![0, 1, 2] bcast_S8x256x1_S8x256x256_0_1_2 : (⟨S8x256x1, .f32⟩ : BufTy).Contents (Elt F) → (⟨S8x256x256, .f32⟩ : BufTy).Contents (Elt F))
  :: StableHlo.binary main_v4_4 main_v9 main_v10 (subf : (⟨S8x256x256, .f32⟩ : BufTy).Contents (Elt F) → (⟨S8x256x256, .f32⟩ : BufTy).Contents (Elt F) → (⟨S8x256x256, .f32⟩ : BufTy).Contents (Elt F))
  :: StableHlo.binary main_v10 main_v10 main_v11 (mulf : (⟨S8x256x256, .f32⟩ : BufTy).Contents (Elt F) → (⟨S8x256x256, .f32⟩ : BufTy).Contents (Elt F) → (⟨S8x256x256, .f32⟩ : BufTy).Contents (Elt F))
  :: StableHlo.nullary main_cst_2 (constant S_ .f32 0x00000000#32)
  :: StableHlo.binary main_v11 main_cst_2 main_v12 ((fun x v => Host.reduceAdd x v reducesTo_S8x256x256_S8x256_d2 h_S_) : (⟨S8x256x256, .f32⟩ : BufTy).Contents (Elt F) → (⟨S_, .f32⟩ : BufTy).Contents (Elt F) → (⟨S8x256, .f32⟩ : BufTy).Contents (Elt F))
  :: StableHlo.unary main_v12 main_v13 (broadcastInDim S8x256x1 ![0, 1] bcast_S8x256_S8x256x1_0_1 : (⟨S8x256, .f32⟩ : BufTy).Contents (Elt F) → (⟨S8x256x1, .f32⟩ : BufTy).Contents (Elt F))
  :: StableHlo.nullary main_cst_3 (constant S_ .f32 0x43800000#32)
  :: StableHlo.unary main_cst_3 main_v14 (broadcastInDim S8x256x1 ![] bcast_S_S8x256x1 : (⟨S_, .f32⟩ : BufTy).Contents (Elt F) → (⟨S8x256x1, .f32⟩ : BufTy).Contents (Elt F))
  :: StableHlo.binary main_v13 main_v14 main_v15 (Host.divf : (⟨S8x256x1, .f32⟩ : BufTy).Contents (Elt F) → (⟨S8x256x1, .f32⟩ : BufTy).Contents (Elt F) → (⟨S8x256x1, .f32⟩ : BufTy).Contents (Elt F))
  :: StableHlo.unary main_v8 main_v16 (broadcastInDim S8x256x256 ![0, 1, 2] bcast_S8x256x1_S8x256x256_0_1_2 : (⟨S8x256x1, .f32⟩ : BufTy).Contents (Elt F) → (⟨S8x256x256, .f32⟩ : BufTy).Contents (Elt F))
  :: StableHlo.binary main_v4_4 main_v16 main_v17 (subf : (⟨S8x256x256, .f32⟩ : BufTy).Contents (Elt F) → (⟨S8x256x256, .f32⟩ : BufTy).Contents (Elt F) → (⟨S8x256x256, .f32⟩ : BufTy).Contents (Elt F))
  :: StableHlo.nullary main_cst_4 (constant S_ .f32 0x3727C5AC#32)
  :: StableHlo.unary main_cst_4 main_v18 (broadcastInDim S8x256x1 ![] bcast_S_S8x256x1 : (⟨S_, .f32⟩ : BufTy).Contents (Elt F) → (⟨S8x256x1, .f32⟩ : BufTy).Contents (Elt F))
  :: StableHlo.binary main_v15 main_v18 main_v19 (addf : (⟨S8x256x1, .f32⟩ : BufTy).Contents (Elt F) → (⟨S8x256x1, .f32⟩ : BufTy).Contents (Elt F) → (⟨S8x256x1, .f32⟩ : BufTy).Contents (Elt F))
  :: StableHlo.unary main_v19 main_v20 (Host.sqrt : (⟨S8x256x1, .f32⟩ : BufTy).Contents (Elt F) → (⟨S8x256x1, .f32⟩ : BufTy).Contents (Elt F))
  :: StableHlo.unary main_v20 main_v21 (broadcastInDim S8x256x256 ![0, 1, 2] bcast_S8x256x1_S8x256x256_0_1_2 : (⟨S8x256x1, .f32⟩ : BufTy).Contents (Elt F) → (⟨S8x256x256, .f32⟩ : BufTy).Contents (Elt F))
  :: StableHlo.binary main_v17 main_v21 main_v22 (Host.divf : (⟨S8x256x256, .f32⟩ : BufTy).Contents (Elt F) → (⟨S8x256x256, .f32⟩ : BufTy).Contents (Elt F) → (⟨S8x256x256, .f32⟩ : BufTy).Contents (Elt F))
  :: StableHlo.unary main_arg5 main_v23 (broadcastInDim S1x1x256 ![2] bcast_S256_S1x1x256_2 : (⟨S256, .f32⟩ : BufTy).Contents (Elt F) → (⟨S1x1x256, .f32⟩ : BufTy).Contents (Elt F))
  :: StableHlo.unary main_v23 main_v24 (broadcastInDim S8x256x256 ![0, 1, 2] bcast_S1x1x256_S8x256x256_0_1_2 : (⟨S1x1x256, .f32⟩ : BufTy).Contents (Elt F) → (⟨S8x256x256, .f32⟩ : BufTy).Contents (Elt F))
  :: StableHlo.binary main_v22 main_v24 main_v25 (mulf : (⟨S8x256x256, .f32⟩ : BufTy).Contents (Elt F) → (⟨S8x256x256, .f32⟩ : BufTy).Contents (Elt F) → (⟨S8x256x256, .f32⟩ : BufTy).Contents (Elt F))
  :: StableHlo.unary main_arg6 main_v26 (broadcastInDim S1x1x256 ![2] bcast_S256_S1x1x256_2 : (⟨S256, .f32⟩ : BufTy).Contents (Elt F) → (⟨S1x1x256, .f32⟩ : BufTy).Contents (Elt F))
  :: StableHlo.unary main_v26 main_v27 (broadcastInDim S8x256x256 ![0, 1, 2] bcast_S1x1x256_S8x256x256_0_1_2 : (⟨S1x1x256, .f32⟩ : BufTy).Contents (Elt F) → (⟨S8x256x256, .f32⟩ : BufTy).Contents (Elt F))
  :: StableHlo.binary main_v25 main_v27 main_v28 (addf : (⟨S8x256x256, .f32⟩ : BufTy).Contents (Elt F) → (⟨S8x256x256, .f32⟩ : BufTy).Contents (Elt F) → (⟨S8x256x256, .f32⟩ : BufTy).Contents (Elt F))
  :: StableHlo.reshape main_v28 main_v29 (rfl : (.f32 : EltTy) = .f32) shapeCasts_S8x256x256_S2048x256
  :: StableHlo.binary main_v29 main_v29 main_v30 (mulf : (⟨S2048x256, .f32⟩ : BufTy).Contents (Elt F) → (⟨S2048x256, .f32⟩ : BufTy).Contents (Elt F) → (⟨S2048x256, .f32⟩ : BufTy).Contents (Elt F))
  :: StableHlo.nullary main_cst_5 (constant S_ .f32 0x00000000#32)
  :: StableHlo.binary main_v30 main_cst_5 main_v31 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F))
  :: StableHlo.unary main_v31 main_v32 (broadcastInDim S2048x1 ![0] bcast_S2048_S2048x1_0 : (⟨S2048, .f32⟩ : BufTy).Contents (Elt F) → (⟨S2048x1, .f32⟩ : BufTy).Contents (Elt F))
  :: StableHlo.nullary main_cst_6 (constant S_ .f32 0x40000000#32)
  :: StableHlo.unary main_cst_6 main_v33 (broadcastInDim S2048x256 ![] bcast_S_S2048x256 : (⟨S_, .f32⟩ : BufTy).Contents (Elt F) → (⟨S2048x256, .f32⟩ : BufTy).Contents (Elt F))
  :: StableHlo.binary main_v33 main_v29 main_v34 (mulf : (⟨S2048x256, .f32⟩ : BufTy).Contents (Elt F) → (⟨S2048x256, .f32⟩ : BufTy).Contents (Elt F) → (⟨S2048x256, .f32⟩ : BufTy).Contents (Elt F))
  :: StableHlo.unary main_arg7 main_v35 ((transpose S256x256 [1, 0] · transposes_S256x256_S256x256_1_0) : (⟨S256x256, .f32⟩ : BufTy).Contents (Elt F) → (⟨S256x256, .f32⟩ : BufTy).Contents (Elt F))
  :: StableHlo.binary main_v34 main_v35 main_v36 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F))
  :: StableHlo.unary main_v32 main_v37 (broadcastInDim S2048x256 ![0, 1] bcast_S2048x1_S2048x256_0_1 : (⟨S2048x1, .f32⟩ : BufTy).Contents (Elt F) → (⟨S2048x256, .f32⟩ : BufTy).Contents (Elt F))
  :: StableHlo.binary main_v37 main_v36 main_v38 (subf : (⟨S2048x256, .f32⟩ : BufTy).Contents (Elt F) → (⟨S2048x256, .f32⟩ : BufTy).Contents (Elt F) → (⟨S2048x256, .f32⟩ : BufTy).Contents (Elt F))
  :: StableHlo.binary main_arg7 main_arg7 main_v39 (mulf : (⟨S256x256, .f32⟩ : BufTy).Contents (Elt F) → (⟨S256x256, .f32⟩ : BufTy).Contents (Elt F) → (⟨S256x256, .f32⟩ : BufTy).Contents (Elt F))
  :: StableHlo.nullary main_cst_7 (constant S_ .f32 0x00000000#32)
  :: StableHlo.binary main_v39 main_cst_7 main_v40 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F))
  :: StableHlo.unary main_v40 main_v41 (broadcastInDim S1x256 ![1] bcast_S256_S1x256_1 : (⟨S256, .f32⟩ : BufTy).Contents (Elt F) → (⟨S1x256, .f32⟩ : BufTy).Contents (Elt F))
  :: StableHlo.unary main_v41 main_v42 (broadcastInDim S2048x256 ![0, 1] bcast_S1x256_S2048x256_0_1 : (⟨S1x256, .f32⟩ : BufTy).Contents (Elt F) → (⟨S2048x256, .f32⟩ : BufTy).Contents (Elt F))
  :: StableHlo.binary main_v38 main_v42 main_v43 (addf : (⟨S2048x256, .f32⟩ : BufTy).Contents (Elt F) → (⟨S2048x256, .f32⟩ : BufTy).Contents (Elt F) → (⟨S2048x256, .f32⟩ : BufTy).Contents (Elt F))
  :: [] )
/-- Each of them reads and writes the core's own buffers only. -/
theorem main_part0_ops1_sub : (main_part0_ops1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.binary_bufs_sub ..⟩
/-- 5 host operations of @argmin (main_call3), statements 1 to 60, in order. -/
abbrev main_part0_ops2 : List (HloOp τ sig (Elt F)) :=
  [ StableHlo.TRef.nullary (.of main_call3_v0 : StableHlo.TRef sig ⟨S2048x256, .i32⟩) (iotaInDim S2048x256 32 1),
    StableHlo.TRef.nullary (.of main_call3_cst : StableHlo.TRef sig ⟨S_, .f32⟩) (constant S_ .f32 0x7F800000#32),
    StableHlo.TRef.nullary (.of main_call3_c : StableHlo.TRef sig ⟨S_, .i32⟩) (constantI S_ 32 0#32),
    StableHlo.TRef.quaternary (.of main_v43 : StableHlo.TRef sig ⟨S2048x256, .f32⟩) (.of main_call3_v0 : StableHlo.TRef sig ⟨S2048x256, .i32⟩) (.of main_call3_cst : StableHlo.TRef sig ⟨S_, .f32⟩) (.of main_call3_c : StableHlo.TRef sig ⟨S_, .i32⟩) (.of main_call3_v1_0 : StableHlo.TRef sig ⟨S2048, .f32⟩) (fun x y u v j => (Host.argReduce reducer_argmin_f32_i32 x y u v reducesTo_S2048x256_S2048_d1 h_S_ j).1),
    StableHlo.TRef.quaternary (.of main_v43 : StableHlo.TRef sig ⟨S2048x256, .f32⟩) (.of main_call3_v0 : StableHlo.TRef sig ⟨S2048x256, .i32⟩) (.of main_call3_cst : StableHlo.TRef sig ⟨S_, .f32⟩) (.of main_call3_c : StableHlo.TRef sig ⟨S_, .i32⟩) (.of main_v44 : StableHlo.TRef sig ⟨S2048, .i32⟩) (fun x y u v j => (Host.argReduce reducer_argmin_f32_i32 x y u v reducesTo_S2048x256_S2048_d1 h_S_ j).2) ]
/-- Each of them reads and writes the core's own buffers only. -/
theorem main_part0_ops2_sub : (main_part0_ops2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- The first part of @main, statements 1 to 60, is the chain of its stretches, loop and calls. -/
theorem main_part0_chain (c : Dev nD) : main_part0 (F := F) c = (Pipeline.chainK
  [ StableHlo.seq main_part0_ops0,
    HostLoop.enter 0,
    StableHlo.seq main_part0_ops1 ]
  (StableHlo.seq main_part0_ops2) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons]
  chain_rfl

/-- 23 host operations of @_take (main_call4), statements 61 to 78, in order. -/
abbrev main_part1_ops0 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S2048, .i32⟩) (broadcastInDim S2048 ![] bcast_S_S2048),
    StableHlo.TRef.binary (.of main_v44 : StableHlo.TRef sig ⟨S2048, .i32⟩) (.of main_call4_v0 : StableHlo.TRef sig ⟨S2048, .i32⟩) (.of main_call4_v1 : StableHlo.TRef sig ⟨S2048, .i1⟩) (cmpi .slt),
    StableHlo.TRef.nullary (.of main_call4_c_0 : StableHlo.TRef sig ⟨S_, .i32⟩) (constantI S_ 32 256#32),
    StableHlo.TRef.unary (.of main_call4_c_0 : StableHlo.TRef sig ⟨S_, .i32⟩) (.of main_call4_v2 : StableHlo.TRef sig ⟨S2048, .i32⟩) (broadcastInDim S2048 ![] bcast_S_S2048),
    StableHlo.TRef.binary (.of main_v44 : StableHlo.TRef sig ⟨S2048, .i32⟩) (.of main_call4_v2 : StableHlo.TRef sig ⟨S2048, .i32⟩) (.of main_call4_v3 : StableHlo.TRef sig ⟨S2048, .i32⟩) addi,
    StableHlo.TRef.ternary (.of main_call4_v1 : StableHlo.TRef sig ⟨S2048, .i1⟩) (.of main_call4_v3 : StableHlo.TRef sig ⟨S2048, .i32⟩) (.of main_v44 : StableHlo.TRef sig ⟨S2048, .i32⟩) (.of main_call4_v4 : StableHlo.TRef sig ⟨S2048, .i32⟩) select,
    StableHlo.TRef.unary main_call4_call0.v0 (.of main_call4_v5 : StableHlo.TRef sig ⟨S2048x1, .i32⟩) (broadcastInDim S2048x1 ![0] bcast_S2048_S2048x1_0),
    StableHlo.TRef.nullary (.of main_call4_c_1 : StableHlo.TRef sig ⟨S1, .i32⟩) (constantI S1 32 255#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S2048x1, .i32⟩) (broadcastInDim S2048x1 ![] bcast_S_S2048x1),
    StableHlo.TRef.binary (.of main_call4_v5 : StableHlo.TRef sig ⟨S2048x1, .i32⟩) (.of main_call4_v6 : StableHlo.TRef sig ⟨S2048x1, .i32⟩) (.of main_call4_v7 : StableHlo.TRef sig ⟨S2048x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S2048x1, .i32⟩) (broadcastInDim S2048x1 ![0, 1] bcast_S1x1_S2048x1_0_1),
    StableHlo.TRef.binary (.of main_call4_v5 : StableHlo.TRef sig ⟨S2048x1, .i32⟩) (.of main_call4_v9 : StableHlo.TRef sig ⟨S2048x1, .i32⟩) (.of main_call4_v10 : StableHlo.TRef sig ⟨S2048x1, .i1⟩) (cmpi .sle),
    StableHlo.TRef.binary (.of main_call4_v7 : StableHlo.TRef sig ⟨S2048x1, .i1⟩) (.of main_call4_v10 : StableHlo.TRef sig ⟨S2048x1, .i1⟩) (.of main_call4_v11 : StableHlo.TRef sig ⟨S2048x1, .i1⟩) andi,
    StableHlo.TRef.nullary (.of main_call4_c_3 : StableHlo.TRef sig ⟨S_, .i1⟩) (constantI S_ 1 1#1),
    StableHlo.TRef.binary (.of main_call4_v11 : StableHlo.TRef sig ⟨S2048x1, .i1⟩) (.of main_call4_c_3 : StableHlo.TRef sig ⟨S_, .i1⟩) (.of main_call4_v12 : StableHlo.TRef sig ⟨S2048, .i1⟩) (fun x v => Host.reduce IntOp.andi x v reducesTo_S2048x1_S2048_d1 h_S_),
    StableHlo.TRef.binary (.of main_arg7 : StableHlo.TRef sig ⟨S256x256, .f32⟩) (.of main_call4_v5 : StableHlo.TRef sig ⟨S2048x1, .i32⟩) (.of main_call4_v13 : StableHlo.TRef sig ⟨S2048x256, .f32⟩) (fun x i => Host.gather gather_S256x256_S2048x1_S2048x256_1_0_n_n_0_1_1256 x i),
    StableHlo.TRef.unary (.of main_call4_v12 : StableHlo.TRef sig ⟨S2048, .i1⟩) (.of main_call4_v14 : StableHlo.TRef sig ⟨S2048x256, .i1⟩) (broadcastInDim S2048x256 ![0] bcast_S2048_S2048x256_0),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S2048x256, .f32⟩) (broadcastInDim S2048x256 ![] bcast_S_S2048x256),
    StableHlo.TRef.ternary (.of main_call4_v14 : StableHlo.TRef sig ⟨S2048x256, .i1⟩) (.of main_call4_v13 : StableHlo.TRef sig ⟨S2048x256, .f32⟩) (.of main_call4_v15 : StableHlo.TRef sig ⟨S2048x256, .f32⟩) (.of main_v45 : StableHlo.TRef sig ⟨S2048x256, .f32⟩) select ]
/-- Each of them reads and writes the core's own buffers only. -/
theorem main_part1_ops0_sub : (main_part1_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 10 host operations of @main, statements 61 to 78, in order. -/
abbrev main_part1_ops1 : List (HloOp τ sig (Elt F)) :=
  [ StableHlo.binary main_v45 main_v29 main_v46 (subf : (⟨S2048x256, .f32⟩ : BufTy).Contents (Elt F) → (⟨S2048x256, .f32⟩ : BufTy).Contents (Elt F) → (⟨S2048x256, .f32⟩ : BufTy).Contents (Elt F)),
    StableHlo.binary main_v29 main_v46 main_v47 (addf : (⟨S2048x256, .f32⟩ : BufTy).Contents (Elt F) → (⟨S2048x256, .f32⟩ : BufTy).Contents (Elt F) → (⟨S2048x256, .f32⟩ : BufTy).Contents (Elt F)),
    StableHlo.reshape main_v47 main_v48 (rfl : (.f32 : EltTy) = .f32) shapeCasts_S2048x256_S8x256x256,
    StableHlo.nullary main_c_8 (constantI S_ 32 0#32),
    StableHlo.nullary main_c_9 (constantI S_ 32 0#32),
    StableHlo.unary main_arg9 main_v49_0 id,
    StableHlo.unary main_arg10 main_v49_1 id,
    StableHlo.unary main_c_9 main_v49_2 id,
    StableHlo.unary main_c_8 main_v49_3 id,
    StableHlo.unary main_v48 main_v49_4 id ]
/-- Each of them reads and writes the core's own buffers only. -/
theorem main_part1_ops1_sub : (main_part1_ops1 : List (HloOp τ sig (Elt F))).Forall fun op => op.bufs ⊆ StableHlo.tcRefs τ sig :=
  ⟨StableHlo.binary_bufs_sub .., StableHlo.binary_bufs_sub .., StableHlo.reshape_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub ..⟩
/-- 5 host operations of @main, statements 61 to 78, in order. -/
abbrev main_part1_ops2 : List (HloOp τ sig (Elt F)) :=
  [ StableHlo.binary main_v49_4 main_arg11 main_v50 ((fun l r => Host.dotGeneral dot_S8x256x256_S256x32_S8x256x32_2_0_01_1_n_n none l r) : (⟨S8x256x256, .f32⟩ : BufTy).Contents (Elt F) → (⟨S256x32, .f32⟩ : BufTy).Contents (Elt F) → (⟨S8x256x32, .f32⟩ : BufTy).Contents (Elt F)),
    StableHlo.unary main_arg12 main_v51 (broadcastInDim S1x1x32 ![2] bcast_S32_S1x1x32_2 : (⟨S32, .f32⟩ : BufTy).Contents (Elt F) → (⟨S1x1x32, .f32⟩ : BufTy).Contents (Elt F)),
    StableHlo.unary main_v51 main_v52 (broadcastInDim S8x256x32 ![0, 1, 2] bcast_S1x1x32_S8x256x32_0_1_2 : (⟨S1x1x32, .f32⟩ : BufTy).Contents (Elt F) → (⟨S8x256x32, .f32⟩ : BufTy).Contents (Elt F)),
    StableHlo.binary main_v50 main_v52 main_v53 (addf : (⟨S8x256x32, .f32⟩ : BufTy).Contents (Elt F) → (⟨S8x256x32, .f32⟩ : BufTy).Contents (Elt F) → (⟨S8x256x32, .f32⟩ : BufTy).Contents (Elt F)),
    StableHlo.reshape main_v53 main_v54 (rfl : (.f32 : EltTy) = .f32) shapeCasts_S8x256x32_S2x1024x32 ]
/-- Each of them reads and writes the core's own buffers only. -/
theorem main_part1_ops2_sub : (main_part1_ops2 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.reshape_bufs_sub ..⟩
/-- The second part of @main, statements 61 to 78, is the chain of its stretches, loop and calls. -/
theorem main_part1_chain (c : Dev nD) : main_part1 (F := F) c = (Pipeline.chain
  [ StableHlo.seq main_part1_ops0,
    StableHlo.seq main_part1_ops1,
    HostLoop.enter 1,
    StableHlo.seq main_part1_ops2 ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-- @main is the chain of its two parts' items. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part1_ops0,
    StableHlo.seq main_part1_ops1,
    HostLoop.enter 1,
    StableHlo.seq main_part1_ops2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- @main's items: a stretch that the boundary of the two parts cuts is given as its pieces, any other item as itself. -/
abbrev main_groups (c : Dev nD) : List (StableHlo.Group nD τ sig (Elt F) (HostLoop.Sig (Pipeline.Sig Λ₀ (Fin 0) fun p => (pcfgs (F := F) p).Adm) 2)) :=
  [ .ops [main_part0_ops0],
    .prog (HostLoop.enter 0),
    .ops [main_part0_ops1],
    .ops [main_part0_ops2],
    .ops [main_part1_ops0],
    .ops [main_part1_ops1],
    .prog (HostLoop.enter 1),
    .ops [main_part1_ops2] ]

/-- With every stretch cut, these are the items of the two parts. -/
theorem main_chain_cut (c : Dev nD) : (Pipeline.chain
  [ StableHlo.seq main_part0_ops0,
    HostLoop.enter 0,
    StableHlo.seq main_part0_ops1,
    StableHlo.seq main_part0_ops2,
    StableHlo.seq main_part1_ops0,
    StableHlo.seq main_part1_ops1,
    HostLoop.enter 1,
    StableHlo.seq main_part1_ops2 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- With every stretch's pieces joined, these are the items of @main. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    HostLoop.enter 1,
    StableHlo.seq hostOps0_5 ] : Prog (TpuEff nD τ sig (Elt F) (HostLoop.Sig (Pipeline.Sig Λ₀ (Fin 0) fun p => (pcfgs (F := F) p).Adm) 2) .tc) PUnit) := by
  chain_rfl

/-- @main is the chain of its items: stretches of its own operations, called functions and loops, in order. -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    HostLoop.enter 1,
    StableHlo.seq hostOps0_5 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

/-- 6 host operations of host loop 0's body region, in order. -/
abbrev while0Ops0 : List (HloOp τ sig (Elt F)) :=
  [ StableHlo.nullary main_while0b_c_14 (constantI S_ 32 1#32),
    StableHlo.binary main_v4_3 main_while0b_c_14 main_while0b_v55 (addi : (⟨S_, .i32⟩ : BufTy).Contents (Elt F) → (⟨S_, .i32⟩ : BufTy).Contents (Elt F) → (⟨S_, .i32⟩ : BufTy).Contents (Elt F)),
    StableHlo.nullary main_while0b_c_15 (constantI S_ 32 10#32),
    StableHlo.binary main_v4_3 main_while0b_c_15 main_while0b_v56 (Host.remsi : (⟨S_, .i32⟩ : BufTy).Contents (Elt F) → (⟨S_, .i32⟩ : BufTy).Contents (Elt F) → (⟨S_, .i32⟩ : BufTy).Contents (Elt F)),
    StableHlo.nullary main_while0b_c_16 (constantI S_ 32 1#32),
    StableHlo.binary main_while0b_c_16 main_while0b_v56 main_while0b_v57 (Host.shli : (⟨S_, .i32⟩ : BufTy).Contents (Elt F) → (⟨S_, .i32⟩ : BufTy).Contents (Elt F) → (⟨S_, .i32⟩ : BufTy).Contents (Elt F)) ]
/-- Each of them reads and writes the core's own buffers only. -/
theorem while0Ops0_sub : (while0Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub ..⟩
/-- 11 host operations of @dynamic_index_in_dim (main_while0b_call0), in order. -/
abbrev while0Ops0_1 : List (HloOp τ sig (Elt F)) :=
  [ StableHlo.TRef.nullary (.of main_while0b_call0_c : StableHlo.TRef sig ⟨S_, .i32⟩) (constantI S_ 32 0#32),
    StableHlo.TRef.binary (.of main_v4_3 : StableHlo.TRef sig ⟨S_, .i32⟩) (.of main_while0b_call0_c : StableHlo.TRef sig ⟨S_, .i32⟩) (.of main_while0b_call0_v0 : StableHlo.TRef sig ⟨S_, .i1⟩) (cmpi .slt),
    StableHlo.TRef.unary (.of main_v4_3 : StableHlo.TRef sig ⟨S_, .i32⟩) (.of main_while0b_call0_v1 : StableHlo.TRef sig ⟨S_, .i32⟩) id,
    StableHlo.TRef.nullary (.of main_while0b_call0_c_0 : StableHlo.TRef sig ⟨S_, .i32⟩) (constantI S_ 32 20#32),
    StableHlo.TRef.binary (.of main_while0b_call0_v1 : StableHlo.TRef sig ⟨S_, .i32⟩) (.of main_while0b_call0_c_0 : StableHlo.TRef sig ⟨S_, .i32⟩) (.of main_while0b_call0_v2 : StableHlo.TRef sig ⟨S_, .i32⟩) addi,
    StableHlo.TRef.ternary (.of main_while0b_call0_v0 : StableHlo.TRef sig ⟨S_, .i1⟩) (.of main_while0b_call0_v2 : StableHlo.TRef sig ⟨S_, .i32⟩) (.of main_v4_3 : StableHlo.TRef sig ⟨S_, .i32⟩) (.of main_while0b_call0_v3 : StableHlo.TRef sig ⟨S_, .i32⟩) select,
    StableHlo.TRef.nullary (.of main_while0b_call0_c_1 : StableHlo.TRef sig ⟨S_, .i32⟩) (constantI S_ 32 0#32),
    StableHlo.TRef.nullary (.of main_while0b_call0_c_2 : StableHlo.TRef sig ⟨S_, .i32⟩) (constantI S_ 32 0#32),
    StableHlo.TRef.nullary (.of main_while0b_call0_c_3 : StableHlo.TRef sig ⟨S_, .i32⟩) (constantI S_ 32 0#32),
    StableHlo.TRef.unaryIndexed (.of main_v4_0 : StableHlo.TRef sig ⟨S20x256x256x3, .f32⟩) ![(.of main_while0b_call0_v3 : StableHlo.TRef sig ⟨S_, .i32⟩), (.of main_while0b_call0_c_1 : StableHlo.TRef sig ⟨S_, .i32⟩), (.of main_while0b_call0_c_2 : StableHlo.TRef sig ⟨S_, .i32⟩), (.of main_while0b_call0_c_3 : StableHlo.TRef sig ⟨S_, .i32⟩)] (.of main_while0b_call0_v4 : StableHlo.TRef sig ⟨S1x256x256x3, .f32⟩) (fun x i => Host.dynamicSlice S1x256x256x3 x (fun k => (i k (Shape.Idx.first h_S_)).toInt) sliceFits_S20x256x256x3_S1x256x256x3),
    StableHlo.TRef.reshape (.of main_while0b_call0_v4 : StableHlo.TRef sig ⟨S1x256x256x3, .f32⟩) (.of main_while0b_v58 : StableHlo.TRef sig ⟨S256x256x3, .f32⟩) (rfl : (.f32 : EltTy) = .f32) shapeCasts_S1x256x256x3_S256x256x3 ]
/-- Each of them reads and writes the core's own buffers only. -/
theorem while0Ops0_1_sub : (while0Ops0_1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.nullary_bufs_sub .., StableHlo.unaryIndexed_bufs_sub .., StableHlo.reshape_bufs_sub ..⟩
/-- 9 host operations of @dynamic_index_in_dim_0 (main_while0b_call1), in order. -/
abbrev while0Ops0_2 : List (HloOp τ sig (Elt F)) :=
  [ StableHlo.TRef.nullary (.of main_while0b_call1_c : StableHlo.TRef sig ⟨S_, .i32⟩) (constantI S_ 32 0#32),
    StableHlo.TRef.binary (.of main_v4_3 : StableHlo.TRef sig ⟨S_, .i32⟩) (.of main_while0b_call1_c : StableHlo.TRef sig ⟨S_, .i32⟩) (.of main_while0b_call1_v0 : StableHlo.TRef sig ⟨S_, .i1⟩) (cmpi .slt),
    StableHlo.TRef.unary (.of main_v4_3 : StableHlo.TRef sig ⟨S_, .i32⟩) (.of main_while0b_call1_v1 : StableHlo.TRef sig ⟨S_, .i32⟩) id,
    StableHlo.TRef.nullary (.of main_while0b_call1_c_0 : StableHlo.TRef sig ⟨S_, .i32⟩) (constantI S_ 32 20#32),
    StableHlo.TRef.binary (.of main_while0b_call1_v1 : StableHlo.TRef sig ⟨S_, .i32⟩) (.of main_while0b_call1_c_0 : StableHlo.TRef sig ⟨S_, .i32⟩) (.of main_while0b_call1_v2 : StableHlo.TRef sig ⟨S_, .i32⟩) addi,
    StableHlo.TRef.ternary (.of main_while0b_call1_v0 : StableHlo.TRef sig ⟨S_, .i1⟩) (.of main_while0b_call1_v2 : StableHlo.TRef sig ⟨S_, .i32⟩) (.of main_v4_3 : StableHlo.TRef sig ⟨S_, .i32⟩) (.of main_while0b_call1_v3 : StableHlo.TRef sig ⟨S_, .i32⟩) select,
    StableHlo.TRef.nullary (.of main_while0b_call1_c_1 : StableHlo.TRef sig ⟨S_, .i32⟩) (constantI S_ 32 0#32),
    StableHlo.TRef.unaryIndexed (.of main_v4_1 : StableHlo.TRef sig ⟨S20x256, .f32⟩) ![(.of main_while0b_call1_v3 : StableHlo.TRef sig ⟨S_, .i32⟩), (.of main_while0b_call1_c_1 : StableHlo.TRef sig ⟨S_, .i32⟩)] (.of main_while0b_call1_v4 : StableHlo.TRef sig ⟨S1x256, .f32⟩) (fun x i => Host.dynamicSlice S1x256 x (fun k => (i k (Shape.Idx.first h_S_)).toInt) sliceFits_S20x256_S1x256),
    StableHlo.TRef.reshape (.of main_while0b_call1_v4 : StableHlo.TRef sig ⟨S1x256, .f32⟩) (.of main_while0b_v59 : StableHlo.TRef sig ⟨S256, .f32⟩) (rfl : (.f32 : EltTy) = .f32) shapeCasts_S1x256_S256 ]
/-- Each of them reads and writes the core's own buffers only. -/
theorem while0Ops0_2_sub : (while0Ops0_2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.unaryIndexed_bufs_sub .., StableHlo.reshape_bufs_sub ..⟩
/-- 1 host operation of host loop 0's body region, in order. -/
abbrev while0Ops0_3 : List (HloOp τ sig (Elt F)) :=
  [ StableHlo.nullary main_while0b_c_17 (constantI S_ 32 0#32) ]
/-- Each of them reads and writes the core's own buffers only. -/
theorem while0Ops0_3_sub : (while0Ops0_3 : List (HloOp τ sig (Elt F))).Forall fun op => op.bufs ⊆ StableHlo.tcRefs τ sig :=
  StableHlo.nullary_bufs_sub ..
/-- 2 host operations of @_pad (main_while0b_call2), in order. -/
abbrev while0Ops0_4 : List (HloOp τ sig (Elt F)) :=
  [ StableHlo.TRef.unary (.of main_while0b_c_17 : StableHlo.TRef sig ⟨S_, .i32⟩) (.of main_while0b_call2_v0 : StableHlo.TRef sig ⟨S_, .f32⟩) (sitofp .f32),
    StableHlo.TRef.binary (.of main_v4_4 : StableHlo.TRef sig ⟨S8x256x256, .f32⟩) (.of main_while0b_call2_v0 : StableHlo.TRef sig ⟨S_, .f32⟩) (.of main_while0b_v60 : StableHlo.TRef sig ⟨S8x1280x256, .f32⟩) (fun x v => pad S8x1280x256 ![0, 512, 0] ![0, 512, 0] ![0, 0, 0] x v pads_S8x256x256_S8x1280x256_000_5125120_000 h_S_) ]
/-- Each of them reads and writes the core's own buffers only. -/
theorem while0Ops0_4_sub : (while0Ops0_4 : List (HloOp τ sig (Elt F))).Forall fun op => op.bufs ⊆ StableHlo.tcRefs τ sig :=
  ⟨StableHlo.unary_bufs_sub .., StableHlo.binary_bufs_sub ..⟩
/-- 62 host operations of host loop 0's body region, in order. -/
abbrev while0Ops0_5 : List (HloOp τ sig (Elt F)) :=
  ( StableHlo.nullary main_while0b_c_18 (constantI S_ 32 4294967295#32)
  :: StableHlo.binary main_while0b_c_18 main_while0b_v57 main_while0b_v61 (muli : (⟨S_, .i32⟩ : BufTy).Contents (Elt F) → (⟨S_, .i32⟩ : BufTy).Contents (Elt F) → (⟨S_, .i32⟩ : BufTy).Contents (Elt F))
  :: StableHlo.nullary main_while0b_c_19 (constantI S_ 32 512#32)
  :: StableHlo.binary main_while0b_c_19 main_while0b_v61 main_while0b_v62 (addi : (⟨S_, .i32⟩ : BufTy).Contents (Elt F) → (⟨S_, .i32⟩ : BufTy).Contents (Elt F) → (⟨S_, .i32⟩ : BufTy).Contents (Elt F))
  :: StableHlo.nullary main_while0b_c_20 (constantI S_ 32 0#32)
  :: StableHlo.binary main_while0b_v62 main_while0b_c_20 main_while0b_v63 (cmpi .slt : (⟨S_, .i32⟩ : BufTy).Contents (Elt F) → (⟨S_, .i32⟩ : BufTy).Contents (Elt F) → (⟨S_, .i1⟩ : BufTy).Contents (Elt F))
  :: StableHlo.nullary main_while0b_c_21 (constantI S_ 32 1280#32)
  :: StableHlo.binary main_while0b_v62 main_while0b_c_21 main_while0b_v64 (addi : (⟨S_, .i32⟩ : BufTy).Contents (Elt F) → (⟨S_, .i32⟩ : BufTy).Contents (Elt F) → (⟨S_, .i32⟩ : BufTy).Contents (Elt F))
  :: StableHlo.ternary main_while0b_v63 main_while0b_v64 main_while0b_v62 main_while0b_v65 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_22 (constantI S_ 32 0#32)
  :: StableHlo.nullary main_while0b_c_23 (constantI S_ 32 0#32)
  :: StableHlo.unaryIndexed main_while0b_v60 ![main_while0b_c_22, main_while0b_v65, main_while0b_c_23] ⟨S_, .i32⟩ main_while0b_v66 ((fun x i => Host.dynamicSlice S8x256x256 x (fun k => (i k (Shape.Idx.first h_S_)).toInt) sliceFits_S8x1280x256_S8x256x256) : (⟨S8x1280x256, .f32⟩ : BufTy).Contents (Elt F) → (Fin 3 → (⟨S_, .i32⟩ : BufTy).Contents (Elt F)) → (⟨S8x256x256, .f32⟩ : BufTy).Contents (Elt F))
  :: StableHlo.unary main_while0b_v58 main_while0b_v67 ((extractStridedSlice S256x256x1 ![0, 0, 0] · slices_S256x256x3_S256x256x1_0_0_0) : (⟨S256x256x3, .f32⟩ : BufTy).Contents (Elt F) → (⟨S256x256x1, .f32⟩ : BufTy).Contents (Elt F))
  :: StableHlo.reshape main_while0b_v67 main_while0b_v68 (rfl : (.f32 : EltTy) = .f32) shapeCasts_S256x256x1_S256x256
  :: StableHlo.unary main_while0b_v68 main_while0b_v69 ((transpose S256x256 [1, 0] · transposes_S256x256_S256x256_1_0) : (⟨S256x256, .f32⟩ : BufTy).Contents (Elt F) → (⟨S256x256, .f32⟩ : BufTy).Contents (Elt F))
  :: StableHlo.binary main_while0b_v66 main_while0b_v69 main_while0b_v70 ((fun l r => Host.dotGeneral dot_S8x256x256_S256x256_S8x256x256_2_0_01_1_n_n none l r) : (⟨S8x256x256, .f32⟩ : BufTy).Contents (Elt F) → (⟨S256x256, .f32⟩ : BufTy).Contents (Elt F) → (⟨S8x256x256, .f32⟩ : BufTy).Contents (Elt F))
  :: StableHlo.nullary main_while0b_c_24 (constantI S_ 32 0#32)
  :: StableHlo.binary main_while0b_c_24 main_while0b_v57 main_while0b_v71 (muli : (⟨S_, .i32⟩ : BufTy).Contents (Elt F) → (⟨S_, .i32⟩ : BufTy).Contents (Elt F) → (⟨S_, .i32⟩ : BufTy).Contents (Elt F))
  :: StableHlo.nullary main_while0b_c_25 (constantI S_ 32 512#32)
  :: StableHlo.binary main_while0b_c_25 main_while0b_v71 main_while0b_v72 (addi : (⟨S_, .i32⟩ : BufTy).Contents (Elt F) → (⟨S_, .i32⟩ : BufTy).Contents (Elt F) → (⟨S_, .i32⟩ : BufTy).Contents (Elt F))
  :: StableHlo.nullary main_while0b_c_26 (constantI S_ 32 0#32)
  :: StableHlo.binary main_while0b_v72 main_while0b_c_26 main_while0b_v73 (cmpi .slt : (⟨S_, .i32⟩ : BufTy).Contents (Elt F) → (⟨S_, .i32⟩ : BufTy).Contents (Elt F) → (⟨S_, .i1⟩ : BufTy).Contents (Elt F))
  :: StableHlo.nullary main_while0b_c_27 (constantI S_ 32 1280#32)
  :: StableHlo.binary main_while0b_v72 main_while0b_c_27 main_while0b_v74 (addi : (⟨S_, .i32⟩ : BufTy).Contents (Elt F) → (⟨S_, .i32⟩ : BufTy).Contents (Elt F) → (⟨S_, .i32⟩ : BufTy).Contents (Elt F))
  :: StableHlo.ternary main_while0b_v73 main_while0b_v74 main_while0b_v72 main_while0b_v75 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_28 (constantI S_ 32 0#32)
  :: StableHlo.nullary main_while0b_c_29 (constantI S_ 32 0#32)
  :: StableHlo.unaryIndexed main_while0b_v60 ![main_while0b_c_28, main_while0b_v75, main_while0b_c_29] ⟨S_, .i32⟩ main_while0b_v76 ((fun x i => Host.dynamicSlice S8x256x256 x (fun k => (i k (Shape.Idx.first h_S_)).toInt) sliceFits_S8x1280x256_S8x256x256) : (⟨S8x1280x256, .f32⟩ : BufTy).Contents (Elt F) → (Fin 3 → (⟨S_, .i32⟩ : BufTy).Contents (Elt F)) → (⟨S8x256x256, .f32⟩ : BufTy).Contents (Elt F))
  :: StableHlo.unary main_while0b_v58 main_while0b_v77 ((extractStridedSlice S256x256x1 ![0, 0, 1] · slices_S256x256x3_S256x256x1_0_0_1) : (⟨S256x256x3, .f32⟩ : BufTy).Contents (Elt F) → (⟨S256x256x1, .f32⟩ : BufTy).Contents (Elt F))
  :: StableHlo.reshape main_while0b_v77 main_while0b_v78 (rfl : (.f32 : EltTy) = .f32) shapeCasts_S256x256x1_S256x256
  :: StableHlo.unary main_while0b_v78 main_while0b_v79 ((transpose S256x256 [1, 0] · transposes_S256x256_S256x256_1_0) : (⟨S256x256, .f32⟩ : BufTy).Contents (Elt F) → (⟨S256x256, .f32⟩ : BufTy).Contents (Elt F))
  :: StableHlo.binary main_while0b_v76 main_while0b_v79 main_while0b_v80 ((fun l r => Host.dotGeneral dot_S8x256x256_S256x256_S8x256x256_2_0_01_1_n_n none l r) : (⟨S8x256x256, .f32⟩ : BufTy).Contents (Elt F) → (⟨S256x256, .f32⟩ : BufTy).Contents (Elt F) → (⟨S8x256x256, .f32⟩ : BufTy).Contents (Elt F))
  :: StableHlo.binary main_while0b_v70 main_while0b_v80 main_while0b_v81 (addf : (⟨S8x256x256, .f32⟩ : BufTy).Contents (Elt F) → (⟨S8x256x256, .f32⟩ : BufTy).Contents (Elt F) → (⟨S8x256x256, .f32⟩ : BufTy).Contents (Elt F))
  :: StableHlo.nullary main_while0b_c_30 (constantI S_ 32 1#32)
  :: StableHlo.binary main_while0b_c_30 main_while0b_v57 main_while0b_v82 (muli : (⟨S_, .i32⟩ : BufTy).Contents (Elt F) → (⟨S_, .i32⟩ : BufTy).Contents (Elt F) → (⟨S_, .i32⟩ : BufTy).Contents (Elt F))
  :: StableHlo.nullary main_while0b_c_31 (constantI S_ 32 512#32)
  :: StableHlo.binary main_while0b_c_31 main_while0b_v82 main_while0b_v83 (addi : (⟨S_, .i32⟩ : BufTy).Contents (Elt F) → (⟨S_, .i32⟩ : BufTy).Contents (Elt F) → (⟨S_, .i32⟩ : BufTy).Contents (Elt F))
  :: StableHlo.nullary main_while0b_c_32 (constantI S_ 32 0#32)
  :: StableHlo.binary main_while0b_v83 main_while0b_c_32 main_while0b_v84 (cmpi .slt : (⟨S_, .i32⟩ : BufTy).Contents (Elt F) → (⟨S_, .i32⟩ : BufTy).Contents (Elt F) → (⟨S_, .i1⟩ : BufTy).Contents (Elt F))
  :: StableHlo.nullary main_while0b_c_33 (constantI S_ 32 1280#32)
  :: StableHlo.binary main_while0b_v83 main_while0b_c_33 main_while0b_v85 (addi : (⟨S_, .i32⟩ : BufTy).Contents (Elt F) → (⟨S_, .i32⟩ : BufTy).Contents (Elt F) → (⟨S_, .i32⟩ : BufTy).Contents (Elt F))
  :: StableHlo.ternary main_while0b_v84 main_while0b_v85 main_while0b_v83 main_while0b_v86 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_34 (constantI S_ 32 0#32)
  :: StableHlo.nullary main_while0b_c_35 (constantI S_ 32 0#32)
  :: StableHlo.unaryIndexed main_while0b_v60 ![main_while0b_c_34, main_while0b_v86, main_while0b_c_35] ⟨S_, .i32⟩ main_while0b_v87 ((fun x i => Host.dynamicSlice S8x256x256 x (fun k => (i k (Shape.Idx.first h_S_)).toInt) sliceFits_S8x1280x256_S8x256x256) : (⟨S8x1280x256, .f32⟩ : BufTy).Contents (Elt F) → (Fin 3 → (⟨S_, .i32⟩ : BufTy).Contents (Elt F)) → (⟨S8x256x256, .f32⟩ : BufTy).Contents (Elt F))
  :: StableHlo.unary main_while0b_v58 main_while0b_v88 ((extractStridedSlice S256x256x1 ![0, 0, 2] · slices_S256x256x3_S256x256x1_0_0_2) : (⟨S256x256x3, .f32⟩ : BufTy).Contents (Elt F) → (⟨S256x256x1, .f32⟩ : BufTy).Contents (Elt F))
  :: StableHlo.reshape main_while0b_v88 main_while0b_v89 (rfl : (.f32 : EltTy) = .f32) shapeCasts_S256x256x1_S256x256
  :: StableHlo.unary main_while0b_v89 main_while0b_v90 ((transpose S256x256 [1, 0] · transposes_S256x256_S256x256_1_0) : (⟨S256x256, .f32⟩ : BufTy).Contents (Elt F) → (⟨S256x256, .f32⟩ : BufTy).Contents (Elt F))
  :: StableHlo.binary main_while0b_v87 main_while0b_v90 main_while0b_v91 ((fun l r => Host.dotGeneral dot_S8x256x256_S256x256_S8x256x256_2_0_01_1_n_n none l r) : (⟨S8x256x256, .f32⟩ : BufTy).Contents (Elt F) → (⟨S256x256, .f32⟩ : BufTy).Contents (Elt F) → (⟨S8x256x256, .f32⟩ : BufTy).Contents (Elt F))
  :: StableHlo.binary main_while0b_v81 main_while0b_v91 main_while0b_v92 (addf : (⟨S8x256x256, .f32⟩ : BufTy).Contents (Elt F) → (⟨S8x256x256, .f32⟩ : BufTy).Contents (Elt F) → (⟨S8x256x256, .f32⟩ : BufTy).Contents (Elt F))
  :: StableHlo.unary main_while0b_v59 main_while0b_v93 (broadcastInDim S1x1x256 ![2] bcast_S256_S1x1x256_2 : (⟨S256, .f32⟩ : BufTy).Contents (Elt F) → (⟨S1x1x256, .f32⟩ : BufTy).Contents (Elt F))
  :: StableHlo.unary main_while0b_v93 main_while0b_v94 (broadcastInDim S8x256x256 ![0, 1, 2] bcast_S1x1x256_S8x256x256_0_1_2 : (⟨S1x1x256, .f32⟩ : BufTy).Contents (Elt F) → (⟨S8x256x256, .f32⟩ : BufTy).Contents (Elt F))
  :: StableHlo.binary main_while0b_v92 main_while0b_v94 main_while0b_v95 (addf : (⟨S8x256x256, .f32⟩ : BufTy).Contents (Elt F) → (⟨S8x256x256, .f32⟩ : BufTy).Contents (Elt F) → (⟨S8x256x256, .f32⟩ : BufTy).Contents (Elt F))
  :: StableHlo.nullary main_while0b_cst_36 (constant S_ .f32 0x00000000#32)
  :: StableHlo.unary main_while0b_cst_36 main_while0b_v96 (broadcastInDim S8x256x256 ![] bcast_S_S8x256x256 : (⟨S_, .f32⟩ : BufTy).Contents (Elt F) → (⟨S8x256x256, .f32⟩ : BufTy).Contents (Elt F))
  :: StableHlo.binary main_while0b_v95 main_while0b_v96 main_while0b_v97 (maximumf : (⟨S8x256x256, .f32⟩ : BufTy).Contents (Elt F) → (⟨S8x256x256, .f32⟩ : BufTy).Contents (Elt F) → (⟨S8x256x256, .f32⟩ : BufTy).Contents (Elt F))
  :: StableHlo.binary main_while0b_v97 main_v4_4 main_while0b_v98 (addf : (⟨S8x256x256, .f32⟩ : BufTy).Contents (Elt F) → (⟨S8x256x256, .f32⟩ : BufTy).Contents (Elt F) → (⟨S8x256x256, .f32⟩ : BufTy).Contents (Elt F))
  :: StableHlo.nullary main_while0b_c_37 (constantI S_ 32 1#32)
  :: StableHlo.binary main_v4_2 main_while0b_c_37 main_while0b_v99 (addi : (⟨S_, .i32⟩ : BufTy).Contents (Elt F) → (⟨S_, .i32⟩ : BufTy).Contents (Elt F) → (⟨S_, .i32⟩ : BufTy).Contents (Elt F))
  :: StableHlo.unary main_while0b_v99 main_v4_2 id
  :: StableHlo.unary main_while0b_v55 main_v4_3 id
  :: StableHlo.unary main_while0b_v98 main_v4_4 id
  :: [] )
/-- Each of them reads and writes the core's own buffers only. -/
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.unary_bufs_sub .., StableHlo.reshape_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.unary_bufs_sub .., StableHlo.reshape_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub ..⟩
/-- The body of loop 0 is the chain of its items: stretches of its own operations and called functions, in order. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, StableHlo.chain_seq_cons, Pipeline.chain_cons, StableHlo.chain_seq_cons]
  chain_rfl

/-- 6 host operations of host loop 1's body region, in order. -/
abbrev while1Ops0 : List (HloOp τ sig (Elt F)) :=
  [ StableHlo.nullary main_while1b_c_14 (constantI S_ 32 1#32),
    StableHlo.binary main_v49_3 main_while1b_c_14 main_while1b_v55 (addi : (⟨S_, .i32⟩ : BufTy).Contents (Elt F) → (⟨S_, .i32⟩ : BufTy).Contents (Elt F) → (⟨S_, .i32⟩ : BufTy).Contents (Elt F)),
    StableHlo.nullary main_while1b_c_15 (constantI S_ 32 10#32),
    StableHlo.binary main_v49_3 main_while1b_c_15 main_while1b_v56 (Host.remsi : (⟨S_, .i32⟩ : BufTy).Contents (Elt F) → (⟨S_, .i32⟩ : BufTy).Contents (Elt F) → (⟨S_, .i32⟩ : BufTy).Contents (Elt F)),
    StableHlo.nullary main_while1b_c_16 (constantI S_ 32 1#32),
    StableHlo.binary main_while1b_c_16 main_while1b_v56 main_while1b_v57 (Host.shli : (⟨S_, .i32⟩ : BufTy).Contents (Elt F) → (⟨S_, .i32⟩ : BufTy).Contents (Elt F) → (⟨S_, .i32⟩ : BufTy).Contents (Elt F)) ]
/-- Each of them reads and writes the core's own buffers only. -/
theorem while1Ops0_sub : (while1Ops0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub ..⟩
/-- 11 host operations of @dynamic_index_in_dim (main_while1b_call5), in order. -/
abbrev while1Ops0_1 : List (HloOp τ sig (Elt F)) :=
  [ StableHlo.TRef.nullary (.of main_while1b_call5_c : StableHlo.TRef sig ⟨S_, .i32⟩) (constantI S_ 32 0#32),
    StableHlo.TRef.binary (.of main_v49_3 : StableHlo.TRef sig ⟨S_, .i32⟩) (.of main_while1b_call5_c : StableHlo.TRef sig ⟨S_, .i32⟩) (.of main_while1b_call5_v0 : StableHlo.TRef sig ⟨S_, .i1⟩) (cmpi .slt),
    StableHlo.TRef.unary (.of main_v49_3 : StableHlo.TRef sig ⟨S_, .i32⟩) (.of main_while1b_call5_v1 : StableHlo.TRef sig ⟨S_, .i32⟩) id,
    StableHlo.TRef.nullary (.of main_while1b_call5_c_0 : StableHlo.TRef sig ⟨S_, .i32⟩) (constantI S_ 32 20#32),
    StableHlo.TRef.binary (.of main_while1b_call5_v1 : StableHlo.TRef sig ⟨S_, .i32⟩) (.of main_while1b_call5_c_0 : StableHlo.TRef sig ⟨S_, .i32⟩) (.of main_while1b_call5_v2 : StableHlo.TRef sig ⟨S_, .i32⟩) addi,
    StableHlo.TRef.ternary (.of main_while1b_call5_v0 : StableHlo.TRef sig ⟨S_, .i1⟩) (.of main_while1b_call5_v2 : StableHlo.TRef sig ⟨S_, .i32⟩) (.of main_v49_3 : StableHlo.TRef sig ⟨S_, .i32⟩) (.of main_while1b_call5_v3 : StableHlo.TRef sig ⟨S_, .i32⟩) select,
    StableHlo.TRef.nullary (.of main_while1b_call5_c_1 : StableHlo.TRef sig ⟨S_, .i32⟩) (constantI S_ 32 0#32),
    StableHlo.TRef.nullary (.of main_while1b_call5_c_2 : StableHlo.TRef sig ⟨S_, .i32⟩) (constantI S_ 32 0#32),
    StableHlo.TRef.nullary (.of main_while1b_call5_c_3 : StableHlo.TRef sig ⟨S_, .i32⟩) (constantI S_ 32 0#32),
    StableHlo.TRef.unaryIndexed (.of main_v49_0 : StableHlo.TRef sig ⟨S20x256x256x3, .f32⟩) ![(.of main_while1b_call5_v3 : StableHlo.TRef sig ⟨S_, .i32⟩), (.of main_while1b_call5_c_1 : StableHlo.TRef sig ⟨S_, .i32⟩), (.of main_while1b_call5_c_2 : StableHlo.TRef sig ⟨S_, .i32⟩), (.of main_while1b_call5_c_3 : StableHlo.TRef sig ⟨S_, .i32⟩)] (.of main_while1b_call5_v4 : StableHlo.TRef sig ⟨S1x256x256x3, .f32⟩) (fun x i => Host.dynamicSlice S1x256x256x3 x (fun k => (i k (Shape.Idx.first h_S_)).toInt) sliceFits_S20x256x256x3_S1x256x256x3),
    StableHlo.TRef.reshape (.of main_while1b_call5_v4 : StableHlo.TRef sig ⟨S1x256x256x3, .f32⟩) (.of main_while1b_v58 : StableHlo.TRef sig ⟨S256x256x3, .f32⟩) (rfl : (.f32 : EltTy) = .f32) shapeCasts_S1x256x256x3_S256x256x3 ]
/-- Each of them reads and writes the core's own buffers only. -/
theorem while1Ops0_1_sub : (while1Ops0_1 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.nullary_bufs_sub .., StableHlo.nullary_bufs_sub .., StableHlo.unaryIndexed_bufs_sub .., StableHlo.reshape_bufs_sub ..⟩
/-- 9 host operations of @dynamic_index_in_dim_0 (main_while1b_call6), in order. -/
abbrev while1Ops0_2 : List (HloOp τ sig (Elt F)) :=
  [ StableHlo.TRef.nullary (.of main_while1b_call6_c : StableHlo.TRef sig ⟨S_, .i32⟩) (constantI S_ 32 0#32),
    StableHlo.TRef.binary (.of main_v49_3 : StableHlo.TRef sig ⟨S_, .i32⟩) (.of main_while1b_call6_c : StableHlo.TRef sig ⟨S_, .i32⟩) (.of main_while1b_call6_v0 : StableHlo.TRef sig ⟨S_, .i1⟩) (cmpi .slt),
    StableHlo.TRef.unary (.of main_v49_3 : StableHlo.TRef sig ⟨S_, .i32⟩) (.of main_while1b_call6_v1 : StableHlo.TRef sig ⟨S_, .i32⟩) id,
    StableHlo.TRef.nullary (.of main_while1b_call6_c_0 : StableHlo.TRef sig ⟨S_, .i32⟩) (constantI S_ 32 20#32),
    StableHlo.TRef.binary (.of main_while1b_call6_v1 : StableHlo.TRef sig ⟨S_, .i32⟩) (.of main_while1b_call6_c_0 : StableHlo.TRef sig ⟨S_, .i32⟩) (.of main_while1b_call6_v2 : StableHlo.TRef sig ⟨S_, .i32⟩) addi,
    StableHlo.TRef.ternary (.of main_while1b_call6_v0 : StableHlo.TRef sig ⟨S_, .i1⟩) (.of main_while1b_call6_v2 : StableHlo.TRef sig ⟨S_, .i32⟩) (.of main_v49_3 : StableHlo.TRef sig ⟨S_, .i32⟩) (.of main_while1b_call6_v3 : StableHlo.TRef sig ⟨S_, .i32⟩) select,
    StableHlo.TRef.nullary (.of main_while1b_call6_c_1 : StableHlo.TRef sig ⟨S_, .i32⟩) (constantI S_ 32 0#32),
    StableHlo.TRef.unaryIndexed (.of main_v49_1 : StableHlo.TRef sig ⟨S20x256, .f32⟩) ![(.of main_while1b_call6_v3 : StableHlo.TRef sig ⟨S_, .i32⟩), (.of main_while1b_call6_c_1 : StableHlo.TRef sig ⟨S_, .i32⟩)] (.of main_while1b_call6_v4 : StableHlo.TRef sig ⟨S1x256, .f32⟩) (fun x i => Host.dynamicSlice S1x256 x (fun k => (i k (Shape.Idx.first h_S_)).toInt) sliceFits_S20x256_S1x256),
    StableHlo.TRef.reshape (.of main_while1b_call6_v4 : StableHlo.TRef sig ⟨S1x256, .f32⟩) (.of main_while1b_v59 : StableHlo.TRef sig ⟨S256, .f32⟩) (rfl : (.f32 : EltTy) = .f32) shapeCasts_S1x256_S256 ]
/-- Each of them reads and writes the core's own buffers only. -/
theorem while1Ops0_2_sub : (while1Ops0_2 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.ternary_bufs_sub .., StableHlo.nullary_bufs_sub .., StableHlo.unaryIndexed_bufs_sub .., StableHlo.reshape_bufs_sub ..⟩
/-- 1 host operation of host loop 1's body region, in order. -/
abbrev while1Ops0_3 : List (HloOp τ sig (Elt F)) :=
  [ StableHlo.nullary main_while1b_c_17 (constantI S_ 32 0#32) ]
/-- Each of them reads and writes the core's own buffers only. -/
theorem while1Ops0_3_sub : (while1Ops0_3 : List (HloOp τ sig (Elt F))).Forall fun op => op.bufs ⊆ StableHlo.tcRefs τ sig :=
  StableHlo.nullary_bufs_sub ..
/-- 2 host operations of @_pad (main_while1b_call7), in order. -/
abbrev while1Ops0_4 : List (HloOp τ sig (Elt F)) :=
  [ StableHlo.TRef.unary (.of main_while1b_c_17 : StableHlo.TRef sig ⟨S_, .i32⟩) (.of main_while1b_call7_v0 : StableHlo.TRef sig ⟨S_, .f32⟩) (sitofp .f32),
    StableHlo.TRef.binary (.of main_v49_4 : StableHlo.TRef sig ⟨S8x256x256, .f32⟩) (.of main_while1b_call7_v0 : StableHlo.TRef sig ⟨S_, .f32⟩) (.of main_while1b_v60 : StableHlo.TRef sig ⟨S8x1280x256, .f32⟩) (fun x v => pad S8x1280x256 ![0, 512, 0] ![0, 512, 0] ![0, 0, 0] x v pads_S8x256x256_S8x1280x256_000_5125120_000 h_S_) ]
/-- Each of them reads and writes the core's own buffers only. -/
theorem while1Ops0_4_sub : (while1Ops0_4 : List (HloOp τ sig (Elt F))).Forall fun op => op.bufs ⊆ StableHlo.tcRefs τ sig :=
  ⟨StableHlo.unary_bufs_sub .., StableHlo.binary_bufs_sub ..⟩
/-- 62 host operations of host loop 1's body region, in order. -/
abbrev while1Ops0_5 : List (HloOp τ sig (Elt F)) :=
  ( StableHlo.nullary main_while1b_c_18 (constantI S_ 32 4294967295#32)
  :: StableHlo.binary main_while1b_c_18 main_while1b_v57 main_while1b_v61 (muli : (⟨S_, .i32⟩ : BufTy).Contents (Elt F) → (⟨S_, .i32⟩ : BufTy).Contents (Elt F) → (⟨S_, .i32⟩ : BufTy).Contents (Elt F))
  :: StableHlo.nullary main_while1b_c_19 (constantI S_ 32 512#32)
  :: StableHlo.binary main_while1b_c_19 main_while1b_v61 main_while1b_v62 (addi : (⟨S_, .i32⟩ : BufTy).Contents (Elt F) → (⟨S_, .i32⟩ : BufTy).Contents (Elt F) → (⟨S_, .i32⟩ : BufTy).Contents (Elt F))
  :: StableHlo.nullary main_while1b_c_20 (constantI S_ 32 0#32)
  :: StableHlo.binary main_while1b_v62 main_while1b_c_20 main_while1b_v63 (cmpi .slt : (⟨S_, .i32⟩ : BufTy).Contents (Elt F) → (⟨S_, .i32⟩ : BufTy).Contents (Elt F) → (⟨S_, .i1⟩ : BufTy).Contents (Elt F))
  :: StableHlo.nullary main_while1b_c_21 (constantI S_ 32 1280#32)
  :: StableHlo.binary main_while1b_v62 main_while1b_c_21 main_while1b_v64 (addi : (⟨S_, .i32⟩ : BufTy).Contents (Elt F) → (⟨S_, .i32⟩ : BufTy).Contents (Elt F) → (⟨S_, .i32⟩ : BufTy).Contents (Elt F))
  :: StableHlo.ternary main_while1b_v63 main_while1b_v64 main_while1b_v62 main_while1b_v65 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while1b_c_22 (constantI S_ 32 0#32)
  :: StableHlo.nullary main_while1b_c_23 (constantI S_ 32 0#32)
  :: StableHlo.unaryIndexed main_while1b_v60 ![main_while1b_c_22, main_while1b_v65, main_while1b_c_23] ⟨S_, .i32⟩ main_while1b_v66 ((fun x i => Host.dynamicSlice S8x256x256 x (fun k => (i k (Shape.Idx.first h_S_)).toInt) sliceFits_S8x1280x256_S8x256x256) : (⟨S8x1280x256, .f32⟩ : BufTy).Contents (Elt F) → (Fin 3 → (⟨S_, .i32⟩ : BufTy).Contents (Elt F)) → (⟨S8x256x256, .f32⟩ : BufTy).Contents (Elt F))
  :: StableHlo.unary main_while1b_v58 main_while1b_v67 ((extractStridedSlice S256x256x1 ![0, 0, 0] · slices_S256x256x3_S256x256x1_0_0_0) : (⟨S256x256x3, .f32⟩ : BufTy).Contents (Elt F) → (⟨S256x256x1, .f32⟩ : BufTy).Contents (Elt F))
  :: StableHlo.reshape main_while1b_v67 main_while1b_v68 (rfl : (.f32 : EltTy) = .f32) shapeCasts_S256x256x1_S256x256
  :: StableHlo.unary main_while1b_v68 main_while1b_v69 ((transpose S256x256 [1, 0] · transposes_S256x256_S256x256_1_0) : (⟨S256x256, .f32⟩ : BufTy).Contents (Elt F) → (⟨S256x256, .f32⟩ : BufTy).Contents (Elt F))
  :: StableHlo.binary main_while1b_v66 main_while1b_v69 main_while1b_v70 ((fun l r => Host.dotGeneral dot_S8x256x256_S256x256_S8x256x256_2_0_01_1_n_n none l r) : (⟨S8x256x256, .f32⟩ : BufTy).Contents (Elt F) → (⟨S256x256, .f32⟩ : BufTy).Contents (Elt F) → (⟨S8x256x256, .f32⟩ : BufTy).Contents (Elt F))
  :: StableHlo.nullary main_while1b_c_24 (constantI S_ 32 0#32)
  :: StableHlo.binary main_while1b_c_24 main_while1b_v57 main_while1b_v71 (muli : (⟨S_, .i32⟩ : BufTy).Contents (Elt F) → (⟨S_, .i32⟩ : BufTy).Contents (Elt F) → (⟨S_, .i32⟩ : BufTy).Contents (Elt F))
  :: StableHlo.nullary main_while1b_c_25 (constantI S_ 32 512#32)
  :: StableHlo.binary main_while1b_c_25 main_while1b_v71 main_while1b_v72 (addi : (⟨S_, .i32⟩ : BufTy).Contents (Elt F) → (⟨S_, .i32⟩ : BufTy).Contents (Elt F) → (⟨S_, .i32⟩ : BufTy).Contents (Elt F))
  :: StableHlo.nullary main_while1b_c_26 (constantI S_ 32 0#32)
  :: StableHlo.binary main_while1b_v72 main_while1b_c_26 main_while1b_v73 (cmpi .slt : (⟨S_, .i32⟩ : BufTy).Contents (Elt F) → (⟨S_, .i32⟩ : BufTy).Contents (Elt F) → (⟨S_, .i1⟩ : BufTy).Contents (Elt F))
  :: StableHlo.nullary main_while1b_c_27 (constantI S_ 32 1280#32)
  :: StableHlo.binary main_while1b_v72 main_while1b_c_27 main_while1b_v74 (addi : (⟨S_, .i32⟩ : BufTy).Contents (Elt F) → (⟨S_, .i32⟩ : BufTy).Contents (Elt F) → (⟨S_, .i32⟩ : BufTy).Contents (Elt F))
  :: StableHlo.ternary main_while1b_v73 main_while1b_v74 main_while1b_v72 main_while1b_v75 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while1b_c_28 (constantI S_ 32 0#32)
  :: StableHlo.nullary main_while1b_c_29 (constantI S_ 32 0#32)
  :: StableHlo.unaryIndexed main_while1b_v60 ![main_while1b_c_28, main_while1b_v75, main_while1b_c_29] ⟨S_, .i32⟩ main_while1b_v76 ((fun x i => Host.dynamicSlice S8x256x256 x (fun k => (i k (Shape.Idx.first h_S_)).toInt) sliceFits_S8x1280x256_S8x256x256) : (⟨S8x1280x256, .f32⟩ : BufTy).Contents (Elt F) → (Fin 3 → (⟨S_, .i32⟩ : BufTy).Contents (Elt F)) → (⟨S8x256x256, .f32⟩ : BufTy).Contents (Elt F))
  :: StableHlo.unary main_while1b_v58 main_while1b_v77 ((extractStridedSlice S256x256x1 ![0, 0, 1] · slices_S256x256x3_S256x256x1_0_0_1) : (⟨S256x256x3, .f32⟩ : BufTy).Contents (Elt F) → (⟨S256x256x1, .f32⟩ : BufTy).Contents (Elt F))
  :: StableHlo.reshape main_while1b_v77 main_while1b_v78 (rfl : (.f32 : EltTy) = .f32) shapeCasts_S256x256x1_S256x256
  :: StableHlo.unary main_while1b_v78 main_while1b_v79 ((transpose S256x256 [1, 0] · transposes_S256x256_S256x256_1_0) : (⟨S256x256, .f32⟩ : BufTy).Contents (Elt F) → (⟨S256x256, .f32⟩ : BufTy).Contents (Elt F))
  :: StableHlo.binary main_while1b_v76 main_while1b_v79 main_while1b_v80 ((fun l r => Host.dotGeneral dot_S8x256x256_S256x256_S8x256x256_2_0_01_1_n_n none l r) : (⟨S8x256x256, .f32⟩ : BufTy).Contents (Elt F) → (⟨S256x256, .f32⟩ : BufTy).Contents (Elt F) → (⟨S8x256x256, .f32⟩ : BufTy).Contents (Elt F))
  :: StableHlo.binary main_while1b_v70 main_while1b_v80 main_while1b_v81 (addf : (⟨S8x256x256, .f32⟩ : BufTy).Contents (Elt F) → (⟨S8x256x256, .f32⟩ : BufTy).Contents (Elt F) → (⟨S8x256x256, .f32⟩ : BufTy).Contents (Elt F))
  :: StableHlo.nullary main_while1b_c_30 (constantI S_ 32 1#32)
  :: StableHlo.binary main_while1b_c_30 main_while1b_v57 main_while1b_v82 (muli : (⟨S_, .i32⟩ : BufTy).Contents (Elt F) → (⟨S_, .i32⟩ : BufTy).Contents (Elt F) → (⟨S_, .i32⟩ : BufTy).Contents (Elt F))
  :: StableHlo.nullary main_while1b_c_31 (constantI S_ 32 512#32)
  :: StableHlo.binary main_while1b_c_31 main_while1b_v82 main_while1b_v83 (addi : (⟨S_, .i32⟩ : BufTy).Contents (Elt F) → (⟨S_, .i32⟩ : BufTy).Contents (Elt F) → (⟨S_, .i32⟩ : BufTy).Contents (Elt F))
  :: StableHlo.nullary main_while1b_c_32 (constantI S_ 32 0#32)
  :: StableHlo.binary main_while1b_v83 main_while1b_c_32 main_while1b_v84 (cmpi .slt : (⟨S_, .i32⟩ : BufTy).Contents (Elt F) → (⟨S_, .i32⟩ : BufTy).Contents (Elt F) → (⟨S_, .i1⟩ : BufTy).Contents (Elt F))
  :: StableHlo.nullary main_while1b_c_33 (constantI S_ 32 1280#32)
  :: StableHlo.binary main_while1b_v83 main_while1b_c_33 main_while1b_v85 (addi : (⟨S_, .i32⟩ : BufTy).Contents (Elt F) → (⟨S_, .i32⟩ : BufTy).Contents (Elt F) → (⟨S_, .i32⟩ : BufTy).Contents (Elt F))
  :: StableHlo.ternary main_while1b_v84 main_while1b_v85 main_while1b_v83 main_while1b_v86 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while1b_c_34 (constantI S_ 32 0#32)
  :: StableHlo.nullary main_while1b_c_35 (constantI S_ 32 0#32)
  :: StableHlo.unaryIndexed main_while1b_v60 ![main_while1b_c_34, main_while1b_v86, main_while1b_c_35] ⟨S_, .i32⟩ main_while1b_v87 ((fun x i => Host.dynamicSlice S8x256x256 x (fun k => (i k (Shape.Idx.first h_S_)).toInt) sliceFits_S8x1280x256_S8x256x256) : (⟨S8x1280x256, .f32⟩ : BufTy).Contents (Elt F) → (Fin 3 → (⟨S_, .i32⟩ : BufTy).Contents (Elt F)) → (⟨S8x256x256, .f32⟩ : BufTy).Contents (Elt F))
  :: StableHlo.unary main_while1b_v58 main_while1b_v88 ((extractStridedSlice S256x256x1 ![0, 0, 2] · slices_S256x256x3_S256x256x1_0_0_2) : (⟨S256x256x3, .f32⟩ : BufTy).Contents (Elt F) → (⟨S256x256x1, .f32⟩ : BufTy).Contents (Elt F))
  :: StableHlo.reshape main_while1b_v88 main_while1b_v89 (rfl : (.f32 : EltTy) = .f32) shapeCasts_S256x256x1_S256x256
  :: StableHlo.unary main_while1b_v89 main_while1b_v90 ((transpose S256x256 [1, 0] · transposes_S256x256_S256x256_1_0) : (⟨S256x256, .f32⟩ : BufTy).Contents (Elt F) → (⟨S256x256, .f32⟩ : BufTy).Contents (Elt F))
  :: StableHlo.binary main_while1b_v87 main_while1b_v90 main_while1b_v91 ((fun l r => Host.dotGeneral dot_S8x256x256_S256x256_S8x256x256_2_0_01_1_n_n none l r) : (⟨S8x256x256, .f32⟩ : BufTy).Contents (Elt F) → (⟨S256x256, .f32⟩ : BufTy).Contents (Elt F) → (⟨S8x256x256, .f32⟩ : BufTy).Contents (Elt F))
  :: StableHlo.binary main_while1b_v81 main_while1b_v91 main_while1b_v92 (addf : (⟨S8x256x256, .f32⟩ : BufTy).Contents (Elt F) → (⟨S8x256x256, .f32⟩ : BufTy).Contents (Elt F) → (⟨S8x256x256, .f32⟩ : BufTy).Contents (Elt F))
  :: StableHlo.unary main_while1b_v59 main_while1b_v93 (broadcastInDim S1x1x256 ![2] bcast_S256_S1x1x256_2 : (⟨S256, .f32⟩ : BufTy).Contents (Elt F) → (⟨S1x1x256, .f32⟩ : BufTy).Contents (Elt F))
  :: StableHlo.unary main_while1b_v93 main_while1b_v94 (broadcastInDim S8x256x256 ![0, 1, 2] bcast_S1x1x256_S8x256x256_0_1_2 : (⟨S1x1x256, .f32⟩ : BufTy).Contents (Elt F) → (⟨S8x256x256, .f32⟩ : BufTy).Contents (Elt F))
  :: StableHlo.binary main_while1b_v92 main_while1b_v94 main_while1b_v95 (addf : (⟨S8x256x256, .f32⟩ : BufTy).Contents (Elt F) → (⟨S8x256x256, .f32⟩ : BufTy).Contents (Elt F) → (⟨S8x256x256, .f32⟩ : BufTy).Contents (Elt F))
  :: StableHlo.nullary main_while1b_cst_36 (constant S_ .f32 0x00000000#32)
  :: StableHlo.unary main_while1b_cst_36 main_while1b_v96 (broadcastInDim S8x256x256 ![] bcast_S_S8x256x256 : (⟨S_, .f32⟩ : BufTy).Contents (Elt F) → (⟨S8x256x256, .f32⟩ : BufTy).Contents (Elt F))
  :: StableHlo.binary main_while1b_v95 main_while1b_v96 main_while1b_v97 (maximumf : (⟨S8x256x256, .f32⟩ : BufTy).Contents (Elt F) → (⟨S8x256x256, .f32⟩ : BufTy).Contents (Elt F) → (⟨S8x256x256, .f32⟩ : BufTy).Contents (Elt F))
  :: StableHlo.binary main_while1b_v97 main_v49_4 main_while1b_v98 (addf : (⟨S8x256x256, .f32⟩ : BufTy).Contents (Elt F) → (⟨S8x256x256, .f32⟩ : BufTy).Contents (Elt F) → (⟨S8x256x256, .f32⟩ : BufTy).Contents (Elt F))
  :: StableHlo.nullary main_while1b_c_37 (constantI S_ 32 1#32)
  :: StableHlo.binary main_v49_2 main_while1b_c_37 main_while1b_v99 (addi : (⟨S_, .i32⟩ : BufTy).Contents (Elt F) → (⟨S_, .i32⟩ : BufTy).Contents (Elt F) → (⟨S_, .i32⟩ : BufTy).Contents (Elt F))
  :: StableHlo.unary main_while1b_v99 main_v49_2 id
  :: StableHlo.unary main_while1b_v55 main_v49_3 id
  :: StableHlo.unary main_while1b_v98 main_v49_4 id
  :: [] )
/-- Each of them reads and writes the core's own buffers only. -/
theorem while1Ops0_5_sub : (while1Ops0_5 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.unary_bufs_sub .., StableHlo.reshape_bufs_sub .., StableHlo.unary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.unary_bufs_sub .., StableHlo.reshape_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.unaryIndexed_bufs_sub .., StableHlo.unary_bufs_sub .., StableHlo.reshape_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub ..⟩
/-- The body of loop 1 is the chain of its items: stretches of its own operations and called functions, in order. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, StableHlo.chain_seq_cons, Pipeline.chain_cons, StableHlo.chain_seq_cons]
  chain_rfl

end Cert.ReferenceIdeal.Chain

end
-- ==== Proof.RefRun.lean ====
/- The reference's run. The program is stretches of host operations around two counted loops of twenty trips; every run of
   it ends, and what every buffer holds at the end is written down as the stretches' effects one after another, a loop's as
   its body's effect twenty times. From this the frame: the thirteen argument arrays end unchanged. -/
module

public import proofs.«01_k».proof.Proof.RefChain
public import Idealize.ShloMosaic.Lib.Pipeline.RegionsLoop
public import Idealize.ShloMosaic.Lib.StableHlo.ReadAt

@[expose] public section

set_option maxRecDepth 16384

noncomputable section

namespace Cert.Proof.RefRun

open Cert.ReferenceIdeal Cert.ReferenceIdeal.Gen Cert.ReferenceIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg ucRefs sub_ucRefs Ticket PCfg)

variable {F : FTy → Type} [FloatOps F]

local notation "𝕄" => MT nD τ sig Unit (Elt F) ℕ (Option PUnit) ℕ

variable (m : (ℓ : Loc nD τ sig) → Buf (Elt F) ℓ) (ρ : Dev nD → PrngReg)

/-! ## The stretches -/

/-- Before the first loop. -/
abbrev preI : List (List (HloOp τ sig (Elt F))) := [hostOps0]
/-- Between the loops. -/
abbrev midI : List (List (HloOp τ sig (Elt F))) := [hostOps0_1, hostOps0_2, hostOps0_3, hostOps0_4]
/-- After the second loop. -/
abbrev postI : List (List (HloOp τ sig (Elt F))) := [hostOps0_5]
/-- The body of loop 0. -/
abbrev body0 : List (List (HloOp τ sig (Elt F))) :=
  [while0Ops0, while0Ops0_1, while0Ops0_2, while0Ops0_3, while0Ops0_4, while0Ops0_5]
/-- The condition of loop 0: its counter against twenty. -/
abbrev cond0 : List (HloOp τ sig (Elt F)) :=
  [StableHlo.nullary main_while0c_c_14 (constantI S_ 32 20#32),
   StableHlo.binary main_v4_2 main_while0c_c_14 main_while0c_v55 (cmpi .slt : (⟨S_, .i32⟩ : BufTy).Contents (Elt F) → (⟨S_, .i32⟩ : BufTy).Contents (Elt F) → (⟨S_, .i1⟩ : BufTy).Contents (Elt F))]
/-- The body of loop 1. -/
abbrev body1 : List (List (HloOp τ sig (Elt F))) :=
  [while1Ops0, while1Ops0_1, while1Ops0_2, while1Ops0_3, while1Ops0_4, while1Ops0_5]
/-- The condition of loop 1: its counter against twenty. -/
abbrev cond1 : List (HloOp τ sig (Elt F)) :=
  [StableHlo.nullary main_while1c_c_14 (constantI S_ 32 20#32),
   StableHlo.binary main_v49_2 main_while1c_c_14 main_while1c_v55 (cmpi .slt : (⟨S_, .i32⟩ : BufTy).Contents (Elt F) → (⟨S_, .i32⟩ : BufTy).Contents (Elt F) → (⟨S_, .i1⟩ : BufTy).Contents (Elt F))]

theorem preI_plain : Plain (preI : List (List (HloOp τ sig (Elt F)))) := .cons hostOps0_sub .nil
theorem midI_plain : Plain (midI : List (List (HloOp τ sig (Elt F)))) :=
  .cons hostOps0_1_sub (.cons hostOps0_2_sub (.cons hostOps0_3_sub (.cons hostOps0_4_sub .nil)))
theorem postI_plain : Plain (postI : List (List (HloOp τ sig (Elt F)))) := .cons hostOps0_5_sub .nil
theorem body0_plain : Plain (body0 : List (List (HloOp τ sig (Elt F)))) :=
  .cons while0Ops0_sub (.cons while0Ops0_1_sub (.cons while0Ops0_2_sub (.cons while0Ops0_3_sub (.cons while0Ops0_4_sub (.cons while0Ops0_5_sub .nil)))))
theorem body1_plain : Plain (body1 : List (List (HloOp τ sig (Elt F)))) :=
  .cons while1Ops0_sub (.cons while1Ops0_1_sub (.cons while1Ops0_2_sub (.cons while1Ops0_3_sub (.cons while1Ops0_4_sub (.cons while1Ops0_5_sub .nil)))))

/-! ## Every buffer's contents along the run -/

/-- At the entry of the first loop, -/
def W0 (c : Dev nD) : Valuation τ sig (Elt F) := afterL preI (launchContents m c)
/-- before trip `k` of the first loop, -/
def at0 (k : ℕ) (c : Dev nD) : Valuation τ sig (Elt F) := atTrip cond0 body0 (W0 m) k c
/-- at the entry of the second loop, -/
def W1 (c : Dev nD) : Valuation τ sig (Elt F) := afterL midI (after cond0 (at0 m 20 c))
/-- before trip `k` of the second loop, -/
def at1 (k : ℕ) (c : Dev nD) : Valuation τ sig (Elt F) := atTrip cond1 body1 (W1 m) k c
/-- and at the end. -/
def fin (c : Dev nD) : Valuation τ sig (Elt F) := afterL postI (after cond1 (at1 m 20 c))

/-- The test `k < 20` on words, for the numbers a counter takes. -/
theorem cmpi_count : ∀ k : ℕ, k ≤ 20 → (IntOp.cmpi .slt (BitVec.ofNat 32 k) 20#32 = 1#1 ↔ k < 20) := by
  intro k hk
  have h : ∀ j : Fin 21, (IntOp.cmpi .slt (BitVec.ofNat 32 j.val) 20#32 = 1#1 ↔ j.val < 20) := by decide +kernel
  exact h ⟨k, by omega⟩

/-- What no operation of a loop writes is the same before every trip. -/
theorem atTrip_unwritten {condOps : List (HloOp τ sig (Elt F))} {bodyI : List (List (HloOp τ sig (Elt F)))} {W : Dev nD → Valuation τ sig (Elt F)}
    {r : DevRef τ sig} (h : ∀ V : Valuation τ sig (Elt F), afterL bodyI (after condOps V) r = V r) (c : Dev nD) :
    ∀ k, atTrip condOps bodyI W k c r = W c r
  | 0 => rfl
  | k + 1 => by rw [atTrip_succ, h, atTrip_unwritten h c k]

/-- One trip of loop 0 adds one to its trip counter. -/
theorem step0_2 (V : Valuation τ sig (Elt F)) :
    afterL body0 (after cond0 V) (Proc.devRef .tc main_v4_2) = (addi (V (Proc.devRef .tc main_v4_2)) (constantI S_ 32 1#32) : (⟨S_, .i32⟩ : BufTy).Contents (Elt F)) := by
  simp only [afterL_cons, afterL_nil]
  after_reads_simp
  try rfl
/-- Loop 0 starts with its trip counter at zero. -/
theorem start0_2 (c : Dev nD) : W0 m c (Proc.devRef .tc main_v4_2) = (constantI S_ 32 0#32 : (⟨S_, .i32⟩ : BufTy).Contents (Elt F)) := by
  unfold W0
  simp only [afterL_cons, afterL_nil]
  after_reads_simp
  try rfl
/-- Before trip `k` of loop 0 its trip counter is `k`. -/
theorem count0_2 (c : Dev nD) : ∀ k, at0 m k c (Proc.devRef .tc main_v4_2) = (constantI S_ 32 (BitVec.ofNat 32 k) : (⟨S_, .i32⟩ : BufTy).Contents (Elt F))
  | 0 => start0_2 m c
  | k + 1 => by
    unfold at0
    rw [atTrip_succ, step0_2]
    have h := count0_2 c k
    unfold at0 at h
    rw [h]
    funext j
    show BitVec.ofNat 32 k + 1#32 = BitVec.ofNat 32 (k + 1)
    exact (BitVec.ofNat_add k 1).symm
/-- One trip of loop 0 adds one to its layer number. -/
theorem step0_3 (V : Valuation τ sig (Elt F)) :
    afterL body0 (after cond0 V) (Proc.devRef .tc main_v4_3) = (addi (V (Proc.devRef .tc main_v4_3)) (constantI S_ 32 1#32) : (⟨S_, .i32⟩ : BufTy).Contents (Elt F)) := by
  simp only [afterL_cons, afterL_nil]
  after_reads_simp
  try rfl
/-- Loop 0 starts with its layer number at zero. -/
theorem start0_3 (c : Dev nD) : W0 m c (Proc.devRef .tc main_v4_3) = (constantI S_ 32 0#32 : (⟨S_, .i32⟩ : BufTy).Contents (Elt F)) := by
  unfold W0
  simp only [afterL_cons, afterL_nil]
  after_reads_simp
  try rfl
/-- Before trip `k` of loop 0 its layer number is `k`. -/
theorem count0_3 (c : Dev nD) : ∀ k, at0 m k c (Proc.devRef .tc main_v4_3) = (constantI S_ 32 (BitVec.ofNat 32 k) : (⟨S_, .i32⟩ : BufTy).Contents (Elt F))
  | 0 => start0_3 m c
  | k + 1 => by
    unfold at0
    rw [atTrip_succ, step0_3]
    have h := count0_3 c k
    unfold at0 at h
    rw [h]
    funext j
    show BitVec.ofNat 32 k + 1#32 = BitVec.ofNat 32 (k + 1)
    exact (BitVec.ofNat_add k 1).symm
/-- One trip of loop 1 adds one to its trip counter. -/
theorem step1_2 (V : Valuation τ sig (Elt F)) :
    afterL body1 (after cond1 V) (Proc.devRef .tc main_v49_2) = (addi (V (Proc.devRef .tc main_v49_2)) (constantI S_ 32 1#32) : (⟨S_, .i32⟩ : BufTy).Contents (Elt F)) := by
  simp only [afterL_cons, afterL_nil]
  after_reads_simp
  try rfl
/-- Loop 1 starts with its trip counter at zero. -/
theorem start1_2 (c : Dev nD) : W1 m c (Proc.devRef .tc main_v49_2) = (constantI S_ 32 0#32 : (⟨S_, .i32⟩ : BufTy).Contents (Elt F)) := by
  unfold W1
  simp only [afterL_cons, afterL_nil]
  after_reads_simp
  try rfl
/-- Before trip `k` of loop 1 its trip counter is `k`. -/
theorem count1_2 (c : Dev nD) : ∀ k, at1 m k c (Proc.devRef .tc main_v49_2) = (constantI S_ 32 (BitVec.ofNat 32 k) : (⟨S_, .i32⟩ : BufTy).Contents (Elt F))
  | 0 => start1_2 m c
  | k + 1 => by
    unfold at1
    rw [atTrip_succ, step1_2]
    have h := count1_2 c k
    unfold at1 at h
    rw [h]
    funext j
    show BitVec.ofNat 32 k + 1#32 = BitVec.ofNat 32 (k + 1)
    exact (BitVec.ofNat_add k 1).symm
/-- One trip of loop 1 adds one to its layer number. -/
theorem step1_3 (V : Valuation τ sig (Elt F)) :
    afterL body1 (after cond1 V) (Proc.devRef .tc main_v49_3) = (addi (V (Proc.devRef .tc main_v49_3)) (constantI S_ 32 1#32) : (⟨S_, .i32⟩ : BufTy).Contents (Elt F)) := by
  simp only [afterL_cons, afterL_nil]
  after_reads_simp
  try rfl
/-- Loop 1 starts with its layer number at zero. -/
theorem start1_3 (c : Dev nD) : W1 m c (Proc.devRef .tc main_v49_3) = (constantI S_ 32 0#32 : (⟨S_, .i32⟩ : BufTy).Contents (Elt F)) := by
  unfold W1
  simp only [afterL_cons, afterL_nil]
  after_reads_simp
  try rfl
/-- Before trip `k` of loop 1 its layer number is `k`. -/
theorem count1_3 (c : Dev nD) : ∀ k, at1 m k c (Proc.devRef .tc main_v49_3) = (constantI S_ 32 (BitVec.ofNat 32 k) : (⟨S_, .i32⟩ : BufTy).Contents (Elt F))
  | 0 => start1_3 m c
  | k + 1 => by
    unfold at1
    rw [atTrip_succ, step1_3]
    have h := count1_3 c k
    unfold at1 at h
    rw [h]
    funext j
    show BitVec.ofNat 32 k + 1#32 = BitVec.ofNat 32 (k + 1)
    exact (BitVec.ofNat_add k 1).symm

/-! ## The run -/

def adm : (p : Fin 0) → (pcfgs (F := F) p).Adm := fun p => p.elim0
def tk : Fin 0 → Ticket (Ix := Unit) (Name := ℕ) (U := Option PUnit) (Lvl := ℕ) (nD := nD) (τ := τ) (pcfgs (F := F)) adm := fun j => j.elim0
def L : GSem nD τ sig → Finset Unit := fun _ => ∅
def lv : GSem nD τ sig → Unit → ℕ := fun _ _ => 0
theorem cell_inj : Function.Injective (Pipeline.cellOf (nD := nD) (τ := τ) (Pipeline.pin (pcfgs (F := F)) adm)) := fun k => k.1.elim0
/-- Beside the buffers a core carries only that it owes nothing. -/
def Rw (c : Dev nD) : sProp 𝕄 := iprop(∃ W, owes (c : Thread nD τ) (0 : CellTallies nD τ sig Unit) W)

set_option backward.isDefEq.respectTransparency.types false in
/-- The condition of loop 0 before its trip `k` answers whether `k < 20`. -/
theorem cond0_spec : LoopCond (pcfgs (F := F)) defs₀ Variants.none loops Rw main_while0_cond cond0 body0 (W0 m) 20 := fun k hk c bd => by
  have hctr : atTrip cond0 body0 (W0 m) k c (Proc.devRef .tc main_v4_2) = (constantI S_ 32 (BitVec.ofNat 32 k) : (⟨S_, .i32⟩ : BufTy).Contents (Elt F)) :=
    count0_2 m c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 (W0 m) k c) main_v4_2 HostLoop.idx0)
        (HloOp.result _ (atTrip cond0 body0 (W0 m) k c) main_while0c_c_14 HostLoop.idx0) = 1#1) (k < 20)
    rw [StableHlo.nullary_result_ne _ _ _ _ (by decide), StableHlo.nullary_result, hctr]
    exact cmpi_count k hk
  isplitl [Hb]; · iexact Hb
  isplitl [Hh]; · rw [StableHlo.after_cons, StableHlo.after_cons, StableHlo.after_nil]; iexact Hh
  iexact HR

set_option backward.isDefEq.respectTransparency.types false in
/-- The condition of loop 1 before its trip `k` answers whether `k < 20`. -/
theorem cond1_spec : LoopCond (pcfgs (F := F)) defs₀ Variants.none loops Rw main_while1_cond cond1 body1 (W1 m) 20 := fun k hk c bd => by
  have hctr : atTrip cond1 body1 (W1 m) k c (Proc.devRef .tc main_v49_2) = (constantI S_ 32 (BitVec.ofNat 32 k) : (⟨S_, .i32⟩ : BufTy).Contents (Elt F)) :=
    count1_2 m c k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 (W1 m) k c) main_v49_2 HostLoop.idx0)
        (HloOp.result _ (atTrip cond1 body1 (W1 m) k c) main_while1c_c_14 HostLoop.idx0) = 1#1) (k < 20)
    rw [StableHlo.nullary_result_ne _ _ _ _ (by decide), StableHlo.nullary_result, hctr]
    exact cmpi_count k hk
  isplitl [Hb]; · iexact Hb
  isplitl [Hh]; · rw [StableHlo.after_cons, StableHlo.after_cons, StableHlo.after_nil]; iexact Hh
  iexact HR

/-- The program as segments. -/
def segs : List (CSeg (pcfgs (F := F)) adm defs₀ Variants.none L lv loops tk) :=
  segsOf _ _ _ _ _ _ _ _ Rw preI preI_plain (launchContents m)
    ++ loopSeg _ _ _ _ _ _ _ _ 0 main_while0_cond main_while0_body rfl cond0 body0 body0_plain while0_body_chain 20 (W0 m) Rw (cond0_spec m)
      :: (segsOf _ _ _ _ _ _ _ _ Rw midI midI_plain (fun c => after cond0 (at0 m 20 c))
        ++ loopSeg _ _ _ _ _ _ _ _ 1 main_while1_cond main_while1_body rfl cond1 body1 body1_plain while1_body_chain 20 (W1 m) Rw (cond1_spec m)
          :: segsOf _ _ _ _ _ _ _ _ Rw postI postI_plain (fun c => after cond1 (at1 m 20 c)))

/-- The segments' programs, one after another, are @main. -/
theorem segs_prog (c : Dev nD) : main (F := F) c = Pipeline.chain ((segs m).map CSeg.prog) := by
  unfold segs
  rw [List.map_append, List.map_cons, List.map_append, List.map_cons, segsOf_prog, segsOf_prog, segsOf_prog, main_chain]
  rfl

/-- Each segment starts where the one before it ends. -/
theorem segs_chains :
    CSeg.Chains (fun c => iprop(held (c : Thread nD τ) (ucRefs τ sig) (launchContents m c) ∗ Rw (F := F) c)) (segs m)
      (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Rw preI preI_plain _)
    ⟨fun _ => .rfl, CSeg.Chains.append (segsOf_chains _ _ _ _ _ _ _ _ Rw midI midI_plain _)
      ⟨fun _ => .rfl, segsOf_chains _ _ _ _ _ _ _ _ Rw postI postI_plain _⟩⟩

/-- Every run of the reference ends, with every buffer of a tensor value at `fin` and every semaphore counter at zero. -/
theorem run_main :
    θ_run (defs (F := F)) (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = fin m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs adm cell_inj defs₀ Variants.none L lv loops tk m ρ main (segs m)
    (fun c Q => by rw [segs_prog m c]; exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (fin m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      unfold Rw
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), funext fun g' => hs g' (by
      by_cases hc : g'.1.2 = .tc
      · refine Or.inr ?_
        rcases g' with ⟨_, sm⟩
        cases sm with
        | reg s => exact s.elim0
        | dma s => exact s.elim0
      · exact Or.inl hc)⟩)

/-! ## The frame -/

/-- No operation writes `main_arg0`. -/
theorem fin_arg0 (c : Dev nD) : fin m c (Proc.devRef .tc main_arg0) = m ((c.tc : Thread nD τ).loc main_arg0) := by
  have h0 : ∀ V : Valuation τ sig (Elt F), afterL body0 (after cond0 V) (Proc.devRef .tc main_arg0) = V (Proc.devRef .tc main_arg0) := fun V => by
    simp only [afterL_cons, afterL_nil]; after_reads_simp
  have h1 : ∀ V : Valuation τ sig (Elt F), afterL body1 (after cond1 V) (Proc.devRef .tc main_arg0) = V (Proc.devRef .tc main_arg0) := fun V => by
    simp only [afterL_cons, afterL_nil]; after_reads_simp
  have hp : ∀ V : Valuation τ sig (Elt F), afterL postI (after cond1 V) (Proc.devRef .tc main_arg0) = V (Proc.devRef .tc main_arg0) := fun V => by
    simp only [afterL_cons, afterL_nil]; after_reads_simp
  have hm : ∀ V : Valuation τ sig (Elt F), afterL midI (after cond0 V) (Proc.devRef .tc main_arg0) = V (Proc.devRef .tc main_arg0) := fun V => by
    simp only [afterL_cons, afterL_nil]; after_reads_simp
  have hi : ∀ V : Valuation τ sig (Elt F), afterL preI V (Proc.devRef .tc main_arg0) = V (Proc.devRef .tc main_arg0) := fun V => by
    simp only [afterL_cons, afterL_nil]; after_reads_simp
  unfold fin at1
  rw [hp, atTrip_unwritten h1]
  unfold W1 at0
  rw [hm, atTrip_unwritten h0]
  unfold W0
  rw [hi]
/-- No operation writes `main_arg1`. -/
theorem fin_arg1 (c : Dev nD) : fin m c (Proc.devRef .tc main_arg1) = m ((c.tc : Thread nD τ).loc main_arg1) := by
  have h0 : ∀ V : Valuation τ sig (Elt F), afterL body0 (after cond0 V) (Proc.devRef .tc main_arg1) = V (Proc.devRef .tc main_arg1) := fun V => by
    simp only [afterL_cons, afterL_nil]; after_reads_simp
  have h1 : ∀ V : Valuation τ sig (Elt F), afterL body1 (after cond1 V) (Proc.devRef .tc main_arg1) = V (Proc.devRef .tc main_arg1) := fun V => by
    simp only [afterL_cons, afterL_nil]; after_reads_simp
  have hp : ∀ V : Valuation τ sig (Elt F), afterL postI (after cond1 V) (Proc.devRef .tc main_arg1) = V (Proc.devRef .tc main_arg1) := fun V => by
    simp only [afterL_cons, afterL_nil]; after_reads_simp
  have hm : ∀ V : Valuation τ sig (Elt F), afterL midI (after cond0 V) (Proc.devRef .tc main_arg1) = V (Proc.devRef .tc main_arg1) := fun V => by
    simp only [afterL_cons, afterL_nil]; after_reads_simp
  have hi : ∀ V : Valuation τ sig (Elt F), afterL preI V (Proc.devRef .tc main_arg1) = V (Proc.devRef .tc main_arg1) := fun V => by
    simp only [afterL_cons, afterL_nil]; after_reads_simp
  unfold fin at1
  rw [hp, atTrip_unwritten h1]
  unfold W1 at0
  rw [hm, atTrip_unwritten h0]
  unfold W0
  rw [hi]
/-- No operation writes `main_arg2`. -/
theorem fin_arg2 (c : Dev nD) : fin m c (Proc.devRef .tc main_arg2) = m ((c.tc : Thread nD τ).loc main_arg2) := by
  have h0 : ∀ V : Valuation τ sig (Elt F), afterL body0 (after cond0 V) (Proc.devRef .tc main_arg2) = V (Proc.devRef .tc main_arg2) := fun V => by
    simp only [afterL_cons, afterL_nil]; after_reads_simp
  have h1 : ∀ V : Valuation τ sig (Elt F), afterL body1 (after cond1 V) (Proc.devRef .tc main_arg2) = V (Proc.devRef .tc main_arg2) := fun V => by
    simp only [afterL_cons, afterL_nil]; after_reads_simp
  have hp : ∀ V : Valuation τ sig (Elt F), afterL postI (after cond1 V) (Proc.devRef .tc main_arg2) = V (Proc.devRef .tc main_arg2) := fun V => by
    simp only [afterL_cons, afterL_nil]; after_reads_simp
  have hm : ∀ V : Valuation τ sig (Elt F), afterL midI (after cond0 V) (Proc.devRef .tc main_arg2) = V (Proc.devRef .tc main_arg2) := fun V => by
    simp only [afterL_cons, afterL_nil]; after_reads_simp
  have hi : ∀ V : Valuation τ sig (Elt F), afterL preI V (Proc.devRef .tc main_arg2) = V (Proc.devRef .tc main_arg2) := fun V => by
    simp only [afterL_cons, afterL_nil]; after_reads_simp
  unfold fin at1
  rw [hp, atTrip_unwritten h1]
  unfold W1 at0
  rw [hm, atTrip_unwritten h0]
  unfold W0
  rw [hi]
/-- No operation writes `main_arg3`. -/
theorem fin_arg3 (c : Dev nD) : fin m c (Proc.devRef .tc main_arg3) = m ((c.tc : Thread nD τ).loc main_arg3) := by
  have h0 : ∀ V : Valuation τ sig (Elt F), afterL body0 (after cond0 V) (Proc.devRef .tc main_arg3) = V (Proc.devRef .tc main_arg3) := fun V => by
    simp only [afterL_cons, afterL_nil]; after_reads_simp
  have h1 : ∀ V : Valuation τ sig (Elt F), afterL body1 (after cond1 V) (Proc.devRef .tc main_arg3) = V (Proc.devRef .tc main_arg3) := fun V => by
    simp only [afterL_cons, afterL_nil]; after_reads_simp
  have hp : ∀ V : Valuation τ sig (Elt F), afterL postI (after cond1 V) (Proc.devRef .tc main_arg3) = V (Proc.devRef .tc main_arg3) := fun V => by
    simp only [afterL_cons, afterL_nil]; after_reads_simp
  have hm : ∀ V : Valuation τ sig (Elt F), afterL midI (after cond0 V) (Proc.devRef .tc main_arg3) = V (Proc.devRef .tc main_arg3) := fun V => by
    simp only [afterL_cons, afterL_nil]; after_reads_simp
  have hi : ∀ V : Valuation τ sig (Elt F), afterL preI V (Proc.devRef .tc main_arg3) = V (Proc.devRef .tc main_arg3) := fun V => by
    simp only [afterL_cons, afterL_nil]; after_reads_simp
  unfold fin at1
  rw [hp, atTrip_unwritten h1]
  unfold W1 at0
  rw [hm, atTrip_unwritten h0]
  unfold W0
  rw [hi]
/-- No operation writes `main_arg4`. -/
theorem fin_arg4 (c : Dev nD) : fin m c (Proc.devRef .tc main_arg4) = m ((c.tc : Thread nD τ).loc main_arg4) := by
  have h0 : ∀ V : Valuation τ sig (Elt F), afterL body0 (after cond0 V) (Proc.devRef .tc main_arg4) = V (Proc.devRef .tc main_arg4) := fun V => by
    simp only [afterL_cons, afterL_nil]; after_reads_simp
  have h1 : ∀ V : Valuation τ sig (Elt F), afterL body1 (after cond1 V) (Proc.devRef .tc main_arg4) = V (Proc.devRef .tc main_arg4) := fun V => by
    simp only [afterL_cons, afterL_nil]; after_reads_simp
  have hp : ∀ V : Valuation τ sig (Elt F), afterL postI (after cond1 V) (Proc.devRef .tc main_arg4) = V (Proc.devRef .tc main_arg4) := fun V => by
    simp only [afterL_cons, afterL_nil]; after_reads_simp
  have hm : ∀ V : Valuation τ sig (Elt F), afterL midI (after cond0 V) (Proc.devRef .tc main_arg4) = V (Proc.devRef .tc main_arg4) := fun V => by
    simp only [afterL_cons, afterL_nil]; after_reads_simp
  have hi : ∀ V : Valuation τ sig (Elt F), afterL preI V (Proc.devRef .tc main_arg4) = V (Proc.devRef .tc main_arg4) := fun V => by
    simp only [afterL_cons, afterL_nil]; after_reads_simp
  unfold fin at1
  rw [hp, atTrip_unwritten h1]
  unfold W1 at0
  rw [hm, atTrip_unwritten h0]
  unfold W0
  rw [hi]
/-- No operation writes `main_arg5`. -/
theorem fin_arg5 (c : Dev nD) : fin m c (Proc.devRef .tc main_arg5) = m ((c.tc : Thread nD τ).loc main_arg5) := by
  have h0 : ∀ V : Valuation τ sig (Elt F), afterL body0 (after cond0 V) (Proc.devRef .tc main_arg5) = V (Proc.devRef .tc main_arg5) := fun V => by
    simp only [afterL_cons, afterL_nil]; after_reads_simp
  have h1 : ∀ V : Valuation τ sig (Elt F), afterL body1 (after cond1 V) (Proc.devRef .tc main_arg5) = V (Proc.devRef .tc main_arg5) := fun V => by
    simp only [afterL_cons, afterL_nil]; after_reads_simp
  have hp : ∀ V : Valuation τ sig (Elt F), afterL postI (after cond1 V) (Proc.devRef .tc main_arg5) = V (Proc.devRef .tc main_arg5) := fun V => by
    simp only [afterL_cons, afterL_nil]; after_reads_simp
  have hm : ∀ V : Valuation τ sig (Elt F), afterL midI (after cond0 V) (Proc.devRef .tc main_arg5) = V (Proc.devRef .tc main_arg5) := fun V => by
    simp only [afterL_cons, afterL_nil]; after_reads_simp
  have hi : ∀ V : Valuation τ sig (Elt F), afterL preI V (Proc.devRef .tc main_arg5) = V (Proc.devRef .tc main_arg5) := fun V => by
    simp only [afterL_cons, afterL_nil]; after_reads_simp
  unfold fin at1
  rw [hp, atTrip_unwritten h1]
  unfold W1 at0
  rw [hm, atTrip_unwritten h0]
  unfold W0
  rw [hi]
/-- No operation writes `main_arg6`. -/
theorem fin_arg6 (c : Dev nD) : fin m c (Proc.devRef .tc main_arg6) = m ((c.tc : Thread nD τ).loc main_arg6) := by
  have h0 : ∀ V : Valuation τ sig (Elt F), afterL body0 (after cond0 V) (Proc.devRef .tc main_arg6) = V (Proc.devRef .tc main_arg6) := fun V => by
    simp only [afterL_cons, afterL_nil]; after_reads_simp
  have h1 : ∀ V : Valuation τ sig (Elt F), afterL body1 (after cond1 V) (Proc.devRef .tc main_arg6) = V (Proc.devRef .tc main_arg6) := fun V => by
    simp only [afterL_cons, afterL_nil]; after_reads_simp
  have hp : ∀ V : Valuation τ sig (Elt F), afterL postI (after cond1 V) (Proc.devRef .tc main_arg6) = V (Proc.devRef .tc main_arg6) := fun V => by
    simp only [afterL_cons, afterL_nil]; after_reads_simp
  have hm : ∀ V : Valuation τ sig (Elt F), afterL midI (after cond0 V) (Proc.devRef .tc main_arg6) = V (Proc.devRef .tc main_arg6) := fun V => by
    simp only [afterL_cons, afterL_nil]; after_reads_simp
  have hi : ∀ V : Valuation τ sig (Elt F), afterL preI V (Proc.devRef .tc main_arg6) = V (Proc.devRef .tc main_arg6) := fun V => by
    simp only [afterL_cons, afterL_nil]; after_reads_simp
  unfold fin at1
  rw [hp, atTrip_unwritten h1]
  unfold W1 at0
  rw [hm, atTrip_unwritten h0]
  unfold W0
  rw [hi]
/-- No operation writes `main_arg7`. -/
theorem fin_arg7 (c : Dev nD) : fin m c (Proc.devRef .tc main_arg7) = m ((c.tc : Thread nD τ).loc main_arg7) := by
  have h0 : ∀ V : Valuation τ sig (Elt F), afterL body0 (after cond0 V) (Proc.devRef .tc main_arg7) = V (Proc.devRef .tc main_arg7) := fun V => by
    simp only [afterL_cons, afterL_nil]; after_reads_simp
  have h1 : ∀ V : Valuation τ sig (Elt F), afterL body1 (after cond1 V) (Proc.devRef .tc main_arg7) = V (Proc.devRef .tc main_arg7) := fun V => by
    simp only [afterL_cons, afterL_nil]; after_reads_simp
  have hp : ∀ V : Valuation τ sig (Elt F), afterL postI (after cond1 V) (Proc.devRef .tc main_arg7) = V (Proc.devRef .tc main_arg7) := fun V => by
    simp only [afterL_cons, afterL_nil]; after_reads_simp
  have hm : ∀ V : Valuation τ sig (Elt F), afterL midI (after cond0 V) (Proc.devRef .tc main_arg7) = V (Proc.devRef .tc main_arg7) := fun V => by
    simp only [afterL_cons, afterL_nil]; after_reads_simp
  have hi : ∀ V : Valuation τ sig (Elt F), afterL preI V (Proc.devRef .tc main_arg7) = V (Proc.devRef .tc main_arg7) := fun V => by
    simp only [afterL_cons, afterL_nil]; after_reads_simp
  unfold fin at1
  rw [hp, atTrip_unwritten h1]
  unfold W1 at0
  rw [hm, atTrip_unwritten h0]
  unfold W0
  rw [hi]
/-- No operation writes `main_arg8`. -/
theorem fin_arg8 (c : Dev nD) : fin m c (Proc.devRef .tc main_arg8) = m ((c.tc : Thread nD τ).loc main_arg8) := by
  have h0 : ∀ V : Valuation τ sig (Elt F), afterL body0 (after cond0 V) (Proc.devRef .tc main_arg8) = V (Proc.devRef .tc main_arg8) := fun V => by
    simp only [afterL_cons, afterL_nil]; after_reads_simp
  have h1 : ∀ V : Valuation τ sig (Elt F), afterL body1 (after cond1 V) (Proc.devRef .tc main_arg8) = V (Proc.devRef .tc main_arg8) := fun V => by
    simp only [afterL_cons, afterL_nil]; after_reads_simp
  have hp : ∀ V : Valuation τ sig (Elt F), afterL postI (after cond1 V) (Proc.devRef .tc main_arg8) = V (Proc.devRef .tc main_arg8) := fun V => by
    simp only [afterL_cons, afterL_nil]; after_reads_simp
  have hm : ∀ V : Valuation τ sig (Elt F), afterL midI (after cond0 V) (Proc.devRef .tc main_arg8) = V (Proc.devRef .tc main_arg8) := fun V => by
    simp only [afterL_cons, afterL_nil]; after_reads_simp
  have hi : ∀ V : Valuation τ sig (Elt F), afterL preI V (Proc.devRef .tc main_arg8) = V (Proc.devRef .tc main_arg8) := fun V => by
    simp only [afterL_cons, afterL_nil]; after_reads_simp
  unfold fin at1
  rw [hp, atTrip_unwritten h1]
  unfold W1 at0
  rw [hm, atTrip_unwritten h0]
  unfold W0
  rw [hi]
/-- No operation writes `main_arg9`. -/
theorem fin_arg9 (c : Dev nD) : fin m c (Proc.devRef .tc main_arg9) = m ((c.tc : Thread nD τ).loc main_arg9) := by
  have h0 : ∀ V : Valuation τ sig (Elt F), afterL body0 (after cond0 V) (Proc.devRef .tc main_arg9) = V (Proc.devRef .tc main_arg9) := fun V => by
    simp only [afterL_cons, afterL_nil]; after_reads_simp
  have h1 : ∀ V : Valuation τ sig (Elt F), afterL body1 (after cond1 V) (Proc.devRef .tc main_arg9) = V (Proc.devRef .tc main_arg9) := fun V => by
    simp only [afterL_cons, afterL_nil]; after_reads_simp
  have hp : ∀ V : Valuation τ sig (Elt F), afterL postI (after cond1 V) (Proc.devRef .tc main_arg9) = V (Proc.devRef .tc main_arg9) := fun V => by
    simp only [afterL_cons, afterL_nil]; after_reads_simp
  have hm : ∀ V : Valuation τ sig (Elt F), afterL midI (after cond0 V) (Proc.devRef .tc main_arg9) = V (Proc.devRef .tc main_arg9) := fun V => by
    simp only [afterL_cons, afterL_nil]; after_reads_simp
  have hi : ∀ V : Valuation τ sig (Elt F), afterL preI V (Proc.devRef .tc main_arg9) = V (Proc.devRef .tc main_arg9) := fun V => by
    simp only [afterL_cons, afterL_nil]; after_reads_simp
  unfold fin at1
  rw [hp, atTrip_unwritten h1]
  unfold W1 at0
  rw [hm, atTrip_unwritten h0]
  unfold W0
  rw [hi]
/-- No operation writes `main_arg10`. -/
theorem fin_arg10 (c : Dev nD) : fin m c (Proc.devRef .tc main_arg10) = m ((c.tc : Thread nD τ).loc main_arg10) := by
  have h0 : ∀ V : Valuation τ sig (Elt F), afterL body0 (after cond0 V) (Proc.devRef .tc main_arg10) = V (Proc.devRef .tc main_arg10) := fun V => by
    simp only [afterL_cons, afterL_nil]; after_reads_simp
  have h1 : ∀ V : Valuation τ sig (Elt F), afterL body1 (after cond1 V) (Proc.devRef .tc main_arg10) = V (Proc.devRef .tc main_arg10) := fun V => by
    simp only [afterL_cons, afterL_nil]; after_reads_simp
  have hp : ∀ V : Valuation τ sig (Elt F), afterL postI (after cond1 V) (Proc.devRef .tc main_arg10) = V (Proc.devRef .tc main_arg10) := fun V => by
    simp only [afterL_cons, afterL_nil]; after_reads_simp
  have hm : ∀ V : Valuation τ sig (Elt F), afterL midI (after cond0 V) (Proc.devRef .tc main_arg10) = V (Proc.devRef .tc main_arg10) := fun V => by
    simp only [afterL_cons, afterL_nil]; after_reads_simp
  have hi : ∀ V : Valuation τ sig (Elt F), afterL preI V (Proc.devRef .tc main_arg10) = V (Proc.devRef .tc main_arg10) := fun V => by
    simp only [afterL_cons, afterL_nil]; after_reads_simp
  unfold fin at1
  rw [hp, atTrip_unwritten h1]
  unfold W1 at0
  rw [hm, atTrip_unwritten h0]
  unfold W0
  rw [hi]
/-- No operation writes `main_arg11`. -/
theorem fin_arg11 (c : Dev nD) : fin m c (Proc.devRef .tc main_arg11) = m ((c.tc : Thread nD τ).loc main_arg11) := by
  have h0 : ∀ V : Valuation τ sig (Elt F), afterL body0 (after cond0 V) (Proc.devRef .tc main_arg11) = V (Proc.devRef .tc main_arg11) := fun V => by
    simp only [afterL_cons, afterL_nil]; after_reads_simp
  have h1 : ∀ V : Valuation τ sig (Elt F), afterL body1 (after cond1 V) (Proc.devRef .tc main_arg11) = V (Proc.devRef .tc main_arg11) := fun V => by
    simp only [afterL_cons, afterL_nil]; after_reads_simp
  have hp : ∀ V : Valuation τ sig (Elt F), afterL postI (after cond1 V) (Proc.devRef .tc main_arg11) = V (Proc.devRef .tc main_arg11) := fun V => by
    simp only [afterL_cons, afterL_nil]; after_reads_simp
  have hm : ∀ V : Valuation τ sig (Elt F), afterL midI (after cond0 V) (Proc.devRef .tc main_arg11) = V (Proc.devRef .tc main_arg11) := fun V => by
    simp only [afterL_cons, afterL_nil]; after_reads_simp
  have hi : ∀ V : Valuation τ sig (Elt F), afterL preI V (Proc.devRef .tc main_arg11) = V (Proc.devRef .tc main_arg11) := fun V => by
    simp only [afterL_cons, afterL_nil]; after_reads_simp
  unfold fin at1
  rw [hp, atTrip_unwritten h1]
  unfold W1 at0
  rw [hm, atTrip_unwritten h0]
  unfold W0
  rw [hi]
/-- No operation writes `main_arg12`. -/
theorem fin_arg12 (c : Dev nD) : fin m c (Proc.devRef .tc main_arg12) = m ((c.tc : Thread nD τ).loc main_arg12) := by
  have h0 : ∀ V : Valuation τ sig (Elt F), afterL body0 (after cond0 V) (Proc.devRef .tc main_arg12) = V (Proc.devRef .tc main_arg12) := fun V => by
    simp only [afterL_cons, afterL_nil]; after_reads_simp
  have h1 : ∀ V : Valuation τ sig (Elt F), afterL body1 (after cond1 V) (Proc.devRef .tc main_arg12) = V (Proc.devRef .tc main_arg12) := fun V => by
    simp only [afterL_cons, afterL_nil]; after_reads_simp
  have hp : ∀ V : Valuation τ sig (Elt F), afterL postI (after cond1 V) (Proc.devRef .tc main_arg12) = V (Proc.devRef .tc main_arg12) := fun V => by
    simp only [afterL_cons, afterL_nil]; after_reads_simp
  have hm : ∀ V : Valuation τ sig (Elt F), afterL midI (after cond0 V) (Proc.devRef .tc main_arg12) = V (Proc.devRef .tc main_arg12) := fun V => by
    simp only [afterL_cons, afterL_nil]; after_reads_simp
  have hi : ∀ V : Valuation τ sig (Elt F), afterL preI V (Proc.devRef .tc main_arg12) = V (Proc.devRef .tc main_arg12) := fun V => by
    simp only [afterL_cons, afterL_nil]; after_reads_simp
  unfold fin at1
  rw [hp, atTrip_unwritten h1]
  unfold W1 at0
  rw [hm, atTrip_unwritten h0]
  unfold W0
  rw [hi]

/-- The reference's frame: every run of it ends with the thirteen argument arrays unchanged and every semaphore counter at
    zero. -/
theorem frame :
    θ_run (defs (F := F)) (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run _ _ _).mono (fun _ h => ⟨fun c => ⟨(h.1 c main_arg0 rfl).trans (fin_arg0 m c),
    (h.1 c main_arg1 rfl).trans (fin_arg1 m c),
    (h.1 c main_arg2 rfl).trans (fin_arg2 m c),
    (h.1 c main_arg3 rfl).trans (fin_arg3 m c),
    (h.1 c main_arg4 rfl).trans (fin_arg4 m c),
    (h.1 c main_arg5 rfl).trans (fin_arg5 m c),
    (h.1 c main_arg6 rfl).trans (fin_arg6 m c),
    (h.1 c main_arg7 rfl).trans (fin_arg7 m c),
    (h.1 c main_arg8 rfl).trans (fin_arg8 m c),
    (h.1 c main_arg9 rfl).trans (fin_arg9 m c),
    (h.1 c main_arg10 rfl).trans (fin_arg10 m c),
    (h.1 c main_arg11 rfl).trans (fin_arg11 m c),
    (h.1 c main_arg12 rfl).trans (fin_arg12 m c)⟩, h.2⟩) (run_main m ρ)

end Cert.Proof.RefRun

end
-- ==== Proof.Spec.lean ====
/- The model in plain mathematics: activations as functions of batch, time and channel over the extended reals, one residual
   layer of a dilated three-tap convolution, the stack of twenty of them, layer normalisation, the distances to the codes, and
   the linear maps in and out. Kernel and reference are each shown to compute these. -/
module

public import Idealize.ShloMosaic.PureOps.Ideal

@[expose] public section

noncomputable section

namespace Cert.Proof.Spec

open Idealize.ShloMosaic

/-- Activations: batch, time, channel. -/
abbrev Act := Fin 8 → Fin 256 → Fin 256 → EReal
/-- One layer's taps: output channel, input channel, tap. -/
abbrev Taps := Fin 256 → Fin 256 → Fin 3 → EReal

/-- The activations `d` steps earlier, zero before the start. -/
def earlier (d : ℕ) (x : Act) : Act := fun b t c => if d ≤ t.val then x b ⟨t.val - d, by omega⟩ c else 0
/-- The activations `d` steps later, zero after the end. -/
def later (d : ℕ) (x : Act) : Act := fun b t c => if h : t.val + d < 256 then x b ⟨t.val + d, h⟩ c else 0
/-- One tap's product. -/
def tap (x : Act) (W : Taps) (k : Fin 3) : Act := fun b t o => ∑ c, x b t c * W o c k

/-- One layer: the three taps at distance `d`, the bias, the positive part, the residual. -/
def layer (d : ℕ) (W : Taps) (bias : Fin 256 → EReal) (x : Act) : Act := fun b t o =>
  max (tap (earlier d x) W 0 b t o + tap x W 1 b t o + tap (later d x) W 2 b t o + bias o) 0 + x b t o

/-- The first `n` layers: layer `k` looks `2 ^ (k % 10)` steps back and ahead. -/
def stack (W : ℕ → Taps) (bias : ℕ → Fin 256 → EReal) (x : Act) : ℕ → Act
  | 0 => x
  | n + 1 => layer (2 ^ (n % 10)) (W n) (bias n) (stack W bias x n)

/-- A tap that looks further than the sequence is long finds only zeros. -/
theorem tap_earlier_far {d : ℕ} (hd : 256 ≤ d) (x : Act) (W : Taps) (k : Fin 3) (b t o) : tap (earlier d x) W k b t o = 0 := by
  unfold tap earlier
  refine Finset.sum_eq_zero fun c _ => ?_
  rw [if_neg (by omega), zero_mul]

/-- The same looking ahead. -/
theorem tap_later_far {d : ℕ} (hd : 256 ≤ d) (x : Act) (W : Taps) (k : Fin 3) (b t o) : tap (later d x) W k b t o = 0 := by
  unfold tap later
  refine Finset.sum_eq_zero fun c _ => ?_
  rw [dif_neg (by omega), zero_mul]

/-- So a layer that looks that far keeps only its middle tap. -/
theorem layer_far {d : ℕ} (hd : 256 ≤ d) (W : Taps) (bias : Fin 256 → EReal) (x : Act) (b t o) :
    layer d W bias x b t o = max (tap x W 1 b t o + bias o) 0 + x b t o := by
  unfold layer
  rw [tap_earlier_far hd, tap_later_far hd, zero_add, add_zero]

/-! ## The middle: normalisation, distances, the nearest code -/

/-- The number 256 as both programs write it. -/
abbrev n256 : EReal := Ideal.ofBits .f32 1132462080#32
/-- The normalisation's small number, about 1e-5, as both programs write it. -/
abbrev eps : EReal := Ideal.ofBits .f32 925353388#32
/-- The number two as both programs write it. -/
abbrev two : EReal := Ideal.ofBits .f32 1073741824#32

/-- The mean of a step's channels. -/
def mean (v : Fin 256 → EReal) : EReal := Ideal.div (∑ c, v c) n256
/-- Layer normalisation of a step's channels. -/
def norm (g b v : Fin 256 → EReal) (o : Fin 256) : EReal :=
  Ideal.div (v o - mean v) (Ideal.sqrt (mean (fun c => (v c - mean v) * (v c - mean v)) + eps)) * g o + b o
/-- The squared distance to a code: the vector's square, less twice the product, plus the code's square. -/
def sqDist (cz : Fin 256 → Fin 256 → EReal) (e : Fin 256 → EReal) (n : Fin 256) : EReal :=
  ∑ c, e c * e c - two * ∑ c, e c * cz n c + ∑ c, cz n c * cz n c

/-- `n` is the first coordinate at which `v` is least. -/
def FirstLeast (v : Fin 256 → EReal) (n : Fin 256) : Prop := ∀ k, v n < v k ∨ (v n = v k ∧ n ≤ k)

theorem FirstLeast.exists (v : Fin 256 → EReal) : ∃ n, FirstLeast v n := by
  obtain ⟨n, hn⟩ := Finite.exists_min (fun k : Fin 256 => toLex (v k, k))
  exact ⟨n, fun k => (Prod.Lex.le_iff.1 (hn k))⟩

theorem FirstLeast.unique {v : Fin 256 → EReal} {n n' : Fin 256} (h : FirstLeast v n) (h' : FirstLeast v n') : n = n' := by
  rcases h n' with a | ⟨_, a⟩ <;> rcases h' n with b | ⟨_, b⟩
  · exact absurd (a.trans b) (lt_irrefl _)
  · rename_i e; exact absurd a (by rw [e]; exact lt_irrefl _)
  · rename_i e; exact absurd b (by rw [e]; exact lt_irrefl _)
  · exact le_antisymm a b

/-- The first coordinate at which `v` is least. -/
def nearest (v : Fin 256 → EReal) : Fin 256 := Classical.choose (FirstLeast.exists v)
theorem nearest_spec (v : Fin 256 → EReal) : FirstLeast v (nearest v) := Classical.choose_spec (FirstLeast.exists v)

/-- Every step's channels replaced by the code nearest to their normalisation. -/
def quantised (g b : Fin 256 → EReal) (cz : Fin 256 → Fin 256 → EReal) (x : Act) : Act := fun i t c => cz (nearest (sqDist cz (norm g b (x i t)))) c

/-- The input projection. -/
def enterAct (a : Fin 8 → Fin 256 → Fin 32 → EReal) (w : Fin 32 → Fin 256 → EReal) (u : Fin 256 → EReal) : Act := fun i t o => ∑ c, a i t c * w c o + u o
/-- The output projection. -/
def leave (x : Act) (w : Fin 256 → Fin 32 → EReal) (u : Fin 32 → EReal) (i : Fin 8) (t : Fin 256) (o : Fin 32) : EReal := ∑ c, x i t c * w c o + u o

end Cert.Proof.Spec

end
-- ==== Proof.RefRead.lean ====
/- What the reference's stretches leave in the buffers that matter, as functions of whole arrays: one layer of the loops. -/
module

public import proofs.«01_k».proof.Proof.RefRun
public import Idealize.ShloMosaic.Lib.StableHlo.ReadAt
public import Idealize.ShloMosaic.Lib.StableHlo.RunClose

@[expose] public section

set_option maxRecDepth 16384

noncomputable section

namespace Cert.Proof.RefRead

open Cert.ReferenceIdeal Cert.ReferenceIdeal.Gen Cert.ReferenceIdeal.Chain Cert.Proof.RefRun
open Idealize.ShloMosaic Idealize.ShloMosaic.StableHlo

variable {F : FTy → Type} [FloatOps F]

/-- An index word counted from the end where it is negative: `i + n` if `i < 0`, else `i`. -/
def wrap (i : IVec S_ 32) (n : BitVec 32) : IVec S_ 32 := select (cmpi .slt i (constantI S_ 32 0#32)) (addi i (constantI S_ 32 n)) i

/-- A layer's weights out of the twenty layers'. -/
def layerW (W : FVec F S20x256x256x3 .f32) (i : IVec S_ 32) : FVec F S256x256x3 .f32 :=
  shapeCast S256x256x3 (Host.dynamicSlice S1x256x256x3 W
    (fun k => ((![wrap i 20#32, constantI S_ 32 0#32, constantI S_ 32 0#32, constantI S_ 32 0#32] : Fin 4 → IVec S_ 32) k (Shape.Idx.first h_S_)).toInt)
    sliceFits_S20x256x256x3_S1x256x256x3) shapeCasts_S1x256x256x3_S256x256x3
/-- A layer's bias out of the twenty layers'. -/
def layerB (B : FVec F S20x256 .f32) (i : IVec S_ 32) : FVec F S256 .f32 :=
  shapeCast S256 (Host.dynamicSlice S1x256 B (fun k => ((![wrap i 20#32, constantI S_ 32 0#32] : Fin 2 → IVec S_ 32) k (Shape.Idx.first h_S_)).toInt)
    sliceFits_S20x256_S1x256) shapeCasts_S1x256_S256
/-- The activations with 512 zero steps before and after. -/
def padded (x : FVec F S8x256x256 .f32) : FVec F S8x1280x256 .f32 :=
  pad S8x1280x256 ![0, 512, 0] ![0, 512, 0] ![0, 0, 0] x (sitofp .f32 (constantI S_ 32 0#32)) pads_S8x256x256_S8x1280x256_000_5125120_000 h_S_
/-- A layer's distance: one shifted left by the layer number's remainder by ten. -/
def dil (i : IVec S_ 32) : IVec S_ 32 := Host.shli (constantI S_ 32 1#32) (Host.remsi i (constantI S_ 32 10#32))
/-- The 256 steps of the padded activations that a tap at `j` times the distance reads. -/
def window (x : FVec F S8x1280x256 .f32) (j : BitVec 32) (d : IVec S_ 32) : FVec F S8x256x256 .f32 :=
  Host.dynamicSlice S8x256x256 x (fun k => ((![constantI S_ 32 0#32, wrap (addi (constantI S_ 32 512#32) (muli (constantI S_ 32 j) d)) 1280#32, constantI S_ 32 0#32] : Fin 3 → IVec S_ 32) k (Shape.Idx.first h_S_)).toInt)
    sliceFits_S8x1280x256_S8x256x256
/-- One tap's product: the window against the tap's weights, transposed. -/
def tapDot (y : FVec F S8x256x256 .f32) (w : FVec F S256x256x1 .f32) : FVec F S8x256x256 .f32 :=
  Host.dotGeneral dot_S8x256x256_S256x256_S8x256x256_2_0_01_1_n_n none y
    (transpose S256x256 [1, 0] (shapeCast S256x256 w shapeCasts_S256x256x1_S256x256) transposes_S256x256_S256x256_1_0)
/-- One layer of the reference's loops, of the layer number, the stacked weights and biases, and the activations. -/
def refLayer (i : IVec S_ 32) (W : FVec F S20x256x256x3 .f32) (B : FVec F S20x256 .f32) (x : FVec F S8x256x256 .f32) : FVec F S8x256x256 .f32 :=
  addf (maximumf (addf (addf (addf
    (tapDot (window (padded x) 4294967295#32 (dil i)) (extractStridedSlice S256x256x1 ![0, 0, 0] (layerW W i) slices_S256x256x3_S256x256x1_0_0_0))
    (tapDot (window (padded x) 0#32 (dil i)) (extractStridedSlice S256x256x1 ![0, 0, 1] (layerW W i) slices_S256x256x3_S256x256x1_0_0_1)))
    (tapDot (window (padded x) 1#32 (dil i)) (extractStridedSlice S256x256x1 ![0, 0, 2] (layerW W i) slices_S256x256x3_S256x256x1_0_0_2)))
    (broadcastInDim S8x256x256 ![0, 1, 2] bcast_S1x1x256_S8x256x256_0_1_2 (broadcastInDim S1x1x256 ![2] bcast_S256_S1x1x256_2 (layerB B i))))
    (broadcastInDim S8x256x256 ![] bcast_S_S8x256x256 (constant S_ .f32 0x00000000#32))) x

/-- One trip of the first loop computes one layer. -/
theorem trip0 (V : Valuation τ sig (Elt F)) :
    (afterL body0 (after cond0 V) (Proc.devRef .tc main_v4_4) : FVec F S8x256x256 .f32) =
      refLayer (V (Proc.devRef .tc main_v4_3)) (V (Proc.devRef .tc main_v4_0)) (V (Proc.devRef .tc main_v4_1)) (V (Proc.devRef .tc main_v4_4)) := by
  simp only [afterL_cons, afterL_nil]
  after_results_simp_entrywise
  rfl

/-- One trip of the second loop computes one layer. -/
theorem trip1 (V : Valuation τ sig (Elt F)) :
    (afterL body1 (after cond1 V) (Proc.devRef .tc main_v49_4) : FVec F S8x256x256 .f32) =
      refLayer (V (Proc.devRef .tc main_v49_3)) (V (Proc.devRef .tc main_v49_0)) (V (Proc.devRef .tc main_v49_1)) (V (Proc.devRef .tc main_v49_4)) := by
  simp only [afterL_cons, afterL_nil]
  after_results_simp_entrywise
  rfl

/-! ## The stretches round the loops -/

/-- The actions through the input projection. -/
def refEnter (a : FVec F S8x256x32 .f32) (w : FVec F S32x256 .f32) (u : FVec F S256 .f32) : FVec F S8x256x256 .f32 :=
  addf (Host.dotGeneral dot_S8x256x32_S32x256_S8x256x256_2_0_01_1_n_n none a w)
    (broadcastInDim S8x256x256 ![0, 1, 2] bcast_S1x1x256_S8x256x256_0_1_2 (broadcastInDim S1x1x256 ![2] bcast_S256_S1x1x256_2 u))
/-- Every channel of a step by the mean of the step's channels. -/
def refMean (x : FVec F S8x256x256 .f32) : FVec F S8x256x1 .f32 :=
  Host.divf (broadcastInDim S8x256x1 ![0, 1] bcast_S8x256_S8x256x1_0_1 (Host.reduceAdd x (constant S_ .f32 0x00000000#32) reducesTo_S8x256x256_S8x256_d2 h_S_))
    (broadcastInDim S8x256x1 ![] bcast_S_S8x256x1 (constant S_ .f32 0x43800000#32))
/-- A number per step along the step's channels. -/
def along (v : FVec F S8x256x1 .f32) : FVec F S8x256x256 .f32 := broadcastInDim S8x256x256 ![0, 1, 2] bcast_S8x256x1_S8x256x256_0_1_2 v
/-- A number per channel along batch and time. -/
def perChannel (g : FVec F S256 .f32) : FVec F S8x256x256 .f32 :=
  broadcastInDim S8x256x256 ![0, 1, 2] bcast_S1x1x256_S8x256x256_0_1_2 (broadcastInDim S1x1x256 ![2] bcast_S256_S1x1x256_2 g)
/-- The activations less their mean. -/
def refCentred (x : FVec F S8x256x256 .f32) : FVec F S8x256x256 .f32 := subf x (along (refMean x))
/-- Layer normalisation, its rows in one column. -/
def refNorm (x : FVec F S8x256x256 .f32) (g b : FVec F S256 .f32) : FVec F S2048x256 .f32 :=
  shapeCast S2048x256 (addf (mulf (Host.divf (refCentred x)
    (along (Host.sqrt (addf (refMean (mulf (refCentred x) (refCentred x))) (broadcastInDim S8x256x1 ![] bcast_S_S8x256x1 (constant S_ .f32 0x3727C5AC#32))))))
    (perChannel g)) (perChannel b)) shapeCasts_S8x256x256_S2048x256
/-- The squared distance of each row to each code. -/
def refDist (e : FVec F S2048x256 .f32) (cz : FVec F S256x256 .f32) : FVec F S2048x256 .f32 :=
  addf (subf (broadcastInDim S2048x256 ![0, 1] bcast_S2048x1_S2048x256_0_1 (broadcastInDim S2048x1 ![0] bcast_S2048_S2048x1_0
      (Host.reduceAdd (mulf e e) (constant S_ .f32 0x00000000#32) reducesTo_S2048x256_S2048_d1 h_S_)))
    (Host.dotGeneral dot_S2048x256_S256x256_S2048x256_1_0_0_1_n_n none
      (mulf (broadcastInDim S2048x256 ![] bcast_S_S2048x256 (constant S_ .f32 0x40000000#32)) e) (transpose S256x256 [1, 0] cz transposes_S256x256_S256x256_1_0)))
    (broadcastInDim S2048x256 ![0, 1] bcast_S1x256_S2048x256_0_1 (broadcastInDim S1x256 ![1] bcast_S256_S1x256_1
      (Host.reduceAdd (mulf cz cz) (constant S_ .f32 0x00000000#32) reducesTo_S256x256_S256_d1 h_S_)))
/-- The number of each row's nearest code, the first of equals. -/
def refNearest (dz : FVec F S2048x256 .f32) : IVec S2048 32 := fun j =>
  (Host.argReduce reducer_argmin_f32_i32 dz (iotaInDim S2048x256 32 1) (constant S_ .f32 0x7F800000#32) (constantI S_ 32 0#32) reducesTo_S2048x256_S2048_d1 h_S_ j).2
/-- A code's number counted from the end where it is negative, in a column. -/
def refIndex (i : IVec S2048 32) : IVec S2048x1 32 :=
  broadcastInDim S2048x1 ![0] bcast_S2048_S2048x1_0 (select (cmpi .slt i (broadcastInDim S2048 ![] bcast_S_S2048 (constantI S_ 32 0#32)))
    (addi i (broadcastInDim S2048 ![] bcast_S_S2048 (constantI S_ 32 256#32))) i)
/-- The rows of the codebook at given numbers, a filler where a number is out of range. -/
def refTake (cz : FVec F S256x256 .f32) (i : IVec S2048x1 32) : FVec F S2048x256 .f32 :=
  select (broadcastInDim S2048x256 ![0] bcast_S2048_S2048x256_0
      (Host.reduce IntOp.andi (andi (cmpi .sge i (broadcastInDim S2048x1 ![] bcast_S_S2048x1 (constantI S_ 32 0#32)))
        (cmpi .sle i (broadcastInDim S2048x1 ![0, 1] bcast_S1x1_S2048x1_0_1 (broadcastInDim S1x1 ![1] bcast_S1_S1x1_1 (constantI S1 32 255#32)))))
        (constantI S_ 1 1#1) reducesTo_S2048x1_S2048_d1 h_S_))
    (Host.gather gather_S256x256_S2048x1_S2048x256_1_0_n_n_0_1_1256 cz i)
    (broadcastInDim S2048x256 ![] bcast_S_S2048x256 (constant S_ .f32 0x7FC00000#32))
/-- The rows moved onto the codes taken: the row plus the difference. -/
def refThrough (e z : FVec F S2048x256 .f32) : FVec F S8x256x256 .f32 := shapeCast S8x256x256 (addf e (subf z e)) shapeCasts_S2048x256_S8x256x256
/-- The middle stretch as a whole: from the encoder's activations to the decoder's. -/
def refMid (x : FVec F S8x256x256 .f32) (g b : FVec F S256 .f32) (cz : FVec F S256x256 .f32) : FVec F S8x256x256 .f32 :=
  refThrough (refNorm x g b) (refTake cz (refIndex (refNearest (refDist (refNorm x g b) cz))))
/-- The output projection, the batches of a half in one column. -/
def refOut (x : FVec F S8x256x256 .f32) (w : FVec F S256x32 .f32) (u : FVec F S32 .f32) : FVec F S2x1024x32 .f32 :=
  shapeCast S2x1024x32 (addf (Host.dotGeneral dot_S8x256x256_S256x32_S8x256x32_2_0_01_1_n_n none x w)
    (broadcastInDim S8x256x32 ![0, 1, 2] bcast_S1x1x32_S8x256x32_0_1_2 (broadcastInDim S1x1x32 ![2] bcast_S32_S1x1x32_2 u))) shapeCasts_S8x256x32_S2x1024x32

/-- What the first stretch leaves in the first loop's activations. -/
theorem pre_4 (V : Valuation τ sig (Elt F)) : (afterL preI V (Proc.devRef .tc main_v4_4) : FVec F S8x256x256 .f32) =
    refEnter (V (Proc.devRef .tc main_arg0)) (V (Proc.devRef .tc main_arg1)) (V (Proc.devRef .tc main_arg2)) := by
  simp only [afterL_cons, afterL_nil]
  after_results_simp_entrywise
  try rfl
/-- The first loop's weights. -/
theorem pre_0 (V : Valuation τ sig (Elt F)) : (afterL preI V (Proc.devRef .tc main_v4_0) : FVec F S20x256x256x3 .f32) = V (Proc.devRef .tc main_arg3) := by
  simp only [afterL_cons, afterL_nil]
  after_results_simp_entrywise
  try rfl
/-- The first loop's biases. -/
theorem pre_1 (V : Valuation τ sig (Elt F)) : (afterL preI V (Proc.devRef .tc main_v4_1) : FVec F S20x256 .f32) = V (Proc.devRef .tc main_arg4) := by
  simp only [afterL_cons, afterL_nil]
  after_results_simp_entrywise
  try rfl
/-- The first loop leaves its weights. -/
theorem trip0_0 (V : Valuation τ sig (Elt F)) : afterL body0 (after cond0 V) (Proc.devRef .tc main_v4_0) = V (Proc.devRef .tc main_v4_0) := by
  simp only [afterL_cons, afterL_nil]
  after_results_simp_entrywise
  try rfl
/-- The first loop leaves its biases. -/
theorem trip0_1 (V : Valuation τ sig (Elt F)) : afterL body0 (after cond0 V) (Proc.devRef .tc main_v4_1) = V (Proc.devRef .tc main_v4_1) := by
  simp only [afterL_cons, afterL_nil]
  after_results_simp_entrywise
  try rfl
/-- The normalised rows. -/
theorem norm_29 (V : Valuation τ sig (Elt F)) : (after hostOps0_1 V (Proc.devRef .tc main_v29) : FVec F S2048x256 .f32) = refNorm (V (Proc.devRef .tc main_v4_4)) (V (Proc.devRef .tc main_arg5)) (V (Proc.devRef .tc main_arg6)) := by
  after_results_simp_entrywise
  try rfl
/-- The distances. -/
theorem dist_43 (V : Valuation τ sig (Elt F)) : (after hostOps0_1 V (Proc.devRef .tc main_v43) : FVec F S2048x256 .f32) = refDist (refNorm (V (Proc.devRef .tc main_v4_4)) (V (Proc.devRef .tc main_arg5)) (V (Proc.devRef .tc main_arg6))) (V (Proc.devRef .tc main_arg7)) := by
  after_results_simp_entrywise
  try rfl
/-- The nearest codes' numbers. -/
theorem nearest_44 (V : Valuation τ sig (Elt F)) : (after hostOps0_2 V (Proc.devRef .tc main_v44) : IVec S2048 32) = refNearest (V (Proc.devRef .tc main_v43)) := by
  after_results_simp_entrywise
  try rfl
/-- The codes taken. -/
theorem take_45 (V : Valuation τ sig (Elt F)) : (after hostOps0_3 V (Proc.devRef .tc main_v45) : FVec F S2048x256 .f32) = refTake (V (Proc.devRef .tc main_arg7)) (refIndex (V (Proc.devRef .tc main_v44))) := by
  after_results_simp_entrywise
  try rfl
/-- The decoder's activations. -/
theorem through_48 (V : Valuation τ sig (Elt F)) : (after hostOps0_4 V (Proc.devRef .tc main_v49_4) : FVec F S8x256x256 .f32) = refThrough (V (Proc.devRef .tc main_v29)) (V (Proc.devRef .tc main_v45)) := by
  after_results_simp_entrywise
  try rfl
/-- Not written there. -/
theorem kept_a (V : Valuation τ sig (Elt F)) : (after hostOps0_3 V (Proc.devRef .tc main_v29) : (Proc.devRef (τ := τ) .tc main_v29).ty.Contents (Elt F)) = (V (Proc.devRef .tc main_v29)) := by
  after_results_simp_entrywise
  try rfl
/-- Not written there. -/
theorem kept_b (V : Valuation τ sig (Elt F)) : (after hostOps0_2 V (Proc.devRef .tc main_v29) : (Proc.devRef (τ := τ) .tc main_v29).ty.Contents (Elt F)) = (V (Proc.devRef .tc main_v29)) := by
  after_results_simp_entrywise
  try rfl
/-- Not written there. -/
theorem kept_c (V : Valuation τ sig (Elt F)) : (after hostOps0_2 V (Proc.devRef .tc main_arg7) : (Proc.devRef (τ := τ) .tc main_arg7).ty.Contents (Elt F)) = (V (Proc.devRef .tc main_arg7)) := by
  after_results_simp_entrywise
  try rfl
/-- Not written there. -/
theorem kept_d (V : Valuation τ sig (Elt F)) : (after hostOps0_1 V (Proc.devRef .tc main_arg7) : (Proc.devRef (τ := τ) .tc main_arg7).ty.Contents (Elt F)) = (V (Proc.devRef .tc main_arg7)) := by
  after_results_simp_entrywise
  try rfl
/-- What the middle stretch leaves in the second loop's activations. -/
theorem mid_4 (V : Valuation τ sig (Elt F)) : (afterL midI V (Proc.devRef .tc main_v49_4) : FVec F S8x256x256 .f32) =
    refMid (V (Proc.devRef .tc main_v4_4)) (V (Proc.devRef .tc main_arg5)) (V (Proc.devRef .tc main_arg6)) (V (Proc.devRef .tc main_arg7)) := by
  simp only [afterL_cons, afterL_nil]
  rw [through_48, take_45, nearest_44, kept_a, kept_b, kept_c, kept_d, dist_43, norm_29]
  rfl
/-- The second loop's weights. -/
theorem mid_0 (V : Valuation τ sig (Elt F)) : (afterL midI V (Proc.devRef .tc main_v49_0) : FVec F S20x256x256x3 .f32) = V (Proc.devRef .tc main_arg9) := by
  simp only [afterL_cons, afterL_nil]
  after_results_simp_entrywise
  try rfl
/-- The second loop's biases. -/
theorem mid_1 (V : Valuation τ sig (Elt F)) : (afterL midI V (Proc.devRef .tc main_v49_1) : FVec F S20x256 .f32) = V (Proc.devRef .tc main_arg10) := by
  simp only [afterL_cons, afterL_nil]
  after_results_simp_entrywise
  try rfl
/-- The second loop leaves its weights. -/
theorem trip1_0 (V : Valuation τ sig (Elt F)) : afterL body1 (after cond1 V) (Proc.devRef .tc main_v49_0) = V (Proc.devRef .tc main_v49_0) := by
  simp only [afterL_cons, afterL_nil]
  after_results_simp_entrywise
  try rfl
/-- The second loop leaves its biases. -/
theorem trip1_1 (V : Valuation τ sig (Elt F)) : afterL body1 (after cond1 V) (Proc.devRef .tc main_v49_1) = V (Proc.devRef .tc main_v49_1) := by
  simp only [afterL_cons, afterL_nil]
  after_results_simp_entrywise
  try rfl
/-- What the last stretch leaves in the result. -/
theorem post_54 (V : Valuation τ sig (Elt F)) : (afterL postI V (Proc.devRef .tc main_v54) : FVec F S2x1024x32 .f32) =
    refOut (V (Proc.devRef .tc main_v49_4)) (V (Proc.devRef .tc main_arg11)) (V (Proc.devRef .tc main_arg12)) := by
  simp only [afterL_cons, afterL_nil]
  after_results_simp_entrywise
  try rfl
/-- A condition writes none of the arrays carried. -/
theorem condition0_4 (V : Valuation τ sig (Elt F)) : after cond0 V (Proc.devRef .tc main_v4_4) = V (Proc.devRef .tc main_v4_4) := by
  after_results_simp_entrywise
/-- The same of the second loop's. -/
theorem condition1_4 (V : Valuation τ sig (Elt F)) : after cond1 V (Proc.devRef .tc main_v49_4) = V (Proc.devRef .tc main_v49_4) := by
  after_results_simp_entrywise

end Cert.Proof.RefRead

end
-- ==== Proof.Nearest.lean ====
/- The kernel's indexed reduction and the reference's two-operand reduction both compute the first coordinate at which a row
   of extended reals is least. -/
module

public import proofs.«01_k».proof.Proof.RefRead
public import proofs.«01_k».proof.Proof.Body
public import proofs.«01_k».proof.Proof.Spec
public import Idealize.ShloMosaic.Lib.Pointwise

@[expose] public section

set_option maxRecDepth 16384

noncomputable section

namespace Cert.Proof.Nearest

open Idealize.ShloMosaic Cert.Proof.Spec

/-- Membership in a filtered set, however the filter is decided. -/
theorem mem_kept {α : Type} {p : α → Prop} (inst : DecidablePred p) {s : Finset α} {a : α} : a ∈ @Finset.filter α p inst s ↔ a ∈ s ∧ p a :=
  Finset.mem_filter

/-! ## The kernel's indexed reduction -/

theorem reduceIndex_at (dz : FVec Ideal Cert.KernelIdeal.S1024x256 .f32) (h : Cert.KernelIdeal.S1024x256.Reduces [1] Cert.KernelIdeal.S1024) (r : Fin 1024) {n : Fin 256}
    (hn : FirstLeast (fun k => dz (ix2 r k)) n) : reduceIndex .argMin 1 Cert.KernelIdeal.S1024 dz h (ix1 r) = BitVec.ofNat 32 n.val := by
  have hf : ∀ i, h.drop i = ix1 r ↔ ∃ k, ix2 r k = i := fun i => by
    rw [Shape.Reduces.fiber_r2_a1 h]
    rfl
  show Ideal.reduceIndex .argMin 1 h dz (ix1 r) = _
  unfold Ideal.reduceIndex
  dsimp only
  congr 1
  generalize hS : Finset.image (fun i : Cert.KernelIdeal.S1024x256.Idx => (i 1).val) _ = S
  have hS : S.min = ((n.val : ℕ) : WithTop ℕ) := by
    rw [← hS]
    apply le_antisymm
    · apply Finset.min_le
      rw [Finset.mem_image]
      refine ⟨ix2 r n, ?_, rfl⟩
      rw [mem_kept]
      refine ⟨Finset.mem_filter.2 ⟨Finset.mem_univ _, (hf _).2 ⟨n, rfl⟩⟩, ?_⟩
      intro i' hi'
      obtain ⟨k, rfl⟩ := (hf _).1 (Finset.mem_filter.1 hi').2
      rw [if_neg (by decide)]
      rcases hn k with a | a
      · exact not_lt.2 a.le
      · exact not_lt.2 a.1.le
    · apply Finset.le_min
      intro q hq
      obtain ⟨i, hi, rfl⟩ := Finset.mem_image.1 hq
      rw [mem_kept] at hi
      obtain ⟨hi, hb⟩ := hi
      obtain ⟨k, rfl⟩ := (hf _).1 (Finset.mem_filter.1 hi).2
      have := hb (ix2 r n) (Finset.mem_filter.2 ⟨Finset.mem_univ _, (hf _).2 ⟨n, rfl⟩⟩)
      rw [if_neg (by decide)] at this
      rcases hn k with a | a
      · exact absurd a this
      · exact WithTop.coe_le_coe.2 a.2
  rw [hS]
  rfl

/-! ## The reference's two-operand reduction -/

/-- One pair comes before another: its value is less, or the values are equal and its number is less. -/
def Before (a b : EReal × BitVec 32) : Prop := a.1 < b.1 ∨ (a.1 = b.1 ∧ a.2.toInt < b.2.toInt)
/-- One pair comes no later than another. -/
def NotAfter (a b : EReal × BitVec 32) : Prop := a.1 < b.1 ∨ (a.1 = b.1 ∧ a.2.toInt ≤ b.2.toInt)

theorem NotAfter.refl (a : EReal × BitVec 32) : NotAfter a a := .inr ⟨rfl, le_refl _⟩
theorem NotAfter.trans {a b c : EReal × BitVec 32} (h : NotAfter a b) (h' : NotAfter b c) : NotAfter a c := by
  rcases h with h | ⟨h, g⟩ <;> rcases h' with h' | ⟨h', g'⟩
  · exact .inl (h.trans h')
  · exact .inl (h' ▸ h)
  · exact .inl (h ▸ h')
  · exact .inr ⟨h.trans h', g.trans g'⟩
theorem Before.notAfter {a b : EReal × BitVec 32} (h : Before a b) : NotAfter a b := h.imp_right fun h => ⟨h.1, h.2.le⟩
theorem notAfter_of_not_before {a b : EReal × BitVec 32} (h : ¬ Before a b) : NotAfter b a := by
  unfold Before at h
  push Not at h
  rcases lt_or_eq_of_le h.1 with g | g
  · exact .inl g
  · exact .inr ⟨g, h.2 g.symm⟩

open Cert.ReferenceIdeal in
open Classical in
/-- The reference's reducer keeps the earlier pair. -/
theorem reducer_eq (a b : EReal × BitVec 32) : reducer_argmin_f32_i32 (F := Ideal) a b = if Before a b then a else b := by
  have hor : ∀ x y : Bool, IntOp.ori (BitVec.ofBool x) (BitVec.ofBool y) = BitVec.ofBool (x || y) := by decide
  have hand : ∀ x y : Bool, IntOp.andi (BitVec.ofBool x) (BitVec.ofBool y) = BitVec.ofBool (x && y) := by decide
  have hsel : ∀ {α : Type} (x : Bool) (p q : α), Scalar.select (BitVec.ofBool x) p q = if x then p else q := by
    intro α x p q; cases x <;> rfl
  have e1 : (FloatOps.cmpf (F := Ideal) (φ := .f32) CmpFPredicate.olt a.1 b.1 : BitVec 1) = BitVec.ofBool (decide (a.1 < b.1)) := rfl
  have e2 : (FloatOps.cmpf (F := Ideal) (φ := .f32) CmpFPredicate.une a.1 a.1 : BitVec 1) = BitVec.ofBool false := by
    show BitVec.ofBool (decide (a.1 ≠ a.1)) = _
    simp
  have e3 : (FloatOps.cmpf (F := Ideal) (φ := .f32) CmpFPredicate.oeq a.1 b.1 : BitVec 1) = BitVec.ofBool (decide (a.1 = b.1)) := rfl
  have e4 : (IntOp.cmpi CmpIPredicate.slt a.2 b.2 : BitVec 1) = BitVec.ofBool (decide (a.2.toInt < b.2.toInt)) := rfl
  unfold reducer_argmin_f32_i32 Before
  dsimp only
  rw [e1, e2, e3, e4]
  simp only [hor, hand, hsel, Bool.or_false, Bool.or_eq_true, Bool.and_eq_true, decide_eq_true_eq]
  by_cases h : a.1 < b.1
  · simp [h]
  · by_cases g : a.1 = b.1
    · by_cases q : a.2.toInt < b.2.toInt
      · simp only [if_neg h, if_pos (Or.inr ⟨g, q⟩ : a.1 < b.1 ∨ a.1 = b.1 ∧ a.2.toInt < b.2.toInt)]
        rw [← g]
      · rw [if_neg h, if_neg (by tauto), if_neg (by tauto)]
    · rw [if_neg h, if_neg (by tauto), if_neg (by tauto)]

/-- A fold of that reducer ends at one of the pairs, which comes no later than any of them. -/
theorem fold_least (L : List (EReal × BitVec 32)) : ∀ p : EReal × BitVec 32,
    let q := L.foldl (Cert.ReferenceIdeal.reducer_argmin_f32_i32 (F := Ideal)) p
    (q = p ∨ q ∈ L) ∧ NotAfter q p ∧ ∀ x ∈ L, NotAfter q x := by
  induction L with
  | nil => exact fun p => ⟨.inl rfl, .refl p, fun x hx => absurd hx List.not_mem_nil⟩
  | cons a L ih =>
    intro p
    have h := ih (Cert.ReferenceIdeal.reducer_argmin_f32_i32 (F := Ideal) p a)
    have hr := reducer_eq p a
    dsimp only at h ⊢
    rw [List.foldl_cons]
    generalize List.foldl _ _ L = q at h ⊢
    obtain ⟨h0, h1, h2⟩ := h
    by_cases hb : Before p a
    · rw [if_pos hb] at hr
      rw [hr] at h0 h1
      refine ⟨h0.imp_right (List.mem_cons_of_mem _), h1, fun x hx => ?_⟩
      rcases List.mem_cons.1 hx with rfl | hx
      · exact h1.trans hb.notAfter
      · exact h2 x hx
    · rw [if_neg hb] at hr
      rw [hr] at h0 h1
      refine ⟨.inr (List.mem_cons.2 h0), h1.trans (notAfter_of_not_before hb), fun x hx => ?_⟩
      rcases List.mem_cons.1 hx with rfl | hx
      · exact h1
      · exact h2 x hx

/-- A number below 256 as a word, read signed. -/
theorem toInt_small (k : Fin 256) : (BitVec.ofNat 32 k.val).toInt = k.val := by
  revert k; decide +kernel

open Cert.ReferenceIdeal Cert.ReferenceIdeal.Gen in
/-- The reference's nearest code is the first coordinate at which the row is least. -/
theorem refNearest_at (dz : FVec Ideal S2048x256 .f32) (r : Fin 2048) {n : Fin 256} (hn : FirstLeast (fun k => dz (ix2 r k)) n) :
    Cert.Proof.RefRead.refNearest dz (ix1 r) = BitVec.ofNat 32 n.val := by
  unfold Cert.Proof.RefRead.refNearest
  rw [Ideal.argReduce_eq_reduce2, Host.reduce2_eq_foldl_fiber]
  have hmem : ∀ p, p ∈ Host.argReduceFiber dz (iotaInDim S2048x256 32 1) reducesTo_S2048x256_S2048_d1 (ix1 r) ↔ ∃ k : Fin 256, p = (dz (ix2 r k), BitVec.ofNat 32 k.val) := by
    intro p
    unfold Host.argReduceFiber
    simp only [List.mem_map, List.mem_filter, decide_eq_true_eq]
    have hf : ∀ i, reducesTo_S2048x256_S2048_d1.drop i = ix1 r ↔ ∃ k : Fin 256, ix2 r k = i := fun i => by
      rw [Shape.ReducesTo.fiber_r2_a1 reducesTo_S2048x256_S2048_d1]
      rfl
    constructor
    · rintro ⟨i, ⟨_, hi⟩, rfl⟩
      obtain ⟨k, hk⟩ := (hf _).1 hi
      rw [← hk]
      exact ⟨k, rfl⟩
    · rintro ⟨k, rfl⟩
      refine ⟨S2048x256.rowMajor (ix2 r k), ⟨List.mem_finRange _, ?_⟩, ?_⟩
      · rw [Equiv.symm_apply_apply]
        exact (hf _).2 ⟨k, rfl⟩
      · rw [Equiv.symm_apply_apply]
        rfl
  have hi : ((constant S_ .f32 0x7F800000#32 : FVec Ideal S_ .f32) (Shape.Idx.first h_S_), constantI S_ 32 0#32 (Shape.Idx.first h_S_)) = ((⊤ : EReal), 0#32) := by
    have htop : Ideal.ofBits .f32 0x7F800000#32 = ⊤ := by simp [Ideal.ofBits, Ideal.ieee]
    exact Prod.ext htop rfl
  rw [hi]
  obtain ⟨h0, h1, h2⟩ := fold_least (Host.argReduceFiber dz (iotaInDim S2048x256 32 1) reducesTo_S2048x256_S2048_d1 (ix1 r)) (⊤, 0#32)
  generalize List.foldl _ _ _ = q at h0 h1 h2 ⊢
  have h2 : ∀ k : Fin 256, NotAfter q (dz (ix2 r k), BitVec.ofNat 32 k.val) := fun k => h2 _ ((hmem _).2 ⟨k, rfl⟩)
  rcases h0 with rfl | h0
  · have : n = 0 := hn.unique fun k => by
      have e : ∀ k : Fin 256, dz (ix2 r k) = (⊤ : EReal) := fun k => by
        rcases h2 k with a | a
        · exact absurd a not_top_lt
        · exact a.1.symm
      exact .inr ⟨(e 0).trans (e k).symm, Fin.zero_le k⟩
    rw [this]
    rfl
  · obtain ⟨k, rfl⟩ := (hmem q).1 h0
    have : n = k := hn.unique fun k' => by
      rcases h2 k' with a | a
      · exact .inl a
      · have b := a.2
        simp only [toInt_small] at b
        exact .inr ⟨a.1, Fin.le_def.2 (by omega)⟩
    rw [this]

end Cert.Proof.Nearest

end
-- ==== Proof.KerMath.lean ====
/- The kernel's functions of whole blocks read at an index over the extended reals: each point's computation is the matching
   piece of the model, on the half of the batch the block holds. -/
module

public import proofs.«01_k».proof.Proof.Body
public import proofs.«01_k».proof.Proof.Spec
public import proofs.«01_k».proof.Proof.Nearest
public import Idealize.ShloMosaic.Lib.Pointwise

@[expose] public section

set_option maxRecDepth 16384

noncomputable section

namespace Cert.Proof.KerMath

open Cert.KernelIdeal Cert.KernelIdeal.Gen Cert.Proof.Body Cert.Proof.Spec
open Idealize.ShloMosaic

/-! ## A block's rows: half `h`, row `r` is batch `4h + r / 256`, time `r % 256` -/

/-- The batch of a row. -/
abbrev bt (h : Fin 2) (r : Fin 1024) : Fin 8 := ⟨h.val * 4 + r.val / 256, by omega⟩
/-- The time of a row. -/
abbrev tm (r : Fin 1024) : Fin 256 := ⟨r.val % 256, by omega⟩
/-- The block holds the half `h` of the activations. -/
def Holds (h : Fin 2) (X : Vec Ideal S1024x256 .f32) (x : Act) : Prop := ∀ r c, X (ix2 r c) = x (bt h r) (tm r) c

/-- The three taps in a layer's weight block: row `256 k + c` is tap `k` of input channel `c`. -/
def HoldsTaps (x3 : Vec Ideal S1x768x256 .f32) (W : Taps) : Prop := ∀ (c o : Fin 256) (k : Fin 3), x3 (ix3 0 (⟨k.val * 256 + c.val, by omega⟩ : Fin 768) o) = W o c k
/-- A layer's bias block. -/
def HoldsBias (x4 : Vec Ideal S1x1x256 .f32) (u : Fin 256 → EReal) : Prop := ∀ o : Fin 256, x4 (ix3 0 0 o) = u o

/-! ## One layer -/

/-- The matrix product of the three shifted copies with the layer's weights, at a dilation word. -/
def full (w : BitVec 32) (v17 : Vec Ideal S1024x256 .f32) (v35 : IVec S1024x256 32) (v49 : Vec Ideal S1x768x256 .f32) : FVec Ideal S1024x256 .f32 :=
  matmul (φ₁ := .f32) (φ₂ := .f32) dot_S1024x768_S768x256_S1024x256_1_0_0_1_n_n none
    (concatenate S1024x768 1 [⟨S1024x256, select (cmpi .sge v35 (broadcast S1024x256 w)) (dynamicRotate 0 w none v17 rotates_S1024x256_d0) (broadcast S1024x256 (Scalar.ofBits .f32 0x00000000#32 : Ideal .f32))⟩, ⟨S1024x256, v17⟩,
      ⟨S1024x256, select (cmpi .slt v35 (broadcast S1024x256 (Scalar.subi 256#32 w))) (dynamicRotate 0 (Scalar.subi 1024#32 w) none v17 rotates_S1024x256_d0) (broadcast S1024x256 (Scalar.ofBits .f32 0x00000000#32 : Ideal .f32))⟩] concatenates_S1024x256_S1024x256_S1024x256_S1024x768_d1)
    (shapeCast (α := Ideal .f32) S768x256 v49 shapeCasts_S1x768x256_S768x256) (constant S1024x256 .f32 0x00000000#32)

theorem pay9_full (i : grid0.Coords) (X : Vec Ideal S1024x256 .f32) (T : IVec S1024x256 32) (W : Vec Ideal S1x768x256 .f32) : k0_pay9 i X T W = full (dilWord i) X T W := rfl

/-- A sum over three times 256 as three sums. -/
theorem sum_thrice (f : Fin 768 → EReal) :
    ∑ x, f x = ∑ c : Fin 256, f ⟨0 * 256 + c.val, by omega⟩ + ∑ c : Fin 256, f ⟨1 * 256 + c.val, by omega⟩ + ∑ c : Fin 256, f ⟨2 * 256 + c.val, by omega⟩ := by
  rw [← (finProdFinEquiv (m := 3) (n := 256)).sum_comp, Fintype.sum_prod_type, Fin.sum_univ_three]
  refine congrArg₂ _ (congrArg₂ _ ?_ ?_) ?_ <;>
    refine Finset.sum_congr rfl fun c _ => congrArg f (Fin.ext ?_)
  · show c.val + 256 * 0 = 0 * 256 + c.val; omega
  · show c.val + 256 * 1 = 1 * 256 + c.val; omega
  · show c.val + 256 * 2 = 2 * 256 + c.val; omega

/-- The product with the three blocks of rows side by side is the sum of the three products. -/
theorem dot_thrice (p0 p1 p2 : FVec Ideal S1024x256 .f32) (x3 : Vec Ideal S1x768x256 .f32) {W : Taps} (hW : HoldsTaps x3 W) (r : Fin 1024) (o : Fin 256) :
    matmul (φ₁ := .f32) (φ₂ := .f32) dot_S1024x768_S768x256_S1024x256_1_0_0_1_n_n none
      (concatenate S1024x768 1 [⟨S1024x256, p0⟩, ⟨S1024x256, p1⟩, ⟨S1024x256, p2⟩] concatenates_S1024x256_S1024x256_S1024x256_S1024x768_d1)
      (shapeCast (α := Ideal .f32) S768x256 x3 shapeCasts_S1x768x256_S768x256) (constant S1024x256 .f32 0x00000000#32) (ix2 r o)
    = ∑ c, p0 (ix2 r c) * W o c 0 + ∑ c, p1 (ix2 r c) * W o c 1 + ∑ c, p2 (ix2 r c) * W o c 2 := by
  pointwise
  rw [sum_thrice]
  refine congrArg₂ _ (congrArg₂ _ ?_ ?_) ?_ <;> refine Finset.sum_congr rfl fun c _ => ?_
  · rw [dif_pos (by show 0 * 256 + c.val < 256; omega), ← hW c o 0]
    refine congrArg₂ _ (congrArg p0 (congrArg (ix2 r) (Fin.ext ?_))) rfl
    show 0 * 256 + c.val = c.val; omega
  · rw [dif_neg (by show ¬ 1 * 256 + c.val < 256; omega), dif_pos (by show 1 * 256 + c.val - 256 < 256; omega), ← hW c o 1]
    refine congrArg₂ _ (congrArg p1 (congrArg (ix2 r) (Fin.ext ?_))) rfl
    show 1 * 256 + c.val - 256 = c.val; omega
  · rw [dif_neg (by show ¬ 2 * 256 + c.val < 256; omega), dif_neg (by show ¬ 2 * 256 + c.val - 256 < 256; omega), ← hW c o 2]
    refine congrArg₂ _ (congrArg p2 (congrArg (ix2 r) (Fin.ext ?_))) rfl
    show 2 * 256 + c.val - 256 - 256 = c.val; omega

/-- A row's time as a word. -/
theorem time_word : ∀ r : Fin 1024, IntOp.remsi .vector (BitVec.ofNat 32 r.val) 256#32 = BitVec.ofNat 32 (r.val % 256) := by
  decide +kernel
/-- Whether a time is at least the distance, as the kernel asks it. -/
theorem sge_word : ∀ s : Fin 256, ∀ q : Fin 8, IntOp.cmpi .sge (BitVec.ofNat 32 s.val) (BitVec.ofNat 32 (2 ^ q.val)) = if 2 ^ q.val ≤ s.val then 1#1 else 0#1 := by
  decide +kernel
/-- Whether a time is less than the sequence length less the distance. -/
theorem slt_word : ∀ s : Fin 256, ∀ q : Fin 8, IntOp.cmpi .slt (BitVec.ofNat 32 s.val) (Scalar.subi 256#32 (BitVec.ofNat 32 (2 ^ q.val))) = if s.val + 2 ^ q.val < 256 then 1#1 else 0#1 := by
  decide +kernel
/-- How far the two rotations go. -/
theorem turn_word : ∀ q : Fin 8, (BitVec.ofNat 32 (2 ^ q.val)).toNat % 1024 = 2 ^ q.val ∧ (Scalar.subi 1024#32 (BitVec.ofNat 32 (2 ^ q.val))).toNat % 1024 = 1024 - 2 ^ q.val ∧ 1 ≤ 2 ^ q.val ∧ 2 ^ q.val ≤ 128 := by
  decide +kernel

/-- The rows rotated forward and masked are the activations `2 ^ q` steps earlier. -/
theorem early_at {h : Fin 2} {X : Vec Ideal S1024x256 .f32} {x : Act} (hX : Holds h X x) (q : Fin 8) (r : Fin 1024) (c : Fin 256) :
    select (cmpi .sge k0_pay7 (broadcast S1024x256 (BitVec.ofNat 32 (2 ^ q.val)))) (dynamicRotate 0 (BitVec.ofNat 32 (2 ^ q.val)) none X rotates_S1024x256_d0) (broadcast S1024x256 (Scalar.ofBits .f32 0x00000000#32 : Ideal .f32)) (ix2 r c)
    = earlier (2 ^ q.val) x (bt h r) (tm r) c := by
  obtain ⟨h1, _, h3, h4⟩ := turn_word q
  have hs := sge_word (tm r) q
  have ht := time_word r
  generalize BitVec.ofNat 32 (2 ^ q.val) = w at h1 hs ⊢
  generalize 2 ^ q.val = d at h1 h3 h4 hs ⊢
  pointwise [k0_pay7]
  rw [ht, hs, hX]
  unfold earlier
  by_cases hd : d ≤ (tm r).val
  · rw [if_pos hd, if_pos hd]
    refine congrArg₂ (fun a b => x a b c) (Fin.ext ?_) (Fin.ext ?_)
    · show h.val * 4 + (r.val + 1024 - w.toNat % 1024) % 1024 / 256 = h.val * 4 + r.val / 256
      have hd' : d ≤ r.val % 256 := hd
      omega
    · show (r.val + 1024 - w.toNat % 1024) % 1024 % 256 = r.val % 256 - d
      have hd' : d ≤ r.val % 256 := hd
      omega
  · rw [if_neg hd, if_neg hd]
    rfl

/-- The rows rotated back and masked are the activations `2 ^ q` steps later. -/
theorem late_at {h : Fin 2} {X : Vec Ideal S1024x256 .f32} {x : Act} (hX : Holds h X x) (q : Fin 8) (r : Fin 1024) (c : Fin 256) :
    select (cmpi .slt k0_pay7 (broadcast S1024x256 (Scalar.subi 256#32 (BitVec.ofNat 32 (2 ^ q.val))))) (dynamicRotate 0 (Scalar.subi 1024#32 (BitVec.ofNat 32 (2 ^ q.val))) none X rotates_S1024x256_d0) (broadcast S1024x256 (Scalar.ofBits .f32 0x00000000#32 : Ideal .f32)) (ix2 r c)
    = later (2 ^ q.val) x (bt h r) (tm r) c := by
  obtain ⟨_, h1, h3, h4⟩ := turn_word q
  have hs := slt_word (tm r) q
  have ht := time_word r
  generalize Scalar.subi 1024#32 (BitVec.ofNat 32 (2 ^ q.val)) = w at h1 ⊢
  generalize Scalar.subi 256#32 (BitVec.ofNat 32 (2 ^ q.val)) = w' at hs ⊢
  generalize 2 ^ q.val = d at h1 h3 h4 hs ⊢
  pointwise [k0_pay7]
  rw [ht, hs, hX]
  unfold later
  by_cases hd : (tm r).val + d < 256
  · rw [if_pos hd, dif_pos hd]
    refine congrArg₂ (fun a b => x a b c) (Fin.ext ?_) (Fin.ext ?_)
    · show h.val * 4 + (r.val + 1024 - w.toNat % 1024) % 1024 / 256 = h.val * 4 + r.val / 256
      have hd' : r.val % 256 + d < 256 := hd
      omega
    · show (r.val + 1024 - w.toNat % 1024) % 1024 % 256 = r.val % 256 + d
      have hd' : r.val % 256 + d < 256 := hd
      omega
  · rw [if_neg hd, dif_neg hd]
    rfl

/-- The end of a layer: bias, positive part, residual. -/
theorem pay11_at (X Y : Vec Ideal S1024x256 .f32) (x4 : Vec Ideal S1x1x256 .f32) (r : Fin 1024) (o : Fin 256) :
    k0_pay11 X Y x4 (ix2 r o) = X (ix2 r o) + max (Y (ix2 r o) + x4 (ix3 0 0 o)) 0 := by
  pointwise [k0_pay11]

/-- A layer that reads all three taps. -/
theorem layerFull_at {h : Fin 2} {X : Vec Ideal S1024x256 .f32} {x : Act} (hX : Holds h X x) (q : Fin 8) {i : grid0.Coords} (hi : dilWord i = BitVec.ofNat 32 (2 ^ q.val))
    {x3 : Vec Ideal S1x768x256 .f32} {W : Taps} (hW : HoldsTaps x3 W) {x4 : Vec Ideal S1x1x256 .f32} {u : Fin 256 → EReal} (hu : HoldsBias x4 u) :
    Holds h (layerFull i X x3 x4) (layer (2 ^ q.val) W u x) := by
  intro r o
  unfold layerFull
  rw [pay11_at, pay9_full, hi, hu o, hX]
  unfold full
  rw [dot_thrice _ _ _ _ hW]
  simp only [early_at hX q, late_at hX q, hX _ _]
  unfold layer
  rw [add_comm]
  rfl

/-- A layer that reads the centre tap alone is one that looks further than the sequence is long. -/
theorem layerCenter_at {h : Fin 2} {X : Vec Ideal S1024x256 .f32} {x : Act} (hX : Holds h X x) {d : ℕ} (hd : 256 ≤ d)
    {x3 : Vec Ideal S1x768x256 .f32} {W : Taps} (hW : HoldsTaps x3 W) {x4 : Vec Ideal S1x1x256 .f32} {u : Fin 256 → EReal} (hu : HoldsBias x4 u) :
    Holds h (layerCenter X x3 x4) (layer d W u x) := by
  intro r o
  rw [layer_far hd, add_comm, ← hX, ← hu o]
  pointwise [layerCenter, k0_pay10, k0_pay11, rMid]
  refine congrArg (fun z => X (ix2 r o) + max (z + x4 (ix3 0 0 o)) 0) (Finset.sum_congr rfl fun c _ => ?_)
  rw [← hX, ← hW c o 1]
  refine congrArg (fun k => X (ix2 r c) * x3 (ix3 0 k o)) (Fin.ext ?_)
  show 256 + c.val = 1 * 256 + c.val
  omega

/-! ## The first layer's entry, the quantisation, the last layer's exit -/

/-- The activations entered. -/
theorem enter_at {h : Fin 2} {x0 : Vec Ideal S1x1024x32 .f32} {x1 : Vec Ideal S32x256 .f32} {x2 : Vec Ideal S1x256 .f32}
    {a : Fin 8 → Fin 256 → Fin 32 → EReal} {w : Fin 32 → Fin 256 → EReal} {u : Fin 256 → EReal}
    (h0 : ∀ (r : Fin 1024) (c : Fin 32), x0 (ix3 0 r c) = a (bt h r) (tm r) c) (h1 : ∀ (c : Fin 32) (o : Fin 256), x1 (ix2 c o) = w c o) (h2 : ∀ o : Fin 256, x2 (ix2 0 o) = u o) :
    Holds h (enter x0 x1 x2) (enterAct a w u) := by
  intro r o
  pointwise [enter, k0_pay6]
  simp only [h0, h1, h2]
  rfl

/-- A block's rows normalised. -/
theorem pay2_at {h : Fin 2} {X : Vec Ideal S1024x256 .f32} {x : Act} (hX : Holds h X x) {x5 x6 : Vec Ideal S1x256 .f32} {g u : Fin 256 → EReal}
    (h5 : ∀ o : Fin 256, x5 (ix2 0 o) = g o) (h6 : ∀ o : Fin 256, x6 (ix2 0 o) = u o) (r : Fin 1024) (o : Fin 256) :
    k0_pay2 X x5 x6 (ix2 r o) = norm g u (x (bt h r) (tm r)) o := by
  pointwise [k0_pay2]
  simp only [hX _ _, h5, h6]
  rfl

/-- A sum in which one term alone is not masked away. -/
theorem sum_onehot (n : Fin 256) (f : Fin 256 → EReal) :
    ∑ k : Fin 256, (FloatOps.sitofp .f32 (BitVec.setWidth 32 (IntOp.cmpi .eq (BitVec.ofNat 32 k.val) (BitVec.ofNat 32 n.val))) : Ideal .f32) * f k = f n := by
  have hw : ∀ k n : Fin 256, BitVec.setWidth 32 (IntOp.cmpi .eq (BitVec.ofNat 32 k.val) (BitVec.ofNat 32 n.val)) = if k = n then 1#32 else 0#32 := by
    intro k n
    by_cases h : k = n
    · rw [if_pos h, h]
      show BitVec.setWidth 32 (BitVec.ofBool (_ == _)) = _
      rw [beq_self_eq_true]
      rfl
    · rw [if_neg h]
      show BitVec.setWidth 32 (BitVec.ofBool (_ == _)) = _
      rw [beq_false_of_ne (fun e => h (Fin.ext ?_))]
      · rfl
      · have e' := congrArg BitVec.toNat e
        simp only [BitVec.toNat_ofNat] at e'
        omega
  have h1 : (FloatOps.sitofp .f32 1#32 : Ideal .f32) = (1 : EReal) := by
    show (((1#32 : BitVec 32).toInt : ℝ) : EReal) = 1
    simp
  have h0 : (FloatOps.sitofp .f32 0#32 : Ideal .f32) = (0 : EReal) := by
    show (((0#32 : BitVec 32).toInt : ℝ) : EReal) = 0
    simp
  rw [Finset.sum_eq_single n]
  · rw [hw, if_pos rfl, h1, one_mul]
  · intro k _ hk
    rw [hw, if_neg hk, h0, zero_mul]
  · exact fun hn => absurd (Finset.mem_univ n) hn

/-- The activations quantised. -/
theorem vq_at {h : Fin 2} {X : Vec Ideal S1024x256 .f32} {x : Act} (hX : Holds h X x) {x5 x6 : Vec Ideal S1x256 .f32} {g u : Fin 256 → EReal}
    (h5 : ∀ o : Fin 256, x5 (ix2 0 o) = g o) (h6 : ∀ o : Fin 256, x6 (ix2 0 o) = u o)
    {x7 x8 : Vec Ideal S256x256 .f32} {cz : Fin 256 → Fin 256 → EReal} (h7 : ∀ n c : Fin 256, x7 (ix2 n c) = cz n c) (h8 : ∀ n c : Fin 256, x8 (ix2 c n) = cz n c) :
    Holds h (vq X x5 x6 x7 x8) (quantised g u cz x) := by
  intro r o
  have hn := pay2_at hX h5 h6
  have e3 : k0_pay3 X x5 x6 (ix2 r 0) = ∑ c, norm g u (x (bt h r) (tm r)) c * norm g u (x (bt h r) (tm r)) c := by
    simp only [← hn]
    pointwise [k0_pay3]
  have e4 : ∀ n : Fin 256, k0_pay4 x8 x8 (ix2 0 n) = ∑ c, cz n c * cz n c := by
    intro n
    simp only [← h8]
    pointwise [k0_pay4]
  have e5 : ∀ n : Fin 256, k0_pay5 X x5 x6 x8 (ix2 r n) = ∑ c, norm g u (x (bt h r) (tm r)) c * cz n c := by
    intro n
    simp only [← h8, ← hn]
    pointwise [k0_pay5]
  unfold vq
  generalize k0_pay3 X x5 x6 = y3 at e3 ⊢
  generalize k0_pay4 x8 x8 = y4 at e4 ⊢
  generalize k0_pay5 X x5 x6 x8 = y5 at e5 ⊢
  pointwise [k0_pay8]
  rw [Cert.Proof.Nearest.reduceIndex_at (n := nearest (sqDist cz (norm g u (x (bt h r) (tm r)))))]
  · rw [sum_onehot _ (fun k => x7 (ix2 k o)), h7]
    rfl
  · refine cast (congrArg (fun v => FirstLeast v _) ?_) (nearest_spec (sqDist cz (norm g u (x (bt h r) (tm r)))))
    funext n
    symm
    pointwise
    rw [e3, e4, e5]
    rfl

/-- The result of a half. -/
theorem pay1_at {h : Fin 2} {X : Vec Ideal S1024x256 .f32} {x : Act} (hX : Holds h X x) {x9 : Vec Ideal S256x32 .f32} {x10 : Vec Ideal S1x32 .f32}
    {w : Fin 256 → Fin 32 → EReal} {u : Fin 32 → EReal} (h9 : ∀ (c : Fin 256) (o : Fin 32), x9 (ix2 c o) = w c o) (h10 : ∀ o : Fin 32, x10 (ix2 0 o) = u o) (r : Fin 1024) (o : Fin 32) :
    k0_pay1 X x9 x10 (ix3 0 r o) = leave x w u (bt h r) (tm r) o := by
  pointwise [k0_pay1]
  simp only [hX _ _, h9, h10]
  rfl

/-- The dilation a point computes. -/
theorem dil_word : ∀ t : Fin cfg0.N, dilWord (grid0.coords t) = BitVec.ofNat 32 (2 ^ (t.val % 10)) := by
  decide +kernel

end Cert.Proof.KerMath

end
-- ==== Proof.RefMath.lean ====
/- The reference's functions of whole arrays read at an index over the extended reals. -/
module

public import proofs.«01_k».proof.Proof.RefRead
public import proofs.«01_k».proof.Proof.Spec
public import proofs.«01_k».proof.Proof.Nearest
public import Idealize.ShloMosaic.Lib.Pointwise
public import Idealize.ShloMosaic.Lib.DynamicIndex

@[expose] public section

set_option maxRecDepth 16384

noncomputable section

namespace Cert.Proof.RefMath

open Cert.ReferenceIdeal Cert.ReferenceIdeal.Gen Cert.Proof.RefRead Cert.Proof.Spec
open Idealize.ShloMosaic

/-! ## One layer -/

/-- The layer number's word as the layer number. -/
theorem wrap_layer {k : ℕ} (hk : k < 20) (j : S_.Idx) : (wrap (constantI S_ 32 (BitVec.ofNat 32 k)) 20#32 j).toInt = k :=
  toInt_wrap_ofNat k (by omega)

/-- The distance's word. -/
theorem dil_eq {k : ℕ} (hk : k < 20) : dil (constantI S_ 32 (BitVec.ofNat 32 k)) = constantI S_ 32 (BitVec.ofNat 32 (2 ^ (k % 10))) := by
  have h : ∀ k : Fin 20, Host.shli (constantI S_ 32 1#32) (Host.remsi (constantI S_ 32 (BitVec.ofNat 32 k.val)) (constantI S_ 32 10#32)) = constantI S_ 32 (BitVec.ofNat 32 (2 ^ (k.val % 10))) := by
    intro k; funext j
    simp only [constantI, Host.shli, Host.remsi]
    revert k
    decide +kernel
  exact h ⟨k, hk⟩

/-- Where a tap's window starts, for the three taps. -/
theorem start_word : ∀ q : Fin 10, ∀ j : S_.Idx,
    (wrap (addi (constantI S_ 32 512#32) (muli (constantI S_ 32 4294967295#32) (constantI S_ 32 (BitVec.ofNat 32 (2 ^ q.val))))) 1280#32 j).toInt = ((512 - 2 ^ q.val : ℕ) : ℤ)
    ∧ (wrap (addi (constantI S_ 32 512#32) (muli (constantI S_ 32 0#32) (constantI S_ 32 (BitVec.ofNat 32 (2 ^ q.val))))) 1280#32 j).toInt = ((512 : ℕ) : ℤ)
    ∧ (wrap (addi (constantI S_ 32 512#32) (muli (constantI S_ 32 1#32) (constantI S_ 32 (BitVec.ofNat 32 (2 ^ q.val))))) 1280#32 j).toInt = ((512 + 2 ^ q.val : ℕ) : ℤ) := by
  intro q j
  show _ = _ ∧ _ = _ ∧ _ = _
  unfold wrap
  simp only [select, cmpi, addi, muli, constantI]
  revert q
  decide +kernel

/-- A window that starts at `n` reads the padded activations `n` further. -/
theorem window_at (X : FVec Ideal S8x1280x256 .f32) (j : BitVec 32) (d : IVec S_ 32) {n : ℕ} (hn : n ≤ 1024)
    (h : ∀ i : S_.Idx, (wrap (addi (constantI S_ 32 512#32) (muli (constantI S_ 32 j) d)) 1280#32 i).toInt = (n : ℤ)) (b : Fin 8) (t c : Fin 256) :
    window X j d (ix3 b t c) = X (ix3 b ⟨n + t.val, by omega⟩ c) := by
  unfold window
  rw [Host.dynamicSlice_eq_extractStridedSlice S8x256x256 X _ ![0, n, 0] _ (by
    refine ⟨rfl, fun a => ?_⟩
    fin_cases a
    · show 0 + 8 ≤ 8; omega
    · show n + 256 ≤ 1280; omega
    · show 0 + 256 ≤ 256; omega) (by
    intro a
    fin_cases a
    · rfl
    · exact h _
    · rfl)]
  pointwise

theorem padded_at (x : FVec Ideal S8x256x256 .f32) (b : Fin 8) (s : Fin 1280) (c : Fin 256) :
   padded x (ix3 b s c) = if h : 512 ≤ s.val ∧ s.val < 768 then x (ix3 b ⟨s.val - 512, by omega⟩ c) else 0 := by
  pointwise [padded]
  have e : (FloatOps.sitofp FTy.f32 0#32 : Ideal .f32) = 0 := by show ((_ : ℝ) : EReal) = 0; simp
  by_cases h : 512 ≤ s.val ∧ s.val < 768
  · rw [dif_pos ⟨h.1, by omega⟩, dif_pos h]
  · rw [dif_neg (by omega), dif_neg h, e]

theorem layerW_at (W : FVec Ideal S20x256x256x3 .f32) {k : ℕ} (hk : k < 20) (o c : Fin 256) (q : Fin 3) :
    layerW W (constantI S_ 32 (BitVec.ofNat 32 k)) (ix3 o c q) = W (ix4 ⟨k, hk⟩ o c q) := by
  unfold layerW
  rw [Host.dynamicSlice_eq_extractStridedSlice S1x256x256x3 W _ ![k, 0, 0, 0] _ (by
    refine ⟨rfl, fun a => ?_⟩
    fin_cases a
    · show k + 1 ≤ 20; omega
    · show 0 + 256 ≤ 256; omega
    · show 0 + 256 ≤ 256; omega
    · show 0 + 3 ≤ 3; omega) (by
    intro a
    fin_cases a
    · exact wrap_layer hk _
    · rfl
    · rfl
    · rfl)]
  pointwise

theorem layerB_at (B : FVec Ideal S20x256 .f32) {k : ℕ} (hk : k < 20) (o : Fin 256)  :
    layerB B (constantI S_ 32 (BitVec.ofNat 32 k)) (ix1 o) = B (ix2 ⟨k, hk⟩ o) := by
  unfold layerB
  rw [Host.dynamicSlice_eq_extractStridedSlice S1x256 B _ ![k, 0] _ (by
    refine ⟨rfl, fun a => ?_⟩
    fin_cases a
    · show k + 1 ≤ 20; omega
    · show 0 + 256 ≤ 256; omega) (by
    intro a
    fin_cases a
    · exact wrap_layer hk _
    · rfl)]
  pointwise

theorem tapDot_at (y : FVec Ideal S8x256x256 .f32) (w : FVec Ideal S256x256x1 .f32) (b : Fin 8) (t o : Fin 256)  :
    tapDot y w (ix3 b t o) = ∑ c, y (ix3 b t c) * w (ix3 o c 0) := by
  pointwise [tapDot]

/-- The weights of the layers, numbered by naturals. -/
def taps (W : FVec Ideal S20x256x256x3 .f32) (k : ℕ) : Taps := fun o c q => if h : k < 20 then W (ix4 ⟨k, h⟩ o c q) else 0
/-- The biases of the layers, numbered by naturals. -/
def biases (B : FVec Ideal S20x256 .f32) (k : ℕ) : Fin 256 → EReal := fun o => if h : k < 20 then B (ix2 ⟨k, h⟩ o) else 0
/-- An array of activations as a function. -/
def acts (x : FVec Ideal S8x256x256 .f32) : Act := fun b t c => x (ix3 b t c)

/-- The reference's layer is the layer. -/
theorem refLayer_at (W : FVec Ideal S20x256x256x3 .f32) (B : FVec Ideal S20x256 .f32) (x : FVec Ideal S8x256x256 .f32) {k : ℕ} (hk : k < 20) :
    acts (refLayer (constantI S_ 32 (BitVec.ofNat 32 k)) W B x) = layer (2 ^ (k % 10)) (taps W k) (biases B k) (acts x) := by
  funext b t o
  have hd : 2 ^ (k % 10) ≤ 512 := by
    have : k % 10 ≤ 9 := by omega
    calc 2 ^ (k % 10) ≤ 2 ^ 9 := Nat.pow_le_pow_right (by omega) this
      _ = 512 := rfl
  have hs := start_word ⟨k % 10, by omega⟩
  have hw := dil_eq hk
  dsimp only at hs
  generalize 2 ^ (k % 10) = d at hd hs hw ⊢
  have e0 := fun c => (window_at (padded x) 4294967295#32 _ (by omega) (fun i => (hs i).1) b t c)
  have e1 := fun c => (window_at (padded x) 0#32 _ (by omega) (fun i => (hs i).2.1) b t c)
  have e2 := fun c => (window_at (padded x) 1#32 _ (by omega) (fun i => (hs i).2.2) b t c)
  have ew := layerW_at W hk
  have eb := layerB_at B hk
  have n0 : ∀ c, (window (padded x) 4294967295#32 (dil (constantI S_ 32 (BitVec.ofNat 32 k)))) (ix3 b t c) = earlier (d) (acts x) b t c := by
    intro c
    rw [hw, e0, padded_at]
    unfold earlier acts
    by_cases h : d ≤ t.val
    · rw [dif_pos (by dsimp only; omega), if_pos h]
      congr 2
      apply Fin.ext
      show 512 - d + t.val - 512 = t.val - d
      omega
    · rw [dif_neg (by dsimp only; omega), if_neg h]
  have n1 : ∀ c, (window (padded x) 0#32 (dil (constantI S_ 32 (BitVec.ofNat 32 k)))) (ix3 b t c) = acts x b t c := by
    intro c
    rw [hw, e1, padded_at]
    unfold acts
    rw [dif_pos (by dsimp only; omega)]
    congr 2
    apply Fin.ext
    show 512 + t.val - 512 = t.val
    omega
  have n2 : ∀ c, (window (padded x) 1#32 (dil (constantI S_ 32 (BitVec.ofNat 32 k)))) (ix3 b t c) = later (d) (acts x) b t c := by
    intro c
    rw [hw, e2, padded_at]
    unfold later acts
    by_cases h : t.val + d < 256
    · rw [dif_pos (by dsimp only; omega), dif_pos h]
      congr 2
      apply Fin.ext
      show 512 + d + t.val - 512 = t.val + d
      omega
    · rw [dif_neg (by dsimp only; omega), dif_neg h]
  unfold acts refLayer
  generalize window _ _ _ = y0 at n0 ⊢
  generalize window _ _ _ = y1 at n1 ⊢
  generalize window _ _ _ = y2 at n2 ⊢
  generalize layerW _ _ = w at ew ⊢
  generalize layerB _ _ = u at eb ⊢
  pointwise [tapDot]
  simp only [n0, n1, n2, ew, eb]
  unfold layer tap taps biases
  simp only [dif_pos hk]
  rfl

/-! ## The middle -/

/-- A vector of channels as a function. -/
def vec (g : FVec Ideal S256 .f32) : Fin 256 → EReal := fun o => g (ix1 o)
/-- The codebook as a function: code, channel. -/
def codes (cz : FVec Ideal S256x256 .f32) : Fin 256 → Fin 256 → EReal := fun n c => cz (ix2 n c)

/-- The row of batch `b` and time `t` among the reference's rows. -/
def row (b : Fin 8) (t : Fin 256) : Fin 2048 := ⟨b.val * 256 + t.val, by omega⟩

/-- The reference's normalisation. -/
theorem refNorm_at (x : FVec Ideal S8x256x256 .f32) (g u : FVec Ideal S256 .f32) (b : Fin 8) (t o : Fin 256) :
    refNorm x g u (ix2 (row b t) o) = norm (vec g) (vec u) (acts x b t) o := by
  have e : ∀ (h : (row b t).val / 256 < 8) (h' : (row b t).val % 256 < 256) (c : Fin 256), x (ix3 ⟨(row b t).val / 256, h⟩ ⟨(row b t).val % 256, h'⟩ c) = x (ix3 b t c) := by
    intro h h' c
    congr 2 <;> apply Fin.ext <;> simp only [row] <;> omega
  pointwise [refNorm, refCentred, refMean, along, perChannel]
  simp only [e]
  rfl

/-- A positive real factor passes through a finite sum of extended reals. -/
theorem mul_sum_two {ι : Type} (s : Finset ι) (f : ι → EReal) : two * ∑ i ∈ s, f i = ∑ i ∈ s, two * f i := by
  classical
  have h : two = ((2 : ℝ) : EReal) := by
    show Ideal.ofBits .f32 1073741824#32 = _
    simp [Ideal.ofBits, Ideal.ieee, -EReal.coe_mul]; norm_num
  induction s using Finset.induction_on with
  | empty => simp
  | insert a s ha ih => rw [Finset.sum_insert ha, Finset.sum_insert ha, ← ih, h, EReal.left_distrib_of_nonneg_of_ne_top (by norm_num) (EReal.coe_ne_top 2)]

/-- The reference's distances. -/
theorem refDist_at (e : FVec Ideal S2048x256 .f32) (cz : FVec Ideal S256x256 .f32) (r : Fin 2048) (n : Fin 256) :
    refDist e cz (ix2 r n) = sqDist (codes cz) (fun c => e (ix2 r c)) n := by
  pointwise [refDist]
  unfold sqDist codes
  rw [mul_sum_two]
  simp only [mul_assoc]

/-- The codes taken, where the number is in range. -/
theorem refTake_at (cz : FVec Ideal S256x256 .f32) (i : IVec S2048 32) (r : Fin 2048) (o : Fin 256) (n : Fin 256) (hn : i (ix1 r) = BitVec.ofNat 32 n.val) :
    refTake cz (refIndex i) (ix2 r o) = codes cz n o := by
  have hg : ∀ y : IVec S2048x1 32, y (ix2 r 0) = BitVec.ofNat 32 n.val → Host.gather gather_S256x256_S2048x1_S2048x256_1_0_n_n_0_1_1256 cz y (ix2 r o) = cz (ix2 n o) := by
    intro y hy
    unfold Host.gather
    congr 1
    funext a
    refine Fin.ext ?_
    show gather_S256x256_S2048x1_S2048x256_1_0_n_n_0_1_1256.start (ix2 r o) y a + gather_S256x256_S2048x1_S2048x256_1_0_n_n_0_1_1256.batchCoord (ix2 r o) a
      + gather_S256x256_S2048x1_S2048x256_1_0_n_n_0_1_1256.offCoord (ix2 r o) a = _
    have h01 : a = 0 ∨ a = 1 := by
      match a with
      | ⟨0, _⟩ => exact .inl rfl
      | ⟨1, _⟩ => exact .inr rfl
    rcases h01 with rfl | rfl
    · rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ gather_S256x256_S2048x1_S2048x256_1_0_n_n_0_1_1256.startIndexMap from List.mem_singleton.mpr rfl)]
      have hsi : gather_S256x256_S2048x1_S2048x256_1_0_n_n_0_1_1256.siIdx (ix2 r o) ⟨List.idxOf (0 : Fin 2) [0], List.idxOf_lt_length_iff.2 (List.mem_singleton.mpr rfl)⟩ = ix2 r 0 := by
        funext b; refine Fin.ext ?_
        match b with
        | ⟨0, _⟩ => rfl
        | ⟨1, _⟩ => rfl
      refine (congrArg (fun q => min (y q).toInt.toNat 255) hsi).trans ?_
      rw [hy, Cert.Proof.Nearest.toInt_small]
      show min n.val 255 = n.val
      omega
    · rw [GatherDims.batchCoord_eq_zero _ _ _ List.not_mem_nil]
      unfold GatherDims.start
      rw [dif_neg (show ¬ (1 : Fin 2) ∈ gather_S256x256_S2048x1_S2048x256_1_0_n_n_0_1_1256.startIndexMap from fun h => absurd (List.mem_singleton.mp h) (by decide))]
      unfold GatherDims.offCoord
      rw [dif_pos (show (1 : Fin 2) ∈ gather_S256x256_S2048x1_S2048x256_1_0_n_n_0_1_1256.sKept from (GatherDims.mem_sKept _ _).mpr ⟨fun h => absurd (List.mem_singleton.mp h) (by decide), List.not_mem_nil⟩)]
      show 0 + 0 + o.val = o.val
      omega
  have hs : ∀ n : Fin 256, Scalar.select (IntOp.cmpi CmpIPredicate.slt (BitVec.ofNat 32 n.val) 0#32) (IntOp.addi (BitVec.ofNat 32 n.val) 256#32) (BitVec.ofNat 32 n.val) = BitVec.ofNat 32 n.val := by
    decide +kernel
  have hr : ∀ n : Fin 256, IntOp.andi (IntOp.cmpi CmpIPredicate.sge (BitVec.ofNat 32 n.val) 0#32) (IntOp.cmpi CmpIPredicate.sle (BitVec.ofNat 32 n.val) 255#32) = 1#1 := by
    decide +kernel
  have hi : ∀ k : Fin 1, refIndex i (ix2 r k) = BitVec.ofNat 32 n.val := by
    intro k
    pointwise [refIndex]
    rw [hn]
    exact hs n
  have hg := hg _ (hi 0)
  unfold refTake
  generalize Host.gather gather_S256x256_S2048x1_S2048x256_1_0_n_n_0_1_1256 cz (refIndex i) = y at hg ⊢
  generalize refIndex i = q at hi ⊢
  pointwise
  simp only [hi, hr]
  exact hg

/-- The reference's middle stretch: the quantised activations, where the normalised rows are finite. -/
theorem refMid_at (x : FVec Ideal S8x256x256 .f32) (g u : FVec Ideal S256 .f32) (cz : FVec Ideal S256x256 .f32)
    (hfin : ∀ b t o, ∃ q : ℝ, norm (vec g) (vec u) (acts x b t) o = q) :
    acts (refMid x g u cz) = quantised (vec g) (vec u) (codes cz) (acts x) := by
  funext b t o
  have e1 := refNorm_at x g u b t
  have e2 : (fun n => refDist (refNorm x g u) cz (ix2 (row b t) n)) = sqDist (codes cz) (norm (vec g) (vec u) (acts x b t)) := by
    funext n
    rw [refDist_at]
    congr 1
    funext c
    exact e1 c
  have e3 := Cert.Proof.Nearest.refNearest_at (refDist (refNorm x g u) cz) (row b t) (n := nearest (sqDist (codes cz) (norm (vec g) (vec u) (acts x b t)))) (by
    rw [e2]; exact nearest_spec _)
  have e4 := refTake_at cz _ (row b t) o _ e3
  show refMid x g u cz (ix3 b t o) = _
  unfold refMid
  generalize refTake (F := Ideal) _ _ = z at e4 ⊢
  generalize refNorm x g u = e at e1 ⊢
  pointwise [refThrough]
  show e (ix2 (row b t) o) + (z (ix2 (row b t) o) - e (ix2 (row b t) o)) = _
  rw [e4, e1]
  obtain ⟨q, hq⟩ := hfin b t o
  rw [hq]
  unfold quantised
  generalize codes cz _ o = w
  induction w with
  | bot => rw [EReal.bot_sub, EReal.add_bot]
  | top => rw [EReal.top_sub_coe, EReal.coe_add_top]
  | coe w => rw [← EReal.coe_sub, ← EReal.coe_add, add_sub_cancel]

/-- The reference's input projection. -/
theorem refEnter_at (a : FVec Ideal S8x256x32 .f32) (w : FVec Ideal S32x256 .f32) (u : FVec Ideal S256 .f32) :
    acts (refEnter a w u) = enterAct (fun b t c => a (ix3 b t c)) (fun c o => w (ix2 c o)) (vec u) := by
  funext b t o
  unfold acts
  pointwise [refEnter]
  rfl

/-- The reference's output projection: half `h`, row `r` is batch `4h + r / 256`, time `r % 256`. -/
theorem refOut_at (x : FVec Ideal S8x256x256 .f32) (w : FVec Ideal S256x32 .f32) (u : FVec Ideal S32 .f32) (h : Fin 2) (r : Fin 1024) (o : Fin 32) :
    refOut x w u (ix3 h r o) = leave (acts x) (fun c o => w (ix2 c o)) (fun o => u (ix1 o)) ⟨h.val * 4 + r.val / 256, by omega⟩ ⟨r.val % 256, by omega⟩ o := by
  pointwise [refOut]
  rfl

end Cert.Proof.RefMath

end
-- ==== Proof.KerValue.lean ====
/- The kernel's result over the extended reals: the blocks the grid reads as pieces of the arguments, the carried activations
   after every point as the model's activations, and the result array. -/
module

public import proofs.«01_k».proof.Proof.Run
public import proofs.«01_k».proof.Proof.KerMath
public import proofs.«01_k».proof.Proof.RefMath
public import Idealize.ShloMosaic.Lib.Pipeline.ValueKit
public import Idealize.ShloMosaic.Lib.StableHlo.RunClose

@[expose] public section

set_option maxRecDepth 16384

noncomputable section

namespace Cert.Proof.KerValue

open Cert.KernelIdeal Cert.KernelIdeal.Gen Cert.Proof.Body Cert.Proof.Run Cert.Proof.Spec Cert.Proof.KerMath
open Cert.Proof.RefMath (taps biases vec codes acts)
open Idealize.ShloMosaic Idealize.ShloMosaic.TcCoe Idealize.ShloMosaic.StableHlo

variable (m : (ℓ : Loc nD τ sig) → Buf (Elt Ideal) ℓ) (c : Dev nD)

/-! ## The arrays the grid finds -/

/-- The actions. -/
abbrev a0 : FVec Ideal S8x256x32 .f32 := m ((c : Thread nD τ).loc main_arg0)
/-- The input projection. -/
abbrev a1 : FVec Ideal S32x256 .f32 := m ((c : Thread nD τ).loc main_arg1)
/-- The input projection's bias. -/
abbrev a2 : FVec Ideal S256 .f32 := m ((c : Thread nD τ).loc main_arg2)
/-- The encoder's convolutions. -/
abbrev a3 : FVec Ideal S20x256x256x3 .f32 := m ((c : Thread nD τ).loc main_arg3)
/-- The encoder's biases. -/
abbrev a4 : FVec Ideal S20x256 .f32 := m ((c : Thread nD τ).loc main_arg4)
/-- The normalisation's gains. -/
abbrev a5 : FVec Ideal S256 .f32 := m ((c : Thread nD τ).loc main_arg5)
/-- The normalisation's offsets. -/
abbrev a6 : FVec Ideal S256 .f32 := m ((c : Thread nD τ).loc main_arg6)
/-- The codes. -/
abbrev a7 : FVec Ideal S256x256 .f32 := m ((c : Thread nD τ).loc main_arg7)
/-- The decoder's convolutions. -/
abbrev a9 : FVec Ideal S20x256x256x3 .f32 := m ((c : Thread nD τ).loc main_arg9)
/-- The decoder's biases. -/
abbrev a10 : FVec Ideal S20x256 .f32 := m ((c : Thread nD τ).loc main_arg10)
/-- The output projection. -/
abbrev a11 : FVec Ideal S256x32 .f32 := m ((c : Thread nD τ).loc main_arg11)
/-- The output projection's bias. -/
abbrev a12 : FVec Ideal S32 .f32 := m ((c : Thread nD τ).loc main_arg12)

/-- The convolutions of all forty layers: rows are tap and input channel, columns output channels. -/
theorem V_v2 : V m c main_v2 = shapeCast (α := Ideal .f32) S40x768x256 (transpose S40x3x256x256 [0, 3, 2, 1]
    (concatenate S40x256x256x3 0 [⟨S20x256x256x3, a3 m c⟩, ⟨S20x256x256x3, a9 m c⟩] concatenates_S20x256x256x3_S20x256x256x3_S40x256x256x3_d0)
    transposes_S40x256x256x3_S40x3x256x256_0_3_2_1) shapeCasts_S40x3x256x256_S40x768x256 := by
  simp only [V, hostOps0, List.flatten_cons, List.flatten_nil, List.append_nil, List.cons_append, List.nil_append]
  after_results_simp_entrywise
  rfl
/-- The biases of all forty layers. -/
theorem V_v4 : V m c main_v4 = shapeCast (α := Ideal .f32) S40x1x256 (concatenate S40x256 0 [⟨S20x256, a4 m c⟩, ⟨S20x256, a10 m c⟩] concatenates_S20x256_S20x256_S40x256_d0) shapeCasts_S40x256_S40x1x256 := by
  simp only [V, hostOps0, List.flatten_cons, List.flatten_nil, List.append_nil, List.cons_append, List.nil_append]
  after_results_simp_entrywise
  rfl
/-- The actions, half by half. -/
theorem V_v5 : V m c main_v5 = shapeCast (α := Ideal .f32) S2x1024x32 (a0 m c) shapeCasts_S8x256x32_S2x1024x32 := by
  simp only [V, hostOps0, List.flatten_cons, List.flatten_nil, List.append_nil, List.cons_append, List.nil_append]
  after_results_simp_entrywise
  rfl
/-- The input projection's bias as a row. -/
theorem V_v6 : V m c main_v6 = shapeCast (α := Ideal .f32) S1x256 (a2 m c) shapeCasts_S256_S1x256 := by
  simp only [V, hostOps0, List.flatten_cons, List.flatten_nil, List.append_nil, List.cons_append, List.nil_append]
  after_results_simp_entrywise
  rfl
/-- The gains as a row. -/
theorem V_v7 : V m c main_v7 = shapeCast (α := Ideal .f32) S1x256 (a5 m c) shapeCasts_S256_S1x256 := by
  simp only [V, hostOps0, List.flatten_cons, List.flatten_nil, List.append_nil, List.cons_append, List.nil_append]
  after_results_simp_entrywise
  rfl
/-- The offsets as a row. -/
theorem V_v8 : V m c main_v8 = shapeCast (α := Ideal .f32) S1x256 (a6 m c) shapeCasts_S256_S1x256 := by
  simp only [V, hostOps0, List.flatten_cons, List.flatten_nil, List.append_nil, List.cons_append, List.nil_append]
  after_results_simp_entrywise
  rfl
/-- The codes transposed. -/
theorem V_v9 : V m c main_v9 = transpose S256x256 [1, 0] (a7 m c) transposes_S256x256_S256x256_1_0 := by
  simp only [V, hostOps0, List.flatten_cons, List.flatten_nil, List.append_nil, List.cons_append, List.nil_append]
  after_results_simp_entrywise
  try rfl
/-- The output projection's bias as a row. -/
theorem V_v10 : V m c main_v10 = shapeCast (α := Ideal .f32) S1x32 (a12 m c) shapeCasts_S32_S1x32 := by
  simp only [V, hostOps0, List.flatten_cons, List.flatten_nil, List.append_nil, List.cons_append, List.nil_append]
  after_results_simp_entrywise
  rfl

/-! ## The blocks at a point -/

theorem idx_0 : ∀ t, win0_0.index t = ![t.val / 40, 0, 0] := by decide +kernel
theorem idx_1 : ∀ t, win0_1.index t = ![0, 0] := by decide +kernel
theorem idx_2 : ∀ t, win0_2.index t = ![0, 0] := by decide +kernel
theorem idx_3 : ∀ t, win0_3.index t = ![t.val % 40, 0, 0] := by decide +kernel
theorem idx_4 : ∀ t, win0_4.index t = ![t.val % 40, 0, 0] := by decide +kernel
theorem idx_5 : ∀ t, win0_5.index t = ![0, 0] := by decide +kernel
theorem idx_6 : ∀ t, win0_6.index t = ![0, 0] := by decide +kernel
theorem idx_7 : ∀ t, win0_7.index t = ![0, 0] := by decide +kernel
theorem idx_8 : ∀ t, win0_8.index t = ![0, 0] := by decide +kernel
theorem idx_9 : ∀ t, win0_9.index t = ![0, 0] := by decide +kernel
theorem idx_10 : ∀ t, win0_10.index t = ![0, 0] := by decide +kernel
theorem idx_11 : ∀ t, win0_11.index t = ![t.val / 40, 0, 0] := by decide +kernel

/-- The half of the batch a point works on. -/
abbrev half (t : Fin cfg0.N) : Fin 2 := ⟨t.val / 40, by have : t.val < 80 := t.isLt; omega⟩

/-- The half's actions. -/
theorem blk_0 (t : Fin cfg0.N) (r : Fin 1024) (o : Fin 32) : iblk m c 0 t (ix3 0 r o) = a0 m c (ix3 (bt (half t) r) (tm r) o) := by
  have e : iblk m c 0 t (ix3 0 r o) = V m c main_v5 (ix3 (half t) r o) := by
    blk_simp [iblk]
    refine congrArg (V m c main_v5) ?_
    blk_ext [idx_0 t]
  rw [e, V_v5]
  pointwise
/-- The input projection. -/
theorem blk_1 (t : Fin cfg0.N) (k : Fin 32) (o : Fin 256) : iblk m c 1 t (ix2 k o) = a1 m c (ix2 k o) := by
  have e : iblk m c 1 t (ix2 k o) = V m c main_arg1 (ix2 k o) := by
    blk_simp [iblk]
    refine congrArg (V m c main_arg1) ?_
    blk_ext [idx_1 t]
  rw [e, V_main_arg1]
/-- The input projection's bias. -/
theorem blk_2 (t : Fin cfg0.N) (o : Fin 256) : iblk m c 2 t (ix2 0 o) = vec (a2 m c) o := by
  have e : iblk m c 2 t (ix2 0 o) = V m c main_v6 (ix2 0 o) := by
    blk_simp [iblk]
    refine congrArg (V m c main_v6) ?_
    blk_ext [idx_2 t]
  rw [e, V_v6]
  pointwise
  rfl
/-- The gains. -/
theorem blk_5 (t : Fin cfg0.N) (o : Fin 256) : iblk m c 5 t (ix2 0 o) = vec (a5 m c) o := by
  have e : iblk m c 5 t (ix2 0 o) = V m c main_v7 (ix2 0 o) := by
    blk_simp [iblk]
    refine congrArg (V m c main_v7) ?_
    blk_ext [idx_5 t]
  rw [e, V_v7]
  pointwise
  rfl
/-- The offsets. -/
theorem blk_6 (t : Fin cfg0.N) (o : Fin 256) : iblk m c 6 t (ix2 0 o) = vec (a6 m c) o := by
  have e : iblk m c 6 t (ix2 0 o) = V m c main_v8 (ix2 0 o) := by
    blk_simp [iblk]
    refine congrArg (V m c main_v8) ?_
    blk_ext [idx_6 t]
  rw [e, V_v8]
  pointwise
  rfl
/-- The codes. -/
theorem blk_7 (t : Fin cfg0.N) (k : Fin 256) (o : Fin 256) : iblk m c 7 t (ix2 k o) = codes (a7 m c) k o := by
  have e : iblk m c 7 t (ix2 k o) = V m c main_arg7 (ix2 k o) := by
    blk_simp [iblk]
    refine congrArg (V m c main_arg7) ?_
    blk_ext [idx_7 t]
  rw [e, V_main_arg7]
  rfl
/-- The codes transposed. -/
theorem blk_8 (t : Fin cfg0.N) (k : Fin 256) (o : Fin 256) : iblk m c 8 t (ix2 k o) = codes (a7 m c) o k := by
  have e : iblk m c 8 t (ix2 k o) = V m c main_v9 (ix2 k o) := by
    blk_simp [iblk]
    refine congrArg (V m c main_v9) ?_
    blk_ext [idx_8 t]
  rw [e, V_v9]
  pointwise
  rfl
/-- The output projection. -/
theorem blk_9 (t : Fin cfg0.N) (k : Fin 256) (o : Fin 32) : iblk m c 9 t (ix2 k o) = a11 m c (ix2 k o) := by
  have e : iblk m c 9 t (ix2 k o) = V m c main_arg11 (ix2 k o) := by
    blk_simp [iblk]
    refine congrArg (V m c main_arg11) ?_
    blk_ext [idx_9 t]
  rw [e, V_main_arg11]
/-- The output projection's bias. -/
theorem blk_10 (t : Fin cfg0.N) (o : Fin 32) : iblk m c 10 t (ix2 0 o) = a12 m c (ix1 o) := by
  have e : iblk m c 10 t (ix2 0 o) = V m c main_v10 (ix2 0 o) := by
    blk_simp [iblk]
    refine congrArg (V m c main_v10) ?_
    blk_ext [idx_10 t]
  rw [e, V_v10]
  pointwise
/-- The layer's convolution, where it is the encoder's. -/
theorem blk_3_en (t : Fin cfg0.N) (ht : t.val % 40 < 20) : HoldsTaps (iblk m c 3 t) (taps (a3 m c) (t.val % 40)) := by
  intro k o q
  have e : iblk m c 3 t (ix3 0 (⟨q.val * 256 + k.val, by omega⟩ : Fin 768) o) = V m c main_v2 (ix3 (⟨t.val % 40, by omega⟩ : Fin 40) (⟨q.val * 256 + k.val, by omega⟩ : Fin 768) o) := by
    blk_simp [iblk]
    refine congrArg (V m c main_v2) ?_
    blk_ext [idx_3 t]
  rw [e, V_v2]
  pointwise
  unfold taps
  rw [dif_pos ht, dif_pos ht]
/-- The layer's bias, where it is the encoder's. -/
theorem blk_4_en (t : Fin cfg0.N) (ht : t.val % 40 < 20) : HoldsBias (iblk m c 4 t) (biases (a4 m c) (t.val % 40)) := by
  intro o
  have e : iblk m c 4 t (ix3 0 0 o) = V m c main_v4 (ix3 (⟨t.val % 40, by omega⟩ : Fin 40) 0 o) := by
    blk_simp [iblk]
    refine congrArg (V m c main_v4) ?_
    blk_ext [idx_4 t]
  rw [e, V_v4]
  pointwise
  unfold biases
  rw [dif_pos ht, dif_pos ht]
/-- The layer's convolution, where it is the decoder's. -/
theorem blk_3_de (t : Fin cfg0.N) (ht : ¬ t.val % 40 < 20) : HoldsTaps (iblk m c 3 t) (taps (a9 m c) (t.val % 40 - 20)) := by
  intro k o q
  have e : iblk m c 3 t (ix3 0 (⟨q.val * 256 + k.val, by omega⟩ : Fin 768) o) = V m c main_v2 (ix3 (⟨t.val % 40, by omega⟩ : Fin 40) (⟨q.val * 256 + k.val, by omega⟩ : Fin 768) o) := by
    blk_simp [iblk]
    refine congrArg (V m c main_v2) ?_
    blk_ext [idx_3 t]
  rw [e, V_v2]
  pointwise
  unfold taps
  rw [dif_neg ht, dif_pos (by omega)]
/-- The layer's bias, where it is the decoder's. -/
theorem blk_4_de (t : Fin cfg0.N) (ht : ¬ t.val % 40 < 20) : HoldsBias (iblk m c 4 t) (biases (a10 m c) (t.val % 40 - 20)) := by
  intro o
  have e : iblk m c 4 t (ix3 0 0 o) = V m c main_v4 (ix3 (⟨t.val % 40, by omega⟩ : Fin 40) 0 o) := by
    blk_simp [iblk]
    refine congrArg (V m c main_v4) ?_
    blk_ext [idx_4 t]
  rw [e, V_v4]
  pointwise
  unfold biases
  rw [dif_neg ht, dif_pos (by omega)]

/-! ## The carried activations -/

/-- The model's activations before the encoder's layers. -/
def entered : Act := enterAct (fun b t k => a0 m c (ix3 b t k)) (fun k o => a1 m c (ix2 k o)) (vec (a2 m c))
/-- The model's activations after `n` encoder layers. -/
def encoded (n : ℕ) : Act := stack (taps (a3 m c)) (biases (a4 m c)) (entered m c) n
/-- The model's activations after `n` decoder layers. -/
def decoded (n : ℕ) : Act := stack (taps (a9 m c)) (biases (a10 m c)) (quantised (vec (a5 m c)) (vec (a6 m c)) (codes (a7 m c)) (encoded m c 20)) n

/-- The activations after layer `l` of the forty. -/
def afterLayer (l : ℕ) : Act := if l < 20 then encoded m c (l + 1) else decoded m c (l - 19)

theorem afterLayer_en {l : ℕ} (h : l < 20) : afterLayer m c l = layer (2 ^ (l % 10)) (taps (a3 m c) l) (biases (a4 m c) l) (encoded m c l) := by
  unfold afterLayer; rw [if_pos h]; rfl
theorem afterLayer_de {l : ℕ} (h : ¬ l < 20) : afterLayer m c l = layer (2 ^ (l % 10)) (taps (a9 m c) (l - 20)) (biases (a10 m c) (l - 20)) (decoded m c (l - 20)) := by
  unfold afterLayer
  rw [if_neg h, show l - 19 = (l - 20) + 1 by omega, show l % 10 = (l - 20) % 10 by omega]
  rfl

/-- What a point leaves, of what it finds: the next layer's activations. -/
theorem step_at (t : Fin cfg0.N) (X : Vec Ideal S1024x256 .f32) (hX : t.val % 40 ≠ 0 → Holds (half t) X (afterLayer m c (t.val % 40 - 1))) :
    Holds (half t) (stepAt m c t X) (afterLayer m c (t.val % 40)) := by
  have hd := dil_word t
  have hm : t.val % 40 % 10 = t.val % 10 := by omega
  have full : ∀ {Y : Vec Ideal S1024x256 .f32} {x : Act}, Holds (half t) Y x → t.val % 10 < 8 → ∀ {W : Taps} {u : Fin 256 → EReal}, HoldsTaps (iblk m c 3 t) W → HoldsBias (iblk m c 4 t) u →
      Holds (half t) (layerFull (grid0.coords t) Y (iblk m c 3 t) (iblk m c 4 t)) (layer (2 ^ (t.val % 10)) W u x) :=
    fun hY h8 _ _ hW hu => layerFull_at hY ⟨t.val % 10, h8⟩ hd hW hu
  have far : ∀ {Y : Vec Ideal S1024x256 .f32} {x : Act}, Holds (half t) Y x → ¬ t.val % 10 < 8 → ∀ {W : Taps} {u : Fin 256 → EReal}, HoldsTaps (iblk m c 3 t) W → HoldsBias (iblk m c 4 t) u →
      Holds (half t) (layerCenter Y (iblk m c 3 t) (iblk m c 4 t)) (layer (2 ^ (t.val % 10)) W u x) := by
    intro Y x hY h8 W u hW hu
    refine layerCenter_at hY ?_ hW hu
    calc 256 = 2 ^ 8 := by norm_num
      _ ≤ 2 ^ (t.val % 10) := Nat.pow_le_pow_right (by norm_num) (by omega)
  by_cases h20 : t.val % 40 < 20
  · rw [afterLayer_en m c h20, hm]
    by_cases h0 : t.val % 40 = 0
    · unfold stepAt
      rw [if_pos h0, h0]
      have := full (enter_at (a := fun b t k => a0 m c (ix3 b t k)) (w := fun k o => a1 m c (ix2 k o)) (blk_0 m c t) (blk_1 m c t) (blk_2 m c t)) (by omega) (blk_3_en m c t h20) (blk_4_en m c t h20)
      rw [h0] at this
      exact this
    · have hp := hX h0
      unfold afterLayer at hp
      rw [if_pos (by omega), Nat.sub_add_cancel (by omega)] at hp
      unfold stepAt
      rw [if_neg h0, if_neg (by omega)]
      by_cases h8 : t.val % 10 < 8
      · rw [if_pos h8]
        exact full hp h8 (blk_3_en m c t h20) (blk_4_en m c t h20)
      · rw [if_neg h8]
        exact far hp h8 (blk_3_en m c t h20) (blk_4_en m c t h20)
  · rw [afterLayer_de m c h20, hm]
    have h0 : t.val % 40 ≠ 0 := by omega
    have hp := hX h0
    unfold afterLayer at hp
    unfold stepAt
    rw [if_neg h0]
    by_cases hq : t.val % 40 = 20
    · rw [if_pos (by omega), hq] at hp
      rw [if_pos hq]
      have := full (vq_at hp (blk_5 m c t) (blk_6 m c t) (blk_7 m c t) (fun n k => blk_8 m c t k n)) (by omega) (blk_3_de m c t h20) (blk_4_de m c t h20)
      rw [hq] at this ⊢
      exact this
    · rw [if_neg (by omega), show t.val % 40 - 1 - 19 = t.val % 40 - 20 by omega] at hp
      rw [if_neg hq]
      by_cases h8 : t.val % 10 < 8
      · rw [if_pos h8]
        exact full hp h8 (blk_3_de m c t h20) (blk_4_de m c t h20)
      · rw [if_neg h8]
        exact far hp h8 (blk_3_de m c t h20) (blk_4_de m c t h20)

/-- The carried activations after every point. -/
theorem traj_at : ∀ (n : ℕ) (hn : n < cfg0.N), Holds (half ⟨n, hn⟩) (traj m c (n + 1)) (afterLayer m c (n % 40)) := by
  intro n
  induction n with
  | zero =>
    intro hn
    rw [traj_succ m c ⟨0, hn⟩]
    exact step_at m c ⟨0, hn⟩ _ (fun h => absurd rfl h)
  | succ n ih =>
    intro hn
    rw [traj_succ m c ⟨n + 1, hn⟩]
    refine step_at m c ⟨n + 1, hn⟩ _ fun h => ?_
    have hp := ih (by omega)
    dsimp only at h ⊢
    have e1 : half ⟨n + 1, hn⟩ = half ⟨n, by omega⟩ := Fin.ext (by show (n + 1) / 40 = n / 40; omega)
    rw [e1, show (n + 1) % 40 - 1 = n % 40 by omega]
    exact hp

/-! ## The result -/

/-- The model's result. -/
def result : FVec Ideal S2x1024x32 .f32 := fun i =>
  leave (decoded m c 20) (fun k o => a11 m c (ix2 k o)) (fun o => a12 m c (ix1 o)) (bt (i 0) (i 1)) (tm (i 1)) (i 2)

/-- The result array: the model's result. -/
theorem out_eq : (dats m 0 c).arrAt 11 cfg0.N = result m c := by
  refine (dats m 0 c).arrAt_eq_of_covers 11 _ (by decide +kernel) fun t hf y => ?_
  have h39 := (flush0_11 t).mp hf
  blk_simp
  rw [after0_11]
  have key : ∀ (r : Fin 1024) (o : Fin 32), outAt m c t (ix3 0 r o) = result m c (ix3 (half t) r o) := by
    intro r o
    have hX := traj_at m c t.val t.isLt
    rw [h39] at hX
    exact pay1_at (x := decoded m c 20) hX (w := fun k o => a11 m c (ix2 k o)) (u := fun o => a12 m c (ix1 o)) (blk_9 m c t) (blk_10 m c t) r o
  obtain ⟨z, r, o, rfl⟩ : ∃ (z : Fin 1) (r : Fin 1024) (o : Fin 32), y = ix3 z r o := ⟨y 0, y 1, y 2, by funext a; match a with | ⟨0, _⟩ => rfl | ⟨1, _⟩ => rfl | ⟨2, _⟩ => rfl⟩
  obtain rfl : z = 0 := Subsingleton.elim _ _
  refine (key r o).trans (congrArg (result m c) ?_)
  symm
  blk_ext [idx_11 t]

end Cert.Proof.KerValue

end
-- ==== Proof.RefValue.lean ====
/- The reference's result over the extended reals: the activations after every trip of its two loops as the model's, and the
   result array. -/
module

public import proofs.«01_k».proof.Proof.RefRun
public import proofs.«01_k».proof.Proof.RefMath

@[expose] public section

set_option maxRecDepth 16384

noncomputable section

namespace Cert.Proof.RefValue

open Cert.ReferenceIdeal Cert.ReferenceIdeal.Gen Cert.Proof.RefRun Cert.ReferenceIdeal.Chain Cert.Proof.RefRead Cert.Proof.RefMath Cert.Proof.Spec
open Idealize.ShloMosaic Idealize.ShloMosaic.TcCoe Idealize.ShloMosaic.StableHlo

variable (m : (ℓ : Loc nD τ sig) → Buf (Elt Ideal) ℓ) (c : Dev nD)

/-- The actions. -/
abbrev a0 : FVec Ideal S8x256x32 .f32 := m ((c.tc : Thread nD τ).loc main_arg0)
/-- The input projection. -/
abbrev a1 : FVec Ideal S32x256 .f32 := m ((c.tc : Thread nD τ).loc main_arg1)
/-- The input projection's bias. -/
abbrev a2 : FVec Ideal S256 .f32 := m ((c.tc : Thread nD τ).loc main_arg2)
/-- The encoder's convolutions. -/
abbrev a3 : FVec Ideal S20x256x256x3 .f32 := m ((c.tc : Thread nD τ).loc main_arg3)
/-- The encoder's biases. -/
abbrev a4 : FVec Ideal S20x256 .f32 := m ((c.tc : Thread nD τ).loc main_arg4)
/-- The normalisation's gains. -/
abbrev a5 : FVec Ideal S256 .f32 := m ((c.tc : Thread nD τ).loc main_arg5)
/-- The normalisation's offsets. -/
abbrev a6 : FVec Ideal S256 .f32 := m ((c.tc : Thread nD τ).loc main_arg6)
/-- The codes. -/
abbrev a7 : FVec Ideal S256x256 .f32 := m ((c.tc : Thread nD τ).loc main_arg7)
/-- The decoder's convolutions. -/
abbrev a9 : FVec Ideal S20x256x256x3 .f32 := m ((c.tc : Thread nD τ).loc main_arg9)
/-- The decoder's biases. -/
abbrev a10 : FVec Ideal S20x256 .f32 := m ((c.tc : Thread nD τ).loc main_arg10)
/-- The output projection. -/
abbrev a11 : FVec Ideal S256x32 .f32 := m ((c.tc : Thread nD τ).loc main_arg11)
/-- The output projection's bias. -/
abbrev a12 : FVec Ideal S32 .f32 := m ((c.tc : Thread nD τ).loc main_arg12)

/-- The model's activations before the encoder's layers. -/
def entered : Act := enterAct (fun b t k => a0 m c (ix3 b t k)) (fun k o => a1 m c (ix2 k o)) (vec (a2 m c))
/-- The model's activations after `n` encoder layers. -/
def encoded (n : ℕ) : Act := stack (taps (a3 m c)) (biases (a4 m c)) (entered m c) n
/-- The model's activations after `n` decoder layers. -/
def decoded (n : ℕ) : Act := stack (taps (a9 m c)) (biases (a10 m c)) (quantised (vec (a5 m c)) (vec (a6 m c)) (codes (a7 m c)) (encoded m c 20)) n

/-- The encoder's convolutions before every trip. -/
theorem at0_0 (k : ℕ) : (at0 m k c (Proc.devRef .tc main_v4_0) : FVec Ideal S20x256x256x3 .f32) = a3 m c := by
  unfold at0
  rw [atTrip_unwritten trip0_0 c k]
  unfold W0
  rw [pre_0]
/-- The encoder's biases before every trip. -/
theorem at0_1 (k : ℕ) : (at0 m k c (Proc.devRef .tc main_v4_1) : FVec Ideal S20x256 .f32) = a4 m c := by
  unfold at0
  rw [atTrip_unwritten trip0_1 c k]
  unfold W0
  rw [pre_1]
/-- The encoder's activations before trip `k`. -/
theorem at0_4 : ∀ k, k ≤ 20 → acts (at0 m k c (Proc.devRef .tc main_v4_4)) = encoded m c k
  | 0, _ => by
    have h : (at0 m 0 c (Proc.devRef .tc main_v4_4) : FVec Ideal S8x256x256 .f32) = refEnter (a0 m c) (a1 m c) (a2 m c) := pre_4 (launchContents m c)
    exact (congrArg acts h).trans (refEnter_at _ _ _)
  | k + 1, hk => by
    have h : (at0 m (k + 1) c (Proc.devRef .tc main_v4_4) : FVec Ideal S8x256x256 .f32) = refLayer (F := Ideal) (at0 m k c (Proc.devRef .tc main_v4_3)) (at0 m k c (Proc.devRef .tc main_v4_0)) (at0 m k c (Proc.devRef .tc main_v4_1)) (at0 m k c (Proc.devRef .tc main_v4_4)) := by
      unfold at0
      rw [atTrip_succ]
      exact trip0 _
    rw [count0_3 m c k, at0_0, at0_1] at h
    refine (congrArg acts h).trans ?_
    rw [refLayer_at _ _ _ (by omega), at0_4 k (by omega)]
    rfl

/-- An argument the encoder's loop leaves unchanged. -/
theorem mid_arg5 : after cond0 (at0 m 20 c) (Proc.devRef .tc main_arg5) = m ((c.tc : Thread nD τ).loc main_arg5) := by
  have h0 : ∀ V : Valuation τ sig (Elt Ideal), afterL body0 (after cond0 V) (Proc.devRef .tc main_arg5) = V (Proc.devRef .tc main_arg5) := fun V => by
    simp only [afterL_cons, afterL_nil]; after_reads_simp
  have hc : ∀ V : Valuation τ sig (Elt Ideal), after cond0 V (Proc.devRef .tc main_arg5) = V (Proc.devRef .tc main_arg5) := fun V => by
    after_reads_simp
  have hi : ∀ V : Valuation τ sig (Elt Ideal), afterL preI V (Proc.devRef .tc main_arg5) = V (Proc.devRef .tc main_arg5) := fun V => by
    simp only [afterL_cons, afterL_nil]; after_reads_simp
  rw [hc]
  unfold at0
  rw [atTrip_unwritten h0]
  unfold W0
  rw [hi]
/-- An argument the encoder's loop leaves unchanged. -/
theorem mid_arg6 : after cond0 (at0 m 20 c) (Proc.devRef .tc main_arg6) = m ((c.tc : Thread nD τ).loc main_arg6) := by
  have h0 : ∀ V : Valuation τ sig (Elt Ideal), afterL body0 (after cond0 V) (Proc.devRef .tc main_arg6) = V (Proc.devRef .tc main_arg6) := fun V => by
    simp only [afterL_cons, afterL_nil]; after_reads_simp
  have hc : ∀ V : Valuation τ sig (Elt Ideal), after cond0 V (Proc.devRef .tc main_arg6) = V (Proc.devRef .tc main_arg6) := fun V => by
    after_reads_simp
  have hi : ∀ V : Valuation τ sig (Elt Ideal), afterL preI V (Proc.devRef .tc main_arg6) = V (Proc.devRef .tc main_arg6) := fun V => by
    simp only [afterL_cons, afterL_nil]; after_reads_simp
  rw [hc]
  unfold at0
  rw [atTrip_unwritten h0]
  unfold W0
  rw [hi]
/-- An argument the encoder's loop leaves unchanged. -/
theorem mid_arg7 : after cond0 (at0 m 20 c) (Proc.devRef .tc main_arg7) = m ((c.tc : Thread nD τ).loc main_arg7) := by
  have h0 : ∀ V : Valuation τ sig (Elt Ideal), afterL body0 (after cond0 V) (Proc.devRef .tc main_arg7) = V (Proc.devRef .tc main_arg7) := fun V => by
    simp only [afterL_cons, afterL_nil]; after_reads_simp
  have hc : ∀ V : Valuation τ sig (Elt Ideal), after cond0 V (Proc.devRef .tc main_arg7) = V (Proc.devRef .tc main_arg7) := fun V => by
    after_reads_simp
  have hi : ∀ V : Valuation τ sig (Elt Ideal), afterL preI V (Proc.devRef .tc main_arg7) = V (Proc.devRef .tc main_arg7) := fun V => by
    simp only [afterL_cons, afterL_nil]; after_reads_simp
  rw [hc]
  unfold at0
  rw [atTrip_unwritten h0]
  unfold W0
  rw [hi]
/-- An argument the encoder's loop leaves unchanged. -/
theorem mid_arg9 : after cond0 (at0 m 20 c) (Proc.devRef .tc main_arg9) = m ((c.tc : Thread nD τ).loc main_arg9) := by
  have h0 : ∀ V : Valuation τ sig (Elt Ideal), afterL body0 (after cond0 V) (Proc.devRef .tc main_arg9) = V (Proc.devRef .tc main_arg9) := fun V => by
    simp only [afterL_cons, afterL_nil]; after_reads_simp
  have hc : ∀ V : Valuation τ sig (Elt Ideal), after cond0 V (Proc.devRef .tc main_arg9) = V (Proc.devRef .tc main_arg9) := fun V => by
    after_reads_simp
  have hi : ∀ V : Valuation τ sig (Elt Ideal), afterL preI V (Proc.devRef .tc main_arg9) = V (Proc.devRef .tc main_arg9) := fun V => by
    simp only [afterL_cons, afterL_nil]; after_reads_simp
  rw [hc]
  unfold at0
  rw [atTrip_unwritten h0]
  unfold W0
  rw [hi]
/-- An argument the encoder's loop leaves unchanged. -/
theorem mid_arg10 : after cond0 (at0 m 20 c) (Proc.devRef .tc main_arg10) = m ((c.tc : Thread nD τ).loc main_arg10) := by
  have h0 : ∀ V : Valuation τ sig (Elt Ideal), afterL body0 (after cond0 V) (Proc.devRef .tc main_arg10) = V (Proc.devRef .tc main_arg10) := fun V => by
    simp only [afterL_cons, afterL_nil]; after_reads_simp
  have hc : ∀ V : Valuation τ sig (Elt Ideal), after cond0 V (Proc.devRef .tc main_arg10) = V (Proc.devRef .tc main_arg10) := fun V => by
    after_reads_simp
  have hi : ∀ V : Valuation τ sig (Elt Ideal), afterL preI V (Proc.devRef .tc main_arg10) = V (Proc.devRef .tc main_arg10) := fun V => by
    simp only [afterL_cons, afterL_nil]; after_reads_simp
  rw [hc]
  unfold at0
  rw [atTrip_unwritten h0]
  unfold W0
  rw [hi]
/-- An argument both loops leave unchanged. -/
theorem post_arg11 : after cond1 (at1 m 20 c) (Proc.devRef .tc main_arg11) = m ((c.tc : Thread nD τ).loc main_arg11) := by
  have h0 : ∀ V : Valuation τ sig (Elt Ideal), afterL body0 (after cond0 V) (Proc.devRef .tc main_arg11) = V (Proc.devRef .tc main_arg11) := fun V => by
    simp only [afterL_cons, afterL_nil]; after_reads_simp
  have h1 : ∀ V : Valuation τ sig (Elt Ideal), afterL body1 (after cond1 V) (Proc.devRef .tc main_arg11) = V (Proc.devRef .tc main_arg11) := fun V => by
    simp only [afterL_cons, afterL_nil]; after_reads_simp
  have hc : ∀ V : Valuation τ sig (Elt Ideal), after cond1 V (Proc.devRef .tc main_arg11) = V (Proc.devRef .tc main_arg11) := fun V => by
    after_reads_simp
  have hm : ∀ V : Valuation τ sig (Elt Ideal), afterL midI (after cond0 V) (Proc.devRef .tc main_arg11) = V (Proc.devRef .tc main_arg11) := fun V => by
    simp only [afterL_cons, afterL_nil]; after_reads_simp
  have hi : ∀ V : Valuation τ sig (Elt Ideal), afterL preI V (Proc.devRef .tc main_arg11) = V (Proc.devRef .tc main_arg11) := fun V => by
    simp only [afterL_cons, afterL_nil]; after_reads_simp
  rw [hc]
  unfold at1
  rw [atTrip_unwritten h1]
  unfold W1 at0
  rw [hm, atTrip_unwritten h0]
  unfold W0
  rw [hi]
/-- An argument both loops leave unchanged. -/
theorem post_arg12 : after cond1 (at1 m 20 c) (Proc.devRef .tc main_arg12) = m ((c.tc : Thread nD τ).loc main_arg12) := by
  have h0 : ∀ V : Valuation τ sig (Elt Ideal), afterL body0 (after cond0 V) (Proc.devRef .tc main_arg12) = V (Proc.devRef .tc main_arg12) := fun V => by
    simp only [afterL_cons, afterL_nil]; after_reads_simp
  have h1 : ∀ V : Valuation τ sig (Elt Ideal), afterL body1 (after cond1 V) (Proc.devRef .tc main_arg12) = V (Proc.devRef .tc main_arg12) := fun V => by
    simp only [afterL_cons, afterL_nil]; after_reads_simp
  have hc : ∀ V : Valuation τ sig (Elt Ideal), after cond1 V (Proc.devRef .tc main_arg12) = V (Proc.devRef .tc main_arg12) := fun V => by
    after_reads_simp
  have hm : ∀ V : Valuation τ sig (Elt Ideal), afterL midI (after cond0 V) (Proc.devRef .tc main_arg12) = V (Proc.devRef .tc main_arg12) := fun V => by
    simp only [afterL_cons, afterL_nil]; after_reads_simp
  have hi : ∀ V : Valuation τ sig (Elt Ideal), afterL preI V (Proc.devRef .tc main_arg12) = V (Proc.devRef .tc main_arg12) := fun V => by
    simp only [afterL_cons, afterL_nil]; after_reads_simp
  rw [hc]
  unfold at1
  rw [atTrip_unwritten h1]
  unfold W1 at0
  rw [hm, atTrip_unwritten h0]
  unfold W0
  rw [hi]

/-- The decoder's convolutions before every trip. -/
theorem at1_0 (k : ℕ) : (at1 m k c (Proc.devRef .tc main_v49_0) : FVec Ideal S20x256x256x3 .f32) = a9 m c := by
  unfold at1
  rw [atTrip_unwritten trip1_0 c k]
  unfold W1
  exact (mid_0 _).trans (mid_arg9 m c)
/-- The decoder's biases before every trip. -/
theorem at1_1 (k : ℕ) : (at1 m k c (Proc.devRef .tc main_v49_1) : FVec Ideal S20x256 .f32) = a10 m c := by
  unfold at1
  rw [atTrip_unwritten trip1_1 c k]
  unfold W1
  exact (mid_1 _).trans (mid_arg10 m c)
/-- The decoder's activations before trip `k`, where the encoder's normalised activations are finite. -/
theorem at1_4 (hfin : ∀ b t o, ∃ q : ℝ, norm (vec (a5 m c)) (vec (a6 m c)) (encoded m c 20 b t) o = q) :
    ∀ k, k ≤ 20 → acts (at1 m k c (Proc.devRef .tc main_v49_4)) = decoded m c k
  | 0, _ => by
    have h : (at1 m 0 c (Proc.devRef .tc main_v49_4) : FVec Ideal S8x256x256 .f32) = refMid (F := Ideal) (at0 m 20 c (Proc.devRef .tc main_v4_4)) (a5 m c) (a6 m c) (a7 m c) := by
      refine (mid_4 (after cond0 (at0 m 20 c))).trans ?_
      rw [condition0_4, mid_arg5, mid_arg6, mid_arg7]
    refine (congrArg acts h).trans ?_
    have e := at0_4 m c 20 (le_refl _)
    rw [refMid_at _ _ _ _ (by rw [e]; exact hfin), e]
    rfl
  | k + 1, hk => by
    have h : (at1 m (k + 1) c (Proc.devRef .tc main_v49_4) : FVec Ideal S8x256x256 .f32) = refLayer (F := Ideal) (at1 m k c (Proc.devRef .tc main_v49_3)) (at1 m k c (Proc.devRef .tc main_v49_0)) (at1 m k c (Proc.devRef .tc main_v49_1)) (at1 m k c (Proc.devRef .tc main_v49_4)) := by
      unfold at1
      rw [atTrip_succ]
      exact trip1 _
    rw [count1_3 m c k, at1_0, at1_1] at h
    refine (congrArg acts h).trans ?_
    rw [refLayer_at _ _ _ (by omega), at1_4 hfin k (by omega)]
    rfl

/-- The reference's result: the model's. -/
theorem result_at (hfin : ∀ b t o, ∃ q : ℝ, norm (vec (a5 m c)) (vec (a6 m c)) (encoded m c 20 b t) o = q) (h : Fin 2) (r : Fin 1024) (o : Fin 32) :
    (fin m c (Proc.devRef .tc main_v54) : FVec Ideal S2x1024x32 .f32) (ix3 h r o)
      = leave (decoded m c 20) (fun k o => a11 m c (ix2 k o)) (fun o => a12 m c (ix1 o)) ⟨h.val * 4 + r.val / 256, by omega⟩ ⟨r.val % 256, by omega⟩ o := by
  have e : (fin m c (Proc.devRef .tc main_v54) : FVec Ideal S2x1024x32 .f32) = refOut (F := Ideal) (at1 m 20 c (Proc.devRef .tc main_v49_4)) (a11 m c) (a12 m c) := by
    refine (post_54 (after cond1 (at1 m 20 c))).trans ?_
    rw [condition1_4, post_arg11, post_arg12]
  rw [e, refOut_at, at1_4 m c hfin 20 (le_refl _)]

end Cert.Proof.RefValue

end
-- ==== Proof.Finite.lean ====
/- The model on finite arguments: the encoder's activations and their normalisation are finite at every entry. -/
module

public import proofs.«01_k».proof.Proof.Spec

@[expose] public section

noncomputable section

namespace Cert.Proof.Finite

open Cert.Proof.Spec Idealize.ShloMosaic

/-- The extended real is a real number. -/
def IsReal (x : EReal) : Prop := ∃ q : ℝ, x = q

theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.max {x y : EReal} (hx : IsReal x) (hy : IsReal y) : IsReal (max x y) := by
  rcases max_choice x y with h | h <;> rw [h]
  exacts [hx, hy]
theorem IsReal.zero : IsReal 0 := ⟨0, rfl⟩
theorem IsReal.sum {ι : Type} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih
/-- A quotient of reals by a nonzero real is their quotient. -/
theorem div_coe (a : ℝ) {b : ℝ} (hb : b ≠ 0) : Ideal.div (a : EReal) (b : EReal) = ((a * b⁻¹ : ℝ) : EReal) := by
  unfold Ideal.div
  rw [if_neg (by exact_mod_cast hb), EReal.coe_mul, EReal.coe_inv]

/-! ## The layers -/

/-- A layer of finite activations, taps and biases is finite. -/
theorem layer_real {d : ℕ} {W : Taps} {u : Fin 256 → EReal} {x : Act} (hW : ∀ o c k, IsReal (W o c k)) (hu : ∀ o, IsReal (u o)) (hx : ∀ b t c, IsReal (x b t c)) :
    ∀ b t o, IsReal (layer d W u x b t o) := by
  intro b t o
  have ht : ∀ {y : Act}, (∀ b t c, IsReal (y b t c)) → ∀ k, IsReal (tap y W k b t o) := fun hy k => IsReal.sum _ fun c => (hy b t c).mul (hW o c k)
  have he : ∀ b t c, IsReal (earlier d x b t c) := fun b t c => by
    unfold earlier; split
    exacts [hx _ _ _, IsReal.zero]
  have hl : ∀ b t c, IsReal (later d x b t c) := fun b t c => by
    unfold later; split
    exacts [hx _ _ _, IsReal.zero]
  exact (((((ht he 0).add (ht hx 1)).add (ht hl 2)).add (hu o)).max IsReal.zero).add (hx b t o)

/-- A stack of layers keeps finite activations finite. -/
theorem stack_real {W : ℕ → Taps} {u : ℕ → Fin 256 → EReal} {x : Act} (hW : ∀ n o c k, IsReal (W n o c k)) (hu : ∀ n o, IsReal (u n o)) (hx : ∀ b t c, IsReal (x b t c)) :
    ∀ n b t o, IsReal (stack W u x n b t o)
  | 0 => hx
  | n + 1 => layer_real (hW n) (hu n) (stack_real hW hu hx n)

/-- The input projection of finite actions is finite. -/
theorem enter_real {a : Fin 8 → Fin 256 → Fin 32 → EReal} {w : Fin 32 → Fin 256 → EReal} {u : Fin 256 → EReal}
    (ha : ∀ b t c, IsReal (a b t c)) (hw : ∀ c o, IsReal (w c o)) (hu : ∀ o, IsReal (u o)) : ∀ b t o, IsReal (enterAct a w u b t o) :=
  fun b t o => (IsReal.sum _ fun c => (ha b t c).mul (hw c o)).add (hu o)

/-! ## The normalisation -/

theorem n256_coe : n256 = ((256 : ℝ) : EReal) := by
  simp [n256, Ideal.ofBits, Ideal.ieee, -EReal.coe_mul]; norm_num
theorem eps_coe : ∃ e : ℝ, 0 < e ∧ eps = (e : EReal) := by
  refine ⟨_, ?_, by simp [eps, Ideal.ofBits, Ideal.ieee, -EReal.coe_mul]; rfl⟩
  norm_num

/-- The mean of reals. -/
theorem mean_coe (f : Fin 256 → ℝ) : mean (fun c => (f c : EReal)) = (((∑ c, f c) * (256 : ℝ)⁻¹ : ℝ) : EReal) := by
  have hs : (∑ c, (f c : EReal)) = ((∑ c, f c : ℝ) : EReal) := by
    have : ∀ s : Finset (Fin 256), (∑ c ∈ s, (f c : EReal)) = ((∑ c ∈ s, f c : ℝ) : EReal) := by
      classical
      intro s
      induction s using Finset.induction_on with
      | empty => rfl
      | insert a s ha ih => rw [Finset.sum_insert ha, Finset.sum_insert ha, ih, EReal.coe_add]
    exact this _
  unfold mean
  rw [hs, n256_coe, div_coe _ (by norm_num)]

/-- The normalisation of a finite step with finite gains and offsets is finite: the deviation it divides by is positive. -/
theorem norm_real {g u v : Fin 256 → EReal} (hg : ∀ o, IsReal (g o)) (hu : ∀ o, IsReal (u o)) (hv : ∀ o, IsReal (v o)) (o : Fin 256) : IsReal (norm g u v o) := by
  choose f hf using hv
  obtain rfl : v = fun c => (f c : EReal) := funext hf
  obtain ⟨e, he, hee⟩ := eps_coe
  unfold Spec.norm
  refine IsReal.add (IsReal.mul ?_ (hg o)) (hu o)
  rw [mean_coe]
  generalize (∑ c, f c) * (256 : ℝ)⁻¹ = μ
  have hm : (fun c => ((f c : EReal) - (μ : EReal)) * ((f c : EReal) - (μ : EReal))) = fun c => (((f c - μ) * (f c - μ) : ℝ) : EReal) := by
    funext c
    rw [← EReal.coe_sub, ← EReal.coe_mul]
  have h0 : 0 ≤ (∑ c, (f c - μ) * (f c - μ)) * (256 : ℝ)⁻¹ := mul_nonneg (Finset.sum_nonneg fun c _ => mul_self_nonneg _) (by norm_num)
  rw [hm, mean_coe, hee, ← EReal.coe_add, ← EReal.coe_sub]
  generalize (∑ c, (f c - μ) * (f c - μ)) * (256 : ℝ)⁻¹ = s at h0
  have hs : Ideal.sqrt ((s + e : ℝ) : EReal) = ((Real.sqrt (s + e) : ℝ) : EReal) := by
    show (if s + e < 0 then (⊥ : EReal) else (Real.sqrt (s + e) : EReal)) = _
    rw [if_neg (by linarith)]
  rw [hs, div_coe _ (Real.sqrt_pos.mpr (by linarith)).ne']
  exact ⟨_, rfl⟩

end Cert.Proof.Finite

end
-- ==== Proof.PreRead.lean ====
/- What the precondition says of the encoder's arguments: each of them is finite. The predicate computes the finiteness flag
   first and carries it through its further steps, one lemma a step below, to the conjunction at its end. -/
module

public import proofs.«01_k».proof.Proof.Gen.Pre_no_tie
public import Idealize.ShloMosaic.Lib.ReduceAll
public import Idealize.ShloMosaic.Lib.Pointwise
public import Idealize.ShloMosaic.PureOps.Ideal

@[expose] public section

set_option maxRecDepth 16384

noncomputable section

namespace Cert.Proof.PreRead

open Cert.Pre_no_tie Idealize.ShloMosaic

/-- The rank-0 shape has one index. -/
theorem scalar_idx (i j : S_.Idx) : i = j := funext fun a => a.elim0
instance : Subsingleton S_.Idx := ⟨scalar_idx⟩

variable {i : S2048.Idx}

/-- The predicate's end: the flag and the count of nearest codes. -/
theorem flag61 {x0 x1 x2} (h : fn_part61 (F := Ideal) x0 x1 x2 i = 1#1) (j : S_.Idx) : x0 j = 1#1 := by
  unfold fn_part61 at h
  dsimp only at h
  have h1 := (IntOp.andi_eq_one.1 (show IntOp.andi (broadcastInDim S2048 ![] _ x0 i) _ = 1#1 from h)).1
  rw [← h1]
  exact congrArg x0 (scalar_idx _ _)
theorem flag60 {x0 x1 x2 x3} (h : fn_part60 (F := Ideal) x0 x1 x2 x3 i = 1#1) (j : S_.Idx) : x2 j = 1#1 := by
  unfold fn_part60 at h
  exact flag61 h j
theorem flag59 {x0 x1 x2 x3 x4 x5} (h : fn_part59 (F := Ideal) x0 x1 x2 x3 x4 x5 i = 1#1) (j : S_.Idx) : x3 j = 1#1 := by
  unfold fn_part59 at h
  exact flag60 h j
theorem flag58 {x0 x1 x2 x3 x4 x5 x6 x7 x8 x9} (h : fn_part58 (F := Ideal) x0 x1 x2 x3 x4 x5 x6 x7 x8 x9 i = 1#1) (j : S_.Idx) : x3 j = 1#1 := by
  unfold fn_part58 at h
  exact flag59 h j
theorem flag57 {x0 x1 x2 x3 x4 x5 x6 x7 x8 x9 x10 x11} (h : fn_part57 (F := Ideal) x0 x1 x2 x3 x4 x5 x6 x7 x8 x9 x10 x11 i = 1#1) (j : S_.Idx) : x3 j = 1#1 := by
  unfold fn_part57 at h
  exact flag58 h j
theorem flag56 {x0 x1 x2 x3 x4 x5 x6 x7 x8} (h : fn_part56 (F := Ideal) x0 x1 x2 x3 x4 x5 x6 x7 x8 i = 1#1) (j : S_.Idx) : x5 j = 1#1 := by
  unfold fn_part56 at h
  exact flag57 h j
theorem flag55 {x0 x1 x2 x3 x4 x5 x6 x7 x8 x9 x10 x11 x12 x13} (h : fn_part55 (F := Ideal) x0 x1 x2 x3 x4 x5 x6 x7 x8 x9 x10 x11 x12 x13 i = 1#1) (j : S_.Idx) : x5 j = 1#1 := by
  unfold fn_part55 at h
  exact flag56 h j
theorem flag54 {x0 x1 x2 x3 x4 x5 x6 x7 x8 x9 x10 x11 x12 x13} (h : fn_part54 (F := Ideal) x0 x1 x2 x3 x4 x5 x6 x7 x8 x9 x10 x11 x12 x13 i = 1#1) (j : S_.Idx) : x5 j = 1#1 := by
  unfold fn_part54 at h
  exact flag55 h j
theorem flag53 {x0 x1 x2 x3 x4 x5 x6 x7 x8} (h : fn_part53 (F := Ideal) x0 x1 x2 x3 x4 x5 x6 x7 x8 i = 1#1) (j : S_.Idx) : x5 j = 1#1 := by
  unfold fn_part53 at h
  exact flag54 h j
theorem flag52 {x0 x1 x2 x3 x4 x5 x6 x7 x8 x9 x10 x11 x12 x13 x14} (h : fn_part52 (F := Ideal) x0 x1 x2 x3 x4 x5 x6 x7 x8 x9 x10 x11 x12 x13 x14 i = 1#1) (j : S_.Idx) : x5 j = 1#1 := by
  unfold fn_part52 at h
  exact flag53 h j
theorem flag51 {x0 x1 x2 x3 x4 x5 x6 x7 x8 x9 x10 x11 x12} (h : fn_part51 (F := Ideal) x0 x1 x2 x3 x4 x5 x6 x7 x8 x9 x10 x11 x12 i = 1#1) (j : S_.Idx) : x5 j = 1#1 := by
  unfold fn_part51 at h
  exact flag52 h j
theorem flag50 {x0 x1 x2 x3 x4 x5 x6 x7 x8 x9 x10} (h : fn_part50 (F := Ideal) x0 x1 x2 x3 x4 x5 x6 x7 x8 x9 x10 i = 1#1) (j : S_.Idx) : x5 j = 1#1 := by
  unfold fn_part50 at h
  exact flag51 h j
theorem flag49 {x0 x1 x2 x3 x4 x5 x6 x7 x8 x9 x10 x11 x12 x13 x14} (h : fn_part49 (F := Ideal) x0 x1 x2 x3 x4 x5 x6 x7 x8 x9 x10 x11 x12 x13 x14 i = 1#1) (j : S_.Idx) : x5 j = 1#1 := by
  unfold fn_part49 at h
  exact flag50 h j
theorem flag48 {x0 x1 x2 x3 x4 x5 x6 x7 x8 x9 x10} (h : fn_part48 (F := Ideal) x0 x1 x2 x3 x4 x5 x6 x7 x8 x9 x10 i = 1#1) (j : S_.Idx) : x5 j = 1#1 := by
  unfold fn_part48 at h
  exact flag49 h j
theorem flag47 {x0 x1 x2 x3 x4 x5 x6 x7 x8 x9 x10 x11 x12} (h : fn_part47 (F := Ideal) x0 x1 x2 x3 x4 x5 x6 x7 x8 x9 x10 x11 x12 i = 1#1) (j : S_.Idx) : x5 j = 1#1 := by
  unfold fn_part47 at h
  exact flag48 h j
theorem flag46 {x0 x1 x2 x3 x4 x5 x6 x7 x8 x9 x10 x11 x12 x13} (h : fn_part46 (F := Ideal) x0 x1 x2 x3 x4 x5 x6 x7 x8 x9 x10 x11 x12 x13 i = 1#1) (j : S_.Idx) : x5 j = 1#1 := by
  unfold fn_part46 at h
  exact flag47 h j
theorem flag45 {x0 x1 x2 x3 x4 x5 x6 x7 x8} (h : fn_part45 (F := Ideal) x0 x1 x2 x3 x4 x5 x6 x7 x8 i = 1#1) (j : S_.Idx) : x5 j = 1#1 := by
  unfold fn_part45 at h
  exact flag46 h j
theorem flag44 {x0 x1 x2 x3 x4 x5 x6 x7 x8 x9 x10 x11 x12} (h : fn_part44 (F := Ideal) x0 x1 x2 x3 x4 x5 x6 x7 x8 x9 x10 x11 x12 i = 1#1) (j : S_.Idx) : x5 j = 1#1 := by
  unfold fn_part44 at h
  exact flag45 h j
theorem flag43 {x0 x1 x2 x3 x4 x5 x6 x7 x8 x9 x10 x11 x12} (h : fn_part43 (F := Ideal) x0 x1 x2 x3 x4 x5 x6 x7 x8 x9 x10 x11 x12 i = 1#1) (j : S_.Idx) : x5 j = 1#1 := by
  unfold fn_part43 at h
  exact flag44 h j
theorem flag42 {x0 x1 x2 x3 x4 x5 x6 x7 x8} (h : fn_part42 (F := Ideal) x0 x1 x2 x3 x4 x5 x6 x7 x8 i = 1#1) (j : S_.Idx) : x5 j = 1#1 := by
  unfold fn_part42 at h
  exact flag43 h j
theorem flag41 {x0 x1 x2 x3 x4 x5 x6 x7 x8 x9 x10 x11} (h : fn_part41 (F := Ideal) x0 x1 x2 x3 x4 x5 x6 x7 x8 x9 x10 x11 i = 1#1) (j : S_.Idx) : x5 j = 1#1 := by
  unfold fn_part41 at h
  exact flag42 h j
theorem flag40 {x0 x1 x2 x3 x4 x5 x6 x7 x8 x9 x10 x11 x12 x13} (h : fn_part40 (F := Ideal) x0 x1 x2 x3 x4 x5 x6 x7 x8 x9 x10 x11 x12 x13 i = 1#1) (j : S_.Idx) : x5 j = 1#1 := by
  unfold fn_part40 at h
  exact flag41 h j
theorem flag39 {x0 x1 x2 x3 x4 x5 x6 x7 x8} (h : fn_part39 (F := Ideal) x0 x1 x2 x3 x4 x5 x6 x7 x8 i = 1#1) (j : S_.Idx) : x5 j = 1#1 := by
  unfold fn_part39 at h
  exact flag40 h j
theorem flag38 {x0 x1 x2 x3 x4 x5 x6 x7 x8 x9 x10 x11 x12 x13} (h : fn_part38 (F := Ideal) x0 x1 x2 x3 x4 x5 x6 x7 x8 x9 x10 x11 x12 x13 i = 1#1) (j : S_.Idx) : x5 j = 1#1 := by
  unfold fn_part38 at h
  exact flag39 h j
theorem flag37 {x0 x1 x2 x3 x4 x5 x6 x7 x8 x9 x10 x11 x12 x13} (h : fn_part37 (F := Ideal) x0 x1 x2 x3 x4 x5 x6 x7 x8 x9 x10 x11 x12 x13 i = 1#1) (j : S_.Idx) : x5 j = 1#1 := by
  unfold fn_part37 at h
  exact flag38 h j
theorem flag36 {x0 x1 x2 x3 x4 x5 x6 x7 x8} (h : fn_part36 (F := Ideal) x0 x1 x2 x3 x4 x5 x6 x7 x8 i = 1#1) (j : S_.Idx) : x5 j = 1#1 := by
  unfold fn_part36 at h
  exact flag37 h j
theorem flag35 {x0 x1 x2 x3 x4 x5 x6 x7 x8 x9 x10 x11 x12 x13 x14} (h : fn_part35 (F := Ideal) x0 x1 x2 x3 x4 x5 x6 x7 x8 x9 x10 x11 x12 x13 x14 i = 1#1) (j : S_.Idx) : x5 j = 1#1 := by
  unfold fn_part35 at h
  exact flag36 h j
theorem flag34 {x0 x1 x2 x3 x4 x5 x6 x7 x8 x9 x10 x11 x12} (h : fn_part34 (F := Ideal) x0 x1 x2 x3 x4 x5 x6 x7 x8 x9 x10 x11 x12 i = 1#1) (j : S_.Idx) : x5 j = 1#1 := by
  unfold fn_part34 at h
  exact flag35 h j
theorem flag33 {x0 x1 x2 x3 x4 x5 x6 x7 x8 x9 x10} (h : fn_part33 (F := Ideal) x0 x1 x2 x3 x4 x5 x6 x7 x8 x9 x10 i = 1#1) (j : S_.Idx) : x5 j = 1#1 := by
  unfold fn_part33 at h
  exact flag34 h j
theorem flag32 {x0 x1 x2 x3 x4 x5 x6 x7 x8 x9 x10 x11 x12 x13 x14} (h : fn_part32 (F := Ideal) x0 x1 x2 x3 x4 x5 x6 x7 x8 x9 x10 x11 x12 x13 x14 i = 1#1) (j : S_.Idx) : x5 j = 1#1 := by
  unfold fn_part32 at h
  exact flag33 h j
theorem flag31 {x0 x1 x2 x3 x4 x5 x6 x7 x8 x9 x10} (h : fn_part31 (F := Ideal) x0 x1 x2 x3 x4 x5 x6 x7 x8 x9 x10 i = 1#1) (j : S_.Idx) : x5 j = 1#1 := by
  unfold fn_part31 at h
  exact flag32 h j
theorem flag30 {x0 x1 x2 x3 x4 x5 x6 x7 x8 x9 x10 x11 x12} (h : fn_part30 (F := Ideal) x0 x1 x2 x3 x4 x5 x6 x7 x8 x9 x10 x11 x12 i = 1#1) (j : S_.Idx) : x5 j = 1#1 := by
  unfold fn_part30 at h
  exact flag31 h j
theorem flag29 {x0 x1 x2 x3 x4 x5 x6 x7 x8 x9 x10 x11 x12 x13} (h : fn_part29 (F := Ideal) x0 x1 x2 x3 x4 x5 x6 x7 x8 x9 x10 x11 x12 x13 i = 1#1) (j : S_.Idx) : x5 j = 1#1 := by
  unfold fn_part29 at h
  exact flag30 h j
theorem flag28 {x0 x1 x2 x3 x4 x5 x6 x7 x8} (h : fn_part28 (F := Ideal) x0 x1 x2 x3 x4 x5 x6 x7 x8 i = 1#1) (j : S_.Idx) : x5 j = 1#1 := by
  unfold fn_part28 at h
  exact flag29 h j
theorem flag27 {x0 x1 x2 x3 x4 x5 x6 x7 x8 x9 x10 x11 x12} (h : fn_part27 (F := Ideal) x0 x1 x2 x3 x4 x5 x6 x7 x8 x9 x10 x11 x12 i = 1#1) (j : S_.Idx) : x5 j = 1#1 := by
  unfold fn_part27 at h
  exact flag28 h j
theorem flag26 {x0 x1 x2 x3 x4 x5 x6 x7 x8 x9 x10 x11 x12} (h : fn_part26 (F := Ideal) x0 x1 x2 x3 x4 x5 x6 x7 x8 x9 x10 x11 x12 i = 1#1) (j : S_.Idx) : x5 j = 1#1 := by
  unfold fn_part26 at h
  exact flag27 h j
theorem flag25 {x0 x1 x2 x3 x4 x5 x6 x7 x8} (h : fn_part25 (F := Ideal) x0 x1 x2 x3 x4 x5 x6 x7 x8 i = 1#1) (j : S_.Idx) : x5 j = 1#1 := by
  unfold fn_part25 at h
  exact flag26 h j
theorem flag24 {x0 x1 x2 x3 x4 x5 x6 x7 x8 x9 x10 x11} (h : fn_part24 (F := Ideal) x0 x1 x2 x3 x4 x5 x6 x7 x8 x9 x10 x11 i = 1#1) (j : S_.Idx) : x5 j = 1#1 := by
  unfold fn_part24 at h
  exact flag25 h j
theorem flag23 {x0 x1 x2 x3 x4 x5 x6 x7 x8 x9 x10 x11 x12 x13} (h : fn_part23 (F := Ideal) x0 x1 x2 x3 x4 x5 x6 x7 x8 x9 x10 x11 x12 x13 i = 1#1) (j : S_.Idx) : x5 j = 1#1 := by
  unfold fn_part23 at h
  exact flag24 h j
theorem flag22 {x0 x1 x2 x3 x4 x5 x6 x7 x8} (h : fn_part22 (F := Ideal) x0 x1 x2 x3 x4 x5 x6 x7 x8 i = 1#1) (j : S_.Idx) : x5 j = 1#1 := by
  unfold fn_part22 at h
  exact flag23 h j
theorem flag21 {x0 x1 x2 x3 x4 x5 x6 x7 x8 x9 x10 x11 x12 x13} (h : fn_part21 (F := Ideal) x0 x1 x2 x3 x4 x5 x6 x7 x8 x9 x10 x11 x12 x13 i = 1#1) (j : S_.Idx) : x5 j = 1#1 := by
  unfold fn_part21 at h
  exact flag22 h j
theorem flag20 {x0 x1 x2 x3 x4 x5 x6 x7 x8 x9 x10 x11 x12 x13} (h : fn_part20 (F := Ideal) x0 x1 x2 x3 x4 x5 x6 x7 x8 x9 x10 x11 x12 x13 i = 1#1) (j : S_.Idx) : x5 j = 1#1 := by
  unfold fn_part20 at h
  exact flag21 h j
theorem flag19 {x0 x1 x2 x3 x4 x5 x6 x7 x8} (h : fn_part19 (F := Ideal) x0 x1 x2 x3 x4 x5 x6 x7 x8 i = 1#1) (j : S_.Idx) : x5 j = 1#1 := by
  unfold fn_part19 at h
  exact flag20 h j
theorem flag18 {x0 x1 x2 x3 x4 x5 x6 x7 x8 x9 x10 x11 x12 x13 x14} (h : fn_part18 (F := Ideal) x0 x1 x2 x3 x4 x5 x6 x7 x8 x9 x10 x11 x12 x13 x14 i = 1#1) (j : S_.Idx) : x5 j = 1#1 := by
  unfold fn_part18 at h
  exact flag19 h j
theorem flag17 {x0 x1 x2 x3 x4 x5 x6 x7 x8 x9 x10 x11 x12} (h : fn_part17 (F := Ideal) x0 x1 x2 x3 x4 x5 x6 x7 x8 x9 x10 x11 x12 i = 1#1) (j : S_.Idx) : x5 j = 1#1 := by
  unfold fn_part17 at h
  exact flag18 h j
theorem flag16 {x0 x1 x2 x3 x4 x5 x6 x7 x8 x9 x10} (h : fn_part16 (F := Ideal) x0 x1 x2 x3 x4 x5 x6 x7 x8 x9 x10 i = 1#1) (j : S_.Idx) : x5 j = 1#1 := by
  unfold fn_part16 at h
  exact flag17 h j
theorem flag15 {x0 x1 x2 x3 x4 x5 x6 x7 x8 x9 x10 x11 x12 x13 x14} (h : fn_part15 (F := Ideal) x0 x1 x2 x3 x4 x5 x6 x7 x8 x9 x10 x11 x12 x13 x14 i = 1#1) (j : S_.Idx) : x5 j = 1#1 := by
  unfold fn_part15 at h
  exact flag16 h j
theorem flag14 {x0 x1 x2 x3 x4 x5 x6 x7 x8 x9 x10} (h : fn_part14 (F := Ideal) x0 x1 x2 x3 x4 x5 x6 x7 x8 x9 x10 i = 1#1) (j : S_.Idx) : x5 j = 1#1 := by
  unfold fn_part14 at h
  exact flag15 h j
theorem flag13 {x0 x1 x2 x3 x4 x5 x6 x7 x8 x9 x10 x11 x12} (h : fn_part13 (F := Ideal) x0 x1 x2 x3 x4 x5 x6 x7 x8 x9 x10 x11 x12 i = 1#1) (j : S_.Idx) : x5 j = 1#1 := by
  unfold fn_part13 at h
  exact flag14 h j
theorem flag12 {x0 x1 x2 x3 x4 x5 x6 x7 x8 x9 x10 x11 x12 x13} (h : fn_part12 (F := Ideal) x0 x1 x2 x3 x4 x5 x6 x7 x8 x9 x10 x11 x12 x13 i = 1#1) (j : S_.Idx) : x5 j = 1#1 := by
  unfold fn_part12 at h
  exact flag13 h j
theorem flag11 {x0 x1 x2 x3 x4 x5 x6 x7 x8} (h : fn_part11 (F := Ideal) x0 x1 x2 x3 x4 x5 x6 x7 x8 i = 1#1) (j : S_.Idx) : x5 j = 1#1 := by
  unfold fn_part11 at h
  exact flag12 h j
theorem flag10 {x0 x1 x2 x3 x4 x5 x6 x7 x8 x9 x10 x11 x12} (h : fn_part10 (F := Ideal) x0 x1 x2 x3 x4 x5 x6 x7 x8 x9 x10 x11 x12 i = 1#1) (j : S_.Idx) : x5 j = 1#1 := by
  unfold fn_part10 at h
  exact flag11 h j
theorem flag9 {x0 x1 x2 x3 x4 x5 x6 x7 x8 x9 x10 x11 x12} (h : fn_part9 (F := Ideal) x0 x1 x2 x3 x4 x5 x6 x7 x8 x9 x10 x11 x12 i = 1#1) (j : S_.Idx) : x5 j = 1#1 := by
  unfold fn_part9 at h
  exact flag10 h j
theorem flag8 {x0 x1 x2 x3 x4 x5 x6 x7 x8} (h : fn_part8 (F := Ideal) x0 x1 x2 x3 x4 x5 x6 x7 x8 i = 1#1) (j : S_.Idx) : x5 j = 1#1 := by
  unfold fn_part8 at h
  exact flag9 h j
theorem flag7 {x0 x1 x2 x3 x4 x5 x6 x7 x8 x9 x10 x11} (h : fn_part7 (F := Ideal) x0 x1 x2 x3 x4 x5 x6 x7 x8 x9 x10 x11 i = 1#1) (j : S_.Idx) : x5 j = 1#1 := by
  unfold fn_part7 at h
  exact flag8 h j
theorem flag6 {x0 x1 x2 x3 x4 x5 x6 x7 x8 x9 x10 x11 x12 x13} (h : fn_part6 (F := Ideal) x0 x1 x2 x3 x4 x5 x6 x7 x8 x9 x10 x11 x12 x13 i = 1#1) (j : S_.Idx) : x5 j = 1#1 := by
  unfold fn_part6 at h
  exact flag7 h j
theorem flag5 {x0 x1 x2 x3 x4 x5 x6 x7 x8} (h : fn_part5 (F := Ideal) x0 x1 x2 x3 x4 x5 x6 x7 x8 i = 1#1) (j : S_.Idx) : x5 j = 1#1 := by
  unfold fn_part5 at h
  exact flag6 h j
theorem flag4 {x0 x1 x2 x3 x4 x5 x6 x7 x8 x9 x10 x11 x12 x13} (h : fn_part4 (F := Ideal) x0 x1 x2 x3 x4 x5 x6 x7 x8 x9 x10 x11 x12 x13 i = 1#1) (j : S_.Idx) : x5 j = 1#1 := by
  unfold fn_part4 at h
  exact flag5 h j
theorem flag3 {x0 x1 x2 x3 x4 x5 x6 x7 x8 x9 x10 x11 x12 x13} (h : fn_part3 (F := Ideal) x0 x1 x2 x3 x4 x5 x6 x7 x8 x9 x10 x11 x12 x13 i = 1#1) (j : S_.Idx) : x5 j = 1#1 := by
  unfold fn_part3 at h
  exact flag4 h j

/-! ## The flag -/

/-- A number whose absolute value is below infinity is finite. -/
theorem real_of (x : EReal) (h : Ideal.cmp .olt (max x (-x)) (Ideal.ofBits .f32 0x7F800000#32) = 1#1) : ∃ q : ℝ, x = q := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe q => exact ⟨q, rfl⟩

/-- An array all of whose entries' absolute values are below infinity is finite. -/
theorem finite_of {s : Shape} {axes : List (Fin s.rank)} (x : FVec Ideal s .f32) (hr : s.ReducesTo axes S_) (h : 0 < S_.numel) (j : S_.Idx) (g : S_.BroadcastsInDim s ![])
    (e : Host.reduce IntOp.andi (cmpf .olt (Host.absf x) (broadcastInDim s ![] g (constant S_ .f32 0x7F800000#32))) (constantI S_ 1 1#1) hr h j = 1#1) (i : s.Idx) : ∃ q : ℝ, x i = q := by
  have h1 := Host.reduce_andi_all _ _ _ _ _ e i
  exact real_of (x i) h1

/-- The encoder's arguments are finite. -/
theorem finite {a0 a1 a2 a3 a4 a5 a6 a7 a8 a9 a10 a11 a12} (h : fn (F := Ideal) a0 a1 a2 a3 a4 a5 a6 a7 a8 a9 a10 a11 a12 = fun _ => 1#1) :
    (∀ i, ∃ q : ℝ, a0 i = q) ∧ (∀ i, ∃ q : ℝ, a1 i = q) ∧ (∀ i, ∃ q : ℝ, a2 i = q) ∧ (∀ i, ∃ q : ℝ, a3 i = q) ∧ (∀ i, ∃ q : ℝ, a4 i = q) ∧ (∀ i, ∃ q : ℝ, a5 i = q) ∧ (∀ i, ∃ q : ℝ, a6 i = q) := by
  have h0 : fn (F := Ideal) a0 a1 a2 a3 a4 a5 a6 a7 a8 a9 a10 a11 a12 (ix1 0) = 1#1 := congrFun h _
  unfold fn fn_part1 fn_part2 at h0
  have h1 := flag3 h0 (fun a => a.elim0)
  dsimp only at h1
  obtain ⟨h1, e6⟩ := IntOp.andi_eq_one.1 (show IntOp.andi _ _ = 1#1 from h1)
  obtain ⟨h1, e5⟩ := IntOp.andi_eq_one.1 (show IntOp.andi _ _ = 1#1 from h1)
  obtain ⟨h1, e4⟩ := IntOp.andi_eq_one.1 (show IntOp.andi _ _ = 1#1 from h1)
  obtain ⟨h1, e3⟩ := IntOp.andi_eq_one.1 (show IntOp.andi _ _ = 1#1 from h1)
  obtain ⟨h1, e2⟩ := IntOp.andi_eq_one.1 (show IntOp.andi _ _ = 1#1 from h1)
  obtain ⟨h1, e1⟩ := IntOp.andi_eq_one.1 (show IntOp.andi _ _ = 1#1 from h1)
  obtain ⟨h1, e0⟩ := IntOp.andi_eq_one.1 (show IntOp.andi _ _ = 1#1 from h1)
  exact ⟨finite_of _ _ _ _ _ e0, finite_of _ _ _ _ _ e1, finite_of _ _ _ _ _ e2, finite_of _ _ _ _ _ e3, finite_of _ _ _ _ _ e4, finite_of _ _ _ _ _ e5, finite_of _ _ _ _ _ e6⟩

end Cert.Proof.PreRead

end
-- ==== Proof.Algebraic.lean ====
/- The value claim: kernel and reference both leave the model's result, from arguments that agree and an encoder whose arguments
   are finite. -/
module

public import proofs.«01_k».proof.Defs
public import proofs.«01_k».proof.Proof.KerValue
public import proofs.«01_k».proof.Proof.RefValue
public import proofs.«01_k».proof.Proof.Finite
public import proofs.«01_k».proof.Proof.PreRead

@[expose] public section

set_option maxRecDepth 16384

noncomputable section

namespace Cert.Proof.Algebraic

open Idealize.ShloMosaic Idealize.ShloMosaic.TcCoe Idealize.SL.Sem
open Cert.Proof.Spec Cert.Proof.Finite Cert.Proof.RefMath

variable (m : (ℓ : Loc Cert.KernelIdeal.nD Cert.KernelIdeal.τ Cert.KernelIdeal.sig) → Buf (Elt Ideal) ℓ)

/-- Where the encoder's arguments are finite, so are its normalised activations. -/
theorem norm_finite (hp : Cert.Pre_KernelIdeal m) (c : Dev Cert.KernelIdeal.nD) (b : Fin 8) (t o : Fin 256) :
    ∃ q : ℝ, Spec.norm (vec (KerValue.a5 m c)) (vec (KerValue.a6 m c)) (KerValue.encoded m c 20 b t) o = q := by
  obtain ⟨h0, h1, h2, h3, h4, h5, h6⟩ := PreRead.finite (hp c)
  refine norm_real (fun o => h5 _) (fun o => h6 _) (fun o => ?_) o
  refine stack_real (fun n o c k => ?_) (fun n o => ?_) (enter_real (fun b t c => h0 _) (fun c o => h1 _) (fun o => h2 _)) 20 b t o
  · unfold taps; split
    exacts [h3 _, IsReal.zero]
  · unfold biases; split
    exacts [h4 _, IsReal.zero]

/-- Every run of the kernel ends with the result array at the model's result. -/
theorem kernel_run (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD, r.2.mem ((c.tc : Thread Cert.KernelIdeal.nD Cert.KernelIdeal.τ).loc Cert.KernelIdeal.main_v11) = KerValue.result m c) :=
  (θ_run _ _ _).mono (fun r h c => ((h c).1 11).trans (KerValue.out_eq m c)) (Run.run_main (F := Ideal) m g)

/-- Kernel and reference leave the same result and their arguments unchanged. -/
theorem algebraic : Cert.algebraic_KernelIdeal_ReferenceIdeal := by
  intro m g m' g' hp hag
  refine ⟨fun c => KerValue.result m c, ?_, ?_⟩
  · refine (θ_run _ _ _).mono (fun r h c => ⟨h.1 c, h.2.1 c⟩) (θ_run_and (kernel_run m g) (Run.frame (F := Ideal) m g))
  · refine (θ_run _ _ _).mono (fun r h c => ⟨((h.1.1 c Cert.ReferenceIdeal.main_v54 rfl).trans ?_), h.2.1 c⟩) (θ_run_and (RefRun.run_main (F := Ideal) m' g') (RefRun.frame (F := Ideal) m' g'))
    obtain ⟨e0, e1, e2, e3, e4, e5, e6, e7, e8, e9, e10, e11, e12⟩ := hag c
    have e0 : RefValue.a0 m' c = KerValue.a0 m c := e0
    have e1 : RefValue.a1 m' c = KerValue.a1 m c := e1
    have e2 : RefValue.a2 m' c = KerValue.a2 m c := e2
    have e3 : RefValue.a3 m' c = KerValue.a3 m c := e3
    have e4 : RefValue.a4 m' c = KerValue.a4 m c := e4
    have e5 : RefValue.a5 m' c = KerValue.a5 m c := e5
    have e6 : RefValue.a6 m' c = KerValue.a6 m c := e6
    have e7 : RefValue.a7 m' c = KerValue.a7 m c := e7
    have e9 : RefValue.a9 m' c = KerValue.a9 m c := e9
    have e10 : RefValue.a10 m' c = KerValue.a10 m c := e10
    have e11 : RefValue.a11 m' c = KerValue.a11 m c := e11
    have e12 : RefValue.a12 m' c = KerValue.a12 m c := e12
    have een : ∀ n, RefValue.encoded m' c n = KerValue.encoded m c n := fun n => by
      unfold RefValue.encoded KerValue.encoded RefValue.entered KerValue.entered
      rw [e0, e1, e2, e3, e4]
    have ede : RefValue.decoded m' c 20 = KerValue.decoded m c 20 := by
      unfold RefValue.decoded KerValue.decoded
      rw [een, e5, e6, e7, e9, e10]
    funext i
    obtain ⟨h, r, o, rfl⟩ : ∃ (h : Fin 2) (r : Fin 1024) (o : Fin 32), i = ix3 h r o := ⟨i 0, i 1, i 2, eq_ix3 i⟩
    refine (RefValue.result_at m' c (fun b t o => ?_) h r o).trans ?_
    · rw [een, e5, e6]
      exact norm_finite m hp c b t o
    · rw [ede, e11, e12]
      rfl

end Cert.Proof.Algebraic

end
-- ==== Proof.lean ====
/- The certificate: the claims of the statement from the run of the kernel and the run of the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_no_tie
public import proofs.«01_k».proof.Proof.Run
public import proofs.«01_k».proof.Proof.RefRun
public import proofs.«01_k».proof.Proof.Algebraic

@[expose] public section

set_option maxRecDepth 16384

noncomputable section

namespace Cert.Proof

open Idealize.ShloMosaic Idealize.SL.Sem

/-- The kernel and its idealization have the same bodies: the two programs are printed from one text. -/
theorem bodies₀ : Cert.KernelIdeal.defs₀ (F := Bits) = Cert.Kernel.defs₀ := by
  unfold Cert.KernelIdeal.defs₀ Cert.Kernel.defs₀
  refine congrArg Defs.onTc (funext fun l => funext fun a => ?_)
  match l, a with
  | 0, (t, s) => rfl

/-- So also with the pipeline's own bodies beside them. -/
theorem bodies : Cert.KernelIdeal.defs (F := Bits) = Cert.Kernel.defs := congrArg (Pipeline.defs _) bodies₀

/-- Every run of the kernel over bit patterns ends with its arguments unchanged and every semaphore counter at zero: the
    idealized kernel is the same program, and its run was proved for floats of either kind. -/
theorem frame_kernel : Cert.quiescent_Kernel := fun m ρ _ => by
  have h := (θ_run Cert.KernelIdeal.defs _ _).mono (fun _ h => h) (Run.frame (F := Bits) m ρ)
  rw [bodies] at h
  exact h

/-- The same from the memories the precondition allows. -/
theorem frame_kernel_pre : Cert.quiescent_Kernel_pre_no_tie :=
  fun m ρ _ => frame_kernel m ρ trivial

/-- Every run of the idealized kernel ends with its arguments unchanged and every semaphore counter at zero. -/
theorem frame_kernelIdeal : Cert.quiescent_KernelIdeal := fun m ρ _ => Run.frame (F := Ideal) m ρ

/-- Every run of the reference ends with its arguments unchanged and every semaphore counter at zero. -/
theorem frame_referenceIdeal : Cert.quiescent_ReferenceIdeal := fun m ρ _ => RefRun.frame (F := Ideal) m ρ

/-- The same from the memories the precondition allows. -/
theorem frame_referenceIdeal_pre : Cert.quiescent_ReferenceIdeal_pre_no_tie := fun m ρ _ => RefRun.frame (F := Ideal) m ρ

/-- Every claim of the statement. -/
theorem claim : Cert.Claim :=
  ⟨Cert.Kernel.Gen.facts, Cert.KernelIdeal.Gen.facts, Cert.ReferenceIdeal.Gen.facts, Cert.Pre_no_tie.Gen.facts,
    frame_kernel, frame_kernel_pre, frame_kernelIdeal, frame_referenceIdeal, frame_referenceIdeal_pre, trivial, Algebraic.algebraic⟩

end Cert.Proof

end
